-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_inputs [hPre_finite_inputs : Cert.Pre_finite_inputs.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_finite_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_finite_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_finite_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_finite_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.1 = (fun _ => 1#1)
    ∧ (Cert.Pre_finite_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_inputs [hPre_finite_inputs : Cert.Pre_finite_inputs.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_finite_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_finite_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_finite_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_finite_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.1 = (fun _ => 1#1)
    ∧ (Cert.Pre_finite_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_conditioning [hPre_finite_conditioning : Cert.Pre_finite_conditioning.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_conditioning.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_conditioning [hPre_finite_conditioning : Cert.Pre_finite_conditioning.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_conditioning.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Reference10 (m : (ℓ : Loc Cert.Reference10.nD Cert.Reference10.τ Cert.Reference10.sig) → Buf (Elt Bits) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Reference11 (m : (ℓ : Loc Cert.Reference11.nD Cert.Reference11.τ Cert.Reference11.sig) → Buf (Elt Bits) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_finite_inputs [hKernel5Ideal : Cert.Kernel5Ideal.Facts] [hPre_finite_inputs : Cert.Pre_finite_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_inputs m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_finite_inputs [hReference5Ideal : Cert.Reference5Ideal.Facts] [hPre_finite_inputs : Cert.Pre_finite_inputs.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_inputs m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite_conditioning [hKernel8Ideal : Cert.Kernel8Ideal.Facts] [hPre_finite_conditioning : Cert.Pre_finite_conditioning.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_conditioning m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite_conditioning [hReference8Ideal : Cert.Reference8Ideal.Facts] [hPre_finite_conditioning : Cert.Pre_finite_conditioning.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_conditioning m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Reference10 [hReference10 : Cert.Reference10.Facts] : Prop :=
  ∀ (m : (ℓ : Loc Cert.Reference10.nD Cert.Reference10.τ Cert.Reference10.sig) → Buf (Elt Bits) ℓ) (g : Dev Cert.Reference10.nD → PrngReg), Pre_Reference10 m →
    θ_run (Cert.Reference10.defs (F := Bits)) (onTc (τ := Cert.Reference10.τ) (Cert.Reference10.main (F := Bits))) ⟨m, fun _ => 0, g⟩ (fun r => (∀ c : Dev Cert.Reference10.nD,
      r.2.mem ((c.tc : Thread Cert.Reference10.nD Cert.Reference10.τ).loc Cert.Reference10.main_arg0) = m ((c.tc : Thread Cert.Reference10.nD Cert.Reference10.τ).loc Cert.Reference10.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0))
      ∧ r.2.sem = fun _ => 0)

def quiescent_Reference11 [hReference11 : Cert.Reference11.Facts] : Prop :=
  ∀ (m : (ℓ : Loc Cert.Reference11.nD Cert.Reference11.τ Cert.Reference11.sig) → Buf (Elt Bits) ℓ) (g : Dev Cert.Reference11.nD → PrngReg), Pre_Reference11 m →
    θ_run (Cert.Reference11.defs (F := Bits)) (onTc (τ := Cert.Reference11.τ) (Cert.Reference11.main (F := Bits))) ⟨m, fun _ => 0, g⟩ (fun r => (∀ c : Dev Cert.Reference11.nD,
      r.2.mem ((c.tc : Thread Cert.Reference11.nD Cert.Reference11.τ).loc Cert.Reference11.main_arg0) = m ((c.tc : Thread Cert.Reference11.nD Cert.Reference11.τ).loc Cert.Reference11.main_arg0))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8)
      ∧ r.2.mem ((c.tc : Thread Cert.Kernel14.nD Cert.Kernel14.τ).loc Cert.Kernel14.main_arg9) = m ((c.tc : Thread Cert.Kernel14.nD Cert.Kernel14.τ).loc Cert.Kernel14.main_arg9)
      ∧ r.2.mem ((c.tc : Thread Cert.Kernel14.nD Cert.Kernel14.τ).loc Cert.Kernel14.main_arg10) = m ((c.tc : Thread Cert.Kernel14.nD Cert.Kernel14.τ).loc Cert.Kernel14.main_arg10))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
      ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
      ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8)
      ∧ r.2.mem ((c.tc : Thread Cert.Reference14Ideal.nD Cert.Reference14Ideal.τ).loc Cert.Reference14Ideal.main_arg9) = m ((c.tc : Thread Cert.Reference14Ideal.nD Cert.Reference14Ideal.τ).loc Cert.Reference14Ideal.main_arg9)
      ∧ r.2.mem ((c.tc : Thread Cert.Reference14Ideal.nD Cert.Reference14Ideal.τ).loc Cert.Reference14Ideal.main_arg10) = m ((c.tc : Thread Cert.Reference14Ideal.nD Cert.Reference14Ideal.τ).loc Cert.Reference14Ideal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v4) = v0 c
          ∧ r.2.mem ((c.tc : Thread Cert.Reference.nD Cert.Reference.τ).loc Cert.Reference.main_arg0) = m' ((c.tc : Thread Cert.Reference.nD Cert.Reference.τ).loc Cert.Reference.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "q_scale" .f32 0x3E38AA3B#32 (((1 / 8) * (Real.log 2)⁻¹ : ℝ) : EReal)
  ∧ IdealRules.named_const.Statement Cert.Kernel5Ideal.κ "log2_e" .f32 0x3FB8AA3B#32 (((Real.log 2)⁻¹ : ℝ) : EReal)
  ∧ IdealRules.named_const.Statement Cert.Kernel5Ideal.κ "mask" .f32 0xF149F2CA#32 ⊥

def algebraic_Kernel5Ideal_Reference5Ideal_pre_finite_inputs [hKernel5Ideal : Cert.Kernel5Ideal.Facts] [hReference5Ideal : Cert.Reference5Ideal.Facts] [hPre_finite_inputs : Cert.Pre_finite_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_inputs m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v115) = v0 c
          ∧ r.2.mem ((c.tc : Thread Cert.Reference5Ideal.nD Cert.Reference5Ideal.τ).loc Cert.Reference5Ideal.main_v8) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_v33) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite_conditioning [hKernel8Ideal : Cert.Kernel8Ideal.Facts] [hReference8Ideal : Cert.Reference8Ideal.Facts] [hPre_finite_conditioning : Cert.Pre_finite_conditioning.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_conditioning m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v19_0)) (v1 : (c : Dev Cert.Kernel9Ideal.nD) → Buf (Elt Ideal) ((c.tc : Thread Cert.Kernel9Ideal.nD Cert.Kernel9Ideal.τ).loc Cert.Kernel9Ideal.main_v19_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v19_0) = v0 c
          ∧ r.2.mem ((c.tc : Thread Cert.Kernel9Ideal.nD Cert.Kernel9Ideal.τ).loc Cert.Kernel9Ideal.main_v19_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_v18) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v1) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def bitexact_Kernel10_Reference10 [hKernel10 : Cert.Kernel10.Facts] [hReference10 : Cert.Reference10.Facts] : Prop :=
  ∀ (m : (ℓ : Loc Cert.Kernel10.nD Cert.Kernel10.τ Cert.Kernel10.sig) → Buf (Elt Bits) ℓ) (g : Dev Cert.Kernel10.nD → PrngReg)
    (m' : (ℓ : Loc Cert.Reference10.nD Cert.Reference10.τ Cert.Reference10.sig) → Buf (Elt Bits) ℓ) (g' : Dev Cert.Reference10.nD → PrngReg), Pre_Kernel10 m →
    (∀ c : Dev Cert.Kernel10.nD,
      m' ((c.tc : Thread Cert.Reference10.nD Cert.Reference10.τ).loc Cert.Reference10.main_arg0) = m ((c.tc : Thread Cert.Kernel10.nD Cert.Kernel10.τ).loc Cert.Kernel10.main_arg0)) →
    ∃ (v0 : (c : Dev Cert.Kernel10.nD) → Buf (Elt Bits) ((c.tc : Thread Cert.Kernel10.nD Cert.Kernel10.τ).loc Cert.Kernel10.main_v1)),
      θ_run (Cert.Kernel10.defs (F := Bits)) (onTc (τ := Cert.Kernel10.τ) (Cert.Kernel10.main (F := Bits))) ⟨m, fun _ => 0, g⟩ (fun r => ∀ c : Dev Cert.Kernel10.nD,
          r.2.mem ((c.tc : Thread Cert.Kernel10.nD Cert.Kernel10.τ).loc Cert.Kernel10.main_v1) = v0 c
          ∧ r.2.mem ((c.tc : Thread Cert.Kernel10.nD Cert.Kernel10.τ).loc Cert.Kernel10.main_arg0) = m ((c.tc : Thread Cert.Kernel10.nD Cert.Kernel10.τ).loc Cert.Kernel10.main_arg0))
      ∧ θ_run (Cert.Reference10.defs (F := Bits)) (onTc (τ := Cert.Reference10.τ) (Cert.Reference10.main (F := Bits))) ⟨m', fun _ => 0, g'⟩ (fun r => ∀ c : Dev Cert.Reference10.nD,
          r.2.mem ((c.tc : Thread Cert.Reference10.nD Cert.Reference10.τ).loc Cert.Reference10.main_v1) = v0 c
          ∧ r.2.mem ((c.tc : Thread Cert.Reference10.nD Cert.Reference10.τ).loc Cert.Reference10.main_arg0) = m' ((c.tc : Thread Cert.Reference10.nD Cert.Reference10.τ).loc Cert.Reference10.main_arg0))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0))

def bitexact_Kernel11_Reference11 [hKernel11 : Cert.Kernel11.Facts] [hReference11 : Cert.Reference11.Facts] : Prop :=
  ∀ (m : (ℓ : Loc Cert.Kernel11.nD Cert.Kernel11.τ Cert.Kernel11.sig) → Buf (Elt Bits) ℓ) (g : Dev Cert.Kernel11.nD → PrngReg)
    (m' : (ℓ : Loc Cert.Reference11.nD Cert.Reference11.τ Cert.Reference11.sig) → Buf (Elt Bits) ℓ) (g' : Dev Cert.Reference11.nD → PrngReg), Pre_Kernel11 m →
    (∀ c : Dev Cert.Kernel11.nD,
      m' ((c.tc : Thread Cert.Reference11.nD Cert.Reference11.τ).loc Cert.Reference11.main_arg0) = m ((c.tc : Thread Cert.Kernel11.nD Cert.Kernel11.τ).loc Cert.Kernel11.main_arg0)) →
    ∃ (v0 : (c : Dev Cert.Kernel11.nD) → Buf (Elt Bits) ((c.tc : Thread Cert.Kernel11.nD Cert.Kernel11.τ).loc Cert.Kernel11.main_v1)),
      θ_run (Cert.Kernel11.defs (F := Bits)) (onTc (τ := Cert.Kernel11.τ) (Cert.Kernel11.main (F := Bits))) ⟨m, fun _ => 0, g⟩ (fun r => ∀ c : Dev Cert.Kernel11.nD,
          r.2.mem ((c.tc : Thread Cert.Kernel11.nD Cert.Kernel11.τ).loc Cert.Kernel11.main_v1) = v0 c
          ∧ r.2.mem ((c.tc : Thread Cert.Kernel11.nD Cert.Kernel11.τ).loc Cert.Kernel11.main_arg0) = m ((c.tc : Thread Cert.Kernel11.nD Cert.Kernel11.τ).loc Cert.Kernel11.main_arg0))
      ∧ θ_run (Cert.Reference11.defs (F := Bits)) (onTc (τ := Cert.Reference11.τ) (Cert.Reference11.main (F := Bits))) ⟨m', fun _ => 0, g'⟩ (fun r => ∀ c : Dev Cert.Reference11.nD,
          r.2.mem ((c.tc : Thread Cert.Reference11.nD Cert.Reference11.τ).loc Cert.Reference11.main_v3) = v0 c
          ∧ r.2.mem ((c.tc : Thread Cert.Reference11.nD Cert.Reference11.τ).loc Cert.Reference11.main_arg0) = m' ((c.tc : Thread Cert.Reference11.nD Cert.Reference11.τ).loc Cert.Reference11.main_arg0))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v7) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v45) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v30) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)
      ∧ m' ((c.tc : Thread Cert.Reference14Ideal.nD Cert.Reference14Ideal.τ).loc Cert.Reference14Ideal.main_arg9) = m ((c.tc : Thread Cert.Kernel14Ideal.nD Cert.Kernel14Ideal.τ).loc Cert.Kernel14Ideal.main_arg9)
      ∧ m' ((c.tc : Thread Cert.Reference14Ideal.nD Cert.Reference14Ideal.τ).loc Cert.Reference14Ideal.main_arg10) = m ((c.tc : Thread Cert.Kernel14Ideal.nD Cert.Kernel14Ideal.τ).loc Cert.Kernel14Ideal.main_arg10)) →
    ∃ (v0 : (c : Dev Cert.Kernel14Ideal.nD) → Buf (Elt Ideal) ((c.tc : Thread Cert.Kernel14Ideal.nD Cert.Kernel14Ideal.τ).loc Cert.Kernel14Ideal.main_v8_0)) (v1 : (c : Dev Cert.Kernel14Ideal.nD) → Buf (Elt Ideal) ((c.tc : Thread Cert.Kernel14Ideal.nD Cert.Kernel14Ideal.τ).loc Cert.Kernel14Ideal.main_v8_1)) (v2 : (c : Dev Cert.Kernel14Ideal.nD) → Buf (Elt Ideal) ((c.tc : Thread Cert.Kernel14Ideal.nD Cert.Kernel14Ideal.τ).loc Cert.Kernel14Ideal.main_v9)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8_0) = v0 c
          ∧ r.2.mem ((c.tc : Thread Cert.Kernel14Ideal.nD Cert.Kernel14Ideal.τ).loc Cert.Kernel14Ideal.main_v8_1) = v1 c
          ∧ r.2.mem ((c.tc : Thread Cert.Kernel14Ideal.nD Cert.Kernel14Ideal.τ).loc Cert.Kernel14Ideal.main_v9) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8)
          ∧ r.2.mem ((c.tc : Thread Cert.Kernel14Ideal.nD Cert.Kernel14Ideal.τ).loc Cert.Kernel14Ideal.main_arg9) = m ((c.tc : Thread Cert.Kernel14Ideal.nD Cert.Kernel14Ideal.τ).loc Cert.Kernel14Ideal.main_arg9)
          ∧ r.2.mem ((c.tc : Thread Cert.Kernel14Ideal.nD Cert.Kernel14Ideal.τ).loc Cert.Kernel14Ideal.main_arg10) = m ((c.tc : Thread Cert.Kernel14Ideal.nD Cert.Kernel14Ideal.τ).loc Cert.Kernel14Ideal.main_arg10))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v55) = v0 c
          ∧ r.2.mem ((c.tc : Thread Cert.Reference14Ideal.nD Cert.Reference14Ideal.τ).loc Cert.Reference14Ideal.main_v57) = v1 c
          ∧ r.2.mem ((c.tc : Thread Cert.Reference14Ideal.nD Cert.Reference14Ideal.τ).loc Cert.Reference14Ideal.main_v63) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8)
          ∧ r.2.mem ((c.tc : Thread Cert.Reference14Ideal.nD Cert.Reference14Ideal.τ).loc Cert.Reference14Ideal.main_arg9) = m' ((c.tc : Thread Cert.Reference14Ideal.nD Cert.Reference14Ideal.τ).loc Cert.Reference14Ideal.main_arg9)
          ∧ r.2.mem ((c.tc : Thread Cert.Reference14Ideal.nD Cert.Reference14Ideal.τ).loc Cert.Reference14Ideal.main_arg10) = m' ((c.tc : Thread Cert.Reference14Ideal.nD Cert.Reference14Ideal.τ).loc Cert.Reference14Ideal.main_arg10))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hReference10 : Cert.Reference10.Facts) (hKernel11 : Cert.Kernel11.Facts) (hKernel11Ideal : Cert.Kernel11Ideal.Facts) (hReference11Ideal : Cert.Reference11Ideal.Facts) (hReference11 : Cert.Reference11.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite_inputs : Cert.Pre_finite_inputs.Facts) (hPre_finite_conditioning : Cert.Pre_finite_conditioning.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_inputs (hKernel5Ideal := hKernel5Ideal) (hPre_finite_inputs := hPre_finite_inputs)
    ∧ quiescent_Reference5Ideal (hReference5Ideal := hReference5Ideal)
    ∧ quiescent_Reference5Ideal_pre_finite_inputs (hReference5Ideal := hReference5Ideal) (hPre_finite_inputs := hPre_finite_inputs)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_conditioning (hKernel8Ideal := hKernel8Ideal) (hPre_finite_conditioning := hPre_finite_conditioning)
    ∧ quiescent_Reference8Ideal (hReference8Ideal := hReference8Ideal)
    ∧ quiescent_Reference8Ideal_pre_finite_conditioning (hReference8Ideal := hReference8Ideal) (hPre_finite_conditioning := hPre_finite_conditioning)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Reference10 (hReference10 := hReference10)
    ∧ quiescent_Kernel11 (hKernel11 := hKernel11)
    ∧ quiescent_Kernel11Ideal (hKernel11Ideal := hKernel11Ideal)
    ∧ quiescent_Reference11Ideal (hReference11Ideal := hReference11Ideal)
    ∧ quiescent_Reference11 (hReference11 := hReference11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_inputs (hKernel5Ideal := hKernel5Ideal) (hReference5Ideal := hReference5Ideal) (hPre_finite_inputs := hPre_finite_inputs)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_conditioning (hKernel8Ideal := hKernel8Ideal) (hReference8Ideal := hReference8Ideal) (hPre_finite_conditioning := hPre_finite_conditioning)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ bitexact_Kernel10_Reference10 (hKernel10 := hKernel10) (hReference10 := hReference10)
    ∧ preserves_Kernel11_Kernel11Ideal
    ∧ algebraic_Kernel11Ideal_Reference11Ideal (hKernel11Ideal := hKernel11Ideal) (hReference11Ideal := hReference11Ideal)
    ∧ bitexact_Kernel11_Reference11 (hKernel11 := hKernel11) (hReference11 := hReference11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite_conditioning.lean ====
abbrev S8x2048 : Shape := ⟨2, ![8, 2048]⟩
abbrev S2x2048x6144 : Shape := ⟨3, ![2, 2048, 6144]⟩
abbrev S2x6144 : Shape := ⟨2, ![2, 6144]⟩
abbrev S_ : Shape := ⟨0, ![]⟩

class Facts : Prop where
  bcast_S_S8x2048 : S_.BroadcastsInDim S8x2048 (![] : Fin 0 → Fin S8x2048.rank)

variable [Facts]

def fn {F : FTy → Type} [FloatOps F] (main_arg0 : FVec F S8x2048 .f32) (main_arg1 : FVec F S2x2048x6144 .f32) (main_arg2 : FVec F S2x6144 .f32) : IVec S8x2048 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  main_v2
-- ==== Pre_finite_inputs.lean ====
abbrev S32768x16384 : Shape := ⟨2, ![32768, 16384]⟩
abbrev S32768x2048 : Shape := ⟨2, ![32768, 2048]⟩
abbrev S2x2048x512 : Shape := ⟨3, ![2, 2048, 512]⟩
abbrev S2x2048x128 : Shape := ⟨3, ![2, 2048, 128]⟩
abbrev S32768x32 : Shape := ⟨2, ![32768, 32]⟩
abbrev S32 : Shape := ⟨1, ![32]⟩
abbrev S1x2048x512 : Shape := ⟨3, ![1, 2048, 512]⟩
abbrev S2048x512 : Shape := ⟨2, ![2048, 512]⟩
abbrev S_ : Shape := ⟨0, ![]⟩

class Facts : Prop where
  slices_S32768x16384_S32768x2048_0_8192 : S32768x16384.Slices ![0, 8192] S32768x2048
  slices_S2x2048x512_S1x2048x512_0_0_0 : S2x2048x512.Slices ![0, 0, 0] S1x2048x512
  shapeCasts_S1x2048x512_S2048x512 : S1x2048x512.ShapeCasts S2048x512
  bitsLt_bf16_f32 : FTy.bits .bf16 < FTy.bits .f32
  bcast_S_S32768x2048 : S_.BroadcastsInDim S32768x2048 (![] : Fin 0 → Fin S32768x2048.rank)
  bcast_S_S2048x512 : S_.BroadcastsInDim S2048x512 (![] : Fin 0 → Fin S2048x512.rank)
  bcast_S_S32768x32 : S_.BroadcastsInDim S32768x32 (![] : Fin 0 → Fin S32768x32.rank)
  bcast_S_S32 : S_.BroadcastsInDim S32 (![] : Fin 0 → Fin S32.rank)

variable [Facts]

def fn_part1 {F : FTy → Type} [FloatOps F] (main_arg6 : FVec F S32 .f32) (main_v6 : IVec S32768x2048 1) (main_v10 : IVec S32768x2048 1) (main_v14 : IVec S2048x512 1) (main_v17 : IVec S32768x32 1) (main_v18 : FVec F S32768x32 .f32) (main_cst_3 : FVec F S_ .f32) : IVec S32768x2048 1 × IVec S32768x2048 1 × IVec S2048x512 1 × IVec S32768x32 1 × IVec S32768x32 1 × IVec S32 1 :=
  let main_v19 : FVec F S32768x32 .f32 := broadcastInDim S32768x32 ![] bcast_S_S32768x32 main_cst_3
  let main_v20 : IVec S32768x32 1 := cmpf .olt main_v18 main_v19
  let main_v21 : FVec F S32 .f32 := Host.absf main_arg6
  let main_cst_4 : FVec F S_ .f32 := constant S_ .f32 0x7F800000#32
  let main_v22 : FVec F S32 .f32 := broadcastInDim S32 ![] bcast_S_S32 main_cst_4
  let main_v23 : IVec S32 1 := cmpf .olt main_v21 main_v22
  (main_v6, main_v10, main_v14, main_v17, main_v20, main_v23)

def fn {F : FTy → Type} [FloatOps F] (main_arg0 : FVec F S32768x16384 .bf16) (main_arg1 : FVec F S32768x2048 .bf16) (main_arg2 : FVec F S2x2048x512 .bf16) (main_arg3 : FVec F S2x2048x128 .bf16) (main_arg4 : FVec F S32768x32 .f32) (main_arg5 : FVec F S32768x32 .f32) (main_arg6 : FVec F S32 .f32) : IVec S32768x2048 1 × IVec S32768x2048 1 × IVec S2048x512 1 × IVec S32768x32 1 × IVec S32768x32 1 × IVec S32 1 :=
  let main_v0 : FVec F S32768x2048 .bf16 := (extractStridedSlice S32768x2048 ![0, 8192] · slices_S32768x16384_S32768x2048_0_8192) main_arg0
  let main_v1 : FVec F S1x2048x512 .bf16 := (extractStridedSlice S1x2048x512 ![0, 0, 0] · slices_S2x2048x512_S1x2048x512_0_0_0) main_arg2
  let main_v2 : FVec F S2048x512 .bf16 := shapeCast S2048x512 main_v1 shapeCasts_S1x2048x512_S2048x512
  let main_v3 : FVec F S32768x2048 .f32 := (extf .f32 · bitsLt_bf16_f32) main_v0
  let main_v4 : FVec F S32768x2048 .f32 := Host.absf main_v3
  let main_cst : FVec F S_ .f32 := constant S_ .f32 0x7F800000#32
  let main_v5 : FVec F S32768x2048 .f32 := broadcastInDim S32768x2048 ![] bcast_S_S32768x2048 main_cst
  let main_v6 : IVec S32768x2048 1 := cmpf .olt main_v4 main_v5
  let main_v7 : FVec F S32768x2048 .f32 := (extf .f32 · bitsLt_bf16_f32) main_arg1
  let main_v8 : FVec F S32768x2048 .f32 := Host.absf main_v7
  let main_cst_0 : FVec F S_ .f32 := constant S_ .f32 0x7F800000#32
  let main_v9 : FVec F S32768x2048 .f32 := broadcastInDim S32768x2048 ![] bcast_S_S32768x2048 main_cst_0
  let main_v10 : IVec S32768x2048 1 := cmpf .olt main_v8 main_v9
  let main_v11 : FVec F S2048x512 .f32 := (extf .f32 · bitsLt_bf16_f32) main_v2
  let main_v12 : FVec F S2048x512 .f32 := Host.absf main_v11
  let main_cst_1 : FVec F S_ .f32 := constant S_ .f32 0x7F800000#32
  let main_v13 : FVec F S2048x512 .f32 := broadcastInDim S2048x512 ![] bcast_S_S2048x512 main_cst_1
  let main_v14 : IVec S2048x512 1 := cmpf .olt main_v12 main_v13
  let main_v15 : FVec F S32768x32 .f32 := Host.absf main_arg4
  let main_cst_2 : FVec F S_ .f32 := constant S_ .f32 0x7F800000#32
  let main_v16 : FVec F S32768x32 .f32 := broadcastInDim S32768x32 ![] bcast_S_S32768x32 main_cst_2
  let main_v17 : IVec S32768x32 1 := cmpf .olt main_v15 main_v16
  let main_v18 : FVec F S32768x32 .f32 := Host.absf main_arg5
  let main_cst_3 : FVec F S_ .f32 := constant S_ .f32 0x7F800000#32
  fn_part1 (F := F) main_arg6 main_v6 main_v10 main_v14 main_v17 main_v18 main_cst_3
-- ==== Kernel.lean ====
abbrev S2x2048x16928 : Shape := ⟨3, ![2, 2048, 16928]⟩
abbrev S64 : Shape := ⟨1, ![64]⟩
abbrev S2x16928x2048 : Shape := ⟨3, ![2, 16928, 2048]⟩
abbrev S2x2048x16384 : Shape := ⟨3, ![2, 2048, 16384]⟩
abbrev S1x256x2048 : Shape := ⟨3, ![1, 256, 2048]⟩
abbrev S1 : Shape := ⟨1, ![1]⟩
abbrev S1x2048x256 : Shape := ⟨3, ![1, 2048, 256]⟩
abbrev S256x2048 : Shape := ⟨2, ![256, 2048]⟩
abbrev S2048x256 : Shape := ⟨2, ![2048, 256]⟩

abbrev nBuf : Space → Nat
  | .hbm => 3
  | .vmem => 4
  | .smem => 1
  | _ => 0

abbrev bufTy : (tb : Table) → Fin (tcTables nBuf tb) → BufTy
  | .hbm, ⟨0, _⟩ => ⟨S2x2048x16928, .f32⟩
  | .hbm, ⟨1, _⟩ => ⟨S2x16928x2048, .f32⟩
  | .hbm, ⟨2, _⟩ => ⟨S2x2048x16384, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048x256, .bf16⟩
  | .local _ .vmem, ⟨3, _⟩ => ⟨S1x2048x256, .bf16⟩
  | .local _ .smem, ⟨0, _⟩ => ⟨S64, .i32⟩
  | _, _ => ⟨S2x2048x16928, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 64], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S64) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![arg0.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference.lean ====
abbrev S2x2048x16928 : Shape := ⟨3, ![2, 2048, 16928]⟩
abbrev S2x2048x6144 : Shape := ⟨3, ![2, 2048, 6144]⟩
abbrev S2x2048x4096 : Shape := ⟨3, ![2, 2048, 4096]⟩
abbrev S2x2048x16384 : Shape := ⟨3, ![2, 2048, 16384]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x16928, .f32⟩
  | .hbm, ⟨1, _⟩ => ⟨S2x2048x6144, .f32⟩
  | .hbm, ⟨2, _⟩ => ⟨S2x2048x4096, .f32⟩
  | .hbm, ⟨3, _⟩ => ⟨S2x2048x6144, .f32⟩
  | .hbm, ⟨4, _⟩ => ⟨S2x2048x16384, .f32⟩
  | .hbm, ⟨5, _⟩ => ⟨S2x2048x16384, .bf16⟩
  | _, _ => ⟨S2x2048x16928, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Kernel2.lean ====
abbrev S32768x2048 : Shape := ⟨2, ![32768, 2048]⟩
abbrev S2x2048x16384 : Shape := ⟨3, ![2, 2048, 16384]⟩
abbrev S32768x16384 : Shape := ⟨2, ![32768, 16384]⟩
abbrev S1024x2048 : Shape := ⟨2, ![1024, 2048]⟩
abbrev S1x2048x2048 : Shape := ⟨3, ![1, 2048, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2x2048x16384, .bf16⟩
  | .hbm, ⟨2, _⟩ => ⟨S32768x16384, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x2048, .bf16⟩
  | .local _ .vmem, ⟨3, _⟩ => ⟨S1x2048x2048, .bf16⟩
  | .local _ .vmem, ⟨4, _⟩ => ⟨S1024x2048, .bf16⟩
  | .local _ .vmem, ⟨5, _⟩ => ⟨S1024x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S32768x2048 : Shape := ⟨2, ![32768, 2048]⟩
abbrev S2x2048x16384 : Shape := ⟨3, ![2, 2048, 16384]⟩
abbrev S1x2048x16384 : Shape := ⟨3, ![1, 2048, 16384]⟩
abbrev S2048x16384 : Shape := ⟨2, ![2048, 16384]⟩
abbrev S32768x16384 : Shape := ⟨2, ![32768, 16384]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2x2048x16384, .bf16⟩
  | .hbm, ⟨2, _⟩ => ⟨S32768x2048, .f32⟩
  | .hbm, ⟨3, _⟩ => ⟨S1x2048x16384, .bf16⟩
  | .hbm, ⟨4, _⟩ => ⟨S2048x16384, .bf16⟩
  | .hbm, ⟨5, _⟩ => ⟨S2048x16384, .f32⟩
  | .hbm, ⟨6, _⟩ => ⟨S32768x16384, .f32⟩
  | .hbm, ⟨7, _⟩ => ⟨S32768x16384, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel3.lean ====
abbrev S32768x2048 : Shape := ⟨2, ![32768, 2048]⟩
abbrev S32768x16384 : Shape := ⟨2, ![32768, 16384]⟩
abbrev S2048x2048 : Shape := ⟨2, ![2048, 2048]⟩
abbrev S512x2048 : Shape := ⟨2, ![512, 2048]⟩

abbrev nBuf : Space → Nat
  | .hbm => 8
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x16384, .bf16⟩
  | .hbm, ⟨3, _⟩ => ⟨S2048x2048, .f32⟩
  | .hbm, ⟨4, _⟩ => ⟨S2048x2048, .f32⟩
  | .hbm, ⟨5, _⟩ => ⟨S2048x2048, .bf16⟩
  | .hbm, ⟨6, _⟩ => ⟨S2048x2048, .bf16⟩
  | .hbm, ⟨7, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .vmem, ⟨9, _⟩ => ⟨S2048x2048, .bf16⟩
  | .local _ .vmem, ⟨10, _⟩ => ⟨S512x2048, .bf16⟩
  | .local _ .vmem, ⟨11, _⟩ => ⟨S512x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S32768x2048 : Shape := ⟨2, ![32768, 2048]⟩
abbrev S32768x16384 : Shape := ⟨2, ![32768, 16384]⟩
abbrev S2048x2048 : Shape := ⟨2, ![2048, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x16384, .bf16⟩
  | .hbm, ⟨3, _⟩ => ⟨S2048x2048, .f32⟩
  | .hbm, ⟨4, _⟩ => ⟨S2048x2048, .f32⟩
  | .hbm, ⟨5, _⟩ => ⟨S32768x2048, .f32⟩
  | .hbm, ⟨6, _⟩ => ⟨S32768x2048, .f32⟩
  | .hbm, ⟨7, _⟩ => ⟨S32768x2048, .bf16⟩
  | .hbm, ⟨8, _⟩ => ⟨S32768x2048, .f32⟩
  | .hbm, ⟨9, _⟩ => ⟨S32768x2048, .bf16⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768x2048, .f32⟩
  | .hbm, ⟨15, _⟩ => ⟨S32768x2048, .f32⟩
  | .hbm, ⟨16, _⟩ => ⟨S_, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S32768x2048, .f32⟩
  | .hbm, ⟨25, _⟩ => ⟨S32768x2048, .f32⟩
  | .hbm, ⟨26, _⟩ => ⟨S_, .f32⟩
  | .hbm, ⟨27, _⟩ => ⟨S32768x2048, .f32⟩
  | .hbm, ⟨28, _⟩ => ⟨S32768x2048, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel4.lean ====
abbrev S32768x2048 : Shape := ⟨2, ![32768, 2048]⟩
abbrev S8x4096x2048 : Shape := ⟨3, ![8, 4096, 2048]⟩
abbrev S8x6144 : Shape := ⟨2, ![8, 6144]⟩
abbrev S2048x2048 : Shape := ⟨2, ![2048, 2048]⟩
abbrev S2048 : Shape := ⟨1, ![2048]⟩
abbrev S8x3x2048 : Shape := ⟨3, ![8, 3, 2048]⟩
abbrev S1x2048 : Shape := ⟨2, ![1, 2048]⟩
abbrev S512x2048 : Shape := ⟨2, ![512, 2048]⟩
abbrev S1x3x2048 : Shape := ⟨3, ![1, 3, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S32768x2048, .bf16⟩
  | .hbm, ⟨1, _⟩ => ⟨S8x4096x2048, .f32⟩
  | .hbm, ⟨2, _⟩ => ⟨S8x6144, .f32⟩
  | .hbm, ⟨3, _⟩ => ⟨S2048x2048, .f32⟩
  | .hbm, ⟨4, _⟩ => ⟨S2048, .f32⟩
  | .hbm, ⟨5, _⟩ => ⟨S8x3x2048, .f32⟩
  | .hbm, ⟨6, _⟩ => ⟨S32768x2048, .f32⟩
  | .hbm, ⟨7, _⟩ => ⟨S2048x2048, .bf16⟩
  | .hbm, ⟨8, _⟩ => ⟨S1x2048, .f32⟩
  | .hbm, ⟨9, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x3x2048, .f32⟩
  | .local _ .vmem, ⟨6, _⟩ => ⟨S1x3x2048, .f32⟩
  | .local _ .vmem, ⟨7, _⟩ => ⟨S1x3x2048, .f32⟩
  | .local _ .vmem, ⟨8, _⟩ => ⟨S1x3x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S32768x2048 : Shape := ⟨2, ![32768, 2048]⟩
abbrev S8x4096x2048 : Shape := ⟨3, ![8, 4096, 2048]⟩
abbrev S8x6144 : Shape := ⟨2, ![8, 6144]⟩
abbrev S2048x2048 : Shape := ⟨2, ![2048, 2048]⟩
abbrev S2048 : Shape := ⟨1, ![2048]⟩
abbrev S8x2048 : Shape := ⟨2, ![8, 2048]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S8x4096x2048, .f32⟩
  | .hbm, ⟨2, _⟩ => ⟨S8x6144, .f32⟩
  | .hbm, ⟨3, _⟩ => ⟨S2048x2048, .f32⟩
  | .hbm, ⟨4, _⟩ => ⟨S2048, .f32⟩
  | .hbm, ⟨5, _⟩ => ⟨S8x2048, .f32⟩
  | .hbm, ⟨6, _⟩ => ⟨S8x1x2048, .f32⟩
  | .hbm, ⟨7, _⟩ => ⟨S32768x2048, .f32⟩
  | .hbm, ⟨8, _⟩ => ⟨S32768x2048, .f32⟩
  | .hbm, ⟨9, _⟩ => ⟨S8x4096x2048, .f32⟩
  | .hbm, ⟨10, _⟩ => ⟨S8x4096x2048, .f32⟩
  | .hbm, ⟨11, _⟩ => ⟨S8x4096x2048, .f32⟩
  | .hbm, ⟨12, _⟩ => ⟨S8x4096x2048, .f32⟩
  | .hbm, ⟨13, _⟩ => ⟨S8x4096x2048, .f32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x2048, .f32⟩
  | .hbm, ⟨25, _⟩ => ⟨S8x4096x2048, .f32⟩
  | .hbm, ⟨26, _⟩ => ⟨S1x1x2048, .f32⟩
  | .hbm, ⟨27, _⟩ => ⟨S8x4096x2048, .f32⟩
  | .hbm, ⟨28, _⟩ => ⟨S8x4096x2048, .f32⟩
  | .hbm, ⟨29, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel5.lean ====
abbrev S32768x16384 : Shape := ⟨2, ![32768, 16384]⟩
abbrev S32768x2048 : Shape := ⟨2, ![32768, 2048]⟩
abbrev S2x2048x512 : Shape := ⟨3, ![2, 2048, 512]⟩
abbrev S2x2048x128 : Shape := ⟨3, ![2, 2048, 128]⟩
abbrev S32768x32 : Shape := ⟨2, ![32768, 32]⟩
abbrev S32 : Shape := ⟨1, ![32]⟩
abbrev S32768x128 : Shape := ⟨2, ![32768, 128]⟩
abbrev S128x2048 : Shape := ⟨2, ![128, 2048]⟩
abbrev S1x2048x512 : Shape := ⟨3, ![1, 2048, 512]⟩
abbrev S1x2048x128 : Shape := ⟨3, ![1, 2048, 128]⟩
abbrev S128x128 : Shape := ⟨2, ![128, 128]⟩
abbrev S4x128x128 : Shape := ⟨3, ![4, 128, 128]⟩
abbrev S2048x512 : Shape := ⟨2, ![2048, 512]⟩
abbrev S128x512 : Shape := ⟨2, ![128, 512]⟩
abbrev S2048x128 : Shape := ⟨2, ![2048, 128]⟩
abbrev S128x256 : Shape := ⟨2, ![128, 256]⟩
abbrev S1x128x128 : Shape := ⟨3, ![1, 128, 128]⟩
abbrev S256x128 : Shape := ⟨2, ![256, 128]⟩
abbrev S1024x128 : Shape := ⟨2, ![1024, 128]⟩
abbrev S1024x256 : Shape := ⟨2, ![1024, 256]⟩
abbrev S1 : Shape := ⟨1, ![1]⟩
abbrev S128 : Shape := ⟨1, ![128]⟩
abbrev S128x1 : Shape := ⟨2, ![128, 1]⟩

abbrev nBuf : Space → Nat
  | .hbm => 13
  | .vmem => 18
  | .smem => 1
  | _ => 0

abbrev bufTy : (tb : Table) → Fin (tcTables nBuf tb) → BufTy
  | .hbm, ⟨0, _⟩ => ⟨S32768x16384, .bf16⟩
  | .hbm, ⟨1, _⟩ => ⟨S32768x2048, .bf16⟩
  | .hbm, ⟨2, _⟩ => ⟨S2x2048x512, .bf16⟩
  | .hbm, ⟨3, _⟩ => ⟨S2x2048x128, .bf16⟩
  | .hbm, ⟨4, _⟩ => ⟨S32768x32, .f32⟩
  | .hbm, ⟨5, _⟩ => ⟨S32768x32, .f32⟩
  | .hbm, ⟨6, _⟩ => ⟨S32, .f32⟩
  | .hbm, ⟨7, _⟩ => ⟨S32768x128, .f32⟩
  | .hbm, ⟨8, _⟩ => ⟨S32768x32, .f32⟩
  | .hbm, ⟨9, _⟩ => ⟨S32768x32, .f32⟩
  | .hbm, ⟨10, _⟩ => ⟨S32768x128, .f32⟩
  | .hbm, ⟨11, _⟩ => ⟨S32768x2048, .bf16⟩
  | .hbm, ⟨12, _⟩ => ⟨S32768x128, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S1x2048x512, .bf16⟩
  | .local _ .vmem, ⟨7, _⟩ => ⟨S1x2048x128, .bf16⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x2048, .bf16⟩
  | .local _ .vmem, ⟨13, _⟩ => ⟨S128x2048, .bf16⟩
  | .local _ .vmem, ⟨14, _⟩ => ⟨S128x128, .f32⟩
  | .local _ .vmem, ⟨15, _⟩ => ⟨S128x128, .f32⟩
  | .local _ .vmem, ⟨16, _⟩ => ⟨S4x128x128, .bf16⟩
  | .local _ .vmem, ⟨17, _⟩ => ⟨S4x128x128, .bf16⟩
  | .local _ .smem, ⟨0, _⟩ => ⟨S32, .f32⟩
  | _, _ => ⟨S32768x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c4_i32 : BitVec 32 := 4#32
  let c0_i32 : BitVec 32 := 0#32
  ![v1.toNat, c4_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c5_i32 : BitVec 32 := 5#32
  let c0_i32 : BitVec 32 := 0#32
  ![v1.toNat, c5_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel5Ideal.lean ====
variable {F : FTy → Type} [FloatOps F] [Named F]
def κ : String → Option EReal := fun
  | "log2_e" => some (((Real.log 2)⁻¹ : ℝ) : EReal)
  | "mask" => some ⊥
  | "q_scale" => some (((1 / 8) * (Real.log 2)⁻¹ : ℝ) : EReal)
  | _ => none
-- ==== Reference5Ideal.lean ====
abbrev S32768x16384 : Shape := ⟨2, ![32768, 16384]⟩
abbrev S32768x2048 : Shape := ⟨2, ![32768, 2048]⟩
abbrev S2x2048x512 : Shape := ⟨3, ![2, 2048, 512]⟩
abbrev S2x2048x128 : Shape := ⟨3, ![2, 2048, 128]⟩
abbrev S32768x32 : Shape := ⟨2, ![32768, 32]⟩
abbrev S32 : Shape := ⟨1, ![32]⟩
abbrev S1x2048x512 : Shape := ⟨3, ![1, 2048, 512]⟩
abbrev S2048x512 : Shape := ⟨2, ![2048, 512]⟩
abbrev S32768x512 : Shape := ⟨2, ![32768, 512]⟩
abbrev S1x2048x128 : Shape := ⟨3, ![1, 2048, 128]⟩
abbrev S2048x128 : Shape := ⟨2, ![2048, 128]⟩
abbrev S32768x128 : Shape := ⟨2, ![32768, 128]⟩
abbrev S32768x1x32 : Shape := ⟨3, ![32768, 1, 32]⟩
abbrev S32768x32x64 : Shape := ⟨3, ![32768, 32, 64]⟩
abbrev S32768x32x32 : Shape := ⟨3, ![32768, 32, 32]⟩
abbrev S8x32x128x4x8x64 : Shape := ⟨6, ![8, 32, 128, 4, 8, 64]⟩
abbrev S32768x256 : Shape := ⟨2, ![32768, 256]⟩
abbrev S32768x4x64 : Shape := ⟨3, ![32768, 4, 64]⟩
abbrev S32768x4x32 : Shape := ⟨3, ![32768, 4, 32]⟩
abbrev S8x32x128x4x64 : Shape := ⟨5, ![8, 32, 128, 4, 64]⟩
abbrev S_ : Shape := ⟨0, ![]⟩
abbrev S8x33x128x4x64 : Shape := ⟨5, ![8, 33, 128, 4, 64]⟩
abbrev S8x32x256x4x64 : Shape := ⟨5, ![8, 32, 256, 4, 64]⟩
abbrev S8x32x4x256x128x8 : Shape := ⟨6, ![8, 32, 4, 256, 128, 8]⟩
abbrev S8x32x4x8x128x256 : Shape := ⟨6, ![8, 32, 4, 8, 128, 256]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S32x128x1 : Shape := ⟨3, ![32, 128, 1]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S4x8 : Shape := ⟨2, ![4, 8]⟩
abbrev S1x1x4x8x1x1 : Shape := ⟨6, ![1, 1, 4, 8, 1, 1]⟩
abbrev S8x32x4x8x128 : Shape := ⟨5, ![8, 32, 4, 8, 128]⟩
abbrev S8x32x4x8x128x1 : Shape := ⟨6, ![8, 32, 4, 8, 128, 1]⟩
abbrev S8x32x4x64x8x128 : Shape := ⟨6, ![8, 32, 4, 64, 8, 128]⟩

abbrev nBuf : Space → Nat
  | .hbm => 148
  | .vmem => 0
  | .smem => 0
  | _ => 0

abbrev hbmTy0_0 (i : Nat) : BufTy := match i % 128 with
  | 0 => ⟨S32768x16384, .bf16⟩
  | 1 => ⟨S32768x2048, .bf16⟩
  | 2 => ⟨S2x2048x512, .bf16⟩
  | 3 => ⟨S2x2048x128, .bf16⟩
  | 4 => ⟨S32768x32, .f32⟩
  | 5 => ⟨S32768x32, .f32⟩
  | 6 => ⟨S32, .f32⟩
  | 7 => ⟨S32768x2048, .f32⟩
  | 8 => ⟨S1x2048x512, .bf16⟩
  | 9 => ⟨S2048x512, .bf16⟩
  | 10 => ⟨S2048x512, .f32⟩
  | 11 => ⟨S32768x512, .f32⟩
  | 12 => ⟨S1x2048x128, .bf16⟩
  | 13 => ⟨S2048x128, .bf16⟩
  | 14 => ⟨S2048x128, .f32⟩
  | 15 => ⟨S32768x128, .f32⟩
  | 16 => ⟨S32768x1x32, .f32⟩
  | 17 => ⟨S32768x1x32, .f32⟩
  | 18 => ⟨S32768x2048, .bf16⟩
  | 19 => ⟨S32768x2048, .f32⟩
  | 20 => ⟨S32768x32x64, .f32⟩
  | 21 => ⟨S32768x32x32, .f32⟩
  | 22 => ⟨S32768x32x32, .f32⟩
  | 23 => ⟨S32768x32x32, .f32⟩
  | 24 => ⟨S32768x32x32, .f32⟩
  | 25 => ⟨S32768x32x32, .f32⟩
  | 26 => ⟨S32768x32x32, .f32⟩
  | 27 => ⟨S32768x32x32, .f32⟩
  | 28 => ⟨S32768x32x32, .f32⟩
  | 29 => ⟨S32768x32x32, .f32⟩
  | 30 => ⟨S32768x32x32, .f32⟩
  | 31 => ⟨S32768x32x32, .f32⟩
  | 32 => ⟨S32768x32x32, .f32⟩
  | 33 => ⟨S32768x32x64, .f32⟩
  | 34 => ⟨S8x32x128x4x8x64, .f32⟩
  | 35 => ⟨S32768x256, .f32⟩
  | 36 => ⟨S32768x4x64, .f32⟩
  | 37 => ⟨S32768x4x32, .f32⟩
  | 38 => ⟨S32768x4x32, .f32⟩
  | 39 => ⟨S32768x4x32, .f32⟩
  | 40 => ⟨S32768x4x32, .f32⟩
  | 41 => ⟨S32768x4x32, .f32⟩
  | 42 => ⟨S32768x4x32, .f32⟩
  | 43 => ⟨S32768x4x32, .f32⟩
  | 44 => ⟨S32768x4x32, .f32⟩
  | 45 => ⟨S32768x4x32, .f32⟩
  | 46 => ⟨S32768x4x32, .f32⟩
  | 47 => ⟨S32768x4x32, .f32⟩
  | 48 => ⟨S32768x4x32, .f32⟩
  | 49 => ⟨S32768x4x64, .f32⟩
  | 50 => ⟨S8x32x128x4x64, .f32⟩
  | 51 => ⟨S32768x256, .f32⟩
  | 52 => ⟨S8x32x128x4x64, .f32⟩
  | 53 => ⟨S_, .i32⟩
  | 54 => ⟨S_, .f32⟩
  | 55 => ⟨S8x33x128x4x64, .f32⟩
  | 56 => ⟨S8x32x128x4x64, .f32⟩
  | 57 => ⟨S8x32x256x4x64, .f32⟩
  | 58 => ⟨S_, .i32⟩
  | 59 => ⟨S_, .f32⟩
  | 60 => ⟨S8x33x128x4x64, .f32⟩
  | 61 => ⟨S8x32x128x4x64, .f32⟩
  | 62 => ⟨S8x32x256x4x64, .f32⟩
  | 63 => ⟨S8x32x4x256x128x8, .f32⟩
  | 64 => ⟨S8x32x4x8x128x256, .f32⟩
  | 65 => ⟨S_, .f32⟩
  | 66 => ⟨S8x32x4x8x128x256, .f32⟩
  | 67 => ⟨S8x32x4x8x128x256, .f32⟩
  | 68 => ⟨S32, .i32⟩
  | 69 => ⟨S32x1, .i32⟩
  | 70 => ⟨S_, .i32⟩
  | 71 => ⟨S32x1, .i32⟩
  | 72 => ⟨S32x1, .i32⟩
  | 73 => ⟨S128, .i32⟩
  | 74 => ⟨S1x128, .i32⟩
  | 75 => ⟨S32x128, .i32⟩
  | 76 => ⟨S32x128, .i32⟩
  | 77 => ⟨S32x128, .i32⟩
  | 78 => ⟨S_, .i32⟩
  | 79 => ⟨S32x1, .i32⟩
  | 80 => ⟨S32x1, .i32⟩
  | 81 => ⟨S_, .i32⟩
  | 82 => ⟨S32x1, .i32⟩
  | 83 => ⟨S32x1, .i32⟩
  | 84 => ⟨S256, .i32⟩
  | 85 => ⟨S1x256, .i32⟩
  | 86 => ⟨S32x256, .i32⟩
  | 87 => ⟨S32x256, .i32⟩
  | 88 => ⟨S32x256, .i32⟩
  | 89 => ⟨S32x128x1, .i32⟩
  | 90 => ⟨S32x1x256, .i32⟩
  | 91 => ⟨S32x128x256, .i32⟩
  | 92 => ⟨S32x128x256, .i32⟩
  | 93 => ⟨S32x128x256, .i32⟩
  | 94 => ⟨S_, .i32⟩
  | 95 => ⟨S32x128x256, .i32⟩
  | 96 => ⟨S32x128x256, .i1⟩
  | 97 => ⟨S_, .i32⟩
  | 98 => ⟨S32x128x256, .i32⟩
  | 99 => ⟨S32x128x256, .i1⟩
  | 100 => ⟨S32x128x256, .i1⟩
  | 101 => ⟨S32x1x256, .i32⟩
  | 102 => ⟨S_, .i32⟩
  | 103 => ⟨S32x1x256, .i32⟩
  | 104 => ⟨S32x1x256, .i1⟩
  | 105 => ⟨S32x128x256, .i1⟩
  | 106 => ⟨S32x128x256, .i1⟩
  | 107 => ⟨S1x32x1x1x128x256, .i1⟩
  | 108 => ⟨S_, .f32⟩
  | 109 => ⟨S_, .f32⟩
  | 110 => ⟨S8x32x4x8x128x256, .i1⟩
  | 111 => ⟨S8x32x4x8x128x256, .f32⟩
  | 112 => ⟨S8x32x4x8x128x256, .f32⟩
  | 113 => ⟨S4x8, .f32⟩
  | 114 => ⟨S1x1x4x8x1x1, .f32⟩
  | 115 => ⟨S_, .f32⟩
  | 116 => ⟨S8x32x4x8x128, .f32⟩
  | 117 => ⟨S8x32x4x8x128x1, .f32⟩
  | 118 => ⟨S8x32x4x8x128x1, .f32⟩
  | 119 => ⟨S8x32x4x8x128x1, .f32⟩
  | 120 => ⟨S8x32x4x8x128x256, .f32⟩
  | 121 => ⟨S8x32x4x8x128x256, .f32⟩
  | 122 => ⟨S8x32x4x8x128x256, .f32⟩
  | 123 => ⟨S_, .f32⟩
  | 124 => ⟨S8x32x4x8x128, .f32⟩
  | 125 => ⟨S8x32x4x8x128x1, .f32⟩
  | 126 => ⟨S8x32x4x8x128x1, .f32⟩
  | 127 => ⟨S8x32x4x8x128x1, .f32⟩
  | _ => ⟨S32768x16384, .bf16⟩

abbrev hbmTy0_1 (i : Nat) : BufTy := match i % 128 with
  | 0 => ⟨S8x32x4x8x128x1, .f32⟩
  | 1 => ⟨S8x32x4x8x128x1, .f32⟩
  | 2 => ⟨S8x32x4x8x128x256, .f32⟩
  | 3 => ⟨S8x32x4x8x128x256, .f32⟩
  | 4 => ⟨S8x32x4x64x8x128, .f32⟩
  | 5 => ⟨S8x32x128x4x8x64, .f32⟩
  | 6 => ⟨S32768x2048, .f32⟩
  | 7 => ⟨S32768x2048, .bf16⟩
  | 8 => ⟨S32768x2048, .f32⟩
  | 9 => ⟨S32768x2048, .f32⟩
  | 10 => ⟨S32768x2048, .f32⟩
  | 11 => ⟨S_, .f32⟩
  | 12 => ⟨S32768x2048, .f32⟩
  | 13 => ⟨S32768x2048, .f32⟩
  | 14 => ⟨S_, .f32⟩
  | 15 => ⟨S32768x2048, .f32⟩
  | 16 => ⟨S32768x2048, .f32⟩
  | 17 => ⟨S32768x2048, .f32⟩
  | 18 => ⟨S32768x2048, .f32⟩
  | 19 => ⟨S32768x2048, .bf16⟩
  | _ => ⟨S32768x16384, .bf16⟩

abbrev hbmTy (i : Nat) : BufTy := match i / 128 with
  | 0 => hbmTy0_0 i
  | 1 => hbmTy0_1 i
  | _ => ⟨S32768x16384, .bf16⟩

abbrev bufTy : (tb : Table) → Fin (tcTables nBuf tb) → BufTy
  | .hbm, ⟨i, _⟩ => hbmTy i
  | _, _ => ⟨S32768x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_c : Ref sig .tc := ⟨.hbm, 53, rfl⟩
abbrev main_call0_v0 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_c_0 : Ref sig .tc := ⟨.hbm, 58, rfl⟩
abbrev main_call1_v0 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_c_1 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_c_2 : Ref sig .tc := ⟨.hbm, 78, rfl⟩
abbrev main_v65 : Ref sig .tc := ⟨.hbm, 79, rfl⟩
abbrev main_v66 : Ref sig .tc := ⟨.hbm, 80, rfl⟩
abbrev main_c_3 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_c_4 : Ref sig .tc := ⟨.hbm, 94, rfl⟩
abbrev main_v79 : Ref sig .tc := ⟨.hbm, 95, rfl⟩
abbrev main_v80 : Ref sig .tc := ⟨.hbm, 96, rfl⟩
abbrev main_c_5 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_c_6 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_cst_7 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_8 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_9 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_call3_v0 : Ref sig .tc := ⟨.hbm, 137, rfl⟩
abbrev main_call3_v1 : Ref sig .tc := ⟨.hbm, 138, rfl⟩
abbrev main_call3_cst : Ref sig .tc := ⟨.hbm, 139, rfl⟩
abbrev main_call3_v2 : Ref sig .tc := ⟨.hbm, 140, rfl⟩
abbrev main_call3_v3 : Ref sig .tc := ⟨.hbm, 141, rfl⟩
abbrev main_call3_cst_0 : Ref sig .tc := ⟨.hbm, 142, rfl⟩
abbrev main_call3_v4 : Ref sig .tc := ⟨.hbm, 143, rfl⟩
abbrev main_call3_v5 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩

abbrev nD : Nat := 1
abbrev τ : Topo := Topo.v7x

variable {F : FTy → Type} [FloatOps F]
-- ==== Kernel6.lean ====
abbrev S32768x2048 : Shape := ⟨2, ![32768, 2048]⟩
abbrev S8x4096x2048 : Shape := ⟨3, ![8, 4096, 2048]⟩
abbrev S8x6144 : Shape := ⟨2, ![8, 6144]⟩
abbrev S2048x2048 : Shape := ⟨2, ![2048, 2048]⟩
abbrev S2048 : Shape := ⟨1, ![2048]⟩
abbrev S8x3x2048 : Shape := ⟨3, ![8, 3, 2048]⟩
abbrev S1x2048 : Shape := ⟨2, ![1, 2048]⟩
abbrev S512x2048 : Shape := ⟨2, ![512, 2048]⟩
abbrev S1x3x2048 : Shape := ⟨3, ![1, 3, 2048]⟩
abbrev S1x1x2048 : Shape := ⟨3, ![1, 1, 2048]⟩
abbrev S3x2048 : Shape := ⟨2, ![3, 2048]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x2048, .bf16⟩
  | .hbm, ⟨1, _⟩ => ⟨S8x4096x2048, .f32⟩
  | .hbm, ⟨2, _⟩ => ⟨S8x6144, .f32⟩
  | .hbm, ⟨3, _⟩ => ⟨S8x6144, .f32⟩
  | .hbm, ⟨4, _⟩ => ⟨S2048x2048, .f32⟩
  | .hbm, ⟨5, _⟩ => ⟨S2048, .f32⟩
  | .hbm, ⟨6, _⟩ => ⟨S32768x2048, .f32⟩
  | .hbm, ⟨7, _⟩ => ⟨S2048x2048, .bf16⟩
  | .hbm, ⟨8, _⟩ => ⟨S8x3x2048, .f32⟩
  | .hbm, ⟨9, _⟩ => ⟨S8x3x2048, .f32⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x3x2048, .f32⟩
  | .local _ .vmem, ⟨6, _⟩ => ⟨S1x3x2048, .f32⟩
  | .local _ .vmem, ⟨7, _⟩ => ⟨S1x3x2048, .f32⟩
  | .local _ .vmem, ⟨8, _⟩ => ⟨S1x3x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S32768x2048 : Shape := ⟨2, ![32768, 2048]⟩
abbrev S8x4096x2048 : Shape := ⟨3, ![8, 4096, 2048]⟩
abbrev S8x6144 : Shape := ⟨2, ![8, 6144]⟩
abbrev S2048x2048 : Shape := ⟨2, ![2048, 2048]⟩
abbrev S2048 : Shape := ⟨1, ![2048]⟩
abbrev S8x2048 : Shape := ⟨2, ![8, 2048]⟩
abbrev S8x1x2048 : Shape := ⟨3, ![8, 1, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 44
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S8x4096x2048, .f32⟩
  | .hbm, ⟨2, _⟩ => ⟨S8x6144, .f32⟩
  | .hbm, ⟨3, _⟩ => ⟨S8x6144, .f32⟩
  | .hbm, ⟨4, _⟩ => ⟨S2048x2048, .f32⟩
  | .hbm, ⟨5, _⟩ => ⟨S2048, .f32⟩
  | .hbm, ⟨6, _⟩ => ⟨S8x2048, .f32⟩
  | .hbm, ⟨7, _⟩ => ⟨S8x2048, .f32⟩
  | .hbm, ⟨8, _⟩ => ⟨S8x2048, .f32⟩
  | .hbm, ⟨9, _⟩ => ⟨S8x1x2048, .f32⟩
  | .hbm, ⟨10, _⟩ => ⟨S32768x2048, .f32⟩
  | .hbm, ⟨11, _⟩ => ⟨S32768x2048, .f32⟩
  | .hbm, ⟨12, _⟩ => ⟨S8x4096x2048, .f32⟩
  | .hbm, ⟨13, _⟩ => ⟨S8x4096x2048, .f32⟩
  | .hbm, ⟨14, _⟩ => ⟨S8x4096x2048, .f32⟩
  | .hbm, ⟨15, _⟩ => ⟨S8x4096x2048, .f32⟩
  | .hbm, ⟨16, _⟩ => ⟨S8x4096x2048, .f32⟩
  | .hbm, ⟨17, _⟩ => ⟨S_, .f32⟩
  | .hbm, ⟨18, _⟩ => ⟨S8x4096, .f32⟩
  | .hbm, ⟨19, _⟩ => ⟨S8x4096x1, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S_, .f32⟩
  | .hbm, ⟨24, _⟩ => ⟨S8x4096x1, .f32⟩
  | .hbm, ⟨25, _⟩ => ⟨S8x4096x1, .f32⟩
  | .hbm, ⟨26, _⟩ => ⟨S8x4096x1, .f32⟩
  | .hbm, ⟨27, _⟩ => ⟨S8x4096x2048, .f32⟩
  | .hbm, ⟨28, _⟩ => ⟨S8x4096x2048, .f32⟩
  | .hbm, ⟨29, _⟩ => ⟨S1x1x2048, .f32⟩
  | .hbm, ⟨30, _⟩ => ⟨S8x4096x2048, .f32⟩
  | .hbm, ⟨31, _⟩ => ⟨S8x4096x2048, .f32⟩
  | .hbm, ⟨32, _⟩ => ⟨S8x1x2048, .f32⟩
  | .hbm, ⟨33, _⟩ => ⟨S_, .f32⟩
  | .hbm, ⟨34, _⟩ => ⟨S8x1x2048, .f32⟩
  | .hbm, ⟨35, _⟩ => ⟨S8x1x2048, .f32⟩
  | .hbm, ⟨36, _⟩ => ⟨S8x4096x2048, .f32⟩
  | .hbm, ⟨37, _⟩ => ⟨S8x4096x2048, .f32⟩
  | .hbm, ⟨38, _⟩ => ⟨S8x1x2048, .f32⟩
  | .hbm, ⟨39, _⟩ => ⟨S8x4096x2048, .f32⟩
  | .hbm, ⟨40, _⟩ => ⟨S8x4096x2048, .f32⟩
  | .hbm, ⟨41, _⟩ => ⟨S32768x2048, .f32⟩
  | .hbm, ⟨42, _⟩ => ⟨S32768x2048, .f32⟩
  | .hbm, ⟨43, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]
-- ==== Kernel7.lean ====
abbrev S8x4096x2048 : Shape := ⟨3, ![8, 4096, 2048]⟩
abbrev S8x6144 : Shape := ⟨2, ![8, 6144]⟩
abbrev S2048 : Shape := ⟨1, ![2048]⟩
abbrev S32768x2048 : Shape := ⟨2, ![32768, 2048]⟩
abbrev S8x3x2048 : Shape := ⟨3, ![8, 3, 2048]⟩
abbrev S1x2048 : Shape := ⟨2, ![1, 2048]⟩
abbrev S1024x2048 : Shape := ⟨2, ![1024, 2048]⟩
abbrev S1x3x2048 : Shape := ⟨3, ![1, 3, 2048]⟩
abbrev S3x2048 : Shape := ⟨2, ![3, 2048]⟩
abbrev S1024 : Shape := ⟨1, ![1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S8x4096x2048, .f32⟩
  | .hbm, ⟨1, _⟩ => ⟨S8x6144, .f32⟩
  | .hbm, ⟨2, _⟩ => ⟨S2048, .f32⟩
  | .hbm, ⟨3, _⟩ => ⟨S32768x2048, .f32⟩
  | .hbm, ⟨4, _⟩ => ⟨S8x3x2048, .f32⟩
  | .hbm, ⟨5, _⟩ => ⟨S1x2048, .f32⟩
  | .hbm, ⟨6, _⟩ => ⟨S32768x2048, .bf16⟩
  | .local _ .vmem, ⟨0, _⟩ => ⟨S1024x2048, .f32⟩
  | .local _ .vmem, ⟨1, _⟩ => ⟨S1024x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S1024x2048, .bf16⟩
  | .local _ .vmem, ⟨6, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference7Ideal.lean ====
abbrev S8x4096x2048 : Shape := ⟨3, ![8, 4096, 2048]⟩
abbrev S8x6144 : Shape := ⟨2, ![8, 6144]⟩
abbrev S2048 : Shape := ⟨1, ![2048]⟩
abbrev S8x2048 : Shape := ⟨2, ![8, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x2048 : Shape := ⟨3, ![8, 1, 2048]⟩
abbrev S32768x2048 : Shape := ⟨2, ![32768, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x6144, .f32⟩
  | .hbm, ⟨2, _⟩ => ⟨S2048, .f32⟩
  | .hbm, ⟨3, _⟩ => ⟨S8x2048, .f32⟩
  | .hbm, ⟨4, _⟩ => ⟨S8x2048, .f32⟩
  | .hbm, ⟨5, _⟩ => ⟨S8x4096x2048, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x2048, .f32⟩
  | .hbm, ⟨17, _⟩ => ⟨S8x4096x2048, .f32⟩
  | .hbm, ⟨18, _⟩ => ⟨S1x1x2048, .f32⟩
  | .hbm, ⟨19, _⟩ => ⟨S8x4096x2048, .f32⟩
  | .hbm, ⟨20, _⟩ => ⟨S8x4096x2048, .f32⟩
  | .hbm, ⟨21, _⟩ => ⟨S8x1x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x4096x2048, .f32⟩
  | .hbm, ⟨26, _⟩ => ⟨S8x4096x2048, .f32⟩
  | .hbm, ⟨27, _⟩ => ⟨S8x1x2048, .f32⟩
  | .hbm, ⟨28, _⟩ => ⟨S8x4096x2048, .f32⟩
  | .hbm, ⟨29, _⟩ => ⟨S8x4096x2048, .f32⟩
  | .hbm, ⟨30, _⟩ => ⟨S32768x2048, .f32⟩
  | .hbm, ⟨31, _⟩ => ⟨S32768x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Kernel8.lean ====
abbrev S8x2048 : Shape := ⟨2, ![8, 2048]⟩
abbrev S2x2048x6144 : Shape := ⟨3, ![2, 2048, 6144]⟩
abbrev S2x6144 : Shape := ⟨2, ![2, 6144]⟩
abbrev S2x1x6144 : Shape := ⟨3, ![2, 1, 6144]⟩
abbrev S2x8x6144 : Shape := ⟨3, ![2, 8, 6144]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x6144, .f32⟩
  | .hbm, ⟨2, _⟩ => ⟨S2x6144, .f32⟩
  | .hbm, ⟨3, _⟩ => ⟨S2x1x6144, .f32⟩
  | .hbm, ⟨4, _⟩ => ⟨S2x8x6144, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x2048 : Shape := ⟨2, ![8, 2048]⟩
abbrev S2x2048x6144 : Shape := ⟨3, ![2, 2048, 6144]⟩
abbrev S2x6144 : Shape := ⟨2, ![2, 6144]⟩
abbrev S_ : Shape := ⟨0, ![]⟩
abbrev S1x2048x6144 : Shape := ⟨3, ![1, 2048, 6144]⟩
abbrev S2048x6144 : Shape := ⟨2, ![2048, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 31
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x6144, .f32⟩
  | .hbm, ⟨2, _⟩ => ⟨S2x6144, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x6144, .f32⟩
  | .hbm, ⟨13, _⟩ => ⟨S2048x6144, .f32⟩
  | .hbm, ⟨14, _⟩ => ⟨S8x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S8x6144, .f32⟩
  | .hbm, ⟨19, _⟩ => ⟨S8x6144, .f32⟩
  | .hbm, ⟨20, _⟩ => ⟨S1x2048x6144, .f32⟩
  | .hbm, ⟨21, _⟩ => ⟨S2048x6144, .f32⟩
  | .hbm, ⟨22, _⟩ => ⟨S8x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S8x6144, .f32⟩
  | .hbm, ⟨27, _⟩ => ⟨S8x6144, .f32⟩
  | .hbm, ⟨28, _⟩ => ⟨S1x8x6144, .f32⟩
  | .hbm, ⟨29, _⟩ => ⟨S1x8x6144, .f32⟩
  | .hbm, ⟨30, _⟩ => ⟨S2x8x6144, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel9.lean ====
abbrev S8x4096 : Shape := ⟨2, ![8, 4096]⟩
abbrev S32 : Shape := ⟨1, ![32]⟩
abbrev S_ : Shape := ⟨0, ![]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S64 : Shape := ⟨1, ![64]⟩
abbrev S1x64 : Shape := ⟨2, ![1, 64]⟩
abbrev S2x64 : Shape := ⟨2, ![2, 64]⟩
abbrev S32768x1 : Shape := ⟨2, ![32768, 1]⟩
abbrev S32768x128 : Shape := ⟨2, ![32768, 128]⟩
abbrev S2048x1 : Shape := ⟨2, ![2048, 1]⟩
abbrev S2048x128 : Shape := ⟨2, ![2048, 128]⟩

abbrev nBuf : Space → Nat
  | .hbm => 26
  | .vmem => 8
  | .smem => 0
  | _ => 0

abbrev bufTy : (tb : Table) → Fin (tcTables nBuf tb) → BufTy
  | .hbm, ⟨0, _⟩ => ⟨S8x4096, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S1x32, .f32⟩
  | .hbm, ⟨10, _⟩ => ⟨S4x32, .f32⟩
  | .hbm, ⟨11, _⟩ => ⟨S128, .f32⟩
  | .hbm, ⟨12, _⟩ => ⟨S1x128, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S64, .f32⟩
  | .hbm, ⟨19, _⟩ => ⟨S1x64, .f32⟩
  | .hbm, ⟨20, _⟩ => ⟨S2x64, .f32⟩
  | .hbm, ⟨21, _⟩ => ⟨S128, .f32⟩
  | .hbm, ⟨22, _⟩ => ⟨S1x128, .f32⟩
  | .hbm, ⟨23, _⟩ => ⟨S32768x1, .i32⟩
  | .hbm, ⟨24, _⟩ => ⟨S32768x128, .f32⟩
  | .hbm, ⟨25, _⟩ => ⟨S32768x128, .f32⟩
  | .local _ .vmem, ⟨0, _⟩ => ⟨S2048x1, .i32⟩
  | .local _ .vmem, ⟨1, _⟩ => ⟨S2048x1, .i32⟩
  | .local _ .vmem, ⟨2, _⟩ => ⟨S1x128, .f32⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference9Ideal.lean ====
abbrev S8x4096 : Shape := ⟨2, ![8, 4096]⟩
abbrev S32 : Shape := ⟨1, ![32]⟩
abbrev S_ : Shape := ⟨0, ![]⟩
abbrev S8x4096x1 : Shape := ⟨3, ![8, 4096, 1]⟩
abbrev S1x1x32 : Shape := ⟨3, ![1, 1, 32]⟩
abbrev S8x4096x32 : Shape := ⟨3, ![8, 4096, 32]⟩
abbrev S32768x32 : Shape := ⟨2, ![32768, 32]⟩
abbrev S32768x128 : Shape := ⟨2, ![32768, 128]⟩

abbrev nBuf : Space → Nat
  | .hbm => 22
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S32, .f32⟩
  | .hbm, ⟨2, _⟩ => ⟨S32, .f32⟩
  | .hbm, ⟨3, _⟩ => ⟨S_, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S8x4096, .f32⟩
  | .hbm, ⟨10, _⟩ => ⟨S8x4096x1, .f32⟩
  | .hbm, ⟨11, _⟩ => ⟨S1x1x32, .f32⟩
  | .hbm, ⟨12, _⟩ => ⟨S8x4096x32, .f32⟩
  | .hbm, ⟨13, _⟩ => ⟨S8x4096x32, .f32⟩
  | .hbm, ⟨14, _⟩ => ⟨S8x4096x32, .f32⟩
  | .hbm, ⟨15, _⟩ => ⟨S32768x32, .f32⟩
  | .hbm, ⟨16, _⟩ => ⟨S32768x32, .f32⟩
  | .hbm, ⟨17, _⟩ => ⟨S32768x32, .f32⟩
  | .hbm, ⟨18, _⟩ => ⟨S32768x128, .f32⟩
  | .hbm, ⟨19, _⟩ => ⟨S32768x32, .f32⟩
  | .hbm, ⟨20, _⟩ => ⟨S32768x32, .f32⟩
  | .hbm, ⟨21, _⟩ => ⟨S32768x128, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== Kernel10.lean ====
abbrev S2x2048x16928 : Shape := ⟨3, ![2, 2048, 16928]⟩
abbrev S2 : Shape := ⟨1, ![2]⟩
abbrev S2x16928x2048 : Shape := ⟨3, ![2, 16928, 2048]⟩
abbrev S2x2048x512 : Shape := ⟨3, ![2, 2048, 512]⟩
abbrev S1x256x2048 : Shape := ⟨3, ![1, 256, 2048]⟩
abbrev S1 : Shape := ⟨1, ![1]⟩
abbrev S1x2048x256 : Shape := ⟨3, ![1, 2048, 256]⟩
abbrev S256x2048 : Shape := ⟨2, ![256, 2048]⟩
abbrev S2048x256 : Shape := ⟨2, ![2048, 256]⟩

abbrev nBuf : Space → Nat
  | .hbm => 3
  | .vmem => 4
  | .smem => 1
  | _ => 0

abbrev bufTy : (tb : Table) → Fin (tcTables nBuf tb) → BufTy
  | .hbm, ⟨0, _⟩ => ⟨S2x2048x16928, .f32⟩
  | .hbm, ⟨1, _⟩ => ⟨S2x16928x2048, .f32⟩
  | .hbm, ⟨2, _⟩ => ⟨S2x2048x512, .bf16⟩
  | .local _ .vmem, ⟨0, _⟩ => ⟨S1x256x2048, .f32⟩
  | .local _ .vmem, ⟨1, _⟩ => ⟨S1x256x2048, .f32⟩
  | .local _ .vmem, ⟨2, _⟩ => ⟨S1x2048x256, .bf16⟩
  | .local _ .vmem, ⟨3, _⟩ => ⟨S1x2048x256, .bf16⟩
  | .local _ .smem, ⟨0, _⟩ => ⟨S2, .i32⟩
  | _, _ => ⟨S2x2048x16928, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 2], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def cc0_transform_0 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S2) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![arg0.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference10.lean ====
abbrev S2x2048x16928 : Shape := ⟨3, ![2, 2048, 16928]⟩
abbrev S2x2048x512 : Shape := ⟨3, ![2, 2048, 512]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x16928, .f32⟩
  | .hbm, ⟨1, _⟩ => ⟨S2x2048x512, .f32⟩
  | .hbm, ⟨2, _⟩ => ⟨S2x2048x512, .bf16⟩
  | _, _ => ⟨S2x2048x16928, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Kernel11.lean ====
abbrev S2x2048x16928 : Shape := ⟨3, ![2, 2048, 16928]⟩
abbrev S1 : Shape := ⟨1, ![1]⟩
abbrev S2x16928x2048 : Shape := ⟨3, ![2, 16928, 2048]⟩
abbrev S2x2048x128 : Shape := ⟨3, ![2, 2048, 128]⟩
abbrev S1x128x2048 : Shape := ⟨3, ![1, 128, 2048]⟩
abbrev S1x2048x128 : Shape := ⟨3, ![1, 2048, 128]⟩
abbrev S128x2048 : Shape := ⟨2, ![128, 2048]⟩
abbrev S2048x128 : Shape := ⟨2, ![2048, 128]⟩

abbrev nBuf : Space → Nat
  | .hbm => 3
  | .vmem => 4
  | .smem => 1
  | _ => 0

abbrev bufTy : (tb : Table) → Fin (tcTables nBuf tb) → BufTy
  | .hbm, ⟨0, _⟩ => ⟨S2x2048x16928, .f32⟩
  | .hbm, ⟨1, _⟩ => ⟨S2x16928x2048, .f32⟩
  | .hbm, ⟨2, _⟩ => ⟨S2x2048x128, .bf16⟩
  | .local _ .vmem, ⟨0, _⟩ => ⟨S1x128x2048, .f32⟩
  | .local _ .vmem, ⟨1, _⟩ => ⟨S1x128x2048, .f32⟩
  | .local _ .vmem, ⟨2, _⟩ => ⟨S1x2048x128, .bf16⟩
  | .local _ .vmem, ⟨3, _⟩ => ⟨S1x2048x128, .bf16⟩
  | .local _ .smem, ⟨0, _⟩ => ⟨S1, .i32⟩
  | _, _ => ⟨S2x2048x16928, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  let c8_i32 : BitVec 32 := 8#32
  let v2 : BitVec 32 := Scalar.muli v1 c8_i32
  v2

def cc0_transform_0 (k0_off1_inb : ∀ i : grid0.Coords, ∀ a, (k0_off1 i) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S1) ![v0.toNat] S1.size (k0_off1_inb i)) numel1_S1
  let c8_i32 : BitVec 32 := 8#32
  let v2 : BitVec 32 := Scalar.muli v1 c8_i32
  let v3 : BitVec 32 := v2
  let c0_i32 : BitVec 32 := 0#32
  let c0_i32_0 : BitVec 32 := 0#32
  ![arg0.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference11.lean ====
abbrev S2x2048x16928 : Shape := ⟨3, ![2, 2048, 16928]⟩
abbrev S2x2048x32 : Shape := ⟨3, ![2, 2048, 32]⟩
abbrev S_ : Shape := ⟨0, ![]⟩
abbrev S2x2048x96 : Shape := ⟨3, ![2, 2048, 96]⟩
abbrev S2x2048x128 : Shape := ⟨3, ![2, 2048, 128]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x16928, .f32⟩
  | .hbm, ⟨1, _⟩ => ⟨S2x2048x32, .f32⟩
  | .hbm, ⟨2, _⟩ => ⟨S_, .f32⟩
  | .hbm, ⟨3, _⟩ => ⟨S2x2048x96, .f32⟩
  | .hbm, ⟨4, _⟩ => ⟨S2x2048x128, .f32⟩
  | .hbm, ⟨5, _⟩ => ⟨S2x2048x128, .bf16⟩
  | _, _ => ⟨S2x2048x16928, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S32768x2048 : Shape := ⟨2, ![32768, 2048]⟩
abbrev S32768x16384 : Shape := ⟨2, ![32768, 16384]⟩
abbrev S2048x2048 : Shape := ⟨2, ![2048, 2048]⟩
abbrev S8x4096x2048 : Shape := ⟨3, ![8, 4096, 2048]⟩
abbrev S8x6144 : Shape := ⟨2, ![8, 6144]⟩
abbrev S2048 : Shape := ⟨1, ![2048]⟩
abbrev S512x2048 : Shape := ⟨2, ![512, 2048]⟩
abbrev S8x3x2048 : Shape := ⟨3, ![8, 3, 2048]⟩
abbrev S1x2048 : Shape := ⟨2, ![1, 2048]⟩
abbrev S1x3x2048 : Shape := ⟨3, ![1, 3, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 17
  | .vmem => 24
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x16384, .bf16⟩
  | .hbm, ⟨3, _⟩ => ⟨S2048x2048, .f32⟩
  | .hbm, ⟨4, _⟩ => ⟨S2048x2048, .f32⟩
  | .hbm, ⟨5, _⟩ => ⟨S8x4096x2048, .f32⟩
  | .hbm, ⟨6, _⟩ => ⟨S8x6144, .f32⟩
  | .hbm, ⟨7, _⟩ => ⟨S2048x2048, .f32⟩
  | .hbm, ⟨8, _⟩ => ⟨S2048, .f32⟩
  | .hbm, ⟨9, _⟩ => ⟨S2048x2048, .bf16⟩
  | .hbm, ⟨10, _⟩ => ⟨S2048x2048, .bf16⟩
  | .hbm, ⟨11, _⟩ => ⟨S32768x2048, .bf16⟩
  | .hbm, ⟨12, _⟩ => ⟨S8x3x2048, .f32⟩
  | .hbm, ⟨13, _⟩ => ⟨S32768x2048, .f32⟩
  | .hbm, ⟨14, _⟩ => ⟨S2048x2048, .bf16⟩
  | .hbm, ⟨15, _⟩ => ⟨S1x2048, .f32⟩
  | .hbm, ⟨16, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .vmem, ⟨9, _⟩ => ⟨S2048x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | .local _ .vmem, ⟨15, _⟩ => ⟨S512x2048, .f32⟩
  | .local _ .vmem, ⟨16, _⟩ => ⟨S2048x2048, .bf16⟩
  | .local _ .vmem, ⟨17, _⟩ => ⟨S1x3x2048, .f32⟩
  | .local _ .vmem, ⟨18, _⟩ => ⟨S1x3x2048, .f32⟩
  | .local _ .vmem, ⟨19, _⟩ => ⟨S1x3x2048, .f32⟩
  | .local _ .vmem, ⟨20, _⟩ => ⟨S1x3x2048, .f32⟩
  | .local _ .vmem, ⟨21, _⟩ => ⟨S1x2048, .f32⟩
  | .local _ .vmem, ⟨22, _⟩ => ⟨S512x2048, .f32⟩
  | .local _ .vmem, ⟨23, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x3x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x3x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== Reference12Ideal.lean ====
abbrev S32768x2048 : Shape := ⟨2, ![32768, 2048]⟩
abbrev S32768x16384 : Shape := ⟨2, ![32768, 16384]⟩
abbrev S2048x2048 : Shape := ⟨2, ![2048, 2048]⟩
abbrev S8x4096x2048 : Shape := ⟨3, ![8, 4096, 2048]⟩
abbrev S8x6144 : Shape := ⟨2, ![8, 6144]⟩
abbrev S2048 : Shape := ⟨1, ![2048]⟩
abbrev S_ : Shape := ⟨0, ![]⟩
abbrev S8x2048 : Shape := ⟨2, ![8, 2048]⟩
abbrev S8x1x2048 : Shape := ⟨3, ![8, 1, 2048]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 62
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x16384, .bf16⟩
  | .hbm, ⟨3, _⟩ => ⟨S2048x2048, .f32⟩
  | .hbm, ⟨4, _⟩ => ⟨S2048x2048, .f32⟩
  | .hbm, ⟨5, _⟩ => ⟨S8x4096x2048, .f32⟩
  | .hbm, ⟨6, _⟩ => ⟨S8x6144, .f32⟩
  | .hbm, ⟨7, _⟩ => ⟨S2048x2048, .f32⟩
  | .hbm, ⟨8, _⟩ => ⟨S2048, .f32⟩
  | .hbm, ⟨9, _⟩ => ⟨S32768x2048, .f32⟩
  | .hbm, ⟨10, _⟩ => ⟨S32768x2048, .f32⟩
  | .hbm, ⟨11, _⟩ => ⟨S32768x2048, .bf16⟩
  | .hbm, ⟨12, _⟩ => ⟨S32768x2048, .f32⟩
  | .hbm, ⟨13, _⟩ => ⟨S32768x2048, .bf16⟩
  | .hbm, ⟨14, _⟩ => ⟨S32768x2048, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | .hbm, ⟨20, _⟩ => ⟨S_, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S32768x2048, .bf16⟩
  | .hbm, ⟨37, _⟩ => ⟨S8x2048, .f32⟩
  | .hbm, ⟨38, _⟩ => ⟨S8x1x2048, .f32⟩
  | .hbm, ⟨39, _⟩ => ⟨S32768x2048, .f32⟩
  | .hbm, ⟨40, _⟩ => ⟨S32768x2048, .f32⟩
  | .hbm, ⟨41, _⟩ => ⟨S8x4096x2048, .f32⟩
  | .hbm, ⟨42, _⟩ => ⟨S8x4096x2048, .f32⟩
  | .hbm, ⟨43, _⟩ => ⟨S8x4096x2048, .f32⟩
  | .hbm, ⟨44, _⟩ => ⟨S8x4096x2048, .f32⟩
  | .hbm, ⟨45, _⟩ => ⟨S8x4096x2048, .f32⟩
  | .hbm, ⟨46, _⟩ => ⟨S_, .f32⟩
  | .hbm, ⟨47, _⟩ => ⟨S8x4096, .f32⟩
  | .hbm, ⟨48, _⟩ => ⟨S8x4096x1, .f32⟩
  | .hbm, ⟨49, _⟩ => ⟨S_, .f32⟩
  | .hbm, ⟨50, _⟩ => ⟨S8x4096x1, .f32⟩
  | .hbm, ⟨51, _⟩ => ⟨S8x4096x1, .f32⟩
  | .hbm, ⟨52, _⟩ => ⟨S_, .f32⟩
  | .hbm, ⟨53, _⟩ => ⟨S8x4096x1, .f32⟩
  | .hbm, ⟨54, _⟩ => ⟨S8x4096x1, .f32⟩
  | .hbm, ⟨55, _⟩ => ⟨S8x4096x1, .f32⟩
  | .hbm, ⟨56, _⟩ => ⟨S8x4096x2048, .f32⟩
  | .hbm, ⟨57, _⟩ => ⟨S8x4096x2048, .f32⟩
  | .hbm, ⟨58, _⟩ => ⟨S1x1x2048, .f32⟩
  | .hbm, ⟨59, _⟩ => ⟨S8x4096x2048, .f32⟩
  | .hbm, ⟨60, _⟩ => ⟨S8x4096x2048, .f32⟩
  | .hbm, ⟨61, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩

abbrev nD : Nat := 1
abbrev τ : Topo := Topo.v7x

variable {F : FTy → Type} [FloatOps F]
-- ==== Kernel13.lean ====
abbrev S8x4096x2048 : Shape := ⟨3, ![8, 4096, 2048]⟩
abbrev S8x6144 : Shape := ⟨2, ![8, 6144]⟩
abbrev S2048 : Shape := ⟨1, ![2048]⟩
abbrev S2x2048x16384 : Shape := ⟨3, ![2, 2048, 16384]⟩
abbrev S32768x2048 : Shape := ⟨2, ![32768, 2048]⟩
abbrev S8x3x2048 : Shape := ⟨3, ![8, 3, 2048]⟩
abbrev S1x2048 : Shape := ⟨2, ![1, 2048]⟩
abbrev S1024x2048 : Shape := ⟨2, ![1024, 2048]⟩
abbrev S1x3x2048 : Shape := ⟨3, ![1, 3, 2048]⟩
abbrev S3x2048 : Shape := ⟨2, ![3, 2048]⟩
abbrev S1024 : Shape := ⟨1, ![1024]⟩
abbrev S1024x1 : Shape := ⟨2, ![1024, 1]⟩
abbrev S32768x16384 : Shape := ⟨2, ![32768, 16384]⟩
abbrev S1x2048x2048 : Shape := ⟨3, ![1, 2048, 2048]⟩
abbrev S2048x2048 : Shape := ⟨2, ![2048, 2048]⟩

abbrev nBuf : Space → Nat
  | .hbm => 9
  | .vmem => 13
  | .smem => 0
  | _ => 0

abbrev bufTy : (tb : Table) → Fin (tcTables nBuf tb) → BufTy
  | .hbm, ⟨0, _⟩ => ⟨S8x4096x2048, .f32⟩
  | .hbm, ⟨1, _⟩ => ⟨S8x6144, .f32⟩
  | .hbm, ⟨2, _⟩ => ⟨S2048, .f32⟩
  | .hbm, ⟨3, _⟩ => ⟨S2x2048x16384, .bf16⟩
  | .hbm, ⟨4, _⟩ => ⟨S32768x2048, .f32⟩
  | .hbm, ⟨5, _⟩ => ⟨S8x3x2048, .f32⟩
  | .hbm, ⟨6, _⟩ => ⟨S1x2048, .f32⟩
  | .hbm, ⟨7, _⟩ => ⟨S32768x2048, .bf16⟩
  | .hbm, ⟨8, _⟩ => ⟨S32768x16384, .bf16⟩
  | .local _ .vmem, ⟨0, _⟩ => ⟨S1024x2048, .f32⟩
  | .local _ .vmem, ⟨1, _⟩ => ⟨S1024x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | .local _ .vmem, ⟨8, _⟩ => ⟨S1024x2048, .bf16⟩
  | .local _ .vmem, ⟨9, _⟩ => ⟨S1x2048x2048, .bf16⟩
  | .local _ .vmem, ⟨10, _⟩ => ⟨S1x2048x2048, .bf16⟩
  | .local _ .vmem, ⟨11, _⟩ => ⟨S1024x2048, .bf16⟩
  | .local _ .vmem, ⟨12, _⟩ => ⟨S1024x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== Reference13Ideal.lean ====
abbrev S8x4096x2048 : Shape := ⟨3, ![8, 4096, 2048]⟩
abbrev S8x6144 : Shape := ⟨2, ![8, 6144]⟩
abbrev S2048 : Shape := ⟨1, ![2048]⟩
abbrev S2x2048x16384 : Shape := ⟨3, ![2, 2048, 16384]⟩
abbrev S8x2048 : Shape := ⟨2, ![8, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x1x2048 : Shape := ⟨3, ![8, 1, 2048]⟩
abbrev S32768x2048 : Shape := ⟨2, ![32768, 2048]⟩
abbrev S1x2048x16384 : Shape := ⟨3, ![1, 2048, 16384]⟩
abbrev S2048x16384 : Shape := ⟨2, ![2048, 16384]⟩
abbrev S32768x16384 : Shape := ⟨2, ![32768, 16384]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x6144, .f32⟩
  | .hbm, ⟨2, _⟩ => ⟨S2048, .f32⟩
  | .hbm, ⟨3, _⟩ => ⟨S2x2048x16384, .bf16⟩
  | .hbm, ⟨4, _⟩ => ⟨S8x2048, .f32⟩
  | .hbm, ⟨5, _⟩ => ⟨S8x2048, .f32⟩
  | .hbm, ⟨6, _⟩ => ⟨S8x4096x2048, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x2048, .f32⟩
  | .hbm, ⟨18, _⟩ => ⟨S8x4096x2048, .f32⟩
  | .hbm, ⟨19, _⟩ => ⟨S1x1x2048, .f32⟩
  | .hbm, ⟨20, _⟩ => ⟨S8x4096x2048, .f32⟩
  | .hbm, ⟨21, _⟩ => ⟨S8x4096x2048, .f32⟩
  | .hbm, ⟨22, _⟩ => ⟨S8x1x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x4096x2048, .f32⟩
  | .hbm, ⟨27, _⟩ => ⟨S8x4096x2048, .f32⟩
  | .hbm, ⟨28, _⟩ => ⟨S8x1x2048, .f32⟩
  | .hbm, ⟨29, _⟩ => ⟨S8x4096x2048, .f32⟩
  | .hbm, ⟨30, _⟩ => ⟨S8x4096x2048, .f32⟩
  | .hbm, ⟨31, _⟩ => ⟨S32768x2048, .f32⟩
  | .hbm, ⟨32, _⟩ => ⟨S32768x2048, .bf16⟩
  | .hbm, ⟨33, _⟩ => ⟨S32768x2048, .f32⟩
  | .hbm, ⟨34, _⟩ => ⟨S1x2048x16384, .bf16⟩
  | .hbm, ⟨35, _⟩ => ⟨S2048x16384, .bf16⟩
  | .hbm, ⟨36, _⟩ => ⟨S2048x16384, .f32⟩
  | .hbm, ⟨37, _⟩ => ⟨S32768x16384, .f32⟩
  | .hbm, ⟨38, _⟩ => ⟨S32768x16384, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel14.lean ====
abbrev S32768x2048 : Shape := ⟨2, ![32768, 2048]⟩
abbrev S32768x16384 : Shape := ⟨2, ![32768, 16384]⟩
abbrev S2048x2048 : Shape := ⟨2, ![2048, 2048]⟩
abbrev S8x4096x2048 : Shape := ⟨3, ![8, 4096, 2048]⟩
abbrev S8x6144 : Shape := ⟨2, ![8, 6144]⟩
abbrev S2048 : Shape := ⟨1, ![2048]⟩
abbrev S2x2048x16384 : Shape := ⟨3, ![2, 2048, 16384]⟩
abbrev S512x2048 : Shape := ⟨2, ![512, 2048]⟩
abbrev S8x3x2048 : Shape := ⟨3, ![8, 3, 2048]⟩
abbrev S1x2048 : Shape := ⟨2, ![1, 2048]⟩
abbrev S1x3x2048 : Shape := ⟨3, ![1, 3, 2048]⟩
abbrev S1x1x2048 : Shape := ⟨3, ![1, 1, 2048]⟩
abbrev S3x2048 : Shape := ⟨2, ![3, 2048]⟩
abbrev S512 : Shape := ⟨1, ![512]⟩
abbrev S512x1 : Shape := ⟨2, ![512, 1]⟩
abbrev S1024x2048 : Shape := ⟨2, ![1024, 2048]⟩
abbrev S1x2048x2048 : Shape := ⟨3, ![1, 2048, 2048]⟩

abbrev nBuf : Space → Nat
  | .hbm => 22
  | .vmem => 32
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x16384, .bf16⟩
  | .hbm, ⟨3, _⟩ => ⟨S2048x2048, .f32⟩
  | .hbm, ⟨4, _⟩ => ⟨S2048x2048, .f32⟩
  | .hbm, ⟨5, _⟩ => ⟨S8x4096x2048, .f32⟩
  | .hbm, ⟨6, _⟩ => ⟨S8x6144, .f32⟩
  | .hbm, ⟨7, _⟩ => ⟨S8x6144, .f32⟩
  | .hbm, ⟨8, _⟩ => ⟨S2048x2048, .f32⟩
  | .hbm, ⟨9, _⟩ => ⟨S2048, .f32⟩
  | .hbm, ⟨10, _⟩ => ⟨S2x2048x16384, .bf16⟩
  | .hbm, ⟨11, _⟩ => ⟨S2048x2048, .bf16⟩
  | .hbm, ⟨12, _⟩ => ⟨S2048x2048, .bf16⟩
  | .hbm, ⟨13, _⟩ => ⟨S32768x2048, .bf16⟩
  | .hbm, ⟨14, _⟩ => ⟨S32768x2048, .f32⟩
  | .hbm, ⟨15, _⟩ => ⟨S2048x2048, .bf16⟩
  | .hbm, ⟨16, _⟩ => ⟨S8x3x2048, .f32⟩
  | .hbm, ⟨17, _⟩ => ⟨S8x3x2048, .f32⟩
  | .hbm, ⟨18, _⟩ => ⟨S1x2048, .f32⟩
  | .hbm, ⟨19, _⟩ => ⟨S32768x2048, .f32⟩
  | .hbm, ⟨20, _⟩ => ⟨S32768x2048, .bf16⟩
  | .hbm, ⟨21, _⟩ => ⟨S32768x16384, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S2048x2048, .bf16⟩
  | .local _ .vmem, ⟨9, _⟩ => ⟨S2048x2048, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .f32⟩
  | .local _ .vmem, ⟨15, _⟩ => ⟨S512x2048, .f32⟩
  | .local _ .vmem, ⟨16, _⟩ => ⟨S2048x2048, .bf16⟩
  | .local _ .vmem, ⟨17, _⟩ => ⟨S1x3x2048, .f32⟩
  | .local _ .vmem, ⟨18, _⟩ => ⟨S1x3x2048, .f32⟩
  | .local _ .vmem, ⟨19, _⟩ => ⟨S1x3x2048, .f32⟩
  | .local _ .vmem, ⟨20, _⟩ => ⟨S1x3x2048, .f32⟩
  | .local _ .vmem, ⟨21, _⟩ => ⟨S1x2048, .f32⟩
  | .local _ .vmem, ⟨22, _⟩ => ⟨S512x2048, .f32⟩
  | .local _ .vmem, ⟨23, _⟩ => ⟨S512x2048, .f32⟩
  | .local _ .vmem, ⟨24, _⟩ => ⟨S512x2048, .bf16⟩
  | .local _ .vmem, ⟨25, _⟩ => ⟨S512x2048, .bf16⟩
  | .local _ .vmem, ⟨26, _⟩ => ⟨S1024x2048, .bf16⟩
  | .local _ .vmem, ⟨27, _⟩ => ⟨S1024x2048, .bf16⟩
  | .local _ .vmem, ⟨28, _⟩ => ⟨S1x2048x2048, .bf16⟩
  | .local _ .vmem, ⟨29, _⟩ => ⟨S1x2048x2048, .bf16⟩
  | .local _ .vmem, ⟨30, _⟩ => ⟨S1024x2048, .bf16⟩
  | .local _ .vmem, ⟨31, _⟩ => ⟨S1024x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem6_0 : DmaSem sig := 22
abbrev cc1_sem6_1 : DmaSem sig := 23
abbrev cc1_sem7_0 : DmaSem sig := 24
abbrev cc1_sem7_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc1_transform_7 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S2048x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x3x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x3x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S512x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![8, 32], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x2048x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== Reference14Ideal.lean ====
abbrev S32768x2048 : Shape := ⟨2, ![32768, 2048]⟩
abbrev S32768x16384 : Shape := ⟨2, ![32768, 16384]⟩
abbrev S2048x2048 : Shape := ⟨2, ![2048, 2048]⟩
abbrev S8x4096x2048 : Shape := ⟨3, ![8, 4096, 2048]⟩
abbrev S8x6144 : Shape := ⟨2, ![8, 6144]⟩
abbrev S2048 : Shape := ⟨1, ![2048]⟩
abbrev S2x2048x16384 : Shape := ⟨3, ![2, 2048, 16384]⟩
abbrev S_ : Shape := ⟨0, ![]⟩
abbrev S8x2048 : Shape := ⟨2, ![8, 2048]⟩
abbrev S8x1x2048 : Shape := ⟨3, ![8, 1, 2048]⟩
abbrev S8x4096 : Shape := ⟨2, ![8, 4096]⟩
abbrev S8x4096x1 : Shape := ⟨3, ![8, 4096, 1]⟩
abbrev S1x1x2048 : Shape := ⟨3, ![1, 1, 2048]⟩
abbrev S1x2048x16384 : Shape := ⟨3, ![1, 2048, 16384]⟩
abbrev S2048x16384 : Shape := ⟨2, ![2048, 16384]⟩

abbrev nBuf : Space → Nat
  | .hbm => 83
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x16384, .bf16⟩
  | .hbm, ⟨3, _⟩ => ⟨S2048x2048, .f32⟩
  | .hbm, ⟨4, _⟩ => ⟨S2048x2048, .f32⟩
  | .hbm, ⟨5, _⟩ => ⟨S8x4096x2048, .f32⟩
  | .hbm, ⟨6, _⟩ => ⟨S8x6144, .f32⟩
  | .hbm, ⟨7, _⟩ => ⟨S8x6144, .f32⟩
  | .hbm, ⟨8, _⟩ => ⟨S2048x2048, .f32⟩
  | .hbm, ⟨9, _⟩ => ⟨S2048, .f32⟩
  | .hbm, ⟨10, _⟩ => ⟨S2x2048x16384, .bf16⟩
  | .hbm, ⟨11, _⟩ => ⟨S32768x2048, .f32⟩
  | .hbm, ⟨12, _⟩ => ⟨S32768x2048, .f32⟩
  | .hbm, ⟨13, _⟩ => ⟨S32768x2048, .bf16⟩
  | .hbm, ⟨14, _⟩ => ⟨S32768x2048, .f32⟩
  | .hbm, ⟨15, _⟩ => ⟨S32768x2048, .bf16⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S32768x2048, .f32⟩
  | .hbm, ⟨28, _⟩ => ⟨S32768x2048, .f32⟩
  | .hbm, ⟨29, _⟩ => ⟨S_, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S32768x2048, .bf16⟩
  | .hbm, ⟨39, _⟩ => ⟨S8x2048, .f32⟩
  | .hbm, ⟨40, _⟩ => ⟨S8x2048, .f32⟩
  | .hbm, ⟨41, _⟩ => ⟨S8x2048, .f32⟩
  | .hbm, ⟨42, _⟩ => ⟨S8x1x2048, .f32⟩
  | .hbm, ⟨43, _⟩ => ⟨S32768x2048, .f32⟩
  | .hbm, ⟨44, _⟩ => ⟨S32768x2048, .f32⟩
  | .hbm, ⟨45, _⟩ => ⟨S8x4096x2048, .f32⟩
  | .hbm, ⟨46, _⟩ => ⟨S8x4096x2048, .f32⟩
  | .hbm, ⟨47, _⟩ => ⟨S8x4096x2048, .f32⟩
  | .hbm, ⟨48, _⟩ => ⟨S8x4096x2048, .f32⟩
  | .hbm, ⟨49, _⟩ => ⟨S8x4096x2048, .f32⟩
  | .hbm, ⟨50, _⟩ => ⟨S_, .f32⟩
  | .hbm, ⟨51, _⟩ => ⟨S8x4096, .f32⟩
  | .hbm, ⟨52, _⟩ => ⟨S8x4096x1, .f32⟩
  | .hbm, ⟨53, _⟩ => ⟨S_, .f32⟩
  | .hbm, ⟨54, _⟩ => ⟨S8x4096x1, .f32⟩
  | .hbm, ⟨55, _⟩ => ⟨S8x4096x1, .f32⟩
  | .hbm, ⟨56, _⟩ => ⟨S_, .f32⟩
  | .hbm, ⟨57, _⟩ => ⟨S8x4096x1, .f32⟩
  | .hbm, ⟨58, _⟩ => ⟨S8x4096x1, .f32⟩
  | .hbm, ⟨59, _⟩ => ⟨S8x4096x1, .f32⟩
  | .hbm, ⟨60, _⟩ => ⟨S8x4096x2048, .f32⟩
  | .hbm, ⟨61, _⟩ => ⟨S8x4096x2048, .f32⟩
  | .hbm, ⟨62, _⟩ => ⟨S1x1x2048, .f32⟩
  | .hbm, ⟨63, _⟩ => ⟨S8x4096x2048, .f32⟩
  | .hbm, ⟨64, _⟩ => ⟨S8x4096x2048, .f32⟩
  | .hbm, ⟨65, _⟩ => ⟨S8x1x2048, .f32⟩
  | .hbm, ⟨66, _⟩ => ⟨S_, .f32⟩
  | .hbm, ⟨67, _⟩ => ⟨S8x1x2048, .f32⟩
  | .hbm, ⟨68, _⟩ => ⟨S8x1x2048, .f32⟩
  | .hbm, ⟨69, _⟩ => ⟨S8x4096x2048, .f32⟩
  | .hbm, ⟨70, _⟩ => ⟨S8x4096x2048, .f32⟩
  | .hbm, ⟨71, _⟩ => ⟨S8x1x2048, .f32⟩
  | .hbm, ⟨72, _⟩ => ⟨S8x4096x2048, .f32⟩
  | .hbm, ⟨73, _⟩ => ⟨S8x4096x2048, .f32⟩
  | .hbm, ⟨74, _⟩ => ⟨S32768x2048, .f32⟩
  | .hbm, ⟨75, _⟩ => ⟨S32768x2048, .f32⟩
  | .hbm, ⟨76, _⟩ => ⟨S32768x2048, .bf16⟩
  | .hbm, ⟨77, _⟩ => ⟨S32768x2048, .f32⟩
  | .hbm, ⟨78, _⟩ => ⟨S1x2048x16384, .bf16⟩
  | .hbm, ⟨79, _⟩ => ⟨S2048x16384, .bf16⟩
  | .hbm, ⟨80, _⟩ => ⟨S2048x16384, .f32⟩
  | .hbm, ⟨81, _⟩ => ⟨S32768x16384, .f32⟩
  | .hbm, ⟨82, _⟩ => ⟨S32768x16384, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_v35 : Ref sig .tc := ⟨.hbm, 51, rfl⟩
abbrev main_v36 : Ref sig .tc := ⟨.hbm, 52, rfl⟩
abbrev main_cst_4 : Ref sig .tc := ⟨.hbm, 53, rfl⟩
abbrev main_v37 : Ref sig .tc := ⟨.hbm, 54, rfl⟩
abbrev main_v38 : Ref sig .tc := ⟨.hbm, 55, rfl⟩
abbrev main_cst_5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩

abbrev nD : Nat := 1
abbrev τ : Topo := Topo.v7x

variable {F : FTy → Type} [FloatOps F]
-- ==== Proof.Gather.lean ====
/-
  The column gather's value: the run leaves, in every panel of the result, the panel of the transposed projection
  matrices that begins at the row the prefetched table names, transposed back and rounded. First the table is read off
  the program's own constant and its side condition decided; then every block written back is shown to be its block of
  one function of the argument, and the blocks cover the result.
-/
module

public import proofs.«01_k».proof.Defs
public import proofs.«01_k».proof.Proof.Gen.KernelIdeal.Frame
public import Idealize.ShloMosaic.Lib.Pipeline.Value
public import Idealize.ShloMosaic.Lib.ValueIdxCore
public import Idealize.ShloMosaic.Lib.StableHlo

@[expose] public section

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.RefValue

open Cert.KernelIdeal Cert.KernelIdeal.Gen

variable {F : FTy → Type} [FloatOps F]
variable (m : (ℓ : Loc nD τ sig) → Buf (Elt F) ℓ) (ρ : Dev nD → PrngReg)

/-- The prefetched table as a constant: entry `j` is the row, in units of eight, at which panel `j` begins. -/
abbrev rows : pre0.Contents (Elt F) := fun
  | 0 => fun i => lit0 (S64.rowMajor i)
  | ⟨_ + 1, h⟩ => absurd h (Nat.not_lt.2 (Nat.le_add_left _ _))

theorem tbl_eq : tbl m = rows := by
  funext j
  obtain rfl : j = 0 := Subsingleton.elim _ _
  unfold tbl
  simp only [V, hostOps0, StableHlo.after_cons, StableHlo.after_nil]
  rfl

theorem ix_bits : ∀ i : grid0.Coords, cc0_transform_0 (F := Bits) k0_off1_inb numel1_S1 rows i = ![(i 0).val, 8 * (lit0 (i 1)).toNat, 0] := by
  decide +kernel

/-- Where panel `j` begins. -/
theorem ix_rows (i : grid0.Coords) : cc0_transform_0 (F := F) k0_off1_inb numel1_S1 rows i = ![(i 0).val, 8 * (lit0 (i 1)).toNat, 0] :=
  ix_bits i

theorem ok_bits : ok0 (F := Bits) rows := by decide +kernel

theorem ok : Ok m := by
  show ok0 (tbl m)
  rw [tbl_eq]
  exact ok_bits

/-- The column of the projection matrix that column `k` of the gathered one is. -/
def src (k : Fin 16384) : Fin 16928 :=
  ⟨8 * (lit0 ⟨k.val / 256, by omega⟩).toNat + k.val % 256, by
    have h : ∀ j : Fin 64, 8 * (lit0 j).toNat + 256 ≤ 16928 := by decide +kernel
    have := h ⟨k.val / 256, by omega⟩
    omega⟩

/-- The gathered projection: every kept column, rounded to the narrow format. -/
abbrev want (c : Dev nD) : Buf (Elt F) ((c : Thread nD τ).loc main_v1) :=
  truncf (s := S2x2048x16384) .bf16 (fun i => m ((c : Thread nD τ).loc main_arg0) (ix3 (i 0) (i 1) (src (i 2)))) bitsLt_bf16_f32

theorem hz3 : (![0, 0, 0] : Fin 3 → Nat) = fun _ => 0 := funext fun a => by fin_cases a <;> rfl

/-- The body leaves its one payload of the block it loaded. -/
theorem out_eq (c : Dev nD) (i : grid0.Coords) (a3 : Memref sig .tc .vmem S1x256x2048 .f32) (h3 : a3.IsWhole)
    (a4 : Memref sig .tc .vmem S1x2048x256 .bf16) (h4 : a4.IsWhole) (x : Vec F S1x256x2048 .f32) (T : TbBuf0 (F := F) c tbM0_0) :
    out0_A_1 c i a3 h3 a4 h4 x T = k0_pay1 x := by
  unfold out0_A_1
  rw [View.read_writes_eq_canon _ _ _ (cover0_A_1 c i a3 h3 a4 h4 x T)]
  unfold kernelRun0_A
  dsimp only
  rw [View.canon_unit_zero hz3, View.readAt_eq_ld, h3.read_unread, View.ld_unit_zero hz3]

/-- That payload at an index: the transposed block, rounded. -/
theorem pay_apply (x : Vec F S1x256x2048 .f32) (y : S1x2048x256.Idx) :
    k0_pay1 x y = FloatOps.truncf .bf16 bitsLt_bf16_f32 (x (ix3 0 (y 2) (y 1))) := by
  unfold k0_pay1
  dsimp only
  refine (shapeCast_addUnit_apply ![2048, 256] _ _ y).trans ?_
  show FloatOps.truncf .bf16 _ (transpose S2048x256 [1, 0] _ _ _) = _
  congr 1
  refine (transpose_apply _ _ _ _ (ix2 (y 2) (y 1)) fun a => by fin_cases a <;> rfl).trans ?_
  refine (shapeCast_dropUnit_apply ![256, 2048] _ _ _).trans ?_
  refine congrArg x ?_
  funext a
  fin_cases a <;> rfl

/-- The transposed array the pipeline reads. -/
theorem V_v0 (c : Dev nD) (i : S2x16928x2048.Idx) :
    V m c main_v0 i = m ((c : Thread nD τ).loc main_arg0) (ix3 (i 0) (i 2) (i 1)) := by
  simp only [V, hostOps0, StableHlo.after_cons, StableHlo.after_nil]
  show transpose S2x16928x2048 [0, 2, 1] (m ((c : Thread nD τ).loc main_arg0)) _ i = _
  refine transpose_apply _ _ _ _ _ fun a => ?_
  fin_cases a <;> rfl

/-- The block the pipeline fetches at a point, read at an index. -/
theorem iblk_apply (c : Dev nD) (t : Fin (cfgM m (ok m)).N) (x : S1x256x2048.Idx) (h : 8 * (lit0 (grid0.coords t 1)).toNat + (x 1).val < 16928) :
    iblk m (ok m) c 0 t x = m ((c : Thread nD τ).loc main_arg0) (ix3 (grid0.coords t 0) (x 2) ⟨8 * (lit0 (grid0.coords t 1)).toNat + (x 1).val, h⟩) := by
  have e : cc0_transform_0 (F := F) k0_off1_inb numel1_S1 (tbl m) (grid0.coords t) = ![(grid0.coords t 0).val, 8 * (lit0 (grid0.coords t 1)).toNat, 0] := by
    rw [tbl_eq]; exact ix_rows _
  show V m c main_v0 ((((cfgM m (ok m)).win 0).blk t).view.emb x) = _
  refine (V_v0 m c _).trans ?_
  refine congrArg _ ?_
  have h0 : (x 0).val = 0 := by have := (x 0).isLt; change _ < 1 at this; omega
  funext a
  fin_cases a <;> apply Fin.ext
  · show cc0_transform_0 (F := F) k0_off1_inb numel1_S1 (tbl m) (grid0.coords t) 0 + 1 * (x 0).val = _
    rw [e, h0]; rfl
  · show cc0_transform_0 (F := F) k0_off1_inb numel1_S1 (tbl m) (grid0.coords t) 2 + 1 * (x 2).val = _
    rw [e, Nat.one_mul]; exact Nat.zero_add _
  · show cc0_transform_0 (F := F) k0_off1_inb numel1_S1 (tbl m) (grid0.coords t) 1 + 1 * (x 1).val = _
    rw [e, Nat.one_mul]; rfl

/-- The result's index map. -/
theorem ix_out : ∀ i : grid0.Coords, cc0_transform_1 i = ![(i 0).val, 0, (i 1).val] := by decide +kernel

/-- Element `y` of the block written back at a point is this element of the result. -/
theorem emb_out (t : Fin (cfgM m (ok m)).N) (y : S1x2048x256.Idx) (h : (grid0.coords t 1).val * 256 + (y 2).val < 16384) :
    (((cfgM m (ok m)).win 1).blk t).view.emb y = (ix3 (grid0.coords t 0) (y 1) ⟨(grid0.coords t 1).val * 256 + (y 2).val, h⟩ : S2x2048x16384.Idx) := by
  have e := ix_out (grid0.coords t)
  have y0 : (y 0).val = 0 := by have := (y 0).isLt; change _ < 1 at this; omega
  funext a
  fin_cases a <;> apply Fin.ext
  · show cc0_transform_1 (grid0.coords t) 0 * 1 + 1 * (y 0).val = _
    rw [e, y0]; show (grid0.coords t 0).val * 1 + 1 * 0 = (grid0.coords t 0).val; omega
  · show cc0_transform_1 (grid0.coords t) 1 * 2048 + 1 * (y 1).val = _
    rw [e]; show 0 * 2048 + 1 * (y 1).val = (y 1).val; omega
  · show cc0_transform_1 (grid0.coords t) 2 * 256 + 1 * (y 2).val = _
    rw [e]; show (grid0.coords t 1).val * 256 + 1 * (y 2).val = (grid0.coords t 1).val * 256 + (y 2).val; omega

/-- What a point writes back is its block of the gathered projection. -/
theorem flushed_eq (c : Dev nD) (t : Fin (cfgM m (ok m)).N) :
    (dats m (ok m) 0 c).flushed 1 t = (((cfgM m (ok m)).win 1).blk t).view.read (Elt F) (want m c) := by
  show ((cfgM m (ok m)).win 1).cut (grid0.coords t) ((dats m (ok m) 0 c).after 1 t) = _
  rw [after0_1]
  refine funext fun (y : S1x2048x256.Idx) => ?_
  show outsAt0 m (ok m) c t y = want m c ((((cfgM m (ok m)).win 1).blk t).view.emb y)
  have hy : (y 2).val < 256 := (y 2).isLt
  have hc : (grid0.coords t 1).val < 64 := (grid0.coords t 1).isLt
  have hl : 8 * (lit0 (grid0.coords t 1)).toNat + (y 2).val < 16928 := by
    have h : ∀ j : Fin 64, 8 * (lit0 j).toNat + 256 ≤ 16928 := by decide +kernel
    have := h (grid0.coords t 1)
    omega
  rw [emb_out m t y (by omega)]
  unfold outsAt0
  refine (congrFun (out_eq c _ _ _ _ _ _ _) y).trans ?_
  refine (pay_apply _ y).trans ?_
  refine (congrArg (fun v => FloatOps.truncf .bf16 bitsLt_bf16_f32 v) (iblk_apply m c t (ix3 0 (y 2) (y 1)) hl)).trans ?_
  refine congrArg (fun v => FloatOps.truncf .bf16 bitsLt_bf16_f32 (m ((c : Thread nD τ).loc main_arg0) v)) ?_
  funext a
  fin_cases a
  · rfl
  · rfl
  · apply Fin.ext
    show 8 * (lit0 (grid0.coords t 1)).toNat + (y 2).val = 8 * (lit0 ⟨((grid0.coords t 1).val * 256 + (y 2).val) / 256, _⟩).toNat + ((grid0.coords t 1).val * 256 + (y 2).val) % 256
    have e1 : ((grid0.coords t 1).val * 256 + (y 2).val) / 256 = (grid0.coords t 1).val := by omega
    have e2 : ((grid0.coords t 1).val * 256 + (y 2).val) % 256 = (y 2).val := by omega
    rw [e2]
    congr 4
    exact Fin.ext e1.symm

theorem coords_at : ∀ a : Fin 2, ∀ b : Fin 64, ∃ t : Fin grid0.N, (grid0.coords t 0).val = a.val
      ∧ (grid0.coords t 1).val = b.val := by decide +kernel

/-- The result's blocks tile its array. -/
theorem cover (i : S2x2048x16384.Idx) : ∃ t : Fin (cfgM m (ok m)).N, ((cfgM m (ok m)).win 1).flush t = true
    ∧ i ∈ (((cfgM m (ok m)).win 1).blk t).view.set := by
  have h0 : (i 0).val < 2 := (i 0).isLt
  have h2 : (i 2).val < 16384 := (i 2).isLt
  obtain ⟨t, k0, k1⟩ := coords_at ⟨(i 0).val, h0⟩ ⟨(i 2).val / 256, by omega⟩
  refine ⟨t, flush0_1 _ t, ?_⟩
  change _ = (i 2).val / 256 at k1
  have e := emb_out m t (ix3 0 (i 1) ⟨(i 2).val % 256, by omega⟩) (by show (grid0.coords t 1).val * 256 + (i 2).val % 256 < 16384; omega)
  have e' : i = ((((cfgM m (ok m)).win 1).blk t).view.emb (ix3 0 (i 1) ⟨(i 2).val % 256, by omega⟩ : S1x2048x256.Idx) : S2x2048x16384.Idx) := by
    refine Eq.trans ?_ e.symm
    funext a
    fin_cases a <;> apply Fin.ext
    · exact k0.symm
    · rfl
    · show (i 2).val = (grid0.coords t 1).val * 256 + (i 2).val % 256
      omega
  rw [e']
  exact View.emb_mem_set _ _

/-- So the result array ends holding the gathered projection, -/
theorem final (c : Dev nD) : (dats m (ok m) 0 c).arrAt 1 (cfgM m (ok m)).N = want m c :=
  (dats m (ok m) 0 c).arrAt_eq_of_cover 1 (want m c) (fun t _ => flushed_eq m c t) (cover m)

/-- and the run, read: the gathered projection, the argument unchanged, every counter at zero. -/
theorem run : θ_run defs (onTc (τ := τ) (main (F := F))) ⟨m, fun _ => 0, ρ⟩ fun r => (∀ c : Dev nD,
      r.2.mem ((c : Thread nD τ).loc main_v1) = want m c
      ∧ r.2.mem ((c : Thread nD τ).loc main_arg0) = m ((c : Thread nD τ).loc main_arg0)) ∧ r.2.sem = fun _ => 0 :=
  (θ_run defs _ _).mono (fun _ h => ⟨fun c => ⟨((h.1 c).1 1).trans (final m c),
      ((h.1 c).2 main_arg0 (by decide : main_arg0 ∈ Pipeline.restRefs sig spec0)).trans (V_main_arg0 m c)⟩, h.2⟩)
    (run_main_quiescent m ρ (ok m))

end Cert.KernelIdeal.RefValue

end
-- ==== Proof.GatherClaims.lean ====
/-
  The reference of the column gather, and the claims about both: the reference concatenates three column ranges of the
  projection matrices, which is the same selection of columns the kernel's table of panels makes.
-/
module

public import proofs.«01_k».proof.Proof.Gather
public import proofs.«01_k».proof.Proof.Gen.Kernel
public import proofs.«01_k».proof.Proof.Gen.Reference
public import proofs.«01_k».proof.Proof.Gen.ReferenceIdeal.Run
public import Idealize.ShloMosaic.Lib.Quiescent
public import Idealize.ShloMosaic.PureOps.BitExact

@[expose] public section

set_option maxRecDepth 16384

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen

variable {F : FTy → Type} [FloatOps F]
variable (m : (ℓ : Loc nD τ sig) → Buf (Elt F) ℓ) (ρ : Dev nD → PrngReg)

/-- The gathered column, by the three ranges kept. -/
theorem src_val (k : Fin 16384) : (Cert.KernelIdeal.RefValue.src k).val
    = k.val + (if k.val < 6144 then 0 else if k.val < 10240 then 32 else 544) := by
  have h : ∀ j : Fin 64, 8 * (Cert.KernelIdeal.lit0 j).toNat = j.val * 256 + (if j.val < 24 then 0 else if j.val < 40 then 32 else 544) := by
    decide +kernel
  have e := h ⟨k.val / 256, by omega⟩
  show 8 * (Cert.KernelIdeal.lit0 ⟨k.val / 256, _⟩).toNat + k.val % 256 = _
  rw [e]
  dsimp only
  split_ifs <;> omega

/-- The concatenated column ranges at an index. -/
theorem cat_apply {α : Type} (A : S2x2048x16928.Idx → α) (i : S2x2048x16384.Idx) :
    concatenate S2x2048x16384 2 [⟨S2x2048x6144, extractStridedSlice S2x2048x6144 ![0, 0, 0] A slices_S2x2048x16928_S2x2048x6144_0_0_0⟩,
      ⟨S2x2048x4096, extractStridedSlice S2x2048x4096 ![0, 0, 6176] A slices_S2x2048x16928_S2x2048x4096_0_0_6176⟩,
      ⟨S2x2048x6144, extractStridedSlice S2x2048x6144 ![0, 0, 10784] A slices_S2x2048x16928_S2x2048x6144_0_0_10784⟩]
      concatenates_S2x2048x6144_S2x2048x4096_S2x2048x6144_S2x2048x16384_d2 i
    = A (ix3 (i 0) (i 1) (Cert.KernelIdeal.RefValue.src (i 2))) := by
  have hs := src_val (i 2)
  have h2 : (i 2).val < 16384 := (i 2).isLt
  by_cases a : (i 2).val < 6144
  · rw [if_pos a] at hs
    refine (concatenate_apply_piece (t := S2x2048x16384) 2 _ _ i 0 (Nat.lt_of_sub_eq_succ rfl) S2x2048x6144 _ rfl rfl 0 rfl (ix3 (i 0) (i 1) ⟨(i 2).val, a⟩) (fun b hb => ?_) (by show 0 + (i 2).val = _; omega)).trans ?_
    · fin_cases b
      · rfl
      · rfl
      · exact absurd rfl hb
    · refine extractStridedSlice_apply _ _ _ _ _ fun b => ?_
      fin_cases b
      · show (i 0).val = 0 + (i 0).val; omega
      · show (i 1).val = 0 + (i 1).val; omega
      · show (Cert.KernelIdeal.RefValue.src (i 2)).val = 0 + (i 2).val; omega
  rw [if_neg a] at hs
  by_cases b : (i 2).val < 10240
  · rw [if_pos b] at hs
    refine (concatenate_apply_piece (t := S2x2048x16384) 2 _ _ i 1 (Nat.lt_of_sub_eq_succ rfl) S2x2048x4096 _ rfl rfl 6144 rfl (ix3 (i 0) (i 1) ⟨(i 2).val - 6144, by omega⟩) (fun b hb => ?_) (by show 6144 + ((i 2).val - 6144) = _; omega)).trans ?_
    · fin_cases b
      · rfl
      · rfl
      · exact absurd rfl hb
    · refine extractStridedSlice_apply _ _ _ _ _ fun b => ?_
      fin_cases b
      · show (i 0).val = 0 + (i 0).val; omega
      · show (i 1).val = 0 + (i 1).val; omega
      · show (Cert.KernelIdeal.RefValue.src (i 2)).val = 6176 + ((i 2).val - 6144); omega
  · rw [if_neg b] at hs
    refine (concatenate_apply_piece (t := S2x2048x16384) 2 _ _ i 2 (Nat.lt_of_sub_eq_succ rfl) S2x2048x6144 _ rfl rfl 10240 rfl (ix3 (i 0) (i 1) ⟨(i 2).val - 10240, by omega⟩) (fun b hb => ?_) (by show 10240 + ((i 2).val - 10240) = _; omega)).trans ?_
    · fin_cases b
      · rfl
      · rfl
      · exact absurd rfl hb
    · refine extractStridedSlice_apply _ _ _ _ _ fun b => ?_
      fin_cases b
      · show (i 0).val = 0 + (i 0).val; omega
      · show (i 1).val = 0 + (i 1).val; omega
      · show (Cert.KernelIdeal.RefValue.src (i 2)).val = 10784 + ((i 2).val - 10240); omega

/-- The reference's run, its result read by column. -/
theorem run : θ_run defs (onTc (τ := τ) (main (F := F))) ⟨m, fun _ => 0, ρ⟩ fun r => ∀ c : Dev nD,
      r.2.mem ((c : Thread nD τ).loc main_v4) = (truncf (s := S2x2048x16384) .bf16 (fun i => m ((c : Thread nD τ).loc main_arg0) (ix3 (i 0) (i 1) (Cert.KernelIdeal.RefValue.src (i 2)))) bitsLt_bf16_f32 : FVec F S2x2048x16384 .bf16)
      ∧ r.2.mem ((c : Thread nD τ).loc main_arg0) = m ((c : Thread nD τ).loc main_arg0) :=
  (θ_run defs _ _).mono (fun r h c => ⟨(h c).1.trans (congrArg (fun v => truncf (s := S2x2048x16384) .bf16 v bitsLt_bf16_f32) (funext fun i => cat_apply _ i)), (h c).2⟩)
    (Cert.ReferenceIdeal.Value.run m ρ)

end Cert.ReferenceIdeal.RefValue

namespace Cert.Gather

theorem defs_eq {F : FTy → Type} [FloatOps F] : Cert.Kernel.defs (F := F) = Cert.KernelIdeal.defs := by sl_kernel_rfl
theorem main_eq {F : FTy → Type} [FloatOps F] : Cert.Kernel.main (F := F) = Cert.KernelIdeal.main := by sl_kernel_rfl

/-- The kernel's run: the program is its idealization's text, whose run is stated over any values. -/
theorem run_kernel {F : FTy → Type} [FloatOps F] (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ fun r => (∀ c : Dev Cert.Kernel.nD,
      r.2.mem ((c : Thread Cert.Kernel.nD Cert.Kernel.τ).loc Cert.Kernel.main_v1) = Cert.KernelIdeal.RefValue.want m c
      ∧ r.2.mem ((c : Thread Cert.Kernel.nD Cert.Kernel.τ).loc Cert.Kernel.main_arg0) = m ((c : Thread Cert.Kernel.nD Cert.Kernel.τ).loc Cert.Kernel.main_arg0)) ∧ r.2.sem = fun _ => 0 := by
  rw [defs_eq, main_eq]
  exact Cert.KernelIdeal.RefValue.run m ρ

theorem frame_kernel : Cert.quiescent_Kernel := fun m ρ _ =>
  (θ_run Cert.Kernel.defs _ _).mono (fun _ h => ⟨fun c => (h.1 c).2, h.2⟩) (run_kernel (F := Bits) m ρ)

theorem frame_kernelIdeal : Cert.quiescent_KernelIdeal := fun m ρ _ =>
  (θ_run Cert.KernelIdeal.defs _ _).mono (fun _ h => ⟨fun c => (h.1 c).2, h.2⟩) (Cert.KernelIdeal.RefValue.run (F := Ideal) m ρ)

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.RefValue.run (F := Ideal) m ρ)

theorem frame_reference : Cert.quiescent_Reference := fun m ρ _ =>
  (θ_run Cert.ReferenceIdeal.defs _ _).mono (fun r h => ⟨fun c => (h c).2, sem_eq_zero_of_no_sems (by decide) r.2⟩)
    (Cert.ReferenceIdeal.RefValue.run (F := Bits) m ρ)

theorem algebraic : Cert.algebraic_KernelIdeal_ReferenceIdeal := fun m ρ m' ρ' _ hm =>
  ⟨fun c => Cert.KernelIdeal.RefValue.want (F := Ideal) m c,
    (θ_run Cert.KernelIdeal.defs _ _).mono (fun _ h => h.1) (Cert.KernelIdeal.RefValue.run (F := Ideal) m ρ),
    (θ_run Cert.ReferenceIdeal.defs _ _).mono (fun _ h c => ⟨(h c).1.trans (by rw [hm c]), (h c).2⟩) (Cert.ReferenceIdeal.RefValue.run (F := Ideal) m' ρ')⟩

theorem bitexact : Cert.bitexact_Kernel_Reference := fun m ρ m' ρ' _ hm =>
  ⟨fun c => Cert.KernelIdeal.RefValue.want (F := Bits) m c,
    (θ_run Cert.Kernel.defs _ _).mono (fun _ h => h.1) (run_kernel (F := Bits) m ρ),
    (θ_run Cert.ReferenceIdeal.defs _ _).mono (fun _ h c => ⟨(h c).1.trans (by rw [hm c]), (h c).2⟩) (Cert.ReferenceIdeal.RefValue.run (F := Bits) m' ρ')⟩

end Cert.Gather

end
-- ==== Proof.Dense.lean ====
/-
  What the dense programs share: a plain product over the extended reals read at a row and a column, in the kernel's
  spelling (an accumulator of zeros) and in the host's.
-/
module

public import Idealize.ShloMosaic.Lib.MatmulPlain
public import Idealize.ShloMosaic.Lib.ValueIdxCore
public import Idealize.ShloMosaic.Lib.ValueIdx
public import Idealize.ShloMosaic.PureOps.Ideal.Laws
public import Idealize.ShloMosaic.Lib.IdealHost

@[expose] public section

noncomputable section

open Idealize.ShloMosaic
open Idealize.ShloMosaic.ValueIdx
open scoped BigOperators

namespace Cert.Dense

theorem hz2 : (![0, 0] : Fin 2 → Nat) = fun _ => 0 := funext fun a => by fin_cases a <;> rfl
theorem hz3 : (![0, 0, 0] : Fin 3 → Nat) = fun _ => 0 := funext fun a => by fin_cases a <;> rfl

/-- The kernel's product onto zeros. -/
theorem mm_apply {M K N : Nat} {φ₁ φ₂ : FTy} (prec : Option ContractPrecision) (x : FVec Ideal ⟨2, ![M, K]⟩ φ₁)
    (w : FVec Ideal ⟨2, ![K, N]⟩ φ₂) (r : Fin M) (c : Fin N) :
    FloatOps.matmul (DotDims.plain M K N) prec x w (constant ⟨2, ![M, N]⟩ .f32 0x00000000#32) (ix2 r c)
      = ∑ k : Fin K, x (ix2 r k) * w (ix2 k c) := by
  rw [Ideal.matmul_plain_apply]
  show Ideal.ofBits .f32 0x00000000#32 + _ = _
  rw [Ideal.ofBits_zero_f32, zero_add]

/-- The host's product. -/
theorem dot_apply {M K N : Nat} {φ₁ φ₂ : FTy} (prec : Option ContractPrecision) (x : FVec Ideal ⟨2, ![M, K]⟩ φ₁)
    (w : FVec Ideal ⟨2, ![K, N]⟩ φ₂) (r : Fin M) (c : Fin N) :
    (Host.dotGeneral (DotDims.plain M K N) prec x w : FVec Ideal ⟨2, ![M, N]⟩ .f32) (ix2 r c)
      = ∑ k : Fin K, x (ix2 r k) * w (ix2 k c) :=
  (Ideal.matmul_plain_apply prec x w (fun _ => 0) r c).trans (zero_add _)

end Cert.Dense

end
-- ==== Proof.InProj.lean ====
/-
  The input projection: both programs multiply the normalised tokens with the first layer's gathered projection. The
  kernel does it tile by tile over a grid of column panels and row blocks; every tile it writes back is the tile of one
  product, and the tiles cover the result. Over the extended reals the host's product is the same sum.
-/
module

public import proofs.«01_k».proof.Defs
public import proofs.«01_k».proof.Proof.Gen.Kernel2
public import proofs.«01_k».proof.Proof.Gen.Kernel2Ideal.Value
public import proofs.«01_k».proof.Proof.Gen.Reference2Ideal.Run
public import Idealize.ShloMosaic.Lib.Pipeline.Value
public import Idealize.ShloMosaic.Lib.ValueIdxCore
public import proofs.«01_k».proof.Proof.Dense
public import Idealize.ShloMosaic.Lib.StableHlo
public import Idealize.ShloMosaic.Lib.Quiescent
public import Idealize.ShloMosaic.PureOps.BitExact

@[expose] public section

set_option maxRecDepth 16384

noncomputable section

open Idealize.ShloMosaic Idealize.ShloMosaic.TcCoe Idealize.SL.Sem
open Idealize.ShloMosaic.Pipeline (Dat)
open Idealize.ShloMosaic.ValueIdx
open scoped BigOperators
open Cert.Dense

namespace Cert.Kernel2Ideal.RefValue

open Cert.Kernel2Ideal Cert.Kernel2Ideal.Gen

/-- The product both programs compute: every token's row times every kept column of the first layer's projection. -/
def prod (h : FVec Ideal S32768x2048 .bf16) (w : FVec Ideal S2x2048x16384 .bf16) : FVec Ideal S32768x16384 .bf16 :=
  fun i => ∑ k : Fin 2048, h (ix2 (i 0) k) * w (ix3 0 k (i 1))

/-- The body's one tile, at an index: a row of the token block times a column of the panel. -/
theorem out_apply (x : FVec Ideal S1024x2048 .bf16) (w : FVec Ideal S1x2048x2048 .bf16) (y : S1024x2048.Idx) :
    out0_2 (F := Ideal) x w y = ∑ k : Fin 2048, x (ix2 (y 0) k) * w (ix3 0 k (y 1)) := by
  unfold out0_2
  rw [View.canon_unit_zero hz2, View.ld_unit_zero hz2, View.ld_unit_zero hz3]
  rw [eq_ix2 y]
  unfold k0_pay1
  refine (mm_apply (M := 1024) (K := 2048) (N := 2048) none x _ (y 0) (y 1)).trans ?_
  refine Finset.sum_congr rfl fun k _ => congrArg (x (ix2 (y 0) k) * ·) ?_
  refine (shapeCast_dropUnit_apply ![2048, 2048] _ _ _).trans ?_
  refine congrArg w ?_
  funext a
  fin_cases a <;> rfl

variable (m : (ℓ : Loc nD τ sig) → Buf (Elt Ideal) ℓ) (ρ : Dev nD → PrngReg)

/-- The result array as that product of the two arguments. -/
abbrev want (c : Dev nD) : Buf (Elt Ideal) ((c : Thread nD τ).loc main_v0) :=
  prod (m ((c : Thread nD τ).loc main_arg0)) (m ((c : Thread nD τ).loc main_arg1))

theorem ix_maps : ∀ i : grid0.Coords, cc0_transform_0 i = ![(i 1).val, 0] ∧ cc0_transform_1 i = ![0, 0, (i 0).val]
    ∧ cc0_transform_2 i = ![(i 1).val, (i 0).val] := by decide +kernel

/-- The token block fetched at a point. -/
theorem blk_h (c : Dev nD) (t : Fin cfg0.N) (x : S1024x2048.Idx) (h : (grid0.coords t 1).val * 1024 + (x 0).val < 32768) :
    iblk m c 0 t x = m ((c : Thread nD τ).loc main_arg0) (ix2 ⟨(grid0.coords t 1).val * 1024 + (x 0).val, h⟩ (x 1)) := by
  show m ((c : Thread nD τ).loc main_arg0) (((cfg0.win 0).blk t).view.emb x) = _
  refine congrArg _ ?_
  have e := (ix_maps (grid0.coords t)).1
  funext a
  fin_cases a <;> apply Fin.ext
  · show cc0_transform_0 (grid0.coords t) 0 * 1024 + 1 * (x 0).val = _
    rw [e, Nat.one_mul]; rfl
  · show cc0_transform_0 (grid0.coords t) 1 * 2048 + 1 * (x 1).val = _
    rw [e, Nat.one_mul]; exact Nat.zero_add _

/-- The column panel fetched at a point. -/
theorem blk_w (c : Dev nD) (t : Fin cfg0.N) (x : S1x2048x2048.Idx) (h : (grid0.coords t 0).val * 2048 + (x 2).val < 16384) :
    iblk m c 1 t x = m ((c : Thread nD τ).loc main_arg1) (ix3 0 (x 1) ⟨(grid0.coords t 0).val * 2048 + (x 2).val, h⟩) := by
  show m ((c : Thread nD τ).loc main_arg1) (((cfg0.win 1).blk t).view.emb x) = _
  refine congrArg _ ?_
  have e := (ix_maps (grid0.coords t)).2.1
  have h0 : (x 0).val = 0 := by have := (x 0).isLt; change _ < 1 at this; omega
  funext a
  fin_cases a <;> apply Fin.ext
  · show cc0_transform_1 (grid0.coords t) 0 * 1 + 1 * (x 0).val = _
    rw [e, h0]; rfl
  · show cc0_transform_1 (grid0.coords t) 1 * 2048 + 1 * (x 1).val = _
    rw [e, Nat.one_mul]; exact Nat.zero_add _
  · show cc0_transform_1 (grid0.coords t) 2 * 2048 + 1 * (x 2).val = _
    rw [e, Nat.one_mul]; rfl

/-- Element `y` of the tile written back at a point is this element of the result. -/
theorem emb_out (t : Fin cfg0.N) (y : S1024x2048.Idx) (h : (grid0.coords t 1).val * 1024 + (y 0).val < 32768)
    (h' : (grid0.coords t 0).val * 2048 + (y 1).val < 16384) :
    ((cfg0.win 2).blk t).view.emb y = (ix2 ⟨(grid0.coords t 1).val * 1024 + (y 0).val, h⟩ ⟨(grid0.coords t 0).val * 2048 + (y 1).val, h'⟩ : S32768x16384.Idx) := by
  have e := (ix_maps (grid0.coords t)).2.2
  funext a
  fin_cases a <;> apply Fin.ext
  · show cc0_transform_2 (grid0.coords t) 0 * 1024 + 1 * (y 0).val = _
    rw [e, Nat.one_mul]; rfl
  · show cc0_transform_2 (grid0.coords t) 1 * 2048 + 1 * (y 1).val = _
    rw [e, Nat.one_mul]; rfl

theorem tile_eq (c : Dev nD) (t : Fin cfg0.N) (y : S1024x2048.Idx) :
    out0_2 (iblk m c 0 t) (iblk m c 1 t) y = want m c (((cfg0.win 2).blk t).view.emb y) := by
  have h0 : (grid0.coords t 0).val < 8 := (grid0.coords t 0).isLt
  have h1 : (grid0.coords t 1).val < 32 := (grid0.coords t 1).isLt
  have hy0 : (y 0).val < 1024 := (y 0).isLt
  have hy1 : (y 1).val < 2048 := (y 1).isLt
  rw [emb_out t y (by omega) (by omega)]
  refine (out_apply _ _ y).trans ?_
  refine Finset.sum_congr rfl fun k _ => ?_
  exact congrArg₂ (· * ·) (blk_h m c t (ix2 (y 0) k) (by show (grid0.coords t 1).val * 1024 + (y 0).val < 32768; omega))
    (blk_w m c t (ix3 0 k (y 1)) (by show (grid0.coords t 0).val * 2048 + (y 1).val < 16384; omega))

/-- What a point writes back is its tile of the product. -/
theorem flushed_eq (c : Dev nD) (t : Fin cfg0.N) :
    (dats m 0 c).flushed 2 t = ((cfg0.win 2).blk t).view.read (Elt Ideal) (want m c) := by
  rw [Value.flushed2]
  refine funext fun (y : S1024x2048.Idx) => ?_
  exact tile_eq m c t y

theorem coords_at : ∀ a : Fin 8, ∀ b : Fin 32, ∃ t : Fin grid0.N, (grid0.coords t 0).val = a.val
      ∧ (grid0.coords t 1).val = b.val := by decide +kernel

/-- The tiles cover the result. -/
theorem cover (i : S32768x16384.Idx) : ∃ t : Fin cfg0.N, (cfg0.win 2).flush t = true ∧ i ∈ ((cfg0.win 2).blk t).view.set := by
  have h0 : (i 0).val < 32768 := (i 0).isLt
  have h1 : (i 1).val < 16384 := (i 1).isLt
  obtain ⟨t, k0, k1⟩ := coords_at ⟨(i 1).val / 2048, by omega⟩ ⟨(i 0).val / 1024, by omega⟩
  refine ⟨t, flush0_2 t, ?_⟩
  change _ = (i 1).val / 2048 at k0
  change _ = (i 0).val / 1024 at k1
  have e := emb_out t (ix2 ⟨(i 0).val % 1024, by omega⟩ ⟨(i 1).val % 2048, by omega⟩)
    (by show (grid0.coords t 1).val * 1024 + (i 0).val % 1024 < 32768; omega)
    (by show (grid0.coords t 0).val * 2048 + (i 1).val % 2048 < 16384; omega)
  have e' : i = (((cfg0.win 2).blk t).view.emb (ix2 ⟨(i 0).val % 1024, by omega⟩ ⟨(i 1).val % 2048, by omega⟩ : S1024x2048.Idx) : S32768x16384.Idx) := by
    refine Eq.trans ?_ e.symm
    funext a
    fin_cases a <;> apply Fin.ext
    · show (i 0).val = (grid0.coords t 1).val * 1024 + (i 0).val % 1024
      omega
    · show (i 1).val = (grid0.coords t 0).val * 2048 + (i 1).val % 2048
      omega
  rw [e']
  exact View.emb_mem_set _ _

theorem final (c : Dev nD) : (dats m 0 c).arrAt 2 cfg0.N = want m c :=
  (dats m 0 c).arrAt_eq_of_cover 2 (want m c) (fun t _ => flushed_eq m c t) cover

/-- The run, read: the product, both arguments unchanged. -/
theorem run : θ_run defs (onTc (τ := τ) (main (F := Ideal))) ⟨m, fun _ => 0, ρ⟩ fun r => ∀ c : Dev nD,
      r.2.mem ((c : Thread nD τ).loc main_v0) = want m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.Kernel2Ideal.RefValue

namespace Cert.Reference2Ideal.RefValue

open Cert.Reference2Ideal Cert.Reference2Ideal.Gen

/-- The first layer's projection at an index. -/
theorem layer_apply (w : FVec Ideal S2x2048x16384 .bf16) (h2 h3) (k : Fin 2048) (q : Fin 16384) :
    shapeCast S2048x16384 (extractStridedSlice S1x2048x16384 ![0, 0, 0] w h2) h3 (ix2 k q) = w (ix3 0 k q) := by
  refine (shapeCast_dropUnit_apply ![2048, 16384] _ _ _).trans ?_
  refine (extractStridedSlice_apply _ _ _ _ (ix3 0 k q) fun a => ?_)
  fin_cases a
  · rfl
  · exact (Nat.zero_add k.val).symm
  · exact (Nat.zero_add q.val).symm

/-- The host's product at an index. -/
theorem ref_eq (h : FVec Ideal S32768x2048 .bf16) (w : FVec Ideal S2x2048x16384 .bf16) (h1 : FTy.bits .bf16 < FTy.bits .f32) (h2 h3) :
    (truncf .bf16 (Host.dotGeneral dot_S32768x2048_S2048x16384_S32768x16384_1_0_0_1_n_n none (extf .f32 h h1) (extf .f32 (shapeCast S2048x16384 (extractStridedSlice S1x2048x16384 ![0, 0, 0] w h2) h3) h1)) h1 : FVec Ideal S32768x16384 .bf16)
      = Cert.Kernel2Ideal.RefValue.prod h w := by
  funext i
  have e : i = ix2 (i 0) (i 1) := eq_ix2 i
  generalize i 0 = r at e
  generalize i 1 = q at e
  subst e
  refine (dot_apply (M := 32768) (K := 2048) (N := 16384) none (φ₁ := .f32) (φ₂ := .f32) h _ r q).trans ?_
  refine Finset.sum_congr rfl fun k _ => congrArg (h (ix2 r k) * ·) ?_
  exact layer_apply w h2 h3 k q

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v5) = Cert.Kernel2Ideal.RefValue.prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (ref_eq _ _ _ _ _), (h c).2⟩) (Cert.Reference2Ideal.Value.run m ρ)

end Cert.Reference2Ideal.RefValue

namespace Cert.InProj

theorem defs_eq {F : FTy → Type} [FloatOps F] : Cert.Kernel2.defs (F := F) = Cert.Kernel2Ideal.defs := by sl_kernel_rfl
theorem main_eq {F : FTy → Type} [FloatOps F] : Cert.Kernel2.main (F := F) = Cert.Kernel2Ideal.main := by sl_kernel_rfl

theorem frame_kernel : Cert.quiescent_Kernel2 := fun m ρ _ => by
  rw [defs_eq, main_eq]
  exact Cert.Kernel2Ideal.Gen.frame (F := Bits) m ρ

theorem frame_kernelIdeal : Cert.quiescent_Kernel2Ideal := fun m ρ _ => Cert.Kernel2Ideal.Gen.frame (F := Ideal) m ρ

theorem frame_referenceIdeal : Cert.quiescent_Reference2Ideal := fun m ρ _ =>
  (θ_run Cert.Reference2Ideal.defs _ _).mono (fun r h => ⟨fun c => (h c).2, sem_eq_zero_of_no_sems (by decide) r.2⟩)
    (Cert.Reference2Ideal.RefValue.run m ρ)

theorem algebraic : Cert.algebraic_Kernel2Ideal_Reference2Ideal := fun m ρ m' ρ' _ hm =>
  ⟨fun c => Cert.Kernel2Ideal.RefValue.want m c, Cert.Kernel2Ideal.RefValue.run m ρ,
    (θ_run Cert.Reference2Ideal.defs _ _).mono (fun _ h c => ⟨(h c).1.trans (by rw [(hm c).1, (hm c).2]), (h c).2⟩)
      (Cert.Reference2Ideal.RefValue.run m' ρ')⟩

end Cert.InProj

end
-- ==== Proof.Merge.lean ====
/-
  The gated merge: each token's two branch outputs are projected, weighed by the logistic function of their gates and
  added. The kernel does it by blocks of 512 tokens, reading both gates from the one array of projected tokens; every
  block it writes back is the block of one function of the arguments, and the blocks cover the result.
-/
module

public import proofs.«01_k».proof.Defs
public import proofs.«01_k».proof.Proof.Gen.Kernel3
public import proofs.«01_k».proof.Proof.Gen.Kernel3Ideal.Value
public import proofs.«01_k».proof.Proof.Gen.Reference3Ideal.Run
public import Idealize.ShloMosaic.Lib.Pipeline.Value
public import Idealize.ShloMosaic.Lib.ValueIdxCore
public import proofs.«01_k».proof.Proof.Dense
public import Idealize.ShloMosaic.Lib.StableHlo
public import Idealize.ShloMosaic.Lib.Quiescent
public import Idealize.ShloMosaic.PureOps.BitExact

@[expose] public section

set_option maxRecDepth 16384

noncomputable section

open Idealize.ShloMosaic Idealize.ShloMosaic.TcCoe Idealize.SL.Sem
open Idealize.ShloMosaic.Pipeline (Dat)
open Idealize.ShloMosaic.ValueIdx
open scoped BigOperators
open Cert.Dense

namespace Cert.Kernel3Ideal.RefValue

open Cert.Kernel3Ideal Cert.Kernel3Ideal.Gen

/-- The merge at a token and a column: gate times projected branch, twice. -/
def merged (oa ob : FVec Ideal S32768x2048 .bf16) (u : FVec Ideal S32768x16384 .bf16) (pa pb : FVec Ideal S2048x2048 .f32) :
    FVec Ideal S32768x2048 .bf16 := fun i =>
  Ideal.logistic (u (ix2 (i 0) ⟨12288 + (i 1).val, by have : (i 1).val < 2048 := (i 1).isLt; omega⟩)) * (∑ k : Fin 2048, oa (ix2 (i 0) k) * pa (ix2 k (i 1)))
    + Ideal.logistic (u (ix2 (i 0) ⟨14336 + (i 1).val, by have : (i 1).val < 2048 := (i 1).isLt; omega⟩)) * (∑ k : Fin 2048, ob (ix2 (i 0) k) * pb (ix2 k (i 1)))

/-- The body's one block, at a row and a column. -/
theorem out_apply (x0 x1 x2 x3 : FVec Ideal S512x2048 .bf16) (x4 x5 : FVec Ideal S2048x2048 .bf16) (r : Fin 512) (q : Fin 2048) :
    out0_6 (F := Ideal) x0 x1 x2 x3 x4 x5 (ix2 r q)
      = Ideal.logistic (x2 (ix2 r q)) * (∑ k : Fin 2048, x0 (ix2 r k) * x4 (ix2 k q))
        + Ideal.logistic (x3 (ix2 r q)) * (∑ k : Fin 2048, x1 (ix2 r k) * x5 (ix2 k q)) := by
  unfold out0_6
  rw [View.canon_unit_zero hz2]
  iterate 6 rw [View.ld_unit_zero hz2]
  unfold k0_pay1
  simp only [shapeCast_self]
  exact congrArg₂ (· + ·) (congrArg (Ideal.logistic (x2 (ix2 r q)) * ·) (mm_apply (M := 512) (K := 2048) (N := 2048) none x0 x4 r q))
    (congrArg (Ideal.logistic (x3 (ix2 r q)) * ·) (mm_apply (M := 512) (K := 2048) (N := 2048) none x1 x5 r q))

variable (m : (ℓ : Loc nD τ sig) → Buf (Elt Ideal) ℓ) (ρ : Dev nD → PrngReg)

/-- The result array as the merge of the five arguments. -/
abbrev want (c : Dev nD) : Buf (Elt Ideal) ((c : Thread nD τ).loc main_v2) :=
  merged (m ((c : Thread nD τ).loc main_arg0)) (m ((c : Thread nD τ).loc main_arg1)) (m ((c : Thread nD τ).loc main_arg2))
    (m ((c : Thread nD τ).loc main_arg3)) (m ((c : Thread nD τ).loc main_arg4))

theorem ix_maps : ∀ i : grid0.Coords, cc0_transform_0 i = ![(i 0).val, 0] ∧ cc0_transform_1 i = ![(i 0).val, 0]
    ∧ cc0_transform_2 i = ![(i 0).val, 6] ∧ cc0_transform_3 i = ![(i 0).val, 7] ∧ cc0_transform_4 i = ![0, 0]
    ∧ cc0_transform_5 i = ![0, 0] ∧ cc0_transform_6 i = ![(i 0).val, 0] := by decide +kernel

/-- The projection weights the pipeline reads are the arguments. -/
theorem V_v0 (c : Dev nD) : V m c main_v0 = m ((c : Thread nD τ).loc main_arg3) := by
  simp only [V, hostOps0, StableHlo.after_cons, StableHlo.after_nil]
  rfl
theorem V_v1 (c : Dev nD) : V m c main_v1 = m ((c : Thread nD τ).loc main_arg4) := by
  simp only [V, hostOps0, StableHlo.after_cons, StableHlo.after_nil]
  rfl

/-- A block of the first branch. -/
theorem blk0 (c : Dev nD) (t : Fin cfg0.N) (x : S512x2048.Idx) (h : (grid0.coords t 0).val * 512 + (x 0).val < 32768) :
    iblk m c 0 t x = m ((c : Thread nD τ).loc main_arg0) (ix2 ⟨(grid0.coords t 0).val * 512 + (x 0).val, h⟩ (x 1)) := by
  show V m c main_arg0 (((cfg0.win 0).blk t).view.emb x) = _
  refine (congrFun (V_main_arg0 m c) _).trans (congrArg _ ?_)
  have e := (ix_maps (grid0.coords t)).1
  funext a
  fin_cases a <;> apply Fin.ext
  · show cc0_transform_0 (grid0.coords t) 0 * 512 + 1 * (x 0).val = _
    rw [e, Nat.one_mul]; rfl
  · show cc0_transform_0 (grid0.coords t) 1 * 2048 + 1 * (x 1).val = _
    rw [e, Nat.one_mul]; exact Nat.zero_add _

/-- A block of the second branch. -/
theorem blk1 (c : Dev nD) (t : Fin cfg0.N) (x : S512x2048.Idx) (h : (grid0.coords t 0).val * 512 + (x 0).val < 32768) :
    iblk m c 1 t x = m ((c : Thread nD τ).loc main_arg1) (ix2 ⟨(grid0.coords t 0).val * 512 + (x 0).val, h⟩ (x 1)) := by
  show V m c main_arg1 (((cfg0.win 1).blk t).view.emb x) = _
  refine (congrFun (V_main_arg1 m c) _).trans (congrArg _ ?_)
  have e := (ix_maps (grid0.coords t)).2.1
  funext a
  fin_cases a <;> apply Fin.ext
  · show cc0_transform_1 (grid0.coords t) 0 * 512 + 1 * (x 0).val = _
    rw [e, Nat.one_mul]; rfl
  · show cc0_transform_1 (grid0.coords t) 1 * 2048 + 1 * (x 1).val = _
    rw [e, Nat.one_mul]; exact Nat.zero_add _

/-- A block of the first branch's gate, six panels of columns into the projected tokens. -/
theorem blk2 (c : Dev nD) (t : Fin cfg0.N) (x : S512x2048.Idx) (h : (grid0.coords t 0).val * 512 + (x 0).val < 32768) :
    iblk m c 2 t x = m ((c : Thread nD τ).loc main_arg2) (ix2 ⟨(grid0.coords t 0).val * 512 + (x 0).val, h⟩ ⟨12288 + (x 1).val, by have : (x 1).val < 2048 := (x 1).isLt; omega⟩) := by
  show V m c main_arg2 (((cfg0.win 2).blk t).view.emb x) = _
  refine (congrFun (V_main_arg2 m c) _).trans (congrArg _ ?_)
  have e := (ix_maps (grid0.coords t)).2.2.1
  funext a
  fin_cases a <;> apply Fin.ext
  · show cc0_transform_2 (grid0.coords t) 0 * 512 + 1 * (x 0).val = _
    rw [e, Nat.one_mul]; rfl
  · show cc0_transform_2 (grid0.coords t) 1 * 2048 + 1 * (x 1).val = _
    rw [e, Nat.one_mul]; rfl

/-- A block of the second branch's gate, seven panels in. -/
theorem blk3 (c : Dev nD) (t : Fin cfg0.N) (x : S512x2048.Idx) (h : (grid0.coords t 0).val * 512 + (x 0).val < 32768) :
    iblk m c 3 t x = m ((c : Thread nD τ).loc main_arg2) (ix2 ⟨(grid0.coords t 0).val * 512 + (x 0).val, h⟩ ⟨14336 + (x 1).val, by have : (x 1).val < 2048 := (x 1).isLt; omega⟩) := by
  show V m c main_arg2 (((cfg0.win 3).blk t).view.emb x) = _
  refine (congrFun (V_main_arg2 m c) _).trans (congrArg _ ?_)
  have e := (ix_maps (grid0.coords t)).2.2.2.1
  funext a
  fin_cases a <;> apply Fin.ext
  · show cc0_transform_3 (grid0.coords t) 0 * 512 + 1 * (x 0).val = _
    rw [e, Nat.one_mul]; rfl
  · show cc0_transform_3 (grid0.coords t) 1 * 2048 + 1 * (x 1).val = _
    rw [e, Nat.one_mul]; rfl

/-- The whole first projection, fetched at every point. -/
theorem blk4 (c : Dev nD) (t : Fin cfg0.N) (x : S2048x2048.Idx) :
    iblk m c 4 t x = m ((c : Thread nD τ).loc main_arg3) x := by
  show V m c main_v0 (((cfg0.win 4).blk t).view.emb x) = _
  refine (congrFun (V_v0 m c) _).trans (congrArg _ ?_)
  have e := (ix_maps (grid0.coords t)).2.2.2.2.1
  funext a
  fin_cases a <;> apply Fin.ext
  · show cc0_transform_4 (grid0.coords t) 0 * 2048 + 1 * (x 0).val = _
    rw [e, Nat.one_mul]; exact Nat.zero_add _
  · show cc0_transform_4 (grid0.coords t) 1 * 2048 + 1 * (x 1).val = _
    rw [e, Nat.one_mul]; exact Nat.zero_add _

/-- The whole second projection, fetched at every point. -/
theorem blk5 (c : Dev nD) (t : Fin cfg0.N) (x : S2048x2048.Idx) :
    iblk m c 5 t x = m ((c : Thread nD τ).loc main_arg4) x := by
  show V m c main_v1 (((cfg0.win 5).blk t).view.emb x) = _
  refine (congrFun (V_v1 m c) _).trans (congrArg _ ?_)
  have e := (ix_maps (grid0.coords t)).2.2.2.2.2.1
  funext a
  fin_cases a <;> apply Fin.ext
  · show cc0_transform_5 (grid0.coords t) 0 * 2048 + 1 * (x 0).val = _
    rw [e, Nat.one_mul]; exact Nat.zero_add _
  · show cc0_transform_5 (grid0.coords t) 1 * 2048 + 1 * (x 1).val = _
    rw [e, Nat.one_mul]; exact Nat.zero_add _

/-- Element `y` of the block written back at a point is this element of the result. -/
theorem emb_out (t : Fin cfg0.N) (y : S512x2048.Idx) (h : (grid0.coords t 0).val * 512 + (y 0).val < 32768) :
    ((cfg0.win 6).blk t).view.emb y = (ix2 ⟨(grid0.coords t 0).val * 512 + (y 0).val, h⟩ (y 1) : S32768x2048.Idx) := by
  have e := (ix_maps (grid0.coords t)).2.2.2.2.2.2
  funext a
  fin_cases a <;> apply Fin.ext
  · show cc0_transform_6 (grid0.coords t) 0 * 512 + 1 * (y 0).val = _
    rw [e, Nat.one_mul]; rfl
  · show cc0_transform_6 (grid0.coords t) 1 * 2048 + 1 * (y 1).val = _
    rw [e, Nat.one_mul]; exact Nat.zero_add _

theorem block_eq (c : Dev nD) (t : Fin cfg0.N) (r : Fin 512) (q : Fin 2048) :
    out0_6 (iblk m c 0 t) (iblk m c 1 t) (iblk m c 2 t) (iblk m c 3 t) (iblk m c 4 t) (iblk m c 5 t) (ix2 r q)
      = want m c (((cfg0.win 6).blk t).view.emb (ix2 r q : S512x2048.Idx)) := by
  have h0 : (grid0.coords t 0).val < 64 := (grid0.coords t 0).isLt
  have hb : (grid0.coords t 0).val * 512 + r.val < 32768 := by omega
  rw [emb_out t (ix2 r q) hb]
  refine (out_apply _ _ _ _ _ _ r q).trans ?_
  exact congrArg₂ (· + ·)
    (congrArg₂ (· * ·) (congrArg Ideal.logistic (blk2 m c t (ix2 r q) hb))
      (Finset.sum_congr rfl fun k _ => congrArg₂ (· * ·) (blk0 m c t (ix2 r k) hb) (blk4 m c t (ix2 k q))))
    (congrArg₂ (· * ·) (congrArg Ideal.logistic (blk3 m c t (ix2 r q) hb))
      (Finset.sum_congr rfl fun k _ => congrArg₂ (· * ·) (blk1 m c t (ix2 r k) hb) (blk5 m c t (ix2 k q))))

/-- What a point writes back is its block of the merge. -/
theorem flushed_eq (c : Dev nD) (t : Fin cfg0.N) :
    (dats m 0 c).flushed 6 t = ((cfg0.win 6).blk t).view.read (Elt Ideal) (want m c) := by
  rw [Value.flushed6]
  refine funext fun (y : S512x2048.Idx) => ?_
  obtain ⟨r, q, rfl⟩ : ∃ (r : Fin 512) (q : Fin 2048), y = ix2 r q := ⟨y 0, y 1, eq_ix2 y⟩
  exact block_eq m c t r q

theorem coords_at : ∀ a : Fin 64, ∃ t : Fin grid0.N, (grid0.coords t 0).val = a.val := by decide +kernel

/-- The blocks cover the result. -/
theorem cover (i : S32768x2048.Idx) : ∃ t : Fin cfg0.N, (cfg0.win 6).flush t = true ∧ i ∈ ((cfg0.win 6).blk t).view.set := by
  have h0 : (i 0).val < 32768 := (i 0).isLt
  obtain ⟨t, k0⟩ := coords_at ⟨(i 0).val / 512, by omega⟩
  refine ⟨t, flush0_6 t, ?_⟩
  change _ = (i 0).val / 512 at k0
  have e := emb_out t (ix2 ⟨(i 0).val % 512, by omega⟩ (i 1))
    (by show (grid0.coords t 0).val * 512 + (i 0).val % 512 < 32768; omega)
  have e' : i = (((cfg0.win 6).blk t).view.emb (ix2 ⟨(i 0).val % 512, by omega⟩ (i 1) : S512x2048.Idx) : S32768x2048.Idx) := by
    refine Eq.trans ?_ e.symm
    funext a
    fin_cases a
    · apply Fin.ext
      show (i 0).val = (grid0.coords t 0).val * 512 + (i 0).val % 512
      omega
    · rfl
  rw [e']
  exact View.emb_mem_set _ _

theorem final (c : Dev nD) : (dats m 0 c).arrAt 6 cfg0.N = want m c :=
  (dats m 0 c).arrAt_eq_of_cover 6 (want m c) (fun t _ => flushed_eq m c t) cover

/-- The run, read: the merge, the arguments unchanged. -/
theorem run : θ_run defs (onTc (τ := τ) (main (F := Ideal))) ⟨m, fun _ => 0, ρ⟩ fun r => ∀ c : Dev nD,
      r.2.mem ((c : Thread nD τ).loc main_v2) = want m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Kernel3Ideal.RefValue

namespace Cert.Reference3Ideal.RefValue

open Cert.Reference3Ideal Cert.Reference3Ideal.Gen

/-- The host spells the logistic function out. -/
theorem gate_eq (v : FVec Ideal S32768x2048 .f32) (hb : S_.BroadcastsInDim S32768x2048 (![] : Fin 0 → Fin S32768x2048.rank)) (i : S32768x2048.Idx) :
    Host.divf (broadcastInDim S32768x2048 ![] hb (constant S_ .f32 0x3F800000#32)) (addf (broadcastInDim S32768x2048 ![] hb (constant S_ .f32 0x3F800000#32)) (Host.exp (Host.negf v))) i
      = Ideal.logistic (v i) := by
  show Ideal.div (Ideal.ofBits .f32 0x3F800000#32) (Ideal.ofBits .f32 0x3F800000#32 + Ideal.exp (-(v i))) = _
  rw [Ideal.ofBits_one_f32]
  rfl

/-- The host's merge at an index. -/
theorem ref_eq (oa ob : FVec Ideal S32768x2048 .bf16) (u : FVec Ideal S32768x16384 .bf16) (pa pb : FVec Ideal S2048x2048 .f32)
    (h1 : FTy.bits .bf16 < FTy.bits .f32) (hb : S_.BroadcastsInDim S32768x2048 (![] : Fin 0 → Fin S32768x2048.rank)) (h2 h3) :
    (truncf .bf16 (addf (mulf (Host.divf (broadcastInDim S32768x2048 ![] hb (constant S_ .f32 0x3F800000#32)) (addf (broadcastInDim S32768x2048 ![] hb (constant S_ .f32 0x3F800000#32)) (Host.exp (Host.negf (extf .f32 (extractStridedSlice S32768x2048 ![0, 12288] u h2) h1))))) (Host.dotGeneral dot_S32768x2048_S2048x2048_S32768x2048_1_0_0_1_n_n none (extf .f32 oa h1) pa))
      (mulf (Host.divf (broadcastInDim S32768x2048 ![] hb (constant S_ .f32 0x3F800000#32)) (addf (broadcastInDim S32768x2048 ![] hb (constant S_ .f32 0x3F800000#32)) (Host.exp (Host.negf (extf .f32 (extractStridedSlice S32768x2048 ![0, 14336] u h3) h1))))) (Host.dotGeneral dot_S32768x2048_S2048x2048_S32768x2048_1_0_0_1_n_n none (extf .f32 ob h1) pb))) h1 : FVec Ideal S32768x2048 .bf16)
      = Cert.Kernel3Ideal.RefValue.merged oa ob u pa pb := by
  refine funext fun (i : S32768x2048.Idx) => ?_
  obtain ⟨r, q, rfl⟩ : ∃ (r : Fin 32768) (q : Fin 2048), i = ix2 r q := ⟨i 0, i 1, eq_ix2 i⟩
  refine congrArg₂ (· + ·) (congrArg₂ (· * ·) ((gate_eq _ hb _).trans (congrArg Ideal.logistic ?_)) ?_)
    (congrArg₂ (· * ·) ((gate_eq _ hb _).trans (congrArg Ideal.logistic ?_)) ?_)
  · refine (extractStridedSlice_apply _ _ h2 _ (ix2 r (⟨12288 + q.val, by omega⟩ : Fin 16384)) fun a => ?_)
    fin_cases a
    · exact (Nat.zero_add r.val).symm
    · rfl
  · exact dot_apply (M := 32768) (K := 2048) (N := 2048) none (φ₁ := .f32) (φ₂ := .f32) oa pa r q
  · refine (extractStridedSlice_apply _ _ h3 _ (ix2 r (⟨14336 + q.val, by omega⟩ : Fin 16384)) fun a => ?_)
    fin_cases a
    · exact (Nat.zero_add r.val).symm
    · rfl
  · exact dot_apply (M := 32768) (K := 2048) (N := 2048) none (φ₁ := .f32) (φ₂ := .f32) ob pb r q

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v23) = Cert.Kernel3Ideal.RefValue.merged (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (ref_eq _ _ _ _ _ _ _ _ _), (h c).2⟩) (Cert.Reference3Ideal.Value.run m ρ)

end Cert.Reference3Ideal.RefValue

namespace Cert.Merge

theorem defs_eq {F : FTy → Type} [FloatOps F] : Cert.Kernel3.defs (F := F) = Cert.Kernel3Ideal.defs := by sl_kernel_rfl
theorem main_eq {F : FTy → Type} [FloatOps F] : Cert.Kernel3.main (F := F) = Cert.Kernel3Ideal.main := by sl_kernel_rfl

theorem frame_kernel : Cert.quiescent_Kernel3 := fun m ρ _ => by
  rw [defs_eq, main_eq]
  exact Cert.Kernel3Ideal.Gen.frame (F := Bits) m ρ

theorem frame_kernelIdeal : Cert.quiescent_Kernel3Ideal := fun m ρ _ => Cert.Kernel3Ideal.Gen.frame (F := Ideal) m ρ

theorem frame_referenceIdeal : Cert.quiescent_Reference3Ideal := fun m ρ _ =>
  (θ_run Cert.Reference3Ideal.defs _ _).mono (fun r h => ⟨fun c => (h c).2, sem_eq_zero_of_no_sems (by decide) r.2⟩)
    (Cert.Reference3Ideal.RefValue.run m ρ)

theorem algebraic : Cert.algebraic_Kernel3Ideal_Reference3Ideal := fun m ρ m' ρ' _ hm =>
  ⟨fun c => Cert.Kernel3Ideal.RefValue.want m c, Cert.Kernel3Ideal.RefValue.run m ρ,
    (θ_run Cert.Reference3Ideal.defs _ _).mono (fun _ h c => ⟨(h c).1.trans (by rw [(hm c).1, (hm c).2.1, (hm c).2.2.1, (hm c).2.2.2.1, (hm c).2.2.2.2]), (h c).2⟩)
      (Cert.Reference3Ideal.RefValue.run m' ρ')⟩

end Cert.Merge

end
-- ==== Proof.OutFinal.lean ====
/-
  The last projection: each token's merged branches are projected, gated and added to its input, and the sum is divided
  by the root of its mean square and scaled. The kernel does it by blocks of 512 tokens over a grid of batches; every
  block it writes back is the block of one function of the arguments, and the blocks cover the result. The reference
  keeps batches and positions apart, which a token's number over 4096 and its remainder give back.
-/
module

public import proofs.«01_k».proof.Defs
public import proofs.«01_k».proof.Proof.Gen.Kernel4
public import proofs.«01_k».proof.Proof.Gen.Kernel4Ideal.Value
public import proofs.«01_k».proof.Proof.Gen.Reference4Ideal.Run
public import Idealize.ShloMosaic.Lib.Pipeline.Value
public import Idealize.ShloMosaic.Lib.ValueIdxCore
public import proofs.«01_k».proof.Proof.Dense
public import Idealize.ShloMosaic.Lib.StableHlo
public import Idealize.ShloMosaic.Lib.Quiescent
public import Idealize.ShloMosaic.PureOps.BitExact

@[expose] public section

set_option maxRecDepth 16384

noncomputable section

open Idealize.ShloMosaic Idealize.ShloMosaic.TcCoe Idealize.SL.Sem
open Idealize.ShloMosaic.Pipeline (Dat)
open Idealize.ShloMosaic.ValueIdx
open scoped BigOperators
open Cert.Dense

namespace Cert.Kernel4Ideal.RefValue

open Cert.Kernel4Ideal Cert.Kernel4Ideal.Gen

/-- A row of numbers over the root of its mean square (a small constant added), times a weight: one entry. -/
def rms (f : Fin 2048 → EReal) (w : EReal) (q : Fin 2048) : EReal :=
  f q * Ideal.rsqrt (Ideal.div (∑ k : Fin 2048, f k * f k) (Ideal.ofBits .f32 0x45000000#32) + Ideal.ofBits .f32 0x358637BD#32) * w

/-- The batch a token belongs to, and its position there. -/
def bat (r : Fin 32768) : Fin 8 := ⟨r.val / 4096, by omega⟩
def pos (r : Fin 32768) : Fin 4096 := ⟨r.val % 4096, by omega⟩

/-- The residual stream after the layer: the input plus the gated projection. -/
def stream (y : FVec Ideal S32768x2048 .bf16) (x : FVec Ideal S8x4096x2048 .f32) (md : FVec Ideal S8x6144 .f32)
    (w : FVec Ideal S2048x2048 .f32) (r : Fin 32768) (q : Fin 2048) : EReal :=
  x (ix3 (bat r) (pos r) q) + md (ix2 (bat r) ⟨4096 + q.val, by omega⟩) * ∑ k : Fin 2048, y (ix2 r k) * w (ix2 k q)

/-- The normalised stream. -/
def normed (y : FVec Ideal S32768x2048 .bf16) (x : FVec Ideal S8x4096x2048 .f32) (md : FVec Ideal S8x6144 .f32)
    (w : FVec Ideal S2048x2048 .f32) (nw : FVec Ideal S2048 .f32) : FVec Ideal S32768x2048 .f32 := fun i =>
  rms (stream y x md w (i 0)) (nw (ix1 (i 1))) (i 1)

/-- One block's stream, from the blocks the body loads. -/
def sblk (x0 : FVec Ideal S512x2048 .bf16) (x1 : FVec Ideal S512x2048 .f32) (x2 : FVec Ideal S2048x2048 .bf16)
    (x3 : FVec Ideal S1x3x2048 .f32) (r : Fin 512) (q : Fin 2048) : EReal :=
  x1 (ix2 r q) + x3 (ix3 0 2 q) * ∑ k : Fin 2048, x0 (ix2 r k) * x2 (ix2 k q)

theorem col_apply (v : FVec Ideal S512x1 .f32) (h : S512x1.Broadcasts S512x2048) (r : Fin 512) (q : Fin 2048) :
    broadcastTo S512x2048 v h (ix2 r q) = v (ix2 r 0) :=
  broadcastTo_apply _ _ _ _ fun a => by fin_cases a <;> rfl
theorem row_apply (v : FVec Ideal S1x2048 .f32) (h : S1x2048.Broadcasts S512x2048) (r : Fin 512) (q : Fin 2048) :
    broadcastTo S512x2048 v h (ix2 r q) = v (ix2 0 q) :=
  broadcastTo_apply _ _ _ _ fun a => by fin_cases a <;> rfl

/-- The norm of a block of rows as the body spells it. -/
theorem norm_apply (v : FVec Ideal S512x2048 .f32) (w : FVec Ideal S1x2048 .f32) (h1 h2 h3 h4 h5 h6) (r : Fin 512) (q : Fin 2048) :
    mulf (mulf v (broadcastTo S512x2048 (rsqrt (addf (divf (shapeCast S512x1 (multiReduction .add [1] S512 (mulf v v) 0x00000000#32 h1 h2 h3) h4)
      (broadcast S512x1 (Scalar.ofBits .f32 0x45000000#32))) (broadcast S512x1 (Scalar.ofBits .f32 0x358637BD#32)))) h5)) (broadcastTo S512x2048 w h6) (ix2 r q)
      = rms (fun k => v (ix2 r k)) (w (ix2 0 q)) q := by
  refine congrArg₂ (· * ·) (congrArg (v (ix2 r q) * ·) ((col_apply _ h5 r q).trans ?_)) (row_apply w h6 r q)
  refine congrArg (fun z => Ideal.rsqrt (Ideal.div z (Ideal.ofBits .f32 0x45000000#32) + Ideal.ofBits .f32 0x358637BD#32)) ?_
  refine (shapeCast_apply _ h4 _ (ix1 r) rfl).trans ?_
  refine (Ideal.multiReduction_add_single _ _ h1 h2 h3 _).trans ?_
  refine Finset.sum_congr rfl fun k _ => ?_
  have e : h1.lift (ix1 r) k = ix2 r k := by
    funext a
    fin_cases a <;> rfl
  rw [e]
  rfl

/-- The gate's row of the modulation block. -/
theorem gate_apply (x3 : FVec Ideal S1x3x2048 .f32) (h : S1x1x2048.ShapeCasts S1x2048) (q : Fin 2048) :
    shapeCast S1x2048 (View.ld (Val := Elt Ideal) (e' := .f32) x3 r0_2) h (ix2 0 q) = x3 (ix3 0 2 q) := by
  refine (shapeCast_dropUnit_apply ![1, 2048] _ _ _).trans ?_
  refine congrArg x3 ?_
  funext a
  fin_cases a <;> apply Fin.ext
  · rfl
  · rfl
  · show 0 + 1 * q.val = q.val
    omega

/-- The body's one block, at a row and a column. -/
theorem out_apply (x0 : FVec Ideal S512x2048 .bf16) (x1 : FVec Ideal S512x2048 .f32) (x2 : FVec Ideal S2048x2048 .bf16)
    (x3 x4 : FVec Ideal S1x3x2048 .f32) (x5 : FVec Ideal S1x2048 .f32) (r : Fin 512) (q : Fin 2048) :
    out0_6 (F := Ideal) x0 x1 x2 x3 x4 x5 (ix2 r q) = rms (sblk x0 x1 x2 x3 r) (x5 (ix2 0 q)) q := by
  unfold out0_6
  rw [View.canon_unit_zero hz2]
  iterate 4 rw [View.ld_unit_zero hz2]
  unfold k0_pay1
  simp only [shapeCast_self]
  refine (norm_apply _ _ _ _ _ _ _ _ r q).trans ?_
  refine congrArg (fun f => rms f (x5 (ix2 0 q)) q) (funext fun k => ?_)
  exact congrArg (x1 (ix2 r k) + ·) (congrArg₂ (· * ·) ((row_apply _ _ r k).trans (gate_apply x3 _ k))
    (mm_apply (M := 512) (K := 2048) (N := 2048) none x0 x2 r k))

variable (m : (ℓ : Loc nD τ sig) → Buf (Elt Ideal) ℓ) (ρ : Dev nD → PrngReg)

/-- The result array as a function of the five arguments. -/
abbrev want (c : Dev nD) : Buf (Elt Ideal) ((c : Thread nD τ).loc main_v4) :=
  normed (m ((c : Thread nD τ).loc main_arg0)) (m ((c : Thread nD τ).loc main_arg1)) (m ((c : Thread nD τ).loc main_arg2))
    (m ((c : Thread nD τ).loc main_arg3)) (m ((c : Thread nD τ).loc main_arg4))

theorem ix_maps : ∀ i : grid0.Coords, cc0_transform_0 i = ![(i 0).val * 8 + (i 1).val, 0] ∧ cc0_transform_1 i = ![(i 0).val * 8 + (i 1).val, 0]
    ∧ cc0_transform_2 i = ![0, 0] ∧ cc0_transform_3 i = ![(i 0).val, 0, 0] ∧ cc0_transform_5 i = ![0, 0]
    ∧ cc0_transform_6 i = ![(i 0).val * 8 + (i 1).val, 0] := by decide +kernel

/-- The arrays the pipeline reads, as reshaped arguments. -/
theorem V_v0 (c : Dev nD) (b : Fin 8) (j : Fin 3) (q : Fin 2048) : V m c main_v0 (ix3 b j q)
    = m ((c : Thread nD τ).loc main_arg2) (ix2 b ⟨j.val * 2048 + q.val, by omega⟩) := by
  simp only [V, hostOps0, StableHlo.after_cons, StableHlo.after_nil]
  refine shapeCast_apply _ _ _ (ix2 b (⟨j.val * 2048 + q.val, by omega⟩ : Fin 6144)) ?_
  refine (Shape.rowMajor_val_two _).trans (Eq.trans ?_ (Shape.rowMajor_val_three _).symm)
  show b.val * 6144 + (j.val * 2048 + q.val) = (b.val * 3 + j.val) * 2048 + q.val
  omega
theorem V_v1 (c : Dev nD) (r : Fin 32768) (q : Fin 2048) : V m c main_v1 (ix2 r q)
    = m ((c : Thread nD τ).loc main_arg1) (ix3 (bat r) (pos r) q) := by
  simp only [V, hostOps0, StableHlo.after_cons, StableHlo.after_nil]
  refine shapeCast_apply _ _ _ (ix3 (bat r) (pos r) q) ?_
  refine (Shape.rowMajor_val_three _).trans (Eq.trans ?_ (Shape.rowMajor_val_two _).symm)
  show (r.val / 4096 * 4096 + r.val % 4096) * 2048 + q.val = r.val * 2048 + q.val
  omega
theorem V_v2 (c : Dev nD) : V m c main_v2 = m ((c : Thread nD τ).loc main_arg3) := by
  simp only [V, hostOps0, StableHlo.after_cons, StableHlo.after_nil]
  rfl
theorem V_v3 (c : Dev nD) (q : Fin 2048) : V m c main_v3 (ix2 0 q) = m ((c : Thread nD τ).loc main_arg4) (ix1 q) := by
  simp only [V, hostOps0, StableHlo.after_cons, StableHlo.after_nil]
  refine (shapeCast_addUnit_apply ![2048] _ _ _).trans (congrArg _ ?_)
  funext a
  fin_cases a
  rfl

/-- The token a row of the block of a point is. -/
def tok (t : Fin cfg0.N) (r : Fin 512) : Fin 32768 :=
  ⟨((grid0.coords t 0).val * 8 + (grid0.coords t 1).val) * 512 + r.val, by
    have h0 : (grid0.coords t 0).val < 8 := (grid0.coords t 0).isLt
    have h1 : (grid0.coords t 1).val < 8 := (grid0.coords t 1).isLt
    omega⟩

theorem bat_tok (t : Fin cfg0.N) (r : Fin 512) : bat (tok t r) = grid0.coords t 0 := by
  apply Fin.ext
  have h1 : (grid0.coords t 1).val < 8 := (grid0.coords t 1).isLt
  show (((grid0.coords t 0).val * 8 + (grid0.coords t 1).val) * 512 + r.val) / 4096 = (grid0.coords t 0).val
  omega

/-- The blocks fetched at a point. -/
theorem blk0 (c : Dev nD) (t : Fin cfg0.N) (r : Fin 512) (q : Fin 2048) :
    iblk m c 0 t (ix2 r q : S512x2048.Idx) = m ((c : Thread nD τ).loc main_arg0) (ix2 (tok t r) q) := by
  show V m c main_arg0 (((cfg0.win 0).blk t).view.emb (ix2 r q : S512x2048.Idx)) = _
  refine (congrFun (V_main_arg0 m c) _).trans (congrArg _ ?_)
  have e := (ix_maps (grid0.coords t)).1
  funext a
  fin_cases a <;> apply Fin.ext
  · show cc0_transform_0 (grid0.coords t) 0 * 512 + 1 * r.val = _
    rw [e, Nat.one_mul]; rfl
  · show cc0_transform_0 (grid0.coords t) 1 * 2048 + 1 * q.val = _
    rw [e, Nat.one_mul]; exact Nat.zero_add _

theorem blk1 (c : Dev nD) (t : Fin cfg0.N) (r : Fin 512) (q : Fin 2048) :
    iblk m c 1 t (ix2 r q : S512x2048.Idx) = m ((c : Thread nD τ).loc main_arg1) (ix3 (bat (tok t r)) (pos (tok t r)) q) := by
  show V m c main_v1 (((cfg0.win 1).blk t).view.emb (ix2 r q : S512x2048.Idx)) = _
  refine Eq.trans (congrArg _ ?_) (V_v1 m c (tok t r) q)
  have e := (ix_maps (grid0.coords t)).2.1
  funext a
  fin_cases a <;> apply Fin.ext
  · show cc0_transform_1 (grid0.coords t) 0 * 512 + 1 * r.val = _
    rw [e, Nat.one_mul]; rfl
  · show cc0_transform_1 (grid0.coords t) 1 * 2048 + 1 * q.val = _
    rw [e, Nat.one_mul]; exact Nat.zero_add _

theorem blk2 (c : Dev nD) (t : Fin cfg0.N) (r : Fin 2048) (q : Fin 2048) :
    iblk m c 2 t (ix2 r q : S2048x2048.Idx) = m ((c : Thread nD τ).loc main_arg3) (ix2 r q) := by
  show V m c main_v2 (((cfg0.win 2).blk t).view.emb (ix2 r q : S2048x2048.Idx)) = _
  refine (congrFun (V_v2 m c) _).trans (congrArg _ ?_)
  have e := (ix_maps (grid0.coords t)).2.2.1
  funext a
  fin_cases a <;> apply Fin.ext
  · show cc0_transform_2 (grid0.coords t) 0 * 2048 + 1 * r.val = _
    rw [e, Nat.one_mul]; exact Nat.zero_add _
  · show cc0_transform_2 (grid0.coords t) 1 * 2048 + 1 * q.val = _
    rw [e, Nat.one_mul]; exact Nat.zero_add _

theorem blk3 (c : Dev nD) (t : Fin cfg0.N) (r : Fin 512) (q : Fin 2048) :
    iblk m c 3 t (ix3 0 2 q : S1x3x2048.Idx) = m ((c : Thread nD τ).loc main_arg2) (ix2 (bat (tok t r)) ⟨4096 + q.val, by omega⟩) := by
  show V m c main_v0 (((cfg0.win 3).blk t).view.emb (ix3 0 2 q : S1x3x2048.Idx)) = _
  refine Eq.trans (congrArg _ ?_) (V_v0 m c (bat (tok t r)) 2 q)
  rw [bat_tok]
  have e := (ix_maps (grid0.coords t)).2.2.2.1
  funext a
  fin_cases a <;> apply Fin.ext
  · show cc0_transform_3 (grid0.coords t) 0 * 1 + 1 * 0 = (grid0.coords t 0).val
    rw [e]; exact Nat.mul_one _
  · show cc0_transform_3 (grid0.coords t) 1 * 3 + 1 * 2 = 2
    rw [e]; rfl
  · show cc0_transform_3 (grid0.coords t) 2 * 2048 + 1 * q.val = _
    rw [e, Nat.one_mul]; exact Nat.zero_add _

theorem blk5 (c : Dev nD) (t : Fin cfg0.N) (q : Fin 2048) :
    iblk m c 5 t (ix2 0 q : S1x2048.Idx) = m ((c : Thread nD τ).loc main_arg4) (ix1 q) := by
  show V m c main_v3 (((cfg0.win 5).blk t).view.emb (ix2 0 q : S1x2048.Idx)) = _
  refine Eq.trans (congrArg _ ?_) (V_v3 m c q)
  have e := (ix_maps (grid0.coords t)).2.2.2.2.1
  funext a
  fin_cases a <;> apply Fin.ext
  · show cc0_transform_5 (grid0.coords t) 0 * 1 + 1 * 0 = _
    rw [e]; rfl
  · show cc0_transform_5 (grid0.coords t) 1 * 2048 + 1 * q.val = _
    rw [e, Nat.one_mul]; exact Nat.zero_add _

/-- A row and column of the block written back at a point, in the result. -/
theorem emb_out (t : Fin cfg0.N) (r : Fin 512) (q : Fin 2048) :
    ((cfg0.win 6).blk t).view.emb (ix2 r q : S512x2048.Idx) = (ix2 (tok t r) q : S32768x2048.Idx) := by
  have e := (ix_maps (grid0.coords t)).2.2.2.2.2
  funext a
  fin_cases a <;> apply Fin.ext
  · show cc0_transform_6 (grid0.coords t) 0 * 512 + 1 * r.val = _
    rw [e, Nat.one_mul]; rfl
  · show cc0_transform_6 (grid0.coords t) 1 * 2048 + 1 * q.val = _
    rw [e, Nat.one_mul]; exact Nat.zero_add _

theorem block_eq (c : Dev nD) (t : Fin cfg0.N) (r : Fin 512) (q : Fin 2048) :
    out0_6 (iblk m c 0 t) (iblk m c 1 t) (iblk m c 2 t) (iblk m c 3 t) (iblk m c 4 t) (iblk m c 5 t) (ix2 r q)
      = want m c (((cfg0.win 6).blk t).view.emb (ix2 r q : S512x2048.Idx)) := by
  rw [emb_out t r q]
  refine (out_apply _ _ _ _ _ _ r q).trans ?_
  refine congrArg₂ (fun f w => rms f w q) (funext fun k => ?_) (blk5 m c t q)
  exact congrArg₂ (· + ·) (blk1 m c t r k) (congrArg₂ (· * ·) (blk3 m c t r k)
    (Finset.sum_congr rfl fun l _ => congrArg₂ (· * ·) (blk0 m c t r l) (blk2 m c t l k)))

/-- What a point writes back is its block of the result. -/
theorem flushed_eq (c : Dev nD) (t : Fin cfg0.N) :
    (dats m 0 c).flushed 6 t = ((cfg0.win 6).blk t).view.read (Elt Ideal) (want m c) := by
  rw [Value.flushed6]
  refine funext fun (y : S512x2048.Idx) => ?_
  obtain ⟨r, q, rfl⟩ : ∃ (r : Fin 512) (q : Fin 2048), y = ix2 r q := ⟨y 0, y 1, eq_ix2 y⟩
  exact block_eq m c t r q

theorem coords_at : ∀ a : Fin 8, ∀ b : Fin 8, ∃ t : Fin grid0.N, (grid0.coords t 0).val = a.val
      ∧ (grid0.coords t 1).val = b.val := by decide +kernel

/-- The blocks cover the result. -/
theorem cover (i : S32768x2048.Idx) : ∃ t : Fin cfg0.N, (cfg0.win 6).flush t = true ∧ i ∈ ((cfg0.win 6).blk t).view.set := by
  obtain ⟨r, q, rfl⟩ : ∃ (r : Fin 32768) (q : Fin 2048), i = ix2 r q := ⟨i 0, i 1, eq_ix2 i⟩
  obtain ⟨t, k0, k1⟩ := coords_at ⟨r.val / 4096, by omega⟩ ⟨r.val / 512 % 8, by omega⟩
  refine ⟨t, flush0_6 t, ?_⟩
  change _ = r.val / 4096 at k0
  change _ = r.val / 512 % 8 at k1
  have e : tok t ⟨r.val % 512, by omega⟩ = r := by
    apply Fin.ext
    show ((grid0.coords t 0).val * 8 + (grid0.coords t 1).val) * 512 + r.val % 512 = r.val
    omega
  have e' : (ix2 r q : S32768x2048.Idx) = ((cfg0.win 6).blk t).view.emb (ix2 ⟨r.val % 512, by omega⟩ q : S512x2048.Idx) := by
    rw [emb_out, e]
  rw [e']
  exact View.emb_mem_set _ _

theorem final (c : Dev nD) : (dats m 0 c).arrAt 6 cfg0.N = want m c :=
  (dats m 0 c).arrAt_eq_of_cover 6 (want m c) (fun t _ => flushed_eq m c t) cover

/-- The run, read: the normalised stream, the arguments unchanged. -/
theorem run : θ_run defs (onTc (τ := τ) (main (F := Ideal))) ⟨m, fun _ => 0, ρ⟩ fun r => ∀ c : Dev nD,
      r.2.mem ((c : Thread nD τ).loc main_v4) = want m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

end Cert.Kernel4Ideal.RefValue

namespace Cert.Reference4Ideal.RefValue

open Cert.Reference4Ideal Cert.Reference4Ideal.Gen
open Cert.Kernel4Ideal.RefValue (rms bat pos stream normed)

/-- The reference's stream, batches apart. -/
theorem stream_apply (y : FVec Ideal S32768x2048 .bf16) (x : FVec Ideal S8x4096x2048 .f32) (md : FVec Ideal S8x6144 .f32)
    (w : FVec Ideal S2048x2048 .f32) (h1 : FTy.bits .bf16 < FTy.bits .f32) (h2 h3 h4 h5) (r : Fin 32768) (q : Fin 2048) :
    addf x (mulf (broadcastInDim S8x4096x2048 ![0, 1, 2] h3 (broadcastInDim S8x1x2048 ![0, 2] h2 (extractStridedSlice S8x2048 ![0, 4096] md h4)))
      (shapeCast S8x4096x2048 (Host.dotGeneral dot_S32768x2048_S2048x2048_S32768x2048_1_0_0_1_n_n none (extf .f32 y h1) w : FVec Ideal S32768x2048 .f32) h5)) (ix3 (bat r) (pos r) q)
      = stream y x md w r q := by
  refine congrArg (x (ix3 (bat r) (pos r) q) + ·) (congrArg₂ (· * ·) ?_ ?_)
  · refine (broadcastInDim_apply _ h3 _ _ (ix3 (bat r) 0 q) fun a => by fin_cases a <;> rfl).trans ?_
    refine (broadcastInDim_apply _ h2 _ _ (ix2 (bat r) q) fun a => by fin_cases a <;> rfl).trans ?_
    refine (extractStridedSlice_apply _ _ h4 _ (ix2 (bat r) (⟨4096 + q.val, by omega⟩ : Fin 6144)) fun a => ?_)
    fin_cases a
    · exact (Nat.zero_add (bat r).val).symm
    · rfl
  · refine (shapeCast_apply _ h5 _ (ix2 r q) ?_).trans (dot_apply (M := 32768) (K := 2048) (N := 2048) none (φ₁ := .f32) (φ₂ := .f32) y w r q)
    refine (Shape.rowMajor_val_two _).trans (Eq.trans ?_ (Shape.rowMajor_val_three _).symm)
    show r.val * 2048 + q.val = (r.val / 4096 * 4096 + r.val % 4096) * 2048 + q.val
    omega

/-- The norm as the reference spells it. -/
theorem norm_apply (v : FVec Ideal S8x4096x2048 .f32) (nw : FVec Ideal S2048 .f32) (h1) (h2 : S8x4096.BroadcastsInDim S8x4096x1 (![0, 1] : Fin 2 → Fin 3)) (h3 : S8x4096x2048.ReducesTo [2] S8x4096) (h4 h5 h6)
    (h7 : S2048.BroadcastsInDim S1x1x2048 (![2] : Fin 1 → Fin 3)) (b : Fin 8) (p : Fin 4096) (q : Fin 2048) :
    mulf (mulf v (broadcastInDim S8x4096x2048 ![0, 1, 2] h1 (Host.rsqrt (addf (Host.divf (broadcastInDim S8x4096x1 ![0, 1] h2 (Host.reduceAdd (mulf v v) (constant S_ .f32 0x00000000#32) h3 h4))
      (broadcastInDim S8x4096x1 ![] h5 (constant S_ .f32 0x45000000#32))) (broadcastInDim S8x4096x1 ![] h5 (constant S_ .f32 0x358637BD#32))))))
      (broadcastInDim S8x4096x2048 ![0, 1, 2] h6 (broadcastInDim S1x1x2048 ![2] h7 nw)) (ix3 b p q)
      = rms (fun k => v (ix3 b p k)) (nw (ix1 q)) q := by
  refine congrArg₂ (· * ·) (congrArg (v (ix3 b p q) * ·) ?_) ?_
  · refine (broadcastInDim_apply _ h1 _ _ (ix3 b p 0) fun a => by fin_cases a <;> rfl).trans ?_
    refine congrArg (fun z => Ideal.rsqrt (Ideal.div z (Ideal.ofBits .f32 0x45000000#32) + Ideal.ofBits .f32 0x358637BD#32)) ?_
    refine (broadcastInDim_apply _ h2 _ _ (ix2 b p) fun a => by fin_cases a <;> rfl).trans ?_
    refine (Ideal.hostReduceAdd_single h3 (by decide) _ _ _).trans ?_
    show Ideal.ofBits .f32 0x00000000#32 + _ = _
    rw [Ideal.ofBits_zero_f32, zero_add]
    refine Finset.sum_congr rfl fun k _ => ?_
    refine congrArg (fun z => v z * v z) ?_
    funext a
    fin_cases a <;> rfl
  · refine (broadcastInDim_apply _ h6 _ _ (ix3 0 0 q) fun a => by fin_cases a <;> rfl).trans ?_
    exact broadcastInDim_apply _ h7 _ _ (ix1 q) fun a => by fin_cases a; rfl

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v21) = normed (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (by
      refine funext fun (i : S32768x2048.Idx) => ?_
      obtain ⟨r, q, rfl⟩ : ∃ (r : Fin 32768) (q : Fin 2048), i = ix2 r q := ⟨i 0, i 1, eq_ix2 i⟩
      refine (shapeCast_apply _ _ _ (ix3 (bat r) (pos r) q) ?_).trans ?_
      · refine (Shape.rowMajor_val_three _).trans (Eq.trans ?_ (Shape.rowMajor_val_two _).symm)
        show (r.val / 4096 * 4096 + r.val % 4096) * 2048 + q.val = r.val * 2048 + q.val
        omega
      refine (norm_apply _ _ _ _ _ _ _ _ _ _ _ _).trans ?_
      exact congrArg (fun f => rms f _ q) (funext fun k => stream_apply _ _ _ _ _ _ _ _ _ r k)), (h c).2⟩) (Cert.Reference4Ideal.Value.run m ρ)

end Cert.Reference4Ideal.RefValue

namespace Cert.OutFinal

theorem defs_eq {F : FTy → Type} [FloatOps F] : Cert.Kernel4.defs (F := F) = Cert.Kernel4Ideal.defs := by sl_kernel_rfl
theorem main_eq {F : FTy → Type} [FloatOps F] : Cert.Kernel4.main (F := F) = Cert.Kernel4Ideal.main := by sl_kernel_rfl

theorem frame_kernel : Cert.quiescent_Kernel4 := fun m ρ _ => by
  rw [defs_eq, main_eq]
  exact Cert.Kernel4Ideal.Gen.frame (F := Bits) m ρ

theorem frame_kernelIdeal : Cert.quiescent_Kernel4Ideal := fun m ρ _ => Cert.Kernel4Ideal.Gen.frame (F := Ideal) m ρ

theorem frame_referenceIdeal : Cert.quiescent_Reference4Ideal := fun m ρ _ =>
  (θ_run Cert.Reference4Ideal.defs _ _).mono (fun r h => ⟨fun c => (h c).2, sem_eq_zero_of_no_sems (by decide) r.2⟩)
    (Cert.Reference4Ideal.RefValue.run m ρ)

theorem algebraic : Cert.algebraic_Kernel4Ideal_Reference4Ideal := fun m ρ m' ρ' _ hm =>
  ⟨fun c => Cert.Kernel4Ideal.RefValue.want m c, Cert.Kernel4Ideal.RefValue.run m ρ,
    (θ_run Cert.Reference4Ideal.defs _ _).mono (fun _ h c => ⟨(h c).1.trans (by rw [(hm c).1, (hm c).2.1, (hm c).2.2.1, (hm c).2.2.2.1, (hm c).2.2.2.2]), (h c).2⟩)
      (Cert.Reference4Ideal.RefValue.run m' ρ')⟩

end Cert.OutFinal

end
-- ==== Proof.SwaSpec.lean ====
/-
  Sliding-window attention in scalars over the extended reals, and the one step of it where the kernel and the reference
  compute differently: a head's softmax with its sink, in the kernel's base-two exponentials and normalised after the
  values are weighted, in the reference's natural ones and normalised before.
-/
module

public import Idealize.ShloMosaic.PureOps.Ideal
public import Idealize.ShloMosaic.PureOps.Ideal.Laws

@[expose] public section

noncomputable section

open Idealize.ShloMosaic
open scoped BigOperators

namespace Cert.SwaSpec

/-- The projected keys and values. -/
def kv (H : Fin 32768 → Fin 2048 → EReal) (W : Fin 2048 → Fin 512 → EReal) (r : Fin 32768) (c : Fin 512) : EReal :=
  ∑ k, H r k * W k c

/-- The rotary embedding of one head at one position. -/
def rope (x : Fin 64 → EReal) (co si : Fin 32 → EReal) (d : Fin 64) : EReal :=
  if h : d.val < 32 then x d * co ⟨d.val, h⟩ - x ⟨32 + d.val, by omega⟩ * si ⟨d.val, h⟩
  else x d * co ⟨d.val - 32, by omega⟩ + x ⟨d.val - 32, by omega⟩ * si ⟨d.val - 32, by omega⟩

/-- The rotary embedding of real numbers. -/
def ropeR (x : Fin 64 → ℝ) (co si : Fin 32 → ℝ) (d : Fin 64) : ℝ :=
  if h : d.val < 32 then x d * co ⟨d.val, h⟩ - x ⟨32 + d.val, by omega⟩ * si ⟨d.val, h⟩
  else x d * co ⟨d.val - 32, by omega⟩ + x ⟨d.val - 32, by omega⟩ * si ⟨d.val - 32, by omega⟩

theorem rope_coe (x : Fin 64 → ℝ) (co si : Fin 32 → ℝ) (d : Fin 64) :
    rope (fun d => (x d : EReal)) (fun i => (co i : EReal)) (fun i => (si i : EReal)) d = ((ropeR x co si d : ℝ) : EReal) := by
  unfold rope ropeR
  split
  · rw [EReal.coe_sub, EReal.coe_mul, EReal.coe_mul]
  · rw [EReal.coe_add, EReal.coe_mul, EReal.coe_mul]

/-- A query head at one position. -/
def query (U : Fin 32768 → Fin 16384 → EReal) (C S : Fin 32768 → Fin 32 → EReal) (r : Fin 32768) (h : Fin 32) : Fin 64 → EReal :=
  rope (fun d => U r ⟨8192 + (64 * h.val + d.val), by omega⟩) (C r) (S r)

/-- A key head at one position. -/
def key (P : Fin 32768 → Fin 512 → EReal) (C S : Fin 32768 → Fin 32 → EReal) (r : Fin 32768) (g : Fin 4) : Fin 64 → EReal :=
  rope (fun d => P r ⟨64 * g.val + d.val, by omega⟩) (C r) (S r)

/-- A value head at one position. -/
def value (P : Fin 32768 → Fin 512 → EReal) (r : Fin 32768) (g : Fin 4) (d : Fin 64) : EReal :=
  P r ⟨256 + (64 * g.val + d.val), by omega⟩

/-- The rows block `t` attends to: the block before it in its sequence, zero where there is none, then its own. -/
def window (x : Fin 32768 → EReal) (t j : Fin 256) : EReal :=
  if h : j.val < 128 then (if h0 : t.val % 32 = 0 then 0 else x ⟨128 * (t.val - 1) + j.val, by omega⟩)
  else x ⟨128 * t.val + (j.val - 128), by omega⟩

/-- Whether row `q` of block `t` sees the window's row `j`. -/
def seen (t : Fin 256) (q : Fin 128) (j : Fin 256) : Prop := q.val < j.val ∧ j.val ≤ q.val + 128 ∧ (t.val % 32 = 0 → 128 ≤ j.val)

instance (t : Fin 256) (q : Fin 128) (j : Fin 256) : Decidable (seen t q j) := by unfold seen; infer_instance

/-- A head's scores. -/
def scores (q : Fin 64 → EReal) (K : Fin 256 → Fin 64 → EReal) (see : Fin 256 → Prop) [DecidablePred see] (j : Fin 256) : EReal :=
  if see j then (∑ d, K j d * q d) * ((1 / 8 : ℝ) : EReal) else ⊥

/-- The largest score and the sink. -/
def top (s : Fin 256 → EReal) (sk : EReal) : EReal := max (Finset.univ.fold max ⊥ s) sk

/-- A head's output at one position: the values by the softmax of the scores with the sink. -/
def head (s : Fin 256 → EReal) (sk : EReal) (v : Fin 256 → EReal) : EReal :=
  ∑ j, v j * Ideal.div (Ideal.exp (s j - top s sk)) ((∑ i, Ideal.exp (s i - top s sk)) + Ideal.exp (sk - top s sk))

/-- The scores of a head of one row against its block's window. -/
def rowScores (U : Fin 32768 → Fin 16384 → EReal) (P : Fin 32768 → Fin 512 → EReal) (C S : Fin 32768 → Fin 32 → EReal) (r : Fin 32768) (h : Fin 32) : Fin 256 → EReal :=
  scores (query U C S r h) (fun j d => window (fun r' => key P C S r' ⟨h.val / 8, by omega⟩ d) ⟨r.val / 128, by omega⟩ j) (seen ⟨r.val / 128, by omega⟩ ⟨r.val % 128, by omega⟩)

/-- The gated output at a row and a column. -/
def out (U : Fin 32768 → Fin 16384 → EReal) (H : Fin 32768 → Fin 2048 → EReal) (W : Fin 2048 → Fin 512 → EReal) (C S : Fin 32768 → Fin 32 → EReal) (sk : Fin 32 → EReal)
    (r : Fin 32768) (l : Fin 2048) : EReal :=
  head (rowScores U (kv H W) C S r ⟨l.val / 64, by omega⟩) (sk ⟨l.val / 64, by omega⟩)
      (fun j => window (fun r' => value (kv H W) r' ⟨l.val / 512, by omega⟩ ⟨l.val % 64, by omega⟩) ⟨r.val / 128, by omega⟩ j)
    * (U r ⟨10240 + l.val, by omega⟩ * Ideal.logistic (U r ⟨10240 + l.val, by omega⟩))

/-- The kernel's form of it. -/
def head2 (s : Fin 256 → EReal) (sk : EReal) (v : Fin 256 → EReal) : EReal :=
  (∑ j, Ideal.exp2 (s j - top s sk) * v j) * Ideal.div 1 ((∑ i, Ideal.exp2 (s i - top s sk)) + Ideal.exp2 (sk - top s sk))

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The factor between the two programs' scores. -/
def lg : ℝ := (Real.log 2)⁻¹

theorem lg_pos : 0 < lg := inv_pos.mpr (Real.log_pos (by norm_num))

theorem exp2_lg (x : ℝ) : Real.rpow 2 (lg * x) = Real.exp x := by
  show (2 : ℝ) ^ (lg * x) = Real.exp x
  rw [Real.rpow_def_of_pos (by norm_num)]
  congr 1
  have : Real.log 2 ≠ 0 := (Real.log_pos (by norm_num)).ne'
  unfold lg
  field_simp

theorem lg_max (x y : EReal) : (lg : EReal) * max x y = max ((lg : EReal) * x) ((lg : EReal) * y) := by
  have hm : Monotone fun x : EReal => (lg : EReal) * x := fun a b h => mul_le_mul_of_nonneg_left h (EReal.coe_nonneg.mpr lg_pos.le)
  exact hm.map_max

theorem lg_bot : (lg : EReal) * ⊥ = ⊥ := EReal.coe_mul_bot_of_pos lg_pos

theorem top_lg (s : Fin 256 → EReal) (sk : EReal) : top (fun j => (lg : EReal) * s j) ((lg : EReal) * sk) = (lg : EReal) * top s sk := by
  unfold top
  rw [lg_max]
  congr 1
  have := Finset.fold_hom (op := (max : EReal → EReal → EReal)) (op' := (max : EReal → EReal → EReal)) (s := Finset.univ) (b := ⊥) (f := s)
    (m := fun x => (lg : EReal) * x) lg_max
  rw [← this, lg_bot]

theorem top_real (s : Fin 256 → EReal) (sk : ℝ) (hs : ∀ j, s j ≠ ⊤) : ∃ m : ℝ, top s sk = m := by
  have h1 : top s sk ≠ ⊥ := by
    intro h
    have : (sk : EReal) ≤ top s sk := le_max_right _ _
    rw [h, le_bot_iff] at this
    exact EReal.coe_ne_bot _ this
  have h2 : top s sk ≠ ⊤ := by
    have : top s sk < ⊤ := max_lt (Finset.fold_max_lt _ |>.mpr ⟨bot_lt_top, fun j _ => lt_top_iff_ne_top.mpr (hs j)⟩) (EReal.coe_lt_top _)
    exact this.ne
  exact ⟨_, (EReal.coe_toReal h2 h1).symm⟩

/-- Each exponential is a nonnegative real, the same in both forms. -/
theorem exp_real (x : EReal) (hx : x ≠ ⊤) (m : ℝ) :
    ∃ e : ℝ, 0 ≤ e ∧ Ideal.exp (x - m) = e ∧ Ideal.exp2 ((lg : EReal) * x - ((lg : EReal) * m)) = e := by
  induction x with
  | top => exact absurd rfl hx
  | bot =>
    refine ⟨0, le_refl _, ?_, ?_⟩
    · rw [EReal.bot_sub]; rfl
    · rw [lg_bot, ← EReal.coe_mul, EReal.bot_sub]; rfl
  | coe x =>
    refine ⟨Real.exp (x - m), (Real.exp_pos _).le, ?_, ?_⟩
    · rw [← EReal.coe_sub, Ideal.exp_coe]
    · rw [← EReal.coe_mul, ← EReal.coe_mul, ← EReal.coe_sub, ← mul_sub, Ideal.exp2_coe, exp2_lg]

theorem div_real (x y : ℝ) (hy : 0 < y) : Ideal.div (x : EReal) (y : EReal) = ((x * y⁻¹ : ℝ) : EReal) := by
  unfold Ideal.div
  rw [if_neg (by exact_mod_cast hy.ne'), ← EReal.coe_inv, ← EReal.coe_mul]

/-- The two forms of a head agree where no score is plus infinity and the sink and the values are real. -/
theorem head_eq (s : Fin 256 → EReal) (hs : ∀ j, s j ≠ ⊤) (sk : ℝ) (v : Fin 256 → ℝ) :
    head2 (fun j => (lg : EReal) * s j) ((lg : EReal) * sk) (fun j => (v j : EReal)) = head s sk (fun j => (v j : EReal)) := by
  obtain ⟨m, hm⟩ := top_real s sk hs
  unfold head2 head
  rw [top_lg, hm]
  choose e he h1 h2 using fun j => exp_real (s j) (hs j) m
  simp only [h1, h2]
  rw [← EReal.coe_sub, Ideal.exp_coe, ← EReal.coe_mul, ← EReal.coe_mul, ← EReal.coe_sub, ← mul_sub, Ideal.exp2_coe, exp2_lg, ← coe_sum, ← EReal.coe_add]
  have hd : 0 < (∑ j, e j) + Real.exp (sk - m) := add_pos_of_nonneg_of_pos (Finset.sum_nonneg fun j _ => he j) (Real.exp_pos _)
  rw [← EReal.coe_one, div_real _ _ hd]
  simp only [div_real _ _ hd, ← EReal.coe_mul, ← coe_sum]
  rw [EReal.coe_eq_coe_iff, one_mul, Finset.sum_mul]
  exact Finset.sum_congr rfl fun j _ => by ring

/-! Words of the masks, as integers. -/

theorem cmpi_eq (p : CmpIPredicate) (x y : BitVec 32) (P : Prop) [Decidable P] (h : (match p with
    | .slt => x.toInt < y.toInt | .sle => x.toInt ≤ y.toInt | .sgt => y.toInt < x.toInt | .sge => y.toInt ≤ x.toInt | _ => False) ↔ P)
    (hp : p = .slt ∨ p = .sle ∨ p = .sgt ∨ p = .sge) : IntOp.cmpi p x y = if P then 1#1 else 0#1 := by
  rcases hp with rfl | rfl | rfl | rfl <;> simp only at h <;> unfold IntOp.cmpi <;> simp only [BitVec.slt, BitVec.sle, h] <;> by_cases hP : P <;> simp [hP]

theorem andi_if (P Q : Prop) [Decidable P] [Decidable Q] : IntOp.andi (if P then 1#1 else 0#1) (if Q then 1#1 else 0#1) = if P ∧ Q then 1#1 else 0#1 := by
  by_cases hP : P <;> by_cases hQ : Q <;> simp [hP, hQ, IntOp.andi]

theorem toInt_word (i : Int) (h : -100000 < i) (h' : i < 100000) : (BitVec.ofInt 32 i).toInt = i := by
  rw [BitVec.toInt_ofInt, Int.bmod_def]
  norm_num
  omega

theorem word_nat (k : ℕ) : BitVec.ofNat 32 k = BitVec.ofInt 32 k := by simp

theorem word_sub (a b : ℤ) : BitVec.ofInt 32 (a - b) = BitVec.ofInt 32 a - BitVec.ofInt 32 b := by
  rw [sub_eq_add_neg, BitVec.ofInt_add, BitVec.ofInt_neg, BitVec.sub_eq_add_neg]

end Cert.SwaSpec

end
-- ==== Proof.SwaReference.lean ====
/-
  The reference's sliding-window attention, step by step: each step as the operations that make it, and read at an index
  over the extended reals.
-/
module

public import proofs.«01_k».proof.Proof.Gen.Reference5Ideal.Run
public import proofs.«01_k».proof.Proof.Dense
public import Idealize.ShloMosaic.Lib.Pointwise
public import proofs.«01_k».proof.Proof.SwaSpec

@[expose] public section

set_option maxRecDepth 16384

noncomputable section

open Idealize.ShloMosaic Idealize.ShloMosaic.TcCoe
open Cert.Reference5Ideal Cert.Reference5Ideal.Gen

namespace Cert.SwaRef

variable {F : FTy → Type} [FloatOps F]

/-- The projected keys and values. -/
def kv (H : FVec F S32768x2048 .bf16) (W : FVec F S2x2048x512 .bf16) : FVec F S32768x512 .f32 :=
  Host.dotGeneral dot_S32768x2048_S2048x512_S32768x512_1_0_0_1_n_n none (extf .f32 H bitsLt_bf16_f32)
    (extf .f32 (shapeCast S2048x512 (extractStridedSlice S1x2048x512 ![0, 0, 0] W slices_S2x2048x512_S1x2048x512_0_0_0) shapeCasts_S1x2048x512_S2048x512) bitsLt_bf16_f32)

/-- A table of the rotary embedding, with an axis for the heads. -/
def table (C : FVec F S32768x32 .f32) : FVec F S32768x1x32 .f32 := broadcastInDim S32768x1x32 ![0, 2] bcast_S32768x32_S32768x1x32_0_2 C

/-- The rotary embedding of the queries. -/
def ropeQ (x : FVec F S32768x32x64 .f32) (C Sn : FVec F S32768x32 .f32) : FVec F S32768x32x64 .f32 :=
  concatenate S32768x32x64 2 [
    ⟨S32768x32x32, subf (mulf (extractStridedSlice S32768x32x32 ![0, 0, 0] x slices_S32768x32x64_S32768x32x32_0_0_0) (broadcastInDim S32768x32x32 ![0, 1, 2] bcast_S32768x1x32_S32768x32x32_0_1_2 (table C)))
      (mulf (extractStridedSlice S32768x32x32 ![0, 0, 32] x slices_S32768x32x64_S32768x32x32_0_0_32) (broadcastInDim S32768x32x32 ![0, 1, 2] bcast_S32768x1x32_S32768x32x32_0_1_2 (table Sn)))⟩,
    ⟨S32768x32x32, addf (mulf (extractStridedSlice S32768x32x32 ![0, 0, 32] x slices_S32768x32x64_S32768x32x32_0_0_32) (broadcastInDim S32768x32x32 ![0, 1, 2] bcast_S32768x1x32_S32768x32x32_0_1_2 (table C)))
      (mulf (extractStridedSlice S32768x32x32 ![0, 0, 0] x slices_S32768x32x64_S32768x32x32_0_0_0) (broadcastInDim S32768x32x32 ![0, 1, 2] bcast_S32768x1x32_S32768x32x32_0_1_2 (table Sn)))⟩]
    concatenates_S32768x32x32_S32768x32x32_S32768x32x64_d2

/-- The rotary embedding of the keys. -/
def ropeK (x : FVec F S32768x4x64 .f32) (C Sn : FVec F S32768x32 .f32) : FVec F S32768x4x64 .f32 :=
  concatenate S32768x4x64 2 [
    ⟨S32768x4x32, subf (mulf (extractStridedSlice S32768x4x32 ![0, 0, 0] x slices_S32768x4x64_S32768x4x32_0_0_0) (broadcastInDim S32768x4x32 ![0, 1, 2] bcast_S32768x1x32_S32768x4x32_0_1_2 (table C)))
      (mulf (extractStridedSlice S32768x4x32 ![0, 0, 32] x slices_S32768x4x64_S32768x4x32_0_0_32) (broadcastInDim S32768x4x32 ![0, 1, 2] bcast_S32768x1x32_S32768x4x32_0_1_2 (table Sn)))⟩,
    ⟨S32768x4x32, addf (mulf (extractStridedSlice S32768x4x32 ![0, 0, 32] x slices_S32768x4x64_S32768x4x32_0_0_32) (broadcastInDim S32768x4x32 ![0, 1, 2] bcast_S32768x1x32_S32768x4x32_0_1_2 (table C)))
      (mulf (extractStridedSlice S32768x4x32 ![0, 0, 0] x slices_S32768x4x64_S32768x4x32_0_0_0) (broadcastInDim S32768x4x32 ![0, 1, 2] bcast_S32768x1x32_S32768x4x32_0_1_2 (table Sn)))⟩]
    concatenates_S32768x4x32_S32768x4x32_S32768x4x64_d2

/-- The queries after the embedding, by sequence, block, row, group, head and lane. -/
def queries (U : FVec F S32768x16384 .bf16) (C Sn : FVec F S32768x32 .f32) : FVec F S8x32x128x4x8x64 .f32 :=
  shapeCast S8x32x128x4x8x64 (ropeQ (shapeCast S32768x32x64 (extf .f32 (extractStridedSlice S32768x2048 ![0, 8192] U slices_S32768x16384_S32768x2048_0_8192) bitsLt_bf16_f32) shapeCasts_S32768x2048_S32768x32x64) C Sn)
    shapeCasts_S32768x32x64_S8x32x128x4x8x64

/-- The keys after the embedding, by sequence, block, row, head and lane. -/
def keys1 (P : FVec F S32768x512 .f32) (C Sn : FVec F S32768x32 .f32) : FVec F S8x32x128x4x64 .f32 :=
  shapeCast S8x32x128x4x64 (ropeK (shapeCast S32768x4x64 (extractStridedSlice S32768x256 ![0, 0] P slices_S32768x512_S32768x256_0_0) shapeCasts_S32768x256_S32768x4x64) C Sn)
    shapeCasts_S32768x4x64_S8x32x128x4x64

/-- The values, by sequence, block, row, head and lane. -/
def vals1 (P : FVec F S32768x512 .f32) : FVec F S8x32x128x4x64 .f32 :=
  shapeCast S8x32x128x4x64 (extractStridedSlice S32768x256 ![0, 256] P slices_S32768x512_S32768x256_0_256) shapeCasts_S32768x256_S8x32x128x4x64

/-- Each block's rows under the rows of the block before it, which are zero for the first block. -/
def window (x : FVec F S8x32x128x4x64 .f32) : FVec F S8x32x256x4x64 .f32 :=
  concatenate S8x32x256x4x64 2 [
    ⟨S8x32x128x4x64, extractStridedSlice S8x32x128x4x64 ![0, 0, 0, 0, 0] (pad S8x33x128x4x64 ![0, 1, 0, 0, 0] ![0, 0, 0, 0, 0] ![0, 0, 0, 0, 0] x (sitofp .f32 (constantI S_ 32 0#32)) pads_S8x32x128x4x64_S8x33x128x4x64_000_100_000_000_000 h_S_) slices_S8x33x128x4x64_S8x32x128x4x64_0_0_0_0_0⟩,
    ⟨S8x32x128x4x64, x⟩] concatenates_S8x32x128x4x64_S8x32x128x4x64_S8x32x256x4x64_d2

/-- The positions of the queries. -/
def qpos : IVec S32x128 32 :=
  addi (broadcastInDim S32x128 ![0, 1] bcast_S32x1_S32x128_0_1 (muli (broadcastInDim S32x1 ![0] bcast_S32_S32x1_0 (iotaInDim S32 32 0)) (broadcastInDim S32x1 ![] bcast_S_S32x1 (constantI S_ 32 128#32))))
    (broadcastInDim S32x128 ![0, 1] bcast_S1x128_S32x128_0_1 (broadcastInDim S1x128 ![1] bcast_S128_S1x128_1 (iotaInDim S128 32 0)))

/-- The positions of the keys. -/
def kpos : IVec S32x256 32 :=
  addi (broadcastInDim S32x256 ![0, 1] bcast_S32x1_S32x256_0_1 (subi (muli (broadcastInDim S32x1 ![0] bcast_S32_S32x1_0 (iotaInDim S32 32 0)) (broadcastInDim S32x1 ![] bcast_S_S32x1 (constantI S_ 32 128#32))) (broadcastInDim S32x1 ![] bcast_S_S32x1 (constantI S_ 32 128#32))))
    (broadcastInDim S32x256 ![0, 1] bcast_S1x256_S32x256_0_1 (broadcastInDim S1x256 ![1] bcast_S256_S1x256_1 (iotaInDim S256 32 0)))

/-- How far a key is behind a query. -/
def diff : IVec S32x128x256 32 :=
  subi (broadcastInDim S32x128x256 ![0, 1, 2] bcast_S32x128x1_S32x128x256_0_1_2 (broadcastInDim S32x128x1 ![0, 1] bcast_S32x128_S32x128x1_0_1 qpos))
    (broadcastInDim S32x128x256 ![0, 1, 2] bcast_S32x1x256_S32x128x256_0_1_2 (broadcastInDim S32x1x256 ![0, 2] bcast_S32x256_S32x1x256_0_2 kpos))

/-- Which keys a query sees. -/
def valid : IVec S32x128x256 1 :=
  andi (andi (cmpi .sge diff (broadcastInDim S32x128x256 ![] bcast_S_S32x128x256 (constantI S_ 32 0#32))) (cmpi .slt diff (broadcastInDim S32x128x256 ![] bcast_S_S32x128x256 (constantI S_ 32 128#32))))
    (broadcastInDim S32x128x256 ![0, 1, 2] bcast_S32x1x256_S32x128x256_0_1_2 (cmpi .sge (broadcastInDim S32x1x256 ![0, 2] bcast_S32x256_S32x1x256_0_2 kpos) (broadcastInDim S32x1x256 ![] bcast_S_S32x1x256 (constantI S_ 32 0#32))))

/-- The scores, those of unseen keys minus infinity. -/
def scores (Q : FVec F S8x32x128x4x8x64 .f32) (K : FVec F S8x32x256x4x64 .f32) : FVec F S8x32x4x8x128x256 .f32 :=
  select (broadcastInDim S8x32x4x8x128x256 ![0, 1, 2, 3, 4, 5] bcast_S1x32x1x1x128x256_S8x32x4x8x128x256_0_1_2_3_4_5 (broadcastInDim S1x32x1x1x128x256 ![1, 4, 5] bcast_S32x128x256_S1x32x1x1x128x256_1_4_5 valid))
    (mulf (transpose S8x32x4x8x128x256 [0, 1, 2, 5, 4, 3] (Host.dotGeneral dot_S8x32x256x4x64_S8x32x128x4x8x64_S8x32x4x256x128x8_4_5_2_24_013_013 none K Q) transposes_S8x32x4x256x128x8_S8x32x4x8x128x256_0_1_2_5_4_3)
      (broadcastInDim S8x32x4x8x128x256 ![] bcast_S_S8x32x4x8x128x256 (constant S_ .f32 0x3E000000#32)))
    (broadcastInDim S8x32x4x8x128x256 ![] bcast_S_S8x32x4x8x128x256 (id (constant S_ .f32 0xFF800000#32)))

/-- The sinks, by group and head. -/
def sinks6 (SK : FVec F S32 .f32) : FVec F S1x1x4x8x1x1 .f32 := broadcastInDim S1x1x4x8x1x1 ![2, 3] bcast_S4x8_S1x1x4x8x1x1_2_3 (shapeCast S4x8 SK shapeCasts_S32_S4x8)

/-- The largest of a row's scores and the sink. -/
def rowMax (s : FVec F S8x32x4x8x128x256 .f32) (SK : FVec F S32 .f32) : FVec F S8x32x4x8x128x1 .f32 :=
  maximumf (broadcastInDim S8x32x4x8x128x1 ![0, 1, 2, 3, 4] bcast_S8x32x4x8x128_S8x32x4x8x128x1_0_1_2_3_4 (Host.reduce FloatOps.maximumf s (constant S_ .f32 0xFF800000#32) reducesTo_S8x32x4x8x128x256_S8x32x4x8x128_d5 h_S_))
    (broadcastInDim S8x32x4x8x128x1 ![0, 1, 2, 3, 4, 5] bcast_S1x1x4x8x1x1_S8x32x4x8x128x1_0_1_2_3_4_5 (sinks6 SK))

/-- The exponentials of a row's scores. -/
def weights (s : FVec F S8x32x4x8x128x256 .f32) (SK : FVec F S32 .f32) : FVec F S8x32x4x8x128x256 .f32 :=
  Host.exp (subf s (broadcastInDim S8x32x4x8x128x256 ![0, 1, 2, 3, 4, 5] bcast_S8x32x4x8x128x1_S8x32x4x8x128x256_0_1_2_3_4_5 (rowMax s SK)))

/-- The probabilities. -/
def probs (s : FVec F S8x32x4x8x128x256 .f32) (SK : FVec F S32 .f32) : FVec F S8x32x4x8x128x256 .f32 :=
  Host.divf (weights s SK) (broadcastInDim S8x32x4x8x128x256 ![0, 1, 2, 3, 4, 5] bcast_S8x32x4x8x128x1_S8x32x4x8x128x256_0_1_2_3_4_5
    (addf (broadcastInDim S8x32x4x8x128x1 ![0, 1, 2, 3, 4] bcast_S8x32x4x8x128_S8x32x4x8x128x1_0_1_2_3_4 (Host.reduceAdd (weights s SK) (constant S_ .f32 0x00000000#32) reducesTo_S8x32x4x8x128x256_S8x32x4x8x128_d5 h_S_))
      (Host.exp (subf (broadcastInDim S8x32x4x8x128x1 ![0, 1, 2, 3, 4, 5] bcast_S1x1x4x8x1x1_S8x32x4x8x128x1_0_1_2_3_4_5 (sinks6 SK)) (rowMax s SK)))))

/-- The attention's output by row and column. -/
def attended (V : FVec F S8x32x256x4x64 .f32) (p : FVec F S8x32x4x8x128x256 .f32) : FVec F S32768x2048 .f32 :=
  shapeCast S32768x2048 (transpose S8x32x128x4x8x64 [0, 1, 5, 2, 4, 3] (Host.dotGeneral dot_S8x32x256x4x64_S8x32x4x8x128x256_S8x32x4x64x8x128_2_5_4_34_013_012 none V p) transposes_S8x32x4x64x8x128_S8x32x128x4x8x64_0_1_5_2_4_3)
    shapeCasts_S8x32x128x4x8x64_S32768x2048

/-- The gate. -/
def gate (U : FVec F S32768x16384 .bf16) : FVec F S32768x2048 .f32 :=
  mulf (extf .f32 (extractStridedSlice S32768x2048 ![0, 10240] U slices_S32768x16384_S32768x2048_0_10240) bitsLt_bf16_f32)
    (Host.divf (broadcastInDim S32768x2048 ![] bcast_S_S32768x2048 (constant S_ .f32 0x3F800000#32)) (addf (broadcastInDim S32768x2048 ![] bcast_S_S32768x2048 (constant S_ .f32 0x3F800000#32))
      (Host.exp (Host.negf (extf .f32 (extractStridedSlice S32768x2048 ![0, 10240] U slices_S32768x16384_S32768x2048_0_10240) bitsLt_bf16_f32)))))

/-- The reference's first result. -/
def result (U : FVec F S32768x16384 .bf16) (H : FVec F S32768x2048 .bf16) (W : FVec F S2x2048x512 .bf16) (C Sn : FVec F S32768x32 .f32) (SK : FVec F S32 .f32) : FVec F S32768x2048 .bf16 :=
  truncf .bf16 (mulf (attended (window (vals1 (kv H W))) (probs (scores (queries U C Sn) (window (keys1 (kv H W) C Sn))) SK)) (gate U)) bitsLt_bf16_f32

theorem res_eq (m : (ℓ : Loc nD τ sig) → Buf (Elt F) ℓ) (c : Dev nD) :
    Value.res_main_v115 m c = result (m ((c.tc : Thread nD τ).loc main_arg0)) (m ((c.tc : Thread nD τ).loc main_arg1)) (m ((c.tc : Thread nD τ).loc main_arg2))
      (m ((c.tc : Thread nD τ).loc main_arg4)) (m ((c.tc : Thread nD τ).loc main_arg5)) (m ((c.tc : Thread nD τ).loc main_arg6)) := rfl

theorem kv_apply (H : FVec Ideal S32768x2048 .bf16) (W : FVec Ideal S2x2048x512 .bf16) (r : Fin 32768) (l : Fin 512) :
    kv H W (ix2 r l) = SwaSpec.kv (fun r k => H (ix2 r k)) (fun k c => W (ix3 (0 : Fin 2) k c)) r l := by
  unfold kv SwaSpec.kv
  pointwise

theorem ropeQ_apply (x : FVec Ideal S32768x32x64 .f32) (C Sn : FVec Ideal S32768x32 .f32) (r : Fin 32768) (h : Fin 32) (l : Fin 64) :
    ropeQ x C Sn (ix3 r h l) = SwaSpec.rope (fun d => x (ix3 r h d)) (fun i => C (ix2 r i)) (fun i => Sn (ix2 r i)) l := by
  unfold ropeQ table SwaSpec.rope
  pointwise
  split
  · rfl
  · next hl =>
    have e : (⟨32 + (l.val - 32), by omega⟩ : Fin 64) = l := Fin.ext (by show 32 + (l.val - 32) = l.val; omega)
    rw [e]

theorem ropeK_apply (x : FVec Ideal S32768x4x64 .f32) (C Sn : FVec Ideal S32768x32 .f32) (r : Fin 32768) (h : Fin 4) (l : Fin 64) :
    ropeK x C Sn (ix3 r h l) = SwaSpec.rope (fun d => x (ix3 r h d)) (fun i => C (ix2 r i)) (fun i => Sn (ix2 r i)) l := by
  unfold ropeK table SwaSpec.rope
  pointwise
  split
  · rfl
  · next hl =>
    have e : (⟨32 + (l.val - 32), by omega⟩ : Fin 64) = l := Fin.ext (by show 32 + (l.val - 32) = l.val; omega)
    rw [e]

/-- The row of sequence `b`, block `n`, position `q`. -/
def row (b : Fin 8) (n : Fin 32) (q : Fin 128) : Fin 32768 := ⟨b.val * 4096 + n.val * 128 + q.val, by omega⟩

theorem queries_apply (U : FVec Ideal S32768x16384 .bf16) (C Sn : FVec Ideal S32768x32 .f32) (b : Fin 8) (n : Fin 32) (q : Fin 128) (g : Fin 4) (e : Fin 8) (l : Fin 64) :
    queries U C Sn (ix6 b n q g e l) = SwaSpec.query (fun r k => U (ix2 r k)) (fun r i => C (ix2 r i)) (fun r i => Sn (ix2 r i)) (row b n q) ⟨g.val * 8 + e.val, by omega⟩ l := by
  unfold queries
  pointwise
  rw [ropeQ_apply]
  unfold SwaSpec.query
  congr 1
  funext d
  pointwise
  exact congrArg U (congrArg₂ ix2 rfl (Fin.ext (by show 8192 + ((g.val * 8 + e.val) * 64 + d.val) = 8192 + (64 * (g.val * 8 + e.val) + d.val); omega)))

theorem keys1_apply (P : FVec Ideal S32768x512 .f32) (C Sn : FVec Ideal S32768x32 .f32) (b : Fin 8) (n : Fin 32) (q : Fin 128) (g : Fin 4) (l : Fin 64) :
    keys1 P C Sn (ix5 b n q g l) = SwaSpec.key (fun r k => P (ix2 r k)) (fun r i => C (ix2 r i)) (fun r i => Sn (ix2 r i)) (row b n q) g l := by
  unfold keys1
  pointwise
  rw [ropeK_apply]
  unfold SwaSpec.key
  congr 1
  funext d
  pointwise
  exact congrArg P (congrArg₂ ix2 rfl (Fin.ext (by show g.val * 64 + d.val = 64 * g.val + d.val; omega)))

theorem vals1_apply (P : FVec Ideal S32768x512 .f32) (b : Fin 8) (n : Fin 32) (q : Fin 128) (g : Fin 4) (l : Fin 64) :
    vals1 P (ix5 b n q g l) = SwaSpec.value (fun r k => P (ix2 r k)) (row b n q) g l := by
  unfold vals1 SwaSpec.value
  pointwise
  exact congrArg P (congrArg₂ ix2 rfl (Fin.ext (by show 256 + (g.val * 64 + l.val) = 256 + (64 * g.val + l.val); omega)))

theorem zero_int : (FloatOps.sitofp FTy.f32 0#32 : Ideal .f32) = (0 : EReal) := by
  show ((((0#32).toInt : ℝ)) : EReal) = 0
  simp

/-- A window of rows, by its block. -/
theorem window_apply (x : FVec Ideal S8x32x128x4x64 .f32) (b : Fin 8) (n : Fin 32) (q : Fin 256) (g : Fin 4) (l : Fin 64) (y : Fin 32768 → EReal)
    (hy : ∀ b n q, x (ix5 b n q g l) = y (row b n q)) :
    window x (ix5 b n q g l) = SwaSpec.window y ⟨b.val * 32 + n.val, by omega⟩ q := by
  unfold window SwaSpec.window
  pointwise
  split
  · next hq =>
    split
    · next hn =>
      rw [dif_neg (by show ¬ (b.val * 32 + n.val) % 32 = 0; omega), hy]
      exact congrArg y (Fin.ext (by show b.val * 4096 + (n.val - 1) * 128 + q.val = 128 * (b.val * 32 + n.val - 1) + q.val; omega))
    · next hn =>
      rw [dif_pos (by show (b.val * 32 + n.val) % 32 = 0; omega), zero_int]
  · next hq =>
    rw [hy]
    exact congrArg y (Fin.ext (by show b.val * 4096 + n.val * 128 + (q.val - 128) = 128 * (b.val * 32 + n.val) + (q.val - 128); omega))

theorem valid_apply (b : Fin 8) (n : Fin 32) (q : Fin 128) (l : Fin 256) :
    valid (ix3 n q l) = if SwaSpec.seen ⟨b.val * 32 + n.val, by omega⟩ q l then 1#1 else 0#1 := by
  unfold valid diff qpos kpos
  pointwise
  have e0 : IntOp.addi (IntOp.subi (IntOp.muli (BitVec.ofNat 32 n.val) 128#32) 128#32) (BitVec.ofNat 32 l.val) = BitVec.ofInt 32 ((n.val : ℤ) * 128 - 128 + l.val) := by
    unfold IntOp.addi IntOp.subi IntOp.muli
    rw [SwaSpec.word_nat, SwaSpec.word_nat l.val, BitVec.ofInt_add, SwaSpec.word_sub, BitVec.ofInt_mul]; rfl
  have e1 : (IntOp.subi (IntOp.addi (IntOp.muli (BitVec.ofNat 32 n.val) 128#32) (BitVec.ofNat 32 q.val))
      (IntOp.addi (IntOp.subi (IntOp.muli (BitVec.ofNat 32 n.val) 128#32) 128#32) (BitVec.ofNat 32 l.val)))
      = BitVec.ofInt 32 ((n.val : ℤ) * 128 + q.val - (n.val * 128 - 128 + l.val)) := by
    rw [e0]
    unfold IntOp.addi IntOp.subi IntOp.muli
    rw [SwaSpec.word_nat, SwaSpec.word_nat q.val, SwaSpec.word_sub, BitVec.ofInt_add ((n.val : ℤ) * 128) q.val, BitVec.ofInt_mul (n.val : ℤ) 128]; rfl
  have b1 : -100000 < (n.val : ℤ) * 128 + q.val - (n.val * 128 - 128 + l.val) ∧ (n.val : ℤ) * 128 + q.val - (n.val * 128 - 128 + l.val) < 100000 := by omega
  have b2 : -100000 < (n.val : ℤ) * 128 - 128 + l.val ∧ (n.val : ℤ) * 128 - 128 + l.val < 100000 := by omega
  rw [e1, e0, SwaSpec.cmpi_eq .sge _ _ (l.val ≤ q.val + 128) (by simp only [SwaSpec.toInt_word _ b1.1 b1.2]; simp; omega) (by simp),
    SwaSpec.cmpi_eq .slt _ _ (q.val < l.val) (by simp only [SwaSpec.toInt_word _ b1.1 b1.2]; simp; omega) (by simp),
    SwaSpec.cmpi_eq .sge _ _ (n.val = 0 → 128 ≤ l.val) (by simp only [SwaSpec.toInt_word _ b2.1 b2.2]; simp; omega) (by simp), SwaSpec.andi_if, SwaSpec.andi_if]
  refine if_congr ?_ rfl rfl
  unfold SwaSpec.seen
  have : (b.val * 32 + n.val) % 32 = n.val := by omega
  show _ ↔ q.val < l.val ∧ l.val ≤ q.val + 128 ∧ ((b.val * 32 + n.val) % 32 = 0 → 128 ≤ l.val)
  rw [this]
  tauto

theorem eighth : Ideal.ofBits FTy.f32 0x3E000000#32 = ((1 / 8 : ℝ) : EReal) := by
  simp [Ideal.ofBits, Ideal.ieee]
  rw [← EReal.coe_mul, EReal.coe_eq_coe_iff]
  norm_num

theorem minus_inf : Ideal.ofBits FTy.f32 0xFF800000#32 = ⊥ := by
  simp [Ideal.ofBits, Ideal.ieee]

theorem scores_apply (Q : FVec Ideal S8x32x128x4x8x64 .f32) (K : FVec Ideal S8x32x256x4x64 .f32) (b : Fin 8) (n : Fin 32) (q : Fin 128) (g : Fin 4) (e : Fin 8) (l : Fin 256) :
    scores Q K (ix6 b n g e q l) = SwaSpec.scores (fun d => Q (ix6 b n q g e d)) (fun j d => K (ix5 b n j g d)) (SwaSpec.seen ⟨b.val * 32 + n.val, by omega⟩ q) l := by
  unfold scores SwaSpec.scores
  pointwise
  rw [valid_apply b, eighth]
  have : (id (constant S_ FTy.f32 4286578688#32) ix0 : Ideal .f32) = (⊥ : EReal) := minus_inf
  rw [this]
  split
  · rfl
  · rfl

theorem sinks6_apply (SK : FVec Ideal S32 .f32) (g : Fin 4) (e : Fin 8) :
    sinks6 SK (ix6 (0 : Fin 1) (0 : Fin 1) g e (0 : Fin 1) (0 : Fin 1)) = SK (ix1 ⟨g.val * 8 + e.val, by omega⟩) := by
  unfold sinks6
  pointwise

theorem lift_eq (hr : S8x32x4x8x128x256.Reduces [5] S8x32x4x8x128) (b : Fin 8) (n : Fin 32) (q : Fin 128) (g : Fin 4) (e : Fin 8) (l : Fin 256) :
    hr.lift (ix5 b n g e q) l = ix6 b n g e q l := by
  funext a
  fin_cases a <;> rfl

theorem reduces6 : S8x32x4x8x128x256.Reduces [5] S8x32x4x8x128 := by decide

theorem max_single {s t : Shape} {a : Fin s.rank} {u : Shape} (x : s.Idx → EReal) (c : u.Idx → EReal) (h' : s.ReducesTo [a] t) (h : s.Reduces [a] t)
    (hu : 0 < u.numel) (j : t.Idx) : Host.reduce max x c h' hu j = Finset.univ.fold max (c (Shape.Idx.first hu)) fun k : Fin (s.size a) => x (h.lift j k) := by
  rw [Host.reduce_eq_fold_single max x c h' h hu]
  rfl

theorem add_single {s t : Shape} {a : Fin s.rank} {u : Shape} (x : s.Idx → EReal) (c : u.Idx → EReal) (h' : s.ReducesTo [a] t) (h : s.Reduces [a] t)
    (hu : 0 < u.numel) (j : t.Idx) : Host.reduceAdd (F := Ideal) (φ := .f32) x c h' hu j = c (Shape.Idx.first hu) + ∑ k : Fin (s.size a), x (h.lift j k) :=
  Ideal.hostReduceAdd_single h' h x _ j

theorem fold_congr (c d : EReal) (hc : c = d) (f g : Fin 256 → EReal) (h : ∀ l, f l = g l) :
    (Finset.univ : Finset (Fin 256)).fold max c f = (Finset.univ : Finset (Fin 256)).fold max d g := by rw [hc, funext h]

theorem reduce_max (s : FVec Ideal S8x32x4x8x128x256 .f32) (b : Fin 8) (n : Fin 32) (q : Fin 128) (g : Fin 4) (e : Fin 8) :
    Host.reduce (FloatOps.maximumf (F := Ideal) (φ := .f32)) s (constant (F := Ideal) S_ .f32 0xFF800000#32) reducesTo_S8x32x4x8x128x256_S8x32x4x8x128_d5 h_S_ (ix5 b n g e q)
      = (Finset.univ : Finset (Fin 256)).fold max ⊥ fun l => s (ix6 b n g e q l) :=
  (max_single s (constant (F := Ideal) S_ .f32 0xFF800000#32) reducesTo_S8x32x4x8x128x256_S8x32x4x8x128_d5 reduces6 h_S_ (ix5 b n g e q)).trans
    (fold_congr _ _ minus_inf _ _ fun l => congrArg s (lift_eq reduces6 b n q g e l))

theorem reduce_add (s : FVec Ideal S8x32x4x8x128x256 .f32) (b : Fin 8) (n : Fin 32) (q : Fin 128) (g : Fin 4) (e : Fin 8) :
    Host.reduceAdd s (constant (F := Ideal) S_ .f32 0x00000000#32) reducesTo_S8x32x4x8x128x256_S8x32x4x8x128_d5 h_S_ (ix5 b n g e q)
      = ∑ l : Fin 256, s (ix6 b n g e q l) := by
  refine (add_single s (constant (F := Ideal) S_ .f32 0x00000000#32) reducesTo_S8x32x4x8x128x256_S8x32x4x8x128_d5 reduces6 h_S_ (ix5 b n g e q)).trans ?_
  have h1 : (constant (F := Ideal) S_ .f32 0x00000000#32) (Shape.Idx.first h_S_) = (0 : EReal) := Ideal.ofBits_zero_f32
  rw [h1, zero_add]
  exact Finset.sum_congr rfl fun l _ => congrArg s (lift_eq reduces6 b n q g e l)

theorem max_of (z : FVec Ideal S8x32x4x8x128 .f32) (k : FVec Ideal S1x1x4x8x1x1 .f32) (b : Fin 8) (n : Fin 32) (q : Fin 128) (g : Fin 4) (e : Fin 8) :
    maximumf (broadcastInDim S8x32x4x8x128x1 ![0, 1, 2, 3, 4] bcast_S8x32x4x8x128_S8x32x4x8x128x1_0_1_2_3_4 z)
      (broadcastInDim S8x32x4x8x128x1 ![0, 1, 2, 3, 4, 5] bcast_S1x1x4x8x1x1_S8x32x4x8x128x1_0_1_2_3_4_5 k) (ix6 b n g e q (0 : Fin 1))
      = max (z (ix5 b n g e q)) (k (ix6 (0 : Fin 1) (0 : Fin 1) g e (0 : Fin 1) (0 : Fin 1))) := by
  pointwise

theorem rowMax_apply (s : FVec Ideal S8x32x4x8x128x256 .f32) (SK : FVec Ideal S32 .f32) (b : Fin 8) (n : Fin 32) (q : Fin 128) (g : Fin 4) (e : Fin 8) :
    rowMax s SK (ix6 b n g e q (0 : Fin 1)) = SwaSpec.top (fun l => s (ix6 b n g e q l)) (SK (ix1 ⟨g.val * 8 + e.val, by omega⟩)) :=
  (max_of _ _ b n q g e).trans (congrArg₂ max (reduce_max s b n q g e) (sinks6_apply SK g e))

theorem weights_apply (s : FVec Ideal S8x32x4x8x128x256 .f32) (SK : FVec Ideal S32 .f32) (b : Fin 8) (n : Fin 32) (q : Fin 128) (g : Fin 4) (e : Fin 8) (l : Fin 256) :
    weights s SK (ix6 b n g e q l) = Ideal.exp (s (ix6 b n g e q l) - SwaSpec.top (fun l => s (ix6 b n g e q l)) (SK (ix1 ⟨g.val * 8 + e.val, by omega⟩))) := by
  unfold weights
  generalize hk : rowMax s SK = k
  pointwise
  rw [← hk, rowMax_apply]

theorem probs_of (w : FVec Ideal S8x32x4x8x128x256 .f32) (z : FVec Ideal S8x32x4x8x128 .f32) (k : FVec Ideal S1x1x4x8x1x1 .f32) (k2 : FVec Ideal S8x32x4x8x128x1 .f32)
    (b : Fin 8) (n : Fin 32) (q : Fin 128) (g : Fin 4) (e : Fin 8) (l : Fin 256) :
    Host.divf w (broadcastInDim S8x32x4x8x128x256 ![0, 1, 2, 3, 4, 5] bcast_S8x32x4x8x128x1_S8x32x4x8x128x256_0_1_2_3_4_5
      (addf (broadcastInDim S8x32x4x8x128x1 ![0, 1, 2, 3, 4] bcast_S8x32x4x8x128_S8x32x4x8x128x1_0_1_2_3_4 z)
        (Host.exp (subf (broadcastInDim S8x32x4x8x128x1 ![0, 1, 2, 3, 4, 5] bcast_S1x1x4x8x1x1_S8x32x4x8x128x1_0_1_2_3_4_5 k) k2)))) (ix6 b n g e q l)
      = Ideal.div (w (ix6 b n g e q l)) (z (ix5 b n g e q) + Ideal.exp (k (ix6 (0 : Fin 1) (0 : Fin 1) g e (0 : Fin 1) (0 : Fin 1)) - k2 (ix6 b n g e q (0 : Fin 1)))) := by
  pointwise

theorem probs_apply (s : FVec Ideal S8x32x4x8x128x256 .f32) (SK : FVec Ideal S32 .f32) (b : Fin 8) (n : Fin 32) (q : Fin 128) (g : Fin 4) (e : Fin 8) (l : Fin 256)
    (sk : EReal) (hsk : sk = SK (ix1 ⟨g.val * 8 + e.val, by omega⟩)) (s' : Fin 256 → EReal) (hs' : ∀ l, s (ix6 b n g e q l) = s' l) :
    probs s SK (ix6 b n g e q l) = Ideal.div (Ideal.exp (s' l - SwaSpec.top s' sk)) ((∑ i, Ideal.exp (s' i - SwaSpec.top s' sk)) + Ideal.exp (sk - SwaSpec.top s' sk)) := by
  have hw : ∀ l, weights s SK (ix6 b n g e q l) = Ideal.exp (s' l - SwaSpec.top s' sk) := fun l => by
    rw [weights_apply, hsk]; simp only [hs']
  have hm : rowMax s SK (ix6 b n g e q (0 : Fin 1)) = SwaSpec.top s' sk := by rw [rowMax_apply, hsk]; simp only [hs']
  have hk := sinks6_apply SK g e
  rw [← hsk] at hk
  have h : Host.reduceAdd (weights s SK) (constant (F := Ideal) S_ .f32 0x00000000#32) reducesTo_S8x32x4x8x128x256_S8x32x4x8x128_d5 h_S_ (ix5 b n g e q)
      = ∑ l : Fin 256, Ideal.exp (s' l - SwaSpec.top s' sk) := by rw [reduce_add]; simp only [hw]
  refine (probs_of _ _ _ _ b n q g e l).trans ?_
  rw [hw, h, hm, hk]

theorem attended_apply (V : FVec Ideal S8x32x256x4x64 .f32) (p : FVec Ideal S8x32x4x8x128x256 .f32) (r : Fin 32768) (l : Fin 2048) :
    attended V p (ix2 r l) = ∑ j : Fin 256, V (ix5 (⟨r.val / 4096, by omega⟩ : Fin 8) (⟨r.val / 128 % 32, by omega⟩ : Fin 32) j (⟨l.val / 512, by omega⟩ : Fin 4) (⟨l.val % 64, by omega⟩ : Fin 64))
      * p (ix6 (⟨r.val / 4096, by omega⟩ : Fin 8) (⟨r.val / 128 % 32, by omega⟩ : Fin 32) (⟨l.val / 512, by omega⟩ : Fin 4) (⟨l.val / 64 % 8, by omega⟩ : Fin 8) (⟨r.val % 128, by omega⟩ : Fin 128) j) := by
  unfold attended
  pointwise

theorem gate_apply (U : FVec Ideal S32768x16384 .bf16) (r : Fin 32768) (l : Fin 2048) :
    gate U (ix2 r l) = U (ix2 r ⟨10240 + l.val, by omega⟩) * Ideal.logistic (U (ix2 r ⟨10240 + l.val, by omega⟩)) := by
  unfold gate Ideal.logistic
  pointwise

/-- The scores of a row and a head. -/
theorem scores_row (U : FVec Ideal S32768x16384 .bf16) (P : FVec Ideal S32768x512 .f32) (C Sn : FVec Ideal S32768x32 .f32)
    (b : Fin 8) (n : Fin 32) (q : Fin 128) (g : Fin 4) (e : Fin 8) (j : Fin 256) :
    scores (queries U C Sn) (window (keys1 P C Sn)) (ix6 b n g e q j)
      = SwaSpec.rowScores (fun r k => U (ix2 r k)) (fun r k => P (ix2 r k)) (fun r i => C (ix2 r i)) (fun r i => Sn (ix2 r i)) (row b n q) ⟨g.val * 8 + e.val, by omega⟩ j := by
  have ht : (⟨(row b n q).val / 128, by omega⟩ : Fin 256) = ⟨b.val * 32 + n.val, by omega⟩ :=
    Fin.ext (by show (b.val * 4096 + n.val * 128 + q.val) / 128 = b.val * 32 + n.val; omega)
  have hq : (⟨(row b n q).val % 128, by omega⟩ : Fin 128) = q := Fin.ext (by show (b.val * 4096 + n.val * 128 + q.val) % 128 = q.val; omega)
  have hg : (⟨(⟨g.val * 8 + e.val, by omega⟩ : Fin 32).val / 8, by omega⟩ : Fin 4) = g := Fin.ext (by show (g.val * 8 + e.val) / 8 = g.val; omega)
  rw [scores_apply]
  unfold SwaSpec.rowScores
  rw [ht, hq, hg]
  have h1 : (fun d => queries U C Sn (ix6 b n q g e d)) = SwaSpec.query (fun r k => U (ix2 r k)) (fun r i => C (ix2 r i)) (fun r i => Sn (ix2 r i)) (row b n q) ⟨g.val * 8 + e.val, by omega⟩ :=
    funext fun d => queries_apply U C Sn b n q g e d
  have h2 : (fun (j : Fin 256) d => window (keys1 P C Sn) (ix5 b n j g d))
      = fun j d => SwaSpec.window (fun r' => SwaSpec.key (fun r k => P (ix2 r k)) (fun r i => C (ix2 r i)) (fun r i => Sn (ix2 r i)) r' g d) ⟨b.val * 32 + n.val, by omega⟩ j :=
    funext fun j => funext fun d => window_apply (keys1 P C Sn) b n j g d _ fun b n q => keys1_apply P C Sn b n q g d
  rw [h1, h2]

/-- The attention's output, by sequence, block, row, group, head and lane. -/
theorem attended_row (U : FVec Ideal S32768x16384 .bf16) (P : FVec Ideal S32768x512 .f32) (C Sn : FVec Ideal S32768x32 .f32) (SK : FVec Ideal S32 .f32)
    (b : Fin 8) (n : Fin 32) (q : Fin 128) (g : Fin 4) (e : Fin 8) (d : Fin 64) :
    ∑ j : Fin 256, window (vals1 P) (ix5 b n j g d) * probs (scores (queries U C Sn) (window (keys1 P C Sn))) SK (ix6 b n g e q j)
      = SwaSpec.head (SwaSpec.rowScores (fun r k => U (ix2 r k)) (fun r k => P (ix2 r k)) (fun r i => C (ix2 r i)) (fun r i => Sn (ix2 r i)) (row b n q) ⟨g.val * 8 + e.val, by omega⟩)
          (SK (ix1 ⟨g.val * 8 + e.val, by omega⟩)) (fun j => SwaSpec.window (fun r' => SwaSpec.value (fun r k => P (ix2 r k)) r' g d) ⟨b.val * 32 + n.val, by omega⟩ j) := by
  unfold SwaSpec.head
  refine Finset.sum_congr rfl fun j _ => ?_
  exact congrArg₂ _ (window_apply (vals1 P) b n j g d _ fun b n q => vals1_apply P b n q g d)
    (probs_apply _ SK b n q g e j _ rfl _ fun j => scores_row U P C Sn b n q g e j)

/-- The reference's first result, entry by entry. -/
theorem result_apply (U : FVec Ideal S32768x16384 .bf16) (H : FVec Ideal S32768x2048 .bf16) (W : FVec Ideal S2x2048x512 .bf16) (C Sn : FVec Ideal S32768x32 .f32) (SK : FVec Ideal S32 .f32)
    (r : Fin 32768) (l : Fin 2048) :
    result U H W C Sn SK (ix2 r l) = SwaSpec.out (fun r k => U (ix2 r k)) (fun r k => H (ix2 r k)) (fun k c => W (ix3 (0 : Fin 2) k c)) (fun r i => C (ix2 r i)) (fun r i => Sn (ix2 r i))
      (fun h => SK (ix1 h)) r l := by
  have hP : (fun r k => kv H W (ix2 r k)) = SwaSpec.kv (fun r k => H (ix2 r k)) (fun k c => W (ix3 (0 : Fin 2) k c)) := funext fun r => funext fun k => kv_apply H W r k
  have hA := (attended_apply (window (vals1 (kv H W))) (probs (scores (queries U C Sn) (window (keys1 (kv H W) C Sn))) SK) r l).trans (attended_row U (kv H W) C Sn SK _ _ _ _ _ _)
  have hr : row ⟨r.val / 4096, by omega⟩ ⟨r.val / 128 % 32, by omega⟩ ⟨r.val % 128, by omega⟩ = r := Fin.ext (by show r.val / 4096 * 4096 + r.val / 128 % 32 * 128 + r.val % 128 = r.val; omega)
  have hh : (⟨(⟨l.val / 512, by omega⟩ : Fin 4).val * 8 + (⟨l.val / 64 % 8, by omega⟩ : Fin 8).val, by omega⟩ : Fin 32) = ⟨l.val / 64, by omega⟩ :=
    Fin.ext (by show l.val / 512 * 8 + l.val / 64 % 8 = l.val / 64; omega)
  have ht : (⟨(⟨r.val / 4096, by omega⟩ : Fin 8).val * 32 + (⟨r.val / 128 % 32, by omega⟩ : Fin 32).val, by omega⟩ : Fin 256) = ⟨r.val / 128, by omega⟩ :=
    Fin.ext (by show r.val / 4096 * 32 + r.val / 128 % 32 = r.val / 128; omega)
  rw [hr, hh, ht, hP] at hA
  exact congrArg₂ (fun a b : EReal => a * b) hA (gate_apply U r l)

end Cert.SwaRef

end
-- ==== Proof.SwaGroup.lean ====
/-
  One group of heads of the sliding-window attention as vector operations: the rotary embedding of a slab of two heads,
  a key or value head laid into both halves of the lanes, the scores of the group's eight heads against the previous and
  the current block's keys, each head's softmax with its sink, and the gated output of a pair of heads. The kernel's body
  is this text four times, at four places of its arrays.
-/
module

public import proofs.«01_k».proof.Proof.Gen.Kernel5Ideal.Frame

@[expose] public section

set_option maxRecDepth 16384

noncomputable section

open Idealize.ShloMosaic Idealize.ShloMosaic.TcCoe
open Cert.Kernel5Ideal Cert.Kernel5Ideal.Gen

namespace Cert.Swa

variable {F : FTy → Type} [FloatOps F] [Named F]

/-- The rotary embedding of a slab of two heads: each lane times its cosine plus its partner lane times its signed sine. -/
def rope (co si x : FVec F S128x128 .f32) : FVec F S128x128 .f32 :=
  addf (mulf x co) (mulf (select k0_pay11 (dynamicRotate 1 96#32 none x rotates_S128x128_d1) (dynamicRotate 1 32#32 none x rotates_S128x128_d1)) si)

/-- The slab's first head in both halves of the lanes. -/
def dupLow (x : FVec F S128x128 .f32) : FVec F S128x128 .bf16 :=
  truncf .bf16 (select k0_pay10 x (dynamicRotate 1 64#32 none x rotates_S128x128_d1)) bitsLt_bf16_f32

/-- The slab's second head in both halves of the lanes. -/
def dupHigh (x : FVec F S128x128 .f32) : FVec F S128x128 .bf16 :=
  truncf .bf16 (select k0_pay10 (dynamicRotate 1 64#32 none x rotates_S128x128_d1) x) bitsLt_bf16_f32

/-- Two heads' slab of the projected keys and values. -/
def slab (kv : FVec F S128x512 .f32) (o : ℕ) (h : S128x512.Slices ![0, o] S128x128) : FVec F S128x128 .f32 :=
  extractStridedSlice S128x128 ![0, o] kv h

/-- The previous block's rows over the current block's. -/
def stack (prev : Vec F S1x128x128 .bf16) (cur : FVec F S128x128 .bf16) : FVec F S256x128 .bf16 :=
  concatenate S256x128 0 [⟨S128x128, shapeCast S128x128 prev shapeCasts_S1x128x128_S128x128⟩, ⟨S128x128, cur⟩] concatenates_S128x128_S128x128_S256x128_d0

/-- A query slab with only its first head's lanes. -/
def keepLow (x : FVec F S128x128 .f32) : FVec F S128x128 .bf16 :=
  truncf .bf16 (select k0_pay10 x (broadcast S128x128 (Scalar.ofBits .f32 0x00000000#32))) bitsLt_bf16_f32

/-- A query slab with only its second head's lanes. -/
def keepHigh (x : FVec F S128x128 .f32) : FVec F S128x128 .bf16 :=
  truncf .bf16 (select k0_pay10 (broadcast S128x128 (Scalar.ofBits .f32 0x00000000#32)) x) bitsLt_bf16_f32

/-- A query slab after the rotary embedding. -/
def query (co si : FVec F S128x128 .f32) (q : Vec F S128x128 .bf16) : FVec F S128x128 .f32 :=
  rope co si (extf .f32 q bitsLt_bf16_f32)

/-- The scores of eight heads, one under the other, against both blocks' keys. -/
def scores (co si : FVec F S128x128 .f32) (q0 q1 q2 q3 : Vec F S128x128 .bf16) (keys : FVec F S256x128 .bf16) : FVec F S1024x256 .f32 :=
  matmul dot_S1024x128_S256x128_S1024x256_1_1_0_0_n_n none
    (concatenate S1024x128 0 [⟨S128x128, keepLow (query co si q0)⟩, ⟨S128x128, keepHigh (query co si q0)⟩, ⟨S128x128, keepLow (query co si q1)⟩, ⟨S128x128, keepHigh (query co si q1)⟩, ⟨S128x128, keepLow (query co si q2)⟩, ⟨S128x128, keepHigh (query co si q2)⟩, ⟨S128x128, keepLow (query co si q3)⟩, ⟨S128x128, keepHigh (query co si q3)⟩] concatenates_S128x128_S128x128_S128x128_S128x128_S128x128_S128x128_S128x128_S128x128_S1024x128_d0)
    keys (constant S1024x256 .f32 0x00000000#32)

/-- A head's sink in the base of the kernel's exponentials. -/
def sinkOf (x : Elt F .f32) : F .f32 := Scalar.mulf x (Named.named κ "log2_e" 0x3FB8AA3B#32)

/-- One head's scores, those outside the window at the mask's value. -/
def maskedS (valid : IVec S128x256 1) (S : FVec F S1024x256 .f32) (o : ℕ) (h : S1024x256.Slices ![o, 0] S128x256) : FVec F S128x256 .f32 :=
  select valid (extractStridedSlice S128x256 ![o, 0] S h) (broadcast S128x256 (Named.named κ "mask" 0xF149F2CA#32))

/-- The largest of a row's scores and the sink. -/
def rowMax (s : FVec F S128x256 .f32) (sk : F .f32) : FVec F S128x1 .f32 :=
  maximumf (shapeCast S128x1 (multiReduction .maximumf [1] S128 s 0xFF800000#32 reduces_S128x256_S128 (.inl rfl) rfl) shapeCasts_S128_S128x1) (broadcast S128x1 sk)

/-- A row's weights before they are normalised. -/
def weights (s : FVec F S128x256 .f32) (sk : F .f32) : FVec F S128x256 .f32 :=
  exp2 (subf s (broadcastTo S128x256 (rowMax s sk) broadcasts_S128x1_S128x256))

/-- One over the sum of a row's weights and the sink's. -/
def normaliser (s : FVec F S128x256 .f32) (sk : F .f32) : FVec F S128x1 .f32 :=
  divf (broadcast S128x1 (Scalar.ofBits .f32 0x3F800000#32))
    (addf (shapeCast S128x1 (multiReduction .add [1] S128 (weights s sk) 0x00000000#32 reduces_S128x256_S128 (.inl rfl) rfl) shapeCasts_S128_S128x1)
      (exp2 (subf (broadcast S128x1 sk) (rowMax s sk))))

/-- Eight heads' weights, one under the other, times both blocks' values. -/
def weighted (s0 s1 s2 s3 s4 s5 s6 s7 : FVec F S128x256 .f32) (k0 k1 k2 k3 k4 k5 k6 k7 : F .f32) (vals : FVec F S256x128 .bf16) : FVec F S1024x128 .f32 :=
  matmul dot_S1024x256_S256x128_S1024x128_1_0_0_1_n_n none
    (concatenate S1024x256 0 [⟨S128x256, truncf .bf16 (weights s0 k0) bitsLt_bf16_f32⟩, ⟨S128x256, truncf .bf16 (weights s1 k1) bitsLt_bf16_f32⟩, ⟨S128x256, truncf .bf16 (weights s2 k2) bitsLt_bf16_f32⟩, ⟨S128x256, truncf .bf16 (weights s3 k3) bitsLt_bf16_f32⟩, ⟨S128x256, truncf .bf16 (weights s4 k4) bitsLt_bf16_f32⟩, ⟨S128x256, truncf .bf16 (weights s5 k5) bitsLt_bf16_f32⟩, ⟨S128x256, truncf .bf16 (weights s6 k6) bitsLt_bf16_f32⟩, ⟨S128x256, truncf .bf16 (weights s7 k7) bitsLt_bf16_f32⟩] concatenates_S128x256_S128x256_S128x256_S128x256_S128x256_S128x256_S128x256_S128x256_S1024x256_d0)
    vals (constant S1024x128 .f32 0x00000000#32)

/-- The gated output of two heads, rows `e` and `o` on of the weighted values. -/
def pairOut (pv : FVec F S1024x128 .f32) (e o : ℕ) (he : S1024x128.Slices ![e, 0] S128x128) (ho : S1024x128.Slices ![o, 0] S128x128)
    (ne no : FVec F S128x1 .f32) (z : Vec F S128x128 .bf16) : FVec F S128x128 .bf16 :=
  truncf .bf16 (mulf (select k0_pay10 (mulf (extractStridedSlice S128x128 ![e, 0] pv he) (broadcastTo S128x128 ne broadcasts_S128x1_S128x128))
      (mulf (extractStridedSlice S128x128 ![o, 0] pv ho) (broadcastTo S128x128 no broadcasts_S128x1_S128x128)))
    (mulf (extf .f32 z bitsLt_bf16_f32) (logistic (extf .f32 z bitsLt_bf16_f32)))) bitsLt_bf16_f32

/-- A group's eight rows of weighted values. -/
def groupPV (valid : IVec S128x256 1) (S : FVec F S1024x256 .f32) (vals : FVec F S256x128 .bf16) (k0 k1 k2 k3 k4 k5 k6 k7 : F .f32) : FVec F S1024x128 .f32 :=
  weighted (maskedS valid S 0 slices_S1024x256_o0_0_S128x256) (maskedS valid S 128 slices_S1024x256_o128_0_S128x256) (maskedS valid S 256 slices_S1024x256_o256_0_S128x256) (maskedS valid S 384 slices_S1024x256_o384_0_S128x256) (maskedS valid S 512 slices_S1024x256_o512_0_S128x256) (maskedS valid S 640 slices_S1024x256_o640_0_S128x256) (maskedS valid S 768 slices_S1024x256_o768_0_S128x256) (maskedS valid S 896 slices_S1024x256_o896_0_S128x256)
    k0 k1 k2 k3 k4 k5 k6 k7 vals

/-- The gated output of the pair of heads whose scores begin at rows `e` and `o`. -/
def slabOut (valid : IVec S128x256 1) (S : FVec F S1024x256 .f32) (vals : FVec F S256x128 .bf16) (k0 k1 k2 k3 k4 k5 k6 k7 ke ko : F .f32) (e o : ℕ)
    (he : S1024x128.Slices ![e, 0] S128x128) (ho : S1024x128.Slices ![o, 0] S128x128) (he' : S1024x256.Slices ![e, 0] S128x256) (ho' : S1024x256.Slices ![o, 0] S128x256)
    (z : Vec F S128x128 .bf16) : FVec F S128x128 .bf16 :=
  pairOut (groupPV valid S vals k0 k1 k2 k3 k4 k5 k6 k7) e o he ho (normaliser (maskedS valid S e he') ke) (normaliser (maskedS valid S o ho') ko) z

end Cert.Swa

end
-- ==== Proof.SwaPieces.lean ====
/-
  What one grid point of the sliding-window attention stores, as lists of pieces: sixteen slabs of two heads each, the
  beta and gate projection, and the current block's key and value heads, which the next point reads.
-/
module

public import proofs.«01_k».proof.Proof.SwaGroup

@[expose] public section

set_option maxRecDepth 65536

noncomputable section

open Idealize.ShloMosaic Idealize.ShloMosaic.TcCoe
open Cert.Kernel5Ideal Cert.Kernel5Ideal.Gen

namespace Cert.Swa

variable {F : FTy → Type} [FloatOps F] [Named F]

theorem slicesKV (o : ℕ) (h : o + 128 ≤ 512) : S128x512.Slices ![0, o] S128x128 :=
  ⟨rfl, fun a => by
    match a with
    | ⟨0, _⟩ => exact Nat.le_refl 128
    | ⟨1, _⟩ => exact h⟩

theorem slicesS (o : ℕ) (h : o + 128 ≤ 1024) : S1024x256.Slices ![o, 0] S128x256 :=
  ⟨rfl, fun a => by
    match a with
    | ⟨0, _⟩ => exact h
    | ⟨1, _⟩ => exact Nat.le_refl 256⟩

theorem slicesP (o : ℕ) (h : o + 128 ≤ 1024) : S1024x128.Slices ![o, 0] S128x128 :=
  ⟨rfl, fun a => by
    match a with
    | ⟨0, _⟩ => exact h
    | ⟨1, _⟩ => exact Nat.le_refl 128⟩

theorem inbSlab (j : Fin 16) : ∀ a, ![0, 128 * j.val] a + S128x128.size a ≤ S128x2048.size a := fun a => by
  match a with
  | ⟨0, _⟩ => exact Nat.le_refl 128
  | ⟨1, _⟩ => exact (show 128 * j.val + 128 ≤ 2048 from by have := j.isLt; omega)

theorem inbSink (n : Fin 32) : ∀ a, ![n.val] a + S1.size a ≤ S32.size a := fun a => by
  match a with
  | ⟨0, _⟩ => exact n.isLt

theorem inbPrev (g : Fin 4) : ∀ a, ![g.val, 0, 0] a + S1x128x128.size a ≤ S4x128x128.size a := fun a => by
  match a with
  | ⟨0, _⟩ => exact g.isLt
  | ⟨1, _⟩ => exact Nat.le_refl 128
  | ⟨2, _⟩ => exact Nat.le_refl 128

/-- A group's key head of the current block, in both halves of the lanes. -/
def keyHead (co si : FVec F S128x128 .f32) (kv : FVec F S128x512 .f32) (g : Fin 4) : FVec F S128x128 .bf16 :=
  bif g.val % 2 == 0 then dupLow (rope co si (slab kv (128 * (g.val / 2)) (slicesKV _ (by have := g.isLt; omega))))
  else dupHigh (rope co si (slab kv (128 * (g.val / 2)) (slicesKV _ (by have := g.isLt; omega))))

/-- A group's value head of the current block, in both halves of the lanes. -/
def valHead (kv : FVec F S128x512 .f32) (g : Fin 4) : FVec F S128x128 .bf16 :=
  bif g.val % 2 == 0 then dupLow (slab kv (256 + 128 * (g.val / 2)) (slicesKV _ (by have := g.isLt; omega)))
  else dupHigh (slab kv (256 + 128 * (g.val / 2)) (slicesKV _ (by have := g.isLt; omega)))

/-- Four values, by number. -/
def four {α : Sort*} (a b c d : α) : Fin 4 → α
  | 0 => a
  | 1 => b
  | 2 => c
  | 3 => d

/-- Group `g`'s scores. -/
def groupScores (co si coq siq : FVec F S128x128 .f32) (kv : FVec F S128x512 .f32) (q : Fin 16 → Vec F S128x128 .bf16)
    (kp : Fin 4 → Vec F S1x128x128 .bf16) (g : Fin 4) : FVec F S1024x256 .f32 :=
  scores coq siq (q ⟨4 * g.val, by have := g.isLt; omega⟩) (q ⟨4 * g.val + 1, by have := g.isLt; omega⟩) (q ⟨4 * g.val + 2, by have := g.isLt; omega⟩)
    (q ⟨4 * g.val + 3, by have := g.isLt; omega⟩) (stack (kp g) (keyHead co si kv g))

/-- Head `8 g + t`'s sink. -/
def sinkAt (sk : Fin 32 → Elt F .f32) (g : Fin 4) (t : Fin 8) : F .f32 :=
  sinkOf (sk ⟨8 * g.val + t.val, by have := g.isLt; have := t.isLt; omega⟩)

/-- Slab `a` of group `g`'s output. -/
def outSlab (valid : IVec S128x256 1) (co si coq siq : FVec F S128x128 .f32) (kv : FVec F S128x512 .f32) (sk : Fin 32 → Elt F .f32)
    (q z : Fin 16 → Vec F S128x128 .bf16) (kp vp : Fin 4 → Vec F S1x128x128 .bf16) (g a : Fin 4) : FVec F S128x128 .bf16 :=
  slabOut valid (groupScores co si coq siq kv q kp g) (stack (vp g) (valHead kv g))
    (sinkAt sk g 0) (sinkAt sk g 1) (sinkAt sk g 2) (sinkAt sk g 3) (sinkAt sk g 4) (sinkAt sk g 5) (sinkAt sk g 6) (sinkAt sk g 7)
    (sinkAt sk g ⟨2 * a.val, by have := a.isLt; omega⟩) (sinkAt sk g ⟨2 * a.val + 1, by have := a.isLt; omega⟩)
    (256 * a.val) (256 * a.val + 128) (slicesP _ (by have := a.isLt; omega)) (slicesP _ (by have := a.isLt; omega))
    (slicesS _ (by have := a.isLt; omega)) (slicesS _ (by have := a.isLt; omega)) (z ⟨4 * g.val + a.val, by have := g.isLt; have := a.isLt; omega⟩)

/-- The sixteen stored slabs, the last first. -/
def outPieces (out : Fin 4 → Fin 4 → FVec F S128x128 .bf16) : List (View.Piece (Elt F) S128x2048 .bf16) :=
  [⟨Rect.unit ![0, 1920] S128x128.size inb_S128x2048_S128x128_0_1920, out 3 3⟩,
   ⟨Rect.unit ![0, 1792] S128x128.size inb_S128x2048_S128x128_0_1792, out 3 2⟩,
   ⟨Rect.unit ![0, 1664] S128x128.size inb_S128x2048_S128x128_0_1664, out 3 1⟩,
   ⟨Rect.unit ![0, 1536] S128x128.size inb_S128x2048_S128x128_0_1536, out 3 0⟩,
   ⟨Rect.unit ![0, 1408] S128x128.size inb_S128x2048_S128x128_0_1408, out 2 3⟩,
   ⟨Rect.unit ![0, 1280] S128x128.size inb_S128x2048_S128x128_0_1280, out 2 2⟩,
   ⟨Rect.unit ![0, 1152] S128x128.size inb_S128x2048_S128x128_0_1152, out 2 1⟩,
   ⟨Rect.unit ![0, 1024] S128x128.size inb_S128x2048_S128x128_0_1024, out 2 0⟩,
   ⟨Rect.unit ![0, 896] S128x128.size inb_S128x2048_S128x128_0_896, out 1 3⟩,
   ⟨Rect.unit ![0, 768] S128x128.size inb_S128x2048_S128x128_0_768, out 1 2⟩,
   ⟨Rect.unit ![0, 640] S128x128.size inb_S128x2048_S128x128_0_640, out 1 1⟩,
   ⟨Rect.unit ![0, 512] S128x128.size inb_S128x2048_S128x128_0_512, out 1 0⟩,
   ⟨Rect.unit ![0, 384] S128x128.size inb_S128x2048_S128x128_0_384, out 0 3⟩,
   ⟨Rect.unit ![0, 256] S128x128.size inb_S128x2048_S128x128_0_256, out 0 2⟩,
   ⟨Rect.unit ![0, 128] S128x128.size inb_S128x2048_S128x128_0_128, out 0 1⟩,
   ⟨Rect.unit ![0, 0] S128x128.size inb_S128x2048_S128x128_0_0, out 0 0⟩]

/-- The four stored heads, the last first. -/
def headPieces (hd : Fin 4 → FVec F S128x128 .bf16) : List (View.Piece (Elt F) S4x128x128 .bf16) :=
  [⟨Rect.unit ![3, 0, 0] S1x128x128.size inb_S4x128x128_S1x128x128_3_0_0, shapeCast S1x128x128 (hd 3) shapeCasts_S128x128_S1x128x128⟩,
   ⟨Rect.unit ![2, 0, 0] S1x128x128.size inb_S4x128x128_S1x128x128_2_0_0, shapeCast S1x128x128 (hd 2) shapeCasts_S128x128_S1x128x128⟩,
   ⟨Rect.unit ![1, 0, 0] S1x128x128.size inb_S4x128x128_S1x128x128_1_0_0, shapeCast S1x128x128 (hd 1) shapeCasts_S128x128_S1x128x128⟩,
   ⟨Rect.unit ![0, 0, 0] S1x128x128.size inb_S4x128x128_S1x128x128_0_0_0, shapeCast S1x128x128 (hd 0) shapeCasts_S128x128_S1x128x128⟩]

/-- The lanes' mask at a grid point: the last 128 keys before the query, the query itself, none before the sequence. -/
def validAt (i : grid0.Coords) : IVec S128x256 1 :=
  k0_pay14 (iota .tc S128x256 32 [0] iota_S128x256_d0_w32) (iota .tc S128x256 32 [1] iota_S128x256_d1_w32) (Scalar.cmpi .sgt (BitVec.ofNat 32 (i 1).val) 0#32)

set_option maxHeartbeats 4000000 in
/-- The output's pieces, case B. -/
theorem piecesB_out (c : Dev nD) (i : grid0.Coords) (arg2 : Memref sig .tc .smem S32 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .bf16) (harg10 : arg10.IsWhole) (arg11 : Memref sig .tc .vmem S128x128 .f32) (harg11 : arg11.IsWhole) (arg12 : Memref sig .tc .vmem S4x128x128 .bf16) (harg12 : arg12.IsWhole) (arg13 : Memref sig .tc .vmem S4x128x128 .bf16) (harg13 : arg13.IsWhole) (hc0 : ¬cond0_0 i) (x0 : Vec F S32 .f32) (x1 : Vec F S128x2048 .bf16) (x2 : Vec F S128x2048 .bf16) (x3 : Vec F S128x2048 .bf16) (x4 : Vec F S1x2048x512 .bf16) (x5 : Vec F S1x2048x128 .bf16) (x6 : Vec F S128x128 .f32) (x7 : Vec F S128x128 .f32) (xs0 : Vec F S4x128x128 .bf16) (xs1 : Vec F S4x128x128 .bf16) :
    (kernelRun0_B (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1).1 = outPieces (outSlab (validAt i) (k0_pay6 (View.readAt (Elt F) arg8.view (Rect.unit (s := S128x128) ![0, 0] S128x128.size inb_S128x128_S128x128_0_0).toLoadRect (harg8.unread x6))) (k0_pay7 (View.readAt (Elt F) arg9.view (Rect.unit (s := S128x128) ![0, 0] S128x128.size inb_S128x128_S128x128_0_0).toLoadRect (harg9.unread x7))) (k0_pay12 (View.readAt (Elt F) arg8.view (Rect.unit (s := S128x128) ![0, 0] S128x128.size inb_S128x128_S128x128_0_0).toLoadRect (harg8.unread x6))) (k0_pay13 (View.readAt (Elt F) arg9.view (Rect.unit (s := S128x128) ![0, 0] S128x128.size inb_S128x128_S128x128_0_0).toLoadRect (harg9.unread x7)))
      (k0_pay8 (View.readAt (Elt F) arg5.view (Rect.unit (s := S128x2048) ![0, 0] S128x2048.size inb_S128x2048_S128x2048_0_0).toLoadRect (harg5.unread x3)) (View.readAt (Elt F) arg6.view (Rect.unit (s := S1x2048x512) ![0, 0, 0] S1x2048x512.size inb_S1x2048x512_S1x2048x512_0_0_0).toLoadRect (harg6.unread x4)))
      (fun n => View.readAt (Elt F) arg2.view (Rect.unit (s := S32) ![n.val] S1.size (inbSink n)).toLoadRect (harg2.unread x0) (Shape.Idx.first (show 0 < S1.numel from by decide)))
      (fun j => View.readAt (Elt F) arg3.view (Rect.unit (s := S128x2048) ![0, 128 * j.val] S128x128.size (inbSlab j)).toLoadRect (harg3.unread x1))
      (fun j => View.readAt (Elt F) arg4.view (Rect.unit (s := S128x2048) ![0, 128 * j.val] S128x128.size (inbSlab j)).toLoadRect (harg4.unread x2))
      (fun g => View.readAt (Elt F) arg12.view (Rect.unit (s := S4x128x128) ![g.val, 0, 0] S1x128x128.size (inbPrev g)).toLoadRect (harg12.unread xs0))
      (fun g => View.readAt (Elt F) arg13.view (Rect.unit (s := S4x128x128) ![g.val, 0, 0] S1x128x128.size (inbPrev g)).toLoadRect (harg13.unread xs1))) := rfl

set_option maxHeartbeats 4000000 in
/-- The projection's piece, case B. -/
theorem piecesB_gb (c : Dev nD) (i : grid0.Coords) (arg2 : Memref sig .tc .smem S32 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .bf16) (harg10 : arg10.IsWhole) (arg11 : Memref sig .tc .vmem S128x128 .f32) (harg11 : arg11.IsWhole) (arg12 : Memref sig .tc .vmem S4x128x128 .bf16) (harg12 : arg12.IsWhole) (arg13 : Memref sig .tc .vmem S4x128x128 .bf16) (harg13 : arg13.IsWhole) (hc0 : ¬cond0_0 i) (x0 : Vec F S32 .f32) (x1 : Vec F S128x2048 .bf16) (x2 : Vec F S128x2048 .bf16) (x3 : Vec F S128x2048 .bf16) (x4 : Vec F S1x2048x512 .bf16) (x5 : Vec F S1x2048x128 .bf16) (x6 : Vec F S128x128 .f32) (x7 : Vec F S128x128 .f32) (xs0 : Vec F S4x128x128 .bf16) (xs1 : Vec F S4x128x128 .bf16) :
    (kernelRun0_B (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1).2.1 = [⟨Rect.unit (s := S128x128) ![0, 0] S128x128.size inb_S128x128_S128x128_0_0, k0_pay9 (View.readAt (Elt F) arg5.view (Rect.unit (s := S128x2048) ![0, 0] S128x2048.size inb_S128x2048_S128x2048_0_0).toLoadRect (harg5.unread x3)) (View.readAt (Elt F) arg7.view (Rect.unit (s := S1x2048x128) ![0, 0, 0] S1x2048x128.size inb_S1x2048x128_S1x2048x128_0_0_0).toLoadRect (harg7.unread x5))⟩] := rfl

set_option maxHeartbeats 4000000 in
/-- The kept keys' pieces, case B. -/
theorem piecesB_keys (c : Dev nD) (i : grid0.Coords) (arg2 : Memref sig .tc .smem S32 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .bf16) (harg10 : arg10.IsWhole) (arg11 : Memref sig .tc .vmem S128x128 .f32) (harg11 : arg11.IsWhole) (arg12 : Memref sig .tc .vmem S4x128x128 .bf16) (harg12 : arg12.IsWhole) (arg13 : Memref sig .tc .vmem S4x128x128 .bf16) (harg13 : arg13.IsWhole) (hc0 : ¬cond0_0 i) (x0 : Vec F S32 .f32) (x1 : Vec F S128x2048 .bf16) (x2 : Vec F S128x2048 .bf16) (x3 : Vec F S128x2048 .bf16) (x4 : Vec F S1x2048x512 .bf16) (x5 : Vec F S1x2048x128 .bf16) (x6 : Vec F S128x128 .f32) (x7 : Vec F S128x128 .f32) (xs0 : Vec F S4x128x128 .bf16) (xs1 : Vec F S4x128x128 .bf16) :
    (kernelRun0_B (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1).2.2.1 = headPieces (keyHead (k0_pay6 (View.readAt (Elt F) arg8.view (Rect.unit (s := S128x128) ![0, 0] S128x128.size inb_S128x128_S128x128_0_0).toLoadRect (harg8.unread x6))) (k0_pay7 (View.readAt (Elt F) arg9.view (Rect.unit (s := S128x128) ![0, 0] S128x128.size inb_S128x128_S128x128_0_0).toLoadRect (harg9.unread x7))) (k0_pay8 (View.readAt (Elt F) arg5.view (Rect.unit (s := S128x2048) ![0, 0] S128x2048.size inb_S128x2048_S128x2048_0_0).toLoadRect (harg5.unread x3)) (View.readAt (Elt F) arg6.view (Rect.unit (s := S1x2048x512) ![0, 0, 0] S1x2048x512.size inb_S1x2048x512_S1x2048x512_0_0_0).toLoadRect (harg6.unread x4)))) := rfl

set_option maxHeartbeats 4000000 in
/-- The kept values' pieces, case B. -/
theorem piecesB_vals (c : Dev nD) (i : grid0.Coords) (arg2 : Memref sig .tc .smem S32 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .bf16) (harg10 : arg10.IsWhole) (arg11 : Memref sig .tc .vmem S128x128 .f32) (harg11 : arg11.IsWhole) (arg12 : Memref sig .tc .vmem S4x128x128 .bf16) (harg12 : arg12.IsWhole) (arg13 : Memref sig .tc .vmem S4x128x128 .bf16) (harg13 : arg13.IsWhole) (hc0 : ¬cond0_0 i) (x0 : Vec F S32 .f32) (x1 : Vec F S128x2048 .bf16) (x2 : Vec F S128x2048 .bf16) (x3 : Vec F S128x2048 .bf16) (x4 : Vec F S1x2048x512 .bf16) (x5 : Vec F S1x2048x128 .bf16) (x6 : Vec F S128x128 .f32) (x7 : Vec F S128x128 .f32) (xs0 : Vec F S4x128x128 .bf16) (xs1 : Vec F S4x128x128 .bf16) :
    (kernelRun0_B (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 xs1).2.2.2.1 = headPieces (valHead (k0_pay8 (View.readAt (Elt F) arg5.view (Rect.unit (s := S128x2048) ![0, 0] S128x2048.size inb_S128x2048_S128x2048_0_0).toLoadRect (harg5.unread x3)) (View.readAt (Elt F) arg6.view (Rect.unit (s := S1x2048x512) ![0, 0, 0] S1x2048x512.size inb_S1x2048x512_S1x2048x512_0_0_0).toLoadRect (harg6.unread x4)))) := rfl

set_option maxHeartbeats 4000000 in
/-- The output's pieces, case A. -/
theorem piecesA_out (c : Dev nD) (i : grid0.Coords) (arg2 : Memref sig .tc .smem S32 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .bf16) (harg10 : arg10.IsWhole) (arg11 : Memref sig .tc .vmem S128x128 .f32) (harg11 : arg11.IsWhole) (arg12 : Memref sig .tc .vmem S4x128x128 .bf16) (harg12 : arg12.IsWhole) (arg13 : Memref sig .tc .vmem S4x128x128 .bf16) (harg13 : arg13.IsWhole) (hc0 : cond0_0 i) (x0 : Vec F S32 .f32) (x1 : Vec F S128x2048 .bf16) (x2 : Vec F S128x2048 .bf16) (x3 : Vec F S128x2048 .bf16) (x4 : Vec F S1x2048x512 .bf16) (x5 : Vec F S1x2048x128 .bf16) (x6 : Vec F S128x128 .f32) (x7 : Vec F S128x128 .f32) :
    (kernelRun0_A (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).1 = outPieces (outSlab (validAt i) (k0_pay6 (View.readAt (Elt F) arg8.view (Rect.unit (s := S128x128) ![0, 0] S128x128.size inb_S128x128_S128x128_0_0).toLoadRect (harg8.unread x6))) (k0_pay7 (View.readAt (Elt F) arg9.view (Rect.unit (s := S128x128) ![0, 0] S128x128.size inb_S128x128_S128x128_0_0).toLoadRect (harg9.unread x7))) (k0_pay12 (View.readAt (Elt F) arg8.view (Rect.unit (s := S128x128) ![0, 0] S128x128.size inb_S128x128_S128x128_0_0).toLoadRect (harg8.unread x6))) (k0_pay13 (View.readAt (Elt F) arg9.view (Rect.unit (s := S128x128) ![0, 0] S128x128.size inb_S128x128_S128x128_0_0).toLoadRect (harg9.unread x7)))
      (k0_pay8 (View.readAt (Elt F) arg5.view (Rect.unit (s := S128x2048) ![0, 0] S128x2048.size inb_S128x2048_S128x2048_0_0).toLoadRect (harg5.unread x3)) (View.readAt (Elt F) arg6.view (Rect.unit (s := S1x2048x512) ![0, 0, 0] S1x2048x512.size inb_S1x2048x512_S1x2048x512_0_0_0).toLoadRect (harg6.unread x4)))
      (fun n => View.readAt (Elt F) arg2.view (Rect.unit (s := S32) ![n.val] S1.size (inbSink n)).toLoadRect (harg2.unread x0) (Shape.Idx.first (show 0 < S1.numel from by decide)))
      (fun j => View.readAt (Elt F) arg3.view (Rect.unit (s := S128x2048) ![0, 128 * j.val] S128x128.size (inbSlab j)).toLoadRect (harg3.unread x1))
      (fun j => View.readAt (Elt F) arg4.view (Rect.unit (s := S128x2048) ![0, 128 * j.val] S128x128.size (inbSlab j)).toLoadRect (harg4.unread x2))
      (four (kernelRun0_A.sl.v52 (F := F) c arg12) (kernelRun0_A.sl.v130 c arg12) (kernelRun0_A.sl.v440 c arg5 harg5 arg6 harg6 arg8 harg8 arg9 harg9 arg12 x3 x4 x6 x7) (kernelRun0_A.sl.v750 c arg5 harg5 arg6 harg6 arg8 harg8 arg9 harg9 arg12 x3 x4 x6 x7))
      (four (kernelRun0_A.sl.v55 (F := F) c arg13) (kernelRun0_A.sl.v133 c arg13) (kernelRun0_A.sl.v443 c arg5 harg5 arg6 harg6 arg13 x3 x4) (kernelRun0_A.sl.v753 c arg5 harg5 arg6 harg6 arg13 x3 x4))) := rfl

set_option maxHeartbeats 4000000 in
/-- The projection's piece, case A. -/
theorem piecesA_gb (c : Dev nD) (i : grid0.Coords) (arg2 : Memref sig .tc .smem S32 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .bf16) (harg10 : arg10.IsWhole) (arg11 : Memref sig .tc .vmem S128x128 .f32) (harg11 : arg11.IsWhole) (arg12 : Memref sig .tc .vmem S4x128x128 .bf16) (harg12 : arg12.IsWhole) (arg13 : Memref sig .tc .vmem S4x128x128 .bf16) (harg13 : arg13.IsWhole) (hc0 : cond0_0 i) (x0 : Vec F S32 .f32) (x1 : Vec F S128x2048 .bf16) (x2 : Vec F S128x2048 .bf16) (x3 : Vec F S128x2048 .bf16) (x4 : Vec F S1x2048x512 .bf16) (x5 : Vec F S1x2048x128 .bf16) (x6 : Vec F S128x128 .f32) (x7 : Vec F S128x128 .f32) :
    (kernelRun0_A (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.1 = [⟨Rect.unit (s := S128x128) ![0, 0] S128x128.size inb_S128x128_S128x128_0_0, k0_pay9 (View.readAt (Elt F) arg5.view (Rect.unit (s := S128x2048) ![0, 0] S128x2048.size inb_S128x2048_S128x2048_0_0).toLoadRect (harg5.unread x3)) (View.readAt (Elt F) arg7.view (Rect.unit (s := S1x2048x128) ![0, 0, 0] S1x2048x128.size inb_S1x2048x128_S1x2048x128_0_0_0).toLoadRect (harg7.unread x5))⟩] := rfl

set_option maxHeartbeats 4000000 in
/-- The kept keys' pieces, case A. -/
theorem piecesA_keys (c : Dev nD) (i : grid0.Coords) (arg2 : Memref sig .tc .smem S32 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .bf16) (harg10 : arg10.IsWhole) (arg11 : Memref sig .tc .vmem S128x128 .f32) (harg11 : arg11.IsWhole) (arg12 : Memref sig .tc .vmem S4x128x128 .bf16) (harg12 : arg12.IsWhole) (arg13 : Memref sig .tc .vmem S4x128x128 .bf16) (harg13 : arg13.IsWhole) (hc0 : cond0_0 i) (x0 : Vec F S32 .f32) (x1 : Vec F S128x2048 .bf16) (x2 : Vec F S128x2048 .bf16) (x3 : Vec F S128x2048 .bf16) (x4 : Vec F S1x2048x512 .bf16) (x5 : Vec F S1x2048x128 .bf16) (x6 : Vec F S128x128 .f32) (x7 : Vec F S128x128 .f32) :
    (kernelRun0_A (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.1 = headPieces (keyHead (k0_pay6 (View.readAt (Elt F) arg8.view (Rect.unit (s := S128x128) ![0, 0] S128x128.size inb_S128x128_S128x128_0_0).toLoadRect (harg8.unread x6))) (k0_pay7 (View.readAt (Elt F) arg9.view (Rect.unit (s := S128x128) ![0, 0] S128x128.size inb_S128x128_S128x128_0_0).toLoadRect (harg9.unread x7))) (k0_pay8 (View.readAt (Elt F) arg5.view (Rect.unit (s := S128x2048) ![0, 0] S128x2048.size inb_S128x2048_S128x2048_0_0).toLoadRect (harg5.unread x3)) (View.readAt (Elt F) arg6.view (Rect.unit (s := S1x2048x512) ![0, 0, 0] S1x2048x512.size inb_S1x2048x512_S1x2048x512_0_0_0).toLoadRect (harg6.unread x4)))) ++ [⟨Rect.unit (s := S4x128x128) ![0, 0, 0] S4x128x128.size inb_S4x128x128_S4x128x128_0_0_0, k0_pay4⟩] := rfl

set_option maxHeartbeats 4000000 in
/-- The kept values' pieces, case A. -/
theorem piecesA_vals (c : Dev nD) (i : grid0.Coords) (arg2 : Memref sig .tc .smem S32 .f32) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S1x2048x512 .bf16) (harg6 : arg6.IsWhole) (arg7 : Memref sig .tc .vmem S1x2048x128 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x2048 .bf16) (harg10 : arg10.IsWhole) (arg11 : Memref sig .tc .vmem S128x128 .f32) (harg11 : arg11.IsWhole) (arg12 : Memref sig .tc .vmem S4x128x128 .bf16) (harg12 : arg12.IsWhole) (arg13 : Memref sig .tc .vmem S4x128x128 .bf16) (harg13 : arg13.IsWhole) (hc0 : cond0_0 i) (x0 : Vec F S32 .f32) (x1 : Vec F S128x2048 .bf16) (x2 : Vec F S128x2048 .bf16) (x3 : Vec F S128x2048 .bf16) (x4 : Vec F S1x2048x512 .bf16) (x5 : Vec F S1x2048x128 .bf16) (x6 : Vec F S128x128 .f32) (x7 : Vec F S128x128 .f32) :
    (kernelRun0_A (F := F) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7).2.2.2.1 = headPieces (valHead (k0_pay8 (View.readAt (Elt F) arg5.view (Rect.unit (s := S128x2048) ![0, 0] S128x2048.size inb_S128x2048_S128x2048_0_0).toLoadRect (harg5.unread x3)) (View.readAt (Elt F) arg6.view (Rect.unit (s := S1x2048x512) ![0, 0, 0] S1x2048x512.size inb_S1x2048x512_S1x2048x512_0_0_0).toLoadRect (harg6.unread x4)))) ++ [⟨Rect.unit (s := S4x128x128) ![0, 0, 0] S4x128x128.size inb_S4x128x128_S4x128x128_0_0_0, k0_pay5⟩] := rfl

end Cert.Swa

end
-- ==== Proof.SwaStored.lean ====
/-
  What one grid point of the sliding-window attention leaves in its two output blocks and in its two kept buffers, as
  functions of the blocks it loads: the sixteen stored slabs make up the output block, the four stored heads the kept
  buffers, and at a sequence's first block the heads it finds there are the zeros it has just stored.
-/
module

public import proofs.«01_k».proof.Proof.SwaPieces
public import proofs.«01_k».proof.Proof.Dense
public import Idealize.ShloMosaic.Lib.Pipeline.Value
public import Idealize.ShloMosaic.Lib.Pipeline.ValueKit.Tiles
public import Idealize.ShloMosaic.Lib.Pointwise
public import Idealize.ShloMosaic.Lib.IdealHost

@[expose] public section

set_option maxRecDepth 65536

noncomputable section

open Idealize.ShloMosaic Idealize.ShloMosaic.TcCoe

open Cert.Kernel5Ideal Cert.Kernel5Ideal.Gen
open Cert.Dense

namespace Cert.Swa

/-- Two heads' 128 columns of a block. -/
def slabOf (x : Vec Ideal S128x2048 .bf16) (j : Fin 16) : Vec Ideal S128x128 .bf16 := fun y =>
  x (ix2 (y 0) ⟨128 * j.val + (y 1).val, by have h : (y 1).val < 128 := (y 1).isLt; have := j.isLt; omega⟩)

/-- One kept head. -/
def prevOf (xs : Vec Ideal S4x128x128 .bf16) (g : Fin 4) : Vec Ideal S1x128x128 .bf16 := fun y => xs (ix3 g (y 1) (y 2))

/-- A block of sixteen slabs. -/
def blockOf (out : Fin 4 → Fin 4 → FVec Ideal S128x128 .bf16) : Vec Ideal S128x2048 .bf16 := fun y =>
  out ⟨(y 1).val / 512, by have h : (y 1).val < 2048 := (y 1).isLt; omega⟩ ⟨(y 1).val / 128 % 4, by omega⟩ (ix2 (y 0) ⟨(y 1).val % 128, by omega⟩)

/-- A buffer of four heads. -/
def headsOf (hd : Fin 4 → FVec Ideal S128x128 .bf16) : Vec Ideal S4x128x128 .bf16 := fun y => hd (y 0) (ix2 (y 1) (y 2))

/-- A point's output slabs as a function of the blocks it loads and of the two sets of kept heads. -/
def pointOut (i : grid0.Coords) (x0 : Vec Ideal S32 .f32) (x1 x2 x3 : Vec Ideal S128x2048 .bf16) (x4 : Vec Ideal S1x2048x512 .bf16)
    (x6 x7 : Vec Ideal S128x128 .f32) (kp vp : Fin 4 → Vec Ideal S1x128x128 .bf16) : Fin 4 → Fin 4 → FVec Ideal S128x128 .bf16 :=
  outSlab (validAt i) (k0_pay6 x6) (k0_pay7 x7) (k0_pay12 x6) (k0_pay13 x7) (k0_pay8 x3 x4) (fun n => x0 (ix1 n)) (slabOf x1) (slabOf x2) kp vp

theorem load_all {sp : Space} {S : Shape} {e : EltTy} (m : Memref sig .tc sp S e) (h : m.IsWhole) (x : S.Idx → Elt Ideal e) {off : Fin S.rank → ℕ}
    (hz : off = fun _ => 0) (inb : ∀ a, off a + S.size a ≤ S.size a) :
    View.readAt (Elt Ideal) m.view (Rect.unit off S.size inb).toLoadRect (h.unread x) = x := by
  show View.ld (m.view.read (Elt Ideal) (h.unread x)) (Rect.unit off S.size inb) = x
  rw [h.read_unread, View.ld_unit_zero hz]

theorem load_slab (m : Memref sig .tc .vmem S128x2048 .bf16) (h : m.IsWhole) (x : Vec Ideal S128x2048 .bf16) (j : Fin 16) :
    View.readAt (Elt Ideal) m.view (Rect.unit (s := S128x2048) ![0, 128 * j.val] S128x128.size (inbSlab j)).toLoadRect (h.unread x) = slabOf x j := by
  show View.ld (m.view.read (Elt Ideal) (h.unread x)) (Rect.unit (s := S128x2048) ![0, 128 * j.val] S128x128.size (inbSlab j)) = _
  rw [h.read_unread]
  refine funext fun (y : S128x128.Idx) => View.ld_unit_apply_of x _ _ _ y
    (ix2 (y 0) ⟨128 * j.val + (y 1).val, by have h : (y 1).val < 128 := (y 1).isLt; have := j.isLt; omega⟩) fun a => ?_
  fin_cases a
  · exact (Nat.zero_add _).symm
  · rfl

theorem load_prev (m : Memref sig .tc .vmem S4x128x128 .bf16) (h : m.IsWhole) (x : Vec Ideal S4x128x128 .bf16) (g : Fin 4) :
    View.readAt (Elt Ideal) m.view (Rect.unit (s := S4x128x128) ![g.val, 0, 0] S1x128x128.size (inbPrev g)).toLoadRect (h.unread x) = prevOf x g := by
  show View.ld (m.view.read (Elt Ideal) (h.unread x)) (Rect.unit (s := S4x128x128) ![g.val, 0, 0] S1x128x128.size (inbPrev g)) = _
  rw [h.read_unread]
  refine funext fun (y : S1x128x128.Idx) => View.ld_unit_apply_of x _ _ _ y (ix3 g (y 1) (y 2)) fun a => ?_
  fin_cases a
  · show g.val = g.val + (y 0).val
    have h0 : (y 0).val < 1 := (y 0).isLt
    omega
  · exact (Nat.zero_add _).symm
  · exact (Nat.zero_add _).symm

theorem load_sink (m : Memref sig .tc .smem S32 .f32) (h : m.IsWhole) (x : Vec Ideal S32 .f32) (n : Fin 32) :
    View.readAt (Elt Ideal) m.view (Rect.unit (s := S32) ![n.val] S1.size (inbSink n)).toLoadRect (h.unread x) (Shape.Idx.first (show 0 < S1.numel from by decide)) = x (ix1 n) := by
  show View.ld (m.view.read (Elt Ideal) (h.unread x)) (Rect.unit (s := S32) ![n.val] S1.size (inbSink n)) _ = _
  rw [h.read_unread]
  refine View.ld_unit_apply_of _ _ _ _ _ _ fun a => ?_
  fin_cases a
  show n.val = n.val + _
  have h0 : ((Shape.Idx.first (show 0 < S1.numel from by decide) : S1.Idx) 0).val < 1 := Fin.isLt _
  exact congrArg (n.val + ·) (Nat.lt_one_iff.mp h0).symm

theorem slab_piece (out : Fin 4 → Fin 4 → FVec Ideal S128x128 .bf16) (g a : Fin 4) (o : ℕ) (ho : o = 512 * g.val + 128 * a.val)
    (inb : ∀ b, ![0, o] b + S128x128.size b ≤ S128x2048.size b) (y : S128x128.Idx) :
    out g a y = blockOf out ((Rect.unit (s := S128x2048) ![0, o] S128x128.size inb).emb y) := by
  subst ho
  have h1 : (y 1).val < 128 := (y 1).isLt
  have hg := g.isLt
  have ha := a.isLt
  have e1 : (((Rect.unit (s := S128x2048) ![0, 512 * g.val + 128 * a.val] S128x128.size inb).emb y) 1).val = 512 * g.val + 128 * a.val + (y 1).val := by
    show 512 * g.val + 128 * a.val + 1 * (y 1).val = _
    omega
  have e0 : (((Rect.unit (s := S128x2048) ![0, 512 * g.val + 128 * a.val] S128x128.size inb).emb y) 0).val = (y 0).val := by
    show 0 + 1 * (y 0).val = _
    omega
  unfold blockOf
  have hgg : (⟨(((Rect.unit (s := S128x2048) ![0, 512 * g.val + 128 * a.val] S128x128.size inb).emb y) 1).val / 512, by rw [e1]; omega⟩ : Fin 4) = g :=
    Fin.ext (by show _ / 512 = g.val; rw [e1]; omega)
  have haa : (⟨(((Rect.unit (s := S128x2048) ![0, 512 * g.val + 128 * a.val] S128x128.size inb).emb y) 1).val / 128 % 4, by omega⟩ : Fin 4) = a :=
    Fin.ext (by show _ / 128 % 4 = a.val; rw [e1]; omega)
  rw [hgg, haa]
  refine congrArg (out g a) (funext fun b => ?_)
  fin_cases b
  · exact Fin.ext e0.symm
  · refine Fin.ext ?_
    show (y 1).val = _ % 128
    rw [e1]; omega

theorem read_out (out : Fin 4 → Fin 4 → FVec Ideal S128x128 .bf16) {sp : Space} (v : View sig .tc sp S128x2048 .bf16) (f : v.ty.Contents (Elt Ideal)) :
    v.read (Elt Ideal) (v.writes (Elt Ideal) f (outPieces out)) = blockOf out := by
  refine funext fun y => View.read_writes_apply_of_pieces v f (blockOf out) (outPieces out) ?_ y
    (View.cover_of_tiledL (outPieces out) S128x128.size (by sl_kernel_rfl) y)
  intro p hp
  simp only [outPieces, List.mem_cons, List.not_mem_nil, or_false] at hp
  rcases hp with rfl | rfl | rfl | rfl | rfl | rfl | rfl | rfl | rfl | rfl | rfl | rfl | rfl | rfl | rfl | rfl
  · exact fun y => slab_piece out 3 3 1920 rfl inb_S128x2048_S128x128_0_1920 y
  · exact fun y => slab_piece out 3 2 1792 rfl inb_S128x2048_S128x128_0_1792 y
  · exact fun y => slab_piece out 3 1 1664 rfl inb_S128x2048_S128x128_0_1664 y
  · exact fun y => slab_piece out 3 0 1536 rfl inb_S128x2048_S128x128_0_1536 y
  · exact fun y => slab_piece out 2 3 1408 rfl inb_S128x2048_S128x128_0_1408 y
  · exact fun y => slab_piece out 2 2 1280 rfl inb_S128x2048_S128x128_0_1280 y
  · exact fun y => slab_piece out 2 1 1152 rfl inb_S128x2048_S128x128_0_1152 y
  · exact fun y => slab_piece out 2 0 1024 rfl inb_S128x2048_S128x128_0_1024 y
  · exact fun y => slab_piece out 1 3 896 rfl inb_S128x2048_S128x128_0_896 y
  · exact fun y => slab_piece out 1 2 768 rfl inb_S128x2048_S128x128_0_768 y
  · exact fun y => slab_piece out 1 1 640 rfl inb_S128x2048_S128x128_0_640 y
  · exact fun y => slab_piece out 1 0 512 rfl inb_S128x2048_S128x128_0_512 y
  · exact fun y => slab_piece out 0 3 384 rfl inb_S128x2048_S128x128_0_384 y
  · exact fun y => slab_piece out 0 2 256 rfl inb_S128x2048_S128x128_0_256 y
  · exact fun y => slab_piece out 0 1 128 rfl inb_S128x2048_S128x128_0_128 y
  · exact fun y => slab_piece out 0 0 0 rfl inb_S128x2048_S128x128_0_0 y

theorem head_piece (hd : Fin 4 → FVec Ideal S128x128 .bf16) (g : Fin 4) (o : ℕ) (ho : o = g.val)
    (inb : ∀ b, ![o, 0, 0] b + S1x128x128.size b ≤ S4x128x128.size b) (y : S1x128x128.Idx) :
    shapeCast S1x128x128 (hd g) shapeCasts_S128x128_S1x128x128 y
      = headsOf hd ((Rect.unit (s := S4x128x128) ![o, 0, 0] S1x128x128.size inb).emb y) := by
  subst ho
  have h0 : (y 0).val < 1 := (y 0).isLt
  have hgg : ((Rect.unit (s := S4x128x128) ![g.val, 0, 0] S1x128x128.size inb).emb y) 0 = g := Fin.ext (by
    show g.val + 1 * (y 0).val = g.val
    omega)
  unfold headsOf
  rw [hgg]
  have hk : (S128x128.rowMajor (ix2 (y 1) (y 2))).val = (S1x128x128.rowMajor y).val := by
    rw [Shape.rowMajor_val_two, Shape.rowMajor_val_three]
    show (y 1).val * 128 + (y 2).val = ((y 0).val * 128 + (y 1).val) * 128 + (y 2).val
    omega
  refine (shapeCast_apply (hd g) shapeCasts_S128x128_S1x128x128 y _ hk).trans (congrArg (hd g) (funext fun b => ?_))
  fin_cases b
  · exact Fin.ext (by show (y 1).val = 0 + 1 * (y 1).val; omega)
  · exact Fin.ext (by show (y 2).val = 0 + 1 * (y 2).val; omega)

theorem read_heads (hd : Fin 4 → FVec Ideal S128x128 .bf16) {sp : Space} (v : View sig .tc sp S4x128x128 .bf16) (f : v.ty.Contents (Elt Ideal)) :
    v.read (Elt Ideal) (v.writes (Elt Ideal) f (headPieces hd)) = headsOf hd := by
  refine funext fun y => View.read_writes_apply_of_pieces v f (headsOf hd) (headPieces hd) ?_ y
    (View.cover_of_tiledL (headPieces hd) S1x128x128.size (by sl_kernel_rfl) y)
  intro p hp
  simp only [headPieces, List.mem_cons, List.not_mem_nil, or_false] at hp
  rcases hp with rfl | rfl | rfl | rfl
  · exact fun y => head_piece hd 3 3 rfl inb_S4x128x128_S1x128x128_3_0_0 y
  · exact fun y => head_piece hd 2 2 rfl inb_S4x128x128_S1x128x128_2_0_0 y
  · exact fun y => head_piece hd 1 1 rfl inb_S4x128x128_S1x128x128_1_0_0 y
  · exact fun y => head_piece hd 0 0 rfl inb_S4x128x128_S1x128x128_0_0_0 y

/-- A load of a head that no later store has touched reads the zeros the buffer was filled with. -/
theorem zero_all (z : Vec Ideal S4x128x128 .bf16) (hz : z = fun _ => (0 : EReal)) (v : View sig .tc .vmem S4x128x128 .bf16) (y : S4x128x128.Idx) :
    v.read (Elt Ideal) (v.writes (Elt Ideal) v.junk [⟨Rect.unit (s := S4x128x128) ![0, 0, 0] S4x128x128.size inb_S4x128x128_S4x128x128_0_0_0, z⟩]) y = (0 : EReal) := by
  have h := View.read_writes_apply_of_pieces v v.junk (fun _ => (0 : EReal)) [⟨Rect.unit (s := S4x128x128) ![0, 0, 0] S4x128x128.size inb_S4x128x128_S4x128x128_0_0_0, z⟩]
    (fun p hp x => by
      obtain rfl := List.mem_singleton.mp hp
      exact congrFun hz x) y
    (View.cover_of_tiledL [(⟨Rect.unit (s := S4x128x128) ![0, 0, 0] S4x128x128.size inb_S4x128x128_S4x128x128_0_0_0, z⟩ : View.Piece (Elt Ideal) S4x128x128 .bf16)] S4x128x128.size (by sl_kernel_rfl) y)
  exact h

theorem pay4_zero : (k0_pay4 (F := Ideal)) = fun _ => (0 : EReal) := by
  unfold k0_pay4
  simp only [shapeCast_self]
  exact funext fun _ => Ideal.ofBits_zero_bf16

theorem pay5_zero : (k0_pay5 (F := Ideal)) = fun _ => (0 : EReal) := by
  unfold k0_pay5
  simp only [shapeCast_self]
  exact funext fun _ => Ideal.ofBits_zero_bf16

variable (c : Dev nD) (i : grid0.Coords)
  (arg2 : Memref sig .tc .smem S32 .f32) (harg2 : arg2.IsWhole)
  (arg3 : Memref sig .tc .vmem S128x2048 .bf16) (harg3 : arg3.IsWhole)
  (arg4 : Memref sig .tc .vmem S128x2048 .bf16) (harg4 : arg4.IsWhole)
  (arg5 : Memref sig .tc .vmem S128x2048 .bf16) (harg5 : arg5.IsWhole)
  (arg6 : Memref sig .tc .vmem S1x2048x512 .bf16) (harg6 : arg6.IsWhole)
  (arg7 : Memref sig .tc .vmem S1x2048x128 .bf16) (harg7 : arg7.IsWhole)
  (arg8 : Memref sig .tc .vmem S128x128 .f32) (harg8 : arg8.IsWhole)
  (arg9 : Memref sig .tc .vmem S128x128 .f32) (harg9 : arg9.IsWhole)
  (arg10 : Memref sig .tc .vmem S128x2048 .bf16) (harg10 : arg10.IsWhole)
  (arg11 : Memref sig .tc .vmem S128x128 .f32) (harg11 : arg11.IsWhole)
  (arg12 : Memref sig .tc .vmem S4x128x128 .bf16) (harg12 : arg12.IsWhole)
  (arg13 : Memref sig .tc .vmem S4x128x128 .bf16) (harg13 : arg13.IsWhole)
  (hc0 : cond0_0 i) (hc1 : ¬cond0_0 i)
  (x0 : Vec Ideal S32 .f32) (x1 x2 x3 : Vec Ideal S128x2048 .bf16) (x4 : Vec Ideal S1x2048x512 .bf16) (x5 : Vec Ideal S1x2048x128 .bf16)
  (x6 x7 : Vec Ideal S128x128 .f32) (xs0 xs1 : Vec Ideal S4x128x128 .bf16)

theorem zero_v52 : kernelRun0_A.sl.v52 (F := Ideal) c arg12 = fun _ => (0 : EReal) := by
  refine funext fun (y : S1x128x128.Idx) => ?_
  exact zero_all _ pay4_zero arg12.view _

theorem zero_v130 : kernelRun0_A.sl.v130 (F := Ideal) c arg12 = fun _ => (0 : EReal) := by
  refine funext fun (y : S1x128x128.Idx) => ?_
  exact zero_all _ pay4_zero arg12.view _

theorem zero_v440 : kernelRun0_A.sl.v440 (F := Ideal) c arg5 harg5 arg6 harg6 arg8 harg8 arg9 harg9 arg12 x3 x4 x6 x7 = fun _ => (0 : EReal) := by
  refine funext fun (y : S1x128x128.Idx) => ?_
  refine (View.read_writes_cons_miss_of_axis _ _ _ _ _ (0 : Fin 3) 0 1 rfl rfl rfl (Or.inr (by show 0 + 1 ≤ 2 + 1 * (y 0).val; omega))).trans ?_
  exact zero_all _ pay4_zero arg12.view _

theorem zero_v750 : kernelRun0_A.sl.v750 (F := Ideal) c arg5 harg5 arg6 harg6 arg8 harg8 arg9 harg9 arg12 x3 x4 x6 x7 = fun _ => (0 : EReal) := by
  refine funext fun (y : S1x128x128.Idx) => ?_
  refine (View.read_writes_cons_miss_of_axis _ _ _ _ _ (0 : Fin 3) 1 1 rfl rfl rfl (Or.inr (by show 1 + 1 ≤ 3 + 1 * (y 0).val; omega))).trans ?_
  refine (View.read_writes_cons_miss_of_axis _ _ _ _ _ (0 : Fin 3) 0 1 rfl rfl rfl (Or.inr (by show 0 + 1 ≤ 3 + 1 * (y 0).val; omega))).trans ?_
  exact zero_all _ pay4_zero arg12.view _

theorem zero_v55 : kernelRun0_A.sl.v55 (F := Ideal) c arg13 = fun _ => (0 : EReal) := by
  refine funext fun (y : S1x128x128.Idx) => ?_
  exact zero_all _ pay5_zero arg13.view _

theorem zero_v133 : kernelRun0_A.sl.v133 (F := Ideal) c arg13 = fun _ => (0 : EReal) := by
  refine funext fun (y : S1x128x128.Idx) => ?_
  exact zero_all _ pay5_zero arg13.view _

theorem zero_v443 : kernelRun0_A.sl.v443 (F := Ideal) c arg5 harg5 arg6 harg6 arg13 x3 x4 = fun _ => (0 : EReal) := by
  refine funext fun (y : S1x128x128.Idx) => ?_
  refine (View.read_writes_cons_miss_of_axis _ _ _ _ _ (0 : Fin 3) 0 1 rfl rfl rfl (Or.inr (by show 0 + 1 ≤ 2 + 1 * (y 0).val; omega))).trans ?_
  exact zero_all _ pay5_zero arg13.view _

theorem zero_v753 : kernelRun0_A.sl.v753 (F := Ideal) c arg5 harg5 arg6 harg6 arg13 x3 x4 = fun _ => (0 : EReal) := by
  refine funext fun (y : S1x128x128.Idx) => ?_
  refine (View.read_writes_cons_miss_of_axis _ _ _ _ _ (0 : Fin 3) 1 1 rfl rfl rfl (Or.inr (by show 1 + 1 ≤ 3 + 1 * (y 0).val; omega))).trans ?_
  refine (View.read_writes_cons_miss_of_axis _ _ _ _ _ (0 : Fin 3) 0 1 rfl rfl rfl (Or.inr (by show 0 + 1 ≤ 3 + 1 * (y 0).val; omega))).trans ?_
  exact zero_all _ pay5_zero arg13.view _

/-- Four zeros. -/
theorem four_zero {p0 p1 p2 p3 : Vec Ideal S1x128x128 .bf16} (h0 : p0 = fun _ => (0 : EReal)) (h1 : p1 = fun _ => (0 : EReal)) (h2 : p2 = fun _ => (0 : EReal))
    (h3 : p3 = fun _ => (0 : EReal)) : four p0 p1 p2 p3 = fun _ _ => (0 : EReal) := by
  funext g
  fin_cases g
  · exact h0
  · exact h1
  · exact h2
  · exact h3

/-- The output block, case A. -/
theorem outA : out0_A_8 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = blockOf (pointOut i x0 x1 x2 x3 x4 x6 x7 (fun _ _ => (0 : EReal)) (fun _ _ => (0 : EReal))) := by
  unfold out0_A_8
  rw [piecesA_out, read_out]
  rw [load_all arg5 harg5 x3 hz2, load_all arg6 harg6 x4 hz3, load_all arg8 harg8 x6 hz2, load_all arg9 harg9 x7 hz2]
  have hs : (fun n : Fin 32 => View.readAt (Elt Ideal) arg2.view (Rect.unit (s := S32) ![n.val] S1.size (inbSink n)).toLoadRect (harg2.unread x0) (Shape.Idx.first (show 0 < S1.numel from by decide))) = fun n => x0 (ix1 n) := funext fun n => load_sink arg2 harg2 x0 n
  have hq : (fun j : Fin 16 => View.readAt (Elt Ideal) arg3.view (Rect.unit (s := S128x2048) ![0, 128 * j.val] S128x128.size (inbSlab j)).toLoadRect (harg3.unread x1)) = slabOf x1 := funext fun j => load_slab arg3 harg3 x1 j
  have hzz : (fun j : Fin 16 => View.readAt (Elt Ideal) arg4.view (Rect.unit (s := S128x2048) ![0, 128 * j.val] S128x128.size (inbSlab j)).toLoadRect (harg4.unread x2)) = slabOf x2 := funext fun j => load_slab arg4 harg4 x2 j
  rw [hs, hq, hzz, four_zero (zero_v52 c arg12) (zero_v130 c arg12) (zero_v440 c arg5 harg5 arg6 harg6 arg8 harg8 arg9 harg9 arg12 x3 x4 x6 x7) (zero_v750 c arg5 harg5 arg6 harg6 arg8 harg8 arg9 harg9 arg12 x3 x4 x6 x7),
    four_zero (zero_v55 c arg13) (zero_v133 c arg13) (zero_v443 c arg5 harg5 arg6 harg6 arg13 x3 x4) (zero_v753 c arg5 harg5 arg6 harg6 arg13 x3 x4)]
  rfl

/-- The projection block, case A. -/
theorem gbA : out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = k0_pay9 x3 x5 := by
  unfold out0_A_9
  rw [piecesA_gb, load_all arg5 harg5 x3 hz2, load_all arg7 harg7 x5 hz3]
  exact (View.read_writes_eq_canon VO0_9 _ _ (View.cover_of_tiledL _ S128x128.size (by sl_kernel_rfl))).trans (View.canon_unit_zero hz2 _ _)

/-- The kept keys, case A. -/
theorem keysA : sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = headsOf (keyHead (k0_pay6 x6) (k0_pay7 x7) (k0_pay8 x3 x4)) := by
  unfold sout0_A_0
  rw [piecesA_keys, View.writes_append, read_heads]
  rw [load_all arg5 harg5 x3 hz2, load_all arg6 harg6 x4 hz3, load_all arg8 harg8 x6 hz2, load_all arg9 harg9 x7 hz2]

/-- The kept vals, case A. -/
theorem valsA : sout0_A_1 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = headsOf (valHead (k0_pay8 x3 x4)) := by
  unfold sout0_A_1
  rw [piecesA_vals, View.writes_append, read_heads]
  rw [load_all arg5 harg5 x3 hz2, load_all arg6 harg6 x4 hz3]

/-- The output block, case B. -/
theorem outB : out0_B_8 (F := Ideal) c i arg2 harg2 arg3 harg3 arg4 harg4 arg5 harg5 arg6 harg6 arg7 harg7 arg8 harg8 arg9 harg9 arg10 harg10 arg11 harg11 arg12 harg12 arg13 harg13 hc1 x0 x1 x2 x3 x4 x5 x6 x7 xs0 xs1 = blockOf (pointOut i x0 x1 x2 x3 x4 x6 x7 (prevOf xs0) (prevOf xs1)) := by
  unfold out0_B_8
  rw [piecesB_out, read_out]
  rw [load_all arg5 harg5 x3 hz2, load_all arg6 harg6 x4 hz3, load_all arg8 harg8 x6 hz2, load_all arg9 harg9 x7 hz2]
  have hs : (fun n : Fin 32 => View.readAt (Elt Ideal) arg2.view (Rect.unit (s := S32) ![n.val] S1.size (inbSink n)).toLoadRect (harg2.unread x0) (Shape.Idx.first (show 0 < S1.numel from by decide))) = fun n => x0 (ix1 n) := funext fun n => load_sink arg2 harg2 x0 n
  have hq : (fun j : Fin 16 => View.readAt (Elt Ideal) arg3.view (Rect.unit (s := S128x2048) ![0, 128 * j.val] S128x128.size (inbSlab j)).toLoadRect (harg3.unread x1)) = slabOf x1 := funext fun j => load_slab arg3 harg3 x1 j
  have hzz : (fun j : Fin 16 => View.readAt (Elt Ideal) arg4.view (Rect.unit (s := S128x2048) ![0, 128 * j.val] S128x128.size (inbSlab j)).toLoadRect (harg4.unread x2)) = slabOf x2 := funext fun j => load_slab arg4 harg4 x2 j
  have hk : (fun g : Fin 4 => View.readAt (Elt Ideal) arg12.view (Rect.unit (s := S4x128x128) ![g.val, 0, 0] S1x128x128.size (inbPrev g)).toLoadRect (harg12.unread xs0)) = prevOf xs0 := funext fun g => load_prev arg12 harg12 xs0 g
  have hv : (fun g : Fin 4 => View.readAt (Elt Ideal) arg13.view (Rect.unit (s := S4x128x128) ![g.val, 0, 0] S1x128x128.size (inbPrev g)).toLoadRect (harg13.unread xs1)) = prevOf xs1 := funext fun g => load_prev arg13 harg13 xs1 g
  rw [hs, hq, hzz, hk, hv]
  rfl

/-- The projection block, case B. -/
theorem gbB : out0_B_9 (F := Ideal) c i arg2 harg2 arg3 harg3 arg4 harg4 arg5 harg5 arg6 harg6 arg7 harg7 arg8 harg8 arg9 harg9 arg10 harg10 arg11 harg11 arg12 harg12 arg13 harg13 hc1 x0 x1 x2 x3 x4 x5 x6 x7 xs0 xs1 = k0_pay9 x3 x5 := by
  unfold out0_B_9
  rw [piecesB_gb, load_all arg5 harg5 x3 hz2, load_all arg7 harg7 x5 hz3]
  exact (View.read_writes_eq_canon VO0_9 _ _ (View.cover_of_tiledL _ S128x128.size (by sl_kernel_rfl))).trans (View.canon_unit_zero hz2 _ _)

/-- The kept keys, case B. -/
theorem keysB : sout0_B_0 (F := Ideal) c i arg2 harg2 arg3 harg3 arg4 harg4 arg5 harg5 arg6 harg6 arg7 harg7 arg8 harg8 arg9 harg9 arg10 harg10 arg11 harg11 arg12 harg12 arg13 harg13 hc1 x0 x1 x2 x3 x4 x5 x6 x7 xs0 xs1 = headsOf (keyHead (k0_pay6 x6) (k0_pay7 x7) (k0_pay8 x3 x4)) := by
  unfold sout0_B_0
  rw [piecesB_keys, read_heads]
  rw [load_all arg5 harg5 x3 hz2, load_all arg6 harg6 x4 hz3, load_all arg8 harg8 x6 hz2, load_all arg9 harg9 x7 hz2]

/-- The kept vals, case B. -/
theorem valsB : sout0_B_1 (F := Ideal) c i arg2 harg2 arg3 harg3 arg4 harg4 arg5 harg5 arg6 harg6 arg7 harg7 arg8 harg8 arg9 harg9 arg10 harg10 arg11 harg11 arg12 harg12 arg13 harg13 hc1 x0 x1 x2 x3 x4 x5 x6 x7 xs0 xs1 = headsOf (valHead (k0_pay8 x3 x4)) := by
  unfold sout0_B_1
  rw [piecesB_vals, read_heads]
  rw [load_all arg5 harg5 x3 hz2, load_all arg6 harg6 x4 hz3]

end Cert.Swa

end
-- ==== Proof.SwaValue.lean ====
/-
  The vector operations of one group of heads, read at an index over the extended reals.
-/
module

public import proofs.«01_k».proof.Proof.SwaPieces
public import proofs.«01_k».proof.Proof.SwaSpec
public import proofs.«01_k».proof.Proof.Dense
public import Idealize.ShloMosaic.Lib.Pointwise
public import Idealize.ShloMosaic.Lib.MatmulPlain
public import Idealize.ShloMosaic.Lib.Pipeline.Value

@[expose] public section

set_option maxRecDepth 16384

noncomputable section

open Idealize.ShloMosaic Idealize.ShloMosaic.TcCoe
open Cert.Kernel5Ideal Cert.Kernel5Ideal.Gen
open scoped BigOperators

namespace Cert.Swa

theorem low_lane (l : Fin 128) : IntOp.cmpi .slt (BitVec.ofNat 32 l.val) 64#32 = if l.val < 64 then 1#1 else 0#1 := by
  revert l; decide

theorem low_half (l : Fin 128) : IntOp.cmpi .slt (IntOp.andi (BitVec.ofNat 32 l.val) 63#32) 32#32 = if l.val / 32 % 2 = 0 then 1#1 else 0#1 := by
  revert l; decide

theorem select_if {α : Type} (P : Prop) [Decidable P] (x y : α) : Scalar.select (if P then 1#1 else 0#1) x y = if P then x else y := by
  by_cases h : P <;> simp [h, Scalar.select]

theorem zero_f32 : (Scalar.ofBits .f32 0x00000000#32 : Ideal .f32) = (0 : EReal) := Ideal.ofBits_zero_f32

theorem minus_inf : Ideal.ofBits FTy.f32 0xFF800000#32 = ⊥ := by
  simp [Ideal.ofBits, Ideal.ieee]

theorem keepLow_apply (x : FVec Ideal S128x128 .f32) (r l : Fin 128) : keepLow x (ix2 r l) = if l.val < 64 then x (ix2 r l) else (0 : EReal) := by
  unfold keepLow
  pointwise [k0_pay10]
  rw [low_lane, select_if]

theorem keepHigh_apply (x : FVec Ideal S128x128 .f32) (r l : Fin 128) : keepHigh x (ix2 r l) = if l.val < 64 then (0 : EReal) else x (ix2 r l) := by
  unfold keepHigh
  pointwise [k0_pay10]
  rw [low_lane, select_if]

theorem dupLow_apply (x : FVec Ideal S128x128 .f32) (r l : Fin 128) : dupLow x (ix2 r l) = x (ix2 r ⟨l.val % 64, by omega⟩) := by
  unfold dupLow
  pointwise [k0_pay10]
  rw [low_lane, select_if]
  split <;> exact congrArg x (congrArg (ix2 r) (Fin.ext (by simp only []; omega)))

theorem dupHigh_apply (x : FVec Ideal S128x128 .f32) (r l : Fin 128) : dupHigh x (ix2 r l) = x (ix2 r ⟨64 + l.val % 64, by omega⟩) := by
  unfold dupHigh
  pointwise [k0_pay10]
  rw [low_lane, select_if]
  split <;> exact congrArg x (congrArg (ix2 r) (Fin.ext (by simp only []; omega)))

theorem slab_apply (kv : FVec Ideal S128x512 .f32) (o : ℕ) (h : S128x512.Slices ![0, o] S128x128) (ho : o + 128 ≤ 512) (r l : Fin 128) :
    slab kv o h (ix2 r l) = kv (ix2 r ⟨o + l.val, by omega⟩) := by
  unfold slab
  pointwise

theorem stack_apply (prev : Vec Ideal S1x128x128 .bf16) (cur : FVec Ideal S128x128 .bf16) (r : Fin 256) (l : Fin 128) :
    stack prev cur (ix2 r l) = if h : r.val < 128 then prev (ix3 (0 : Fin 1) ⟨r.val, h⟩ l) else cur (ix2 ⟨r.val - 128, by omega⟩ l) := by
  unfold stack
  pointwise

theorem maskedS_apply (valid : IVec S128x256 1) (S : FVec Ideal S1024x256 .f32) (o : ℕ) (h : S1024x256.Slices ![o, 0] S128x256) (ho : o + 128 ≤ 1024) (r : Fin 128) (x : Fin 256) :
    maskedS valid S o h (ix2 r x) = Scalar.select (valid (ix2 r x)) (S (ix2 ⟨o + r.val, by omega⟩ x)) (⊥ : EReal) := by
  unfold maskedS
  pointwise
  rfl

theorem rowMax_apply (s : FVec Ideal S128x256 .f32) (sk : Ideal .f32) (r : Fin 128) : rowMax s sk (ix2 r (0 : Fin 1)) = SwaSpec.top (fun x => s (ix2 r x)) sk := by
  unfold rowMax SwaSpec.top
  pointwise
  rw [minus_inf]

theorem weights_apply (s : FVec Ideal S128x256 .f32) (sk : Ideal .f32) (r : Fin 128) (x : Fin 256) :
    weights s sk (ix2 r x) = Ideal.exp2 (s (ix2 r x) - SwaSpec.top (fun x => s (ix2 r x)) sk) := by
  have h := rowMax_apply s sk r
  unfold weights
  generalize rowMax s sk = k at h ⊢
  pointwise
  rw [h]; rfl

theorem normaliser_apply (s : FVec Ideal S128x256 .f32) (sk : Ideal .f32) (r : Fin 128) :
    normaliser s sk (ix2 r (0 : Fin 1)) = Ideal.div 1 ((∑ x, Ideal.exp2 (s (ix2 r x) - SwaSpec.top (fun x => s (ix2 r x)) sk)) + Ideal.exp2 (sk - SwaSpec.top (fun x => s (ix2 r x)) sk)) := by
  have h := rowMax_apply s sk r
  have hw := weights_apply s sk r
  unfold normaliser
  generalize rowMax s sk = k at h ⊢
  generalize weights s sk = w at hw ⊢
  pointwise
  rw [h]
  simp only [hw]
  rfl

/-- Eight heads' weights, one under the other, times the values. -/
theorem eightV_apply (p : Fin 8 → FVec Ideal S128x256 .bf16) (vals : FVec Ideal S256x128 .bf16) (t : Fin 8) (r l : Fin 128) :
    matmul dot_S1024x256_S256x128_S1024x128_1_0_0_1_n_n none
      (concatenate S1024x256 0 [⟨S128x256, p 0⟩, ⟨S128x256, p 1⟩, ⟨S128x256, p 2⟩, ⟨S128x256, p 3⟩, ⟨S128x256, p 4⟩, ⟨S128x256, p 5⟩, ⟨S128x256, p 6⟩, ⟨S128x256, p 7⟩] concatenates_S128x256_S128x256_S128x256_S128x256_S128x256_S128x256_S128x256_S128x256_S1024x256_d0)
      vals (constant (F := Ideal) S1024x128 .f32 0x00000000#32) (ix2 ⟨128 * t.val + r.val, by omega⟩ l) = ∑ x : Fin 256, p t (ix2 r x) * vals (ix2 x l) := by
  pointwise
  refine Finset.sum_congr rfl fun x _ => congrArg (· * _) ?_
  obtain ⟨t, ht⟩ := t
  interval_cases t <;> simp only [] <;>
  repeat (first | rw [dif_pos (by omega)] | rw [dif_neg (by omega)])
  all_goals refine congrArg (fun i => p _ (ix2 i x)) (Fin.ext ?_)
  all_goals dsimp only
  all_goals omega

theorem weighted_apply (s : Fin 8 → FVec Ideal S128x256 .f32) (k : Fin 8 → Ideal .f32) (vals : FVec Ideal S256x128 .bf16) (t : Fin 8) (r l : Fin 128) :
    weighted (s 0) (s 1) (s 2) (s 3) (s 4) (s 5) (s 6) (s 7) (k 0) (k 1) (k 2) (k 3) (k 4) (k 5) (k 6) (k 7) vals (ix2 ⟨128 * t.val + r.val, by omega⟩ l)
      = ∑ x : Fin 256, weights (s t) (k t) (ix2 r x) * vals (ix2 x l) :=
  eightV_apply (fun t => truncf .bf16 (weights (s t) (k t)) bitsLt_bf16_f32) vals t r l

theorem pairOut_apply (pv : FVec Ideal S1024x128 .f32) (e o : ℕ) (he : S1024x128.Slices ![e, 0] S128x128) (ho : S1024x128.Slices ![o, 0] S128x128)
    (he' : e + 128 ≤ 1024) (ho' : o + 128 ≤ 1024) (ne no : FVec Ideal S128x1 .f32) (z : Vec Ideal S128x128 .bf16) (r l : Fin 128) :
    pairOut pv e o he ho ne no z (ix2 r l)
      = (if l.val < 64 then pv (ix2 ⟨e + r.val, by omega⟩ l) * ne (ix2 r (0 : Fin 1)) else pv (ix2 ⟨o + r.val, by omega⟩ l) * no (ix2 r (0 : Fin 1)))
        * ((z (ix2 r l) : EReal) * Ideal.logistic (z (ix2 r l))) := by
  unfold pairOut
  pointwise [k0_pay10]
  rw [low_lane, select_if]

theorem rope_apply (co si x : FVec Ideal S128x128 .f32) (r l : Fin 128) :
    rope co si x (ix2 r l) = x (ix2 r l) * co (ix2 r l)
      + (if l.val / 32 % 2 = 0 then x (ix2 r ⟨(l.val + 32) % 128, by omega⟩) else x (ix2 r ⟨(l.val + 96) % 128, by omega⟩)) * si (ix2 r l) := by
  unfold rope
  pointwise [k0_pay11]
  rw [low_half, select_if]
  have e1 : (⟨(l.val + 128 - 96) % 128, by omega⟩ : Fin 128) = ⟨(l.val + 32) % 128, by omega⟩ := Fin.ext (by dsimp only; omega)
  have e2 : (⟨(l.val + 128 - 32) % 128, by omega⟩ : Fin 128) = ⟨(l.val + 96) % 128, by omega⟩ := Fin.ext (by dsimp only; omega)
  rw [e1, e2]

theorem sum_halves (f : Fin 128 → EReal) : ∑ l, f l = (∑ d : Fin 64, f ⟨d.val, by omega⟩) + ∑ d : Fin 64, f ⟨64 + d.val, by omega⟩ :=
  Fin.sum_univ_add (a := 64) (b := 64) f

/-- A head's product with a key that lies in both halves of the lanes. -/
theorem keepLow_sum (x : FVec Ideal S128x128 .f32) (r : Fin 128) (k : Fin 128 → EReal) (K : Fin 64 → EReal) (hk : ∀ l, k l = K ⟨l.val % 64, by omega⟩) :
    ∑ l, keepLow x (ix2 r l) * k l = ∑ d : Fin 64, x (ix2 r ⟨d.val, by omega⟩) * K d := by
  rw [sum_halves]
  have h2 : ∑ d : Fin 64, keepLow x (ix2 r ⟨64 + d.val, by omega⟩) * k ⟨64 + d.val, by omega⟩ = 0 :=
    Finset.sum_eq_zero fun d _ => by rw [keepLow_apply, if_neg (by show ¬ 64 + d.val < 64; omega), zero_mul]
  rw [h2, add_zero]
  refine Finset.sum_congr rfl fun d _ => ?_
  rw [keepLow_apply, if_pos d.isLt, hk]
  exact congrArg (_ * K ·) (Fin.ext (Nat.mod_eq_of_lt d.isLt))

theorem keepHigh_sum (x : FVec Ideal S128x128 .f32) (r : Fin 128) (k : Fin 128 → EReal) (K : Fin 64 → EReal) (hk : ∀ l, k l = K ⟨l.val % 64, by omega⟩) :
    ∑ l, keepHigh x (ix2 r l) * k l = ∑ d : Fin 64, x (ix2 r ⟨64 + d.val, by omega⟩) * K d := by
  rw [sum_halves]
  have h2 : ∑ d : Fin 64, keepHigh x (ix2 r ⟨d.val, by omega⟩) * k ⟨d.val, by omega⟩ = 0 :=
    Finset.sum_eq_zero fun d _ => by rw [keepHigh_apply, if_pos d.isLt, zero_mul]
  rw [h2, zero_add]
  refine Finset.sum_congr rfl fun d _ => ?_
  rw [keepHigh_apply, if_neg (by show ¬ 64 + d.val < 64; omega), hk]
  exact congrArg (_ * K ·) (Fin.ext (by show (64 + d.val) % 64 = d.val; omega))

/-- Eight slabs, one under the other, against the keys. -/
theorem eight_apply (p : Fin 8 → FVec Ideal S128x128 .bf16) (keys : FVec Ideal S256x128 .bf16) (t : Fin 8) (r : Fin 128) (x : Fin 256) :
    matmul dot_S1024x128_S256x128_S1024x256_1_1_0_0_n_n none
      (concatenate S1024x128 0 [⟨S128x128, p 0⟩, ⟨S128x128, p 1⟩, ⟨S128x128, p 2⟩, ⟨S128x128, p 3⟩, ⟨S128x128, p 4⟩, ⟨S128x128, p 5⟩, ⟨S128x128, p 6⟩, ⟨S128x128, p 7⟩] concatenates_S128x128_S128x128_S128x128_S128x128_S128x128_S128x128_S128x128_S128x128_S1024x128_d0)
      keys (constant (F := Ideal) S1024x256 .f32 0x00000000#32) (ix2 ⟨128 * t.val + r.val, by omega⟩ x) = ∑ l : Fin 128, p t (ix2 r l) * keys (ix2 x l) := by
  pointwise
  refine Finset.sum_congr rfl fun l _ => congrArg (· * _) ?_
  obtain ⟨t, ht⟩ := t
  interval_cases t <;> simp only [] <;>
  repeat (first | rw [dif_pos (by omega)] | rw [dif_neg (by omega)])
  all_goals refine congrArg (fun i => p _ (ix2 i l)) (Fin.ext ?_)
  all_goals dsimp only
  all_goals omega

/-- A slab of queries with one of its heads' lanes. -/
def keep (t : Fin 8) (x : FVec Ideal S128x128 .f32) : FVec Ideal S128x128 .bf16 := bif t.val % 2 == 0 then keepLow x else keepHigh x

/-- One head's scores in a group's. -/
theorem scores_apply (co si : FVec Ideal S128x128 .f32) (q : Fin 4 → Vec Ideal S128x128 .bf16) (keys : FVec Ideal S256x128 .bf16) (a : Fin 4) (p : Fin 2) (r : Fin 128) (x : Fin 256)
    (K : Fin 64 → EReal) (hk : ∀ l : Fin 128, keys (ix2 x l) = K ⟨l.val % 64, by omega⟩) :
    scores co si (q 0) (q 1) (q 2) (q 3) keys (ix2 ⟨128 * (2 * a.val + p.val) + r.val, by omega⟩ x)
      = ∑ d : Fin 64, query co si (q a) (ix2 r ⟨64 * p.val + d.val, by omega⟩) * K d := by
  refine (eight_apply (fun t => keep t (query co si (q ⟨t.val / 2, by omega⟩))) keys ⟨2 * a.val + p.val, by omega⟩ r x).trans ?_
  have ha : (⟨(2 * a.val + p.val) / 2, by omega⟩ : Fin 4) = a := Fin.ext (by dsimp only; omega)
  dsimp only
  rw [ha]
  match p with
  | 0 =>
    have : keep ⟨2 * a.val + (0 : Fin 2).val, by omega⟩ (query co si (q a)) = keepLow (query co si (q a)) := by
      unfold keep
      have : (2 * a.val + (0 : Fin 2).val) % 2 = 0 := by show (2 * a.val + 0) % 2 = 0; omega
      dsimp only
      rw [this]; rfl
    rw [this, keepLow_sum (query co si (q a)) r (fun l => keys (ix2 x l)) K hk]
    refine Finset.sum_congr rfl fun d _ => congrArg (fun j => query co si (q a) (ix2 r j) * K d) (Fin.ext ?_)
    show d.val = 64 * 0 + d.val; omega
  | 1 =>
    have : keep ⟨2 * a.val + (1 : Fin 2).val, by omega⟩ (query co si (q a)) = keepHigh (query co si (q a)) := by
      unfold keep
      have : (2 * a.val + (1 : Fin 2).val) % 2 = 1 := by show (2 * a.val + 1) % 2 = 1; omega
      dsimp only
      rw [this]; rfl
    rw [this, keepHigh_sum (query co si (q a)) r (fun l => keys (ix2 x l)) K hk]
    refine Finset.sum_congr rfl fun d _ => congrArg (fun j => query co si (q a) (ix2 r j) * K d) (Fin.ext ?_)
    show 64 + d.val = 64 * 1 + d.val; omega

theorem maxs_first (r : Fin 128) : IntOp.maxsi (BitVec.ofNat 32 r.val) 127#32 = 127#32 := by revert r; decide
theorem maxs_rest (r : Fin 128) : IntOp.maxsi (BitVec.ofNat 32 r.val) 4294967295#32 = BitVec.ofNat 32 r.val := by revert r; decide
theorem later (n : Fin 32) : Scalar.cmpi .sgt (BitVec.ofNat 32 n.val) 0#32 = if n.val = 0 then 0#1 else 1#1 := by revert n; decide

/-- The mask of a grid point. -/
theorem validAt_apply (i : grid0.Coords) (t : Fin 256) (ht : t.val % 32 = (i 1).val) (r : Fin 128) (x : Fin 256) :
    validAt i (ix2 r x) = if SwaSpec.seen t r x then 1#1 else 0#1 := by
  have hi : (i 1).val < 32 := (i 1).isLt
  have hb : ∀ k : ℕ, k < 10000 → -100000 < (k : ℤ) ∧ (k : ℤ) < 100000 := fun k hk => by omega
  unfold validAt
  pointwise [k0_pay14]
  have e1 : IntOp.cmpi .sle (BitVec.ofNat 32 x.val) (IntOp.addi (BitVec.ofNat 32 r.val) 128#32) = if x.val ≤ r.val + 128 then 1#1 else 0#1 := by
    have : IntOp.addi (BitVec.ofNat 32 r.val) 128#32 = BitVec.ofInt 32 ((r.val + 128 : ℕ) : ℤ) := by
      unfold IntOp.addi
      rw [SwaSpec.word_nat, show (128#32 : BitVec 32) = BitVec.ofInt 32 ((128 : ℕ) : ℤ) from rfl, ← BitVec.ofInt_add]; norm_num
    rw [this, SwaSpec.word_nat]
    refine SwaSpec.cmpi_eq .sle _ _ _ ?_ (by simp)
    simp only [SwaSpec.toInt_word _ (hb x.val (by omega)).1 (hb x.val (by omega)).2, SwaSpec.toInt_word _ (hb (r.val + 128) (by omega)).1 (hb (r.val + 128) (by omega)).2]
    omega
  have e2 : ∀ k : ℕ, k < 1000 → IntOp.cmpi .sgt (BitVec.ofNat 32 x.val) (BitVec.ofNat 32 k) = if k < x.val then 1#1 else 0#1 := fun k hk => by
    rw [SwaSpec.word_nat, SwaSpec.word_nat k]
    refine SwaSpec.cmpi_eq .sgt _ _ _ ?_ (by simp)
    simp only [SwaSpec.toInt_word _ (hb x.val (by omega)).1 (hb x.val (by omega)).2, SwaSpec.toInt_word _ (hb k (by omega)).1 (hb k (by omega)).2]
    omega
  rw [e1, later ⟨(i 1).val, hi⟩]
  unfold SwaSpec.seen
  by_cases h0 : (i 1).val = 0
  · rw [if_pos h0]
    have : Scalar.select 0#1 4294967295#32 127#32 = 127#32 := rfl
    rw [this, maxs_first, show (127#32 : BitVec 32) = BitVec.ofNat 32 127 from rfl, e2 127 (by norm_num), SwaSpec.andi_if]
    refine if_congr ?_ rfl rfl
    omega
  · rw [if_neg h0]
    have : Scalar.select 1#1 4294967295#32 127#32 = 4294967295#32 := rfl
    rw [this, maxs_rest, e2 r.val (by omega), SwaSpec.andi_if]
    refine if_congr ?_ rfl rfl
    omega

/-- A rotated slab where everything is real. -/
theorem rope_half (co si x : FVec Ideal S128x128 .f32) (r : Fin 128) (p : Fin 2) (c : ℝ) (X : Fin 64 → ℝ) (C S : Fin 32 → ℝ)
    (hx : ∀ d : Fin 64, x (ix2 r ⟨64 * p.val + d.val, by omega⟩) = ((X d : ℝ) : EReal))
    (hco : ∀ l : Fin 128, co (ix2 r l) = ((c * C ⟨l.val % 32, by omega⟩ : ℝ) : EReal))
    (hsi : ∀ l : Fin 128, si (ix2 r l) = ((c * (if l.val / 32 % 2 = 0 then - S ⟨l.val % 32, by omega⟩ else S ⟨l.val % 32, by omega⟩) : ℝ) : EReal)) (d : Fin 64) :
    rope co si x (ix2 r ⟨64 * p.val + d.val, by omega⟩) = ((c * SwaSpec.ropeR X C S d : ℝ) : EReal) := by
  rw [rope_apply, hco, hsi, hx]
  unfold SwaSpec.ropeR
  have hC : (⟨(64 * p.val + d.val) % 32, by omega⟩ : Fin 32) = ⟨d.val % 32, by omega⟩ := Fin.ext (by dsimp only; omega)
  dsimp only
  rw [hC]
  have hl : (64 * p.val + d.val) / 32 % 2 = 0 ↔ d.val < 32 := by omega
  by_cases hd : d.val < 32
  · rw [if_pos (hl.mpr hd), if_pos (hl.mpr hd), dif_pos hd]
    have e : (⟨(64 * p.val + d.val + 32) % 128, by omega⟩ : Fin 128) = ⟨64 * p.val + (⟨32 + d.val, by omega⟩ : Fin 64).val, by omega⟩ := Fin.ext (by dsimp only; omega)
    have e' : (⟨d.val % 32, by omega⟩ : Fin 32) = ⟨d.val, hd⟩ := Fin.ext (by dsimp only; omega)
    rw [e, hx, e', ← EReal.coe_mul, ← EReal.coe_mul, ← EReal.coe_add, EReal.coe_eq_coe_iff]
    ring
  · rw [if_neg (fun h => hd (hl.mp h)), if_neg (fun h => hd (hl.mp h)), dif_neg hd]
    have e : (⟨(64 * p.val + d.val + 96) % 128, by omega⟩ : Fin 128) = ⟨64 * p.val + (⟨d.val - 32, by omega⟩ : Fin 64).val, by omega⟩ := Fin.ext (by dsimp only; omega)
    have e' : (⟨d.val % 32, by omega⟩ : Fin 32) = ⟨d.val - 32, by omega⟩ := Fin.ext (by dsimp only; omega)
    rw [e, hx, e', ← EReal.coe_mul, ← EReal.coe_mul, ← EReal.coe_add, EReal.coe_eq_coe_iff]
    ring

theorem ropeR_one (co si x : FVec Ideal S128x128 .f32) (r : Fin 128) (p : Fin 2) (X : Fin 64 → ℝ) (C S : Fin 32 → ℝ)
    (hx : ∀ d : Fin 64, x (ix2 r ⟨64 * p.val + d.val, by omega⟩) = ((X d : ℝ) : EReal))
    (hco : ∀ l : Fin 128, co (ix2 r l) = ((C ⟨l.val % 32, by omega⟩ : ℝ) : EReal))
    (hsi : ∀ l : Fin 128, si (ix2 r l) = (((if l.val / 32 % 2 = 0 then - S ⟨l.val % 32, by omega⟩ else S ⟨l.val % 32, by omega⟩) : ℝ) : EReal)) (d : Fin 64) :
    rope co si x (ix2 r ⟨64 * p.val + d.val, by omega⟩) = ((SwaSpec.ropeR X C S d : ℝ) : EReal) := by
  rw [rope_half co si x r p 1 X C S hx (fun l => by rw [hco, one_mul]) (fun l => by rw [hsi, one_mul]), one_mul]

/-- A group's key head, real. -/
theorem keyHead_apply (co si : FVec Ideal S128x128 .f32) (kv : FVec Ideal S128x512 .f32) (g : Fin 4) (r l : Fin 128) (P : Fin 512 → ℝ) (C S : Fin 32 → ℝ)
    (hP : ∀ c, kv (ix2 r c) = ((P c : ℝ) : EReal))
    (hco : ∀ l : Fin 128, co (ix2 r l) = ((C ⟨l.val % 32, by omega⟩ : ℝ) : EReal))
    (hsi : ∀ l : Fin 128, si (ix2 r l) = (((if l.val / 32 % 2 = 0 then - S ⟨l.val % 32, by omega⟩ else S ⟨l.val % 32, by omega⟩) : ℝ) : EReal)) :
    keyHead co si kv g (ix2 r l) = ((SwaSpec.ropeR (fun d => P ⟨64 * g.val + d.val, by omega⟩) C S ⟨l.val % 64, by omega⟩ : ℝ) : EReal) := by
  unfold keyHead
  have hx : ∀ (p : Fin 2) (h : 2 * (g.val / 2) + p.val = g.val) (d : Fin 64), slab kv (128 * (g.val / 2)) (slicesKV _ (by omega)) (ix2 r ⟨64 * p.val + d.val, by omega⟩) = ((P ⟨64 * g.val + d.val, by omega⟩ : ℝ) : EReal) := by
    intro p h d
    rw [slab_apply _ _ _ (by omega), ← hP]
    exact congrArg (fun j => kv (ix2 r j)) (Fin.ext (by dsimp only; omega))
  rcases Nat.mod_two_eq_zero_or_one g.val with hg | hg
  · rw [hg]
    show dupLow _ _ = _
    rw [dupLow_apply, ← ropeR_one co si _ r 0 _ C S (hx 0 (by show 2 * (g.val / 2) + 0 = g.val; omega)) hco hsi]
    exact congrArg (fun j => rope co si _ (ix2 r j)) (Fin.ext (by show l.val % 64 = 64 * 0 + l.val % 64; omega))
  · rw [hg]
    show dupHigh _ _ = _
    rw [dupHigh_apply, ← ropeR_one co si _ r 1 _ C S (hx 1 (by show 2 * (g.val / 2) + 1 = g.val; omega)) hco hsi]
    rfl

/-- A group's value head. -/
theorem valHead_apply (kv : FVec Ideal S128x512 .f32) (g : Fin 4) (r l : Fin 128) :
    valHead kv g (ix2 r l) = kv (ix2 r ⟨256 + (64 * g.val + l.val % 64), by omega⟩) := by
  unfold valHead
  rcases Nat.mod_two_eq_zero_or_one g.val with hg | hg
  · rw [hg]
    show dupLow _ _ = _
    rw [dupLow_apply, slab_apply _ _ _ (by omega)]
    exact congrArg (fun j => kv (ix2 r j)) (Fin.ext (by dsimp only; omega))
  · rw [hg]
    show dupHigh _ _ = _
    rw [dupHigh_apply, slab_apply _ _ _ (by omega)]
    exact congrArg (fun j => kv (ix2 r j)) (Fin.ext (by dsimp only; omega))

theorem sinkOf_real (x : ℝ) : sinkOf (F := Ideal) ((x : ℝ) : EReal) = (SwaSpec.lg : EReal) * (x : EReal) := by
  rw [mul_comm]; rfl

theorem sum_mul_coe (c : ℝ) (q K : Fin 64 → ℝ) :
    ∑ d, ((((1 / 8) * c * q d : ℝ)) : EReal) * ((K d : ℝ) : EReal) = (c : EReal) * ((∑ d, ((K d : ℝ) : EReal) * ((q d : ℝ) : EReal)) * ((1 / 8 : ℝ) : EReal)) := by
  simp only [← EReal.coe_mul, ← SwaSpec.coe_sum]
  rw [EReal.coe_eq_coe_iff, Finset.sum_mul, Finset.mul_sum]
  exact Finset.sum_congr rfl fun d _ => by ring

/-- A slab of the kernel's output, entry by entry, where everything is real. -/
theorem outSlab_apply (valid : IVec S128x256 1) (co si coq siq : FVec Ideal S128x128 .f32) (kv : FVec Ideal S128x512 .f32) (sk : Fin 32 → Elt Ideal .f32)
    (q z : Fin 16 → Vec Ideal S128x128 .bf16) (kp vp : Fin 4 → Vec Ideal S1x128x128 .bf16) (g a : Fin 4) (p : Fin 2) (r : Fin 128) (d : Fin 64)
    (see : Fin 256 → Prop) [DecidablePred see] (hv : ∀ x, valid (ix2 r x) = if see x then 1#1 else 0#1)
    (Q : Fin 64 → ℝ) (C S : Fin 32 → ℝ) (K V : Fin 256 → Fin 64 → ℝ) (SK : ℝ)
    (hq : ∀ d : Fin 64, q ⟨4 * g.val + a.val, by omega⟩ (ix2 r ⟨64 * p.val + d.val, by omega⟩) = ((Q d : ℝ) : EReal))
    (hco : ∀ l : Fin 128, coq (ix2 r l) = (((1 / 8) * SwaSpec.lg * C ⟨l.val % 32, by omega⟩ : ℝ) : EReal))
    (hsi : ∀ l : Fin 128, siq (ix2 r l) = (((1 / 8) * SwaSpec.lg * (if l.val / 32 % 2 = 0 then - S ⟨l.val % 32, by omega⟩ else S ⟨l.val % 32, by omega⟩) : ℝ) : EReal))
    (hk : ∀ (x : Fin 256) (l : Fin 128), stack (kp g) (keyHead co si kv g) (ix2 x l) = ((K x ⟨l.val % 64, by omega⟩ : ℝ) : EReal))
    (hvv : ∀ (x : Fin 256) (l : Fin 128), stack (vp g) (valHead kv g) (ix2 x l) = ((V x ⟨l.val % 64, by omega⟩ : ℝ) : EReal))
    (hsk : sk ⟨8 * g.val + (2 * a.val + p.val), by omega⟩ = ((SK : ℝ) : EReal)) :
    outSlab valid co si coq siq kv sk q z kp vp g a (ix2 r ⟨64 * p.val + d.val, by omega⟩)
      = SwaSpec.head (SwaSpec.scores (SwaSpec.rope (fun d => ((Q d : ℝ) : EReal)) (fun i => ((C i : ℝ) : EReal)) (fun i => ((S i : ℝ) : EReal))) (fun j d => ((K j d : ℝ) : EReal)) see) (SK : EReal)
          (fun j => ((V j d : ℝ) : EReal))
        * ((z ⟨4 * g.val + a.val, by omega⟩ (ix2 r ⟨64 * p.val + d.val, by omega⟩) : EReal) * Ideal.logistic (z ⟨4 * g.val + a.val, by omega⟩ (ix2 r ⟨64 * p.val + d.val, by omega⟩))) := by
  set s := SwaSpec.scores (SwaSpec.rope (fun d => ((Q d : ℝ) : EReal)) (fun i => ((C i : ℝ) : EReal)) (fun i => ((S i : ℝ) : EReal))) (fun j d => ((K j d : ℝ) : EReal)) see with hs
  have hst : ∀ j, s j ≠ ⊤ := by
    intro j
    rw [hs]
    unfold SwaSpec.scores
    split
    · simp only [SwaSpec.rope_coe, ← EReal.coe_mul, ← SwaSpec.coe_sum]
      exact EReal.coe_ne_top _
    · exact bot_ne_top
  rw [← SwaSpec.head_eq s hst SK (fun j => V j d)]
  -- the head's scores
  set SS := groupScores co si coq siq kv q kp g with hSS
  have hS : ∀ (o : ℕ) (ho : o + 128 ≤ 1024) (h : S1024x256.Slices ![o, 0] S128x256) (hoo : o = 128 * (2 * a.val + p.val)) (x : Fin 256), maskedS valid SS o h (ix2 r x) = (SwaSpec.lg : EReal) * s x := by
    intro o ho h hoo x
    subst hoo
    rw [maskedS_apply _ _ _ _ ho, hv, select_if, hs]
    unfold SwaSpec.scores
    by_cases hx : see x
    · rw [if_pos hx, if_pos hx]
      have := scores_apply coq siq (fun a => q ⟨4 * g.val + a.val, by omega⟩) (stack (kp g) (keyHead co si kv g)) a p r x (fun d => ((K x d : ℝ) : EReal)) (fun l => hk x l)
      refine this.trans ?_
      simp only [SwaSpec.rope_coe]
      rw [← sum_mul_coe]
      refine Finset.sum_congr rfl fun d _ => congrArg (· * _) ?_
      exact rope_half coq siq _ r p ((1 / 8) * SwaSpec.lg) Q C S hq hco hsi d
    · rw [if_neg hx, if_neg hx, SwaSpec.lg_bot]
  have hK : ∀ t : Fin 8, t.val = 2 * a.val + p.val → sinkAt sk g t = (SwaSpec.lg : EReal) * (SK : EReal) := by
    intro t ht
    rw [← sinkOf_real, ← hsk]
    exact congrArg (fun n => sinkOf (sk n)) (Fin.ext (by dsimp only; omega))
  have hW : ∀ (o : ℕ) (ho : o + 128 ≤ 1024) (h : S1024x256.Slices ![o, 0] S128x256) (hoo : o = 128 * (2 * a.val + p.val)),
      (fun x => maskedS valid SS o h (ix2 r x)) = fun x => (SwaSpec.lg : EReal) * s x := fun o ho h hoo => funext fun x => hS o ho h hoo x
  have hpv : ∀ (i : Fin 1024) (hi : i.val = 128 * (2 * a.val + p.val) + r.val) (l : Fin 128) (hl : l.val = 64 * p.val + d.val),
      groupPV valid SS (stack (vp g) (valHead kv g)) (sinkAt sk g 0) (sinkAt sk g 1) (sinkAt sk g 2) (sinkAt sk g 3) (sinkAt sk g 4) (sinkAt sk g 5) (sinkAt sk g 6) (sinkAt sk g 7) (ix2 i l)
        = ∑ j, Ideal.exp2 ((SwaSpec.lg : EReal) * s j - SwaSpec.top (fun j => (SwaSpec.lg : EReal) * s j) ((SwaSpec.lg : EReal) * (SK : EReal))) * ((V j d : ℝ) : EReal) := by
    intro i hi l hl
    have hie : i = ⟨128 * (⟨2 * a.val + p.val, by omega⟩ : Fin 8).val + r.val, by dsimp only; omega⟩ := Fin.ext hi
    rw [hie]
    refine (weighted_apply (fun t => maskedS valid SS (128 * t.val) (slicesS _ (by omega))) (fun t => sinkAt sk g t) (stack (vp g) (valHead kv g)) ⟨2 * a.val + p.val, by omega⟩ r l).trans ?_
    refine Finset.sum_congr rfl fun j _ => congrArg₂ _ ?_ ?_
    · rw [weights_apply, hW _ (by omega) _ rfl, hS _ (by omega) _ rfl, hK _ rfl]
    · rw [hvv]
      exact congrArg (fun d => ((V j d : ℝ) : EReal)) (Fin.ext (by dsimp only; omega))
  have hn : ∀ (o : ℕ) (ho : o + 128 ≤ 1024) (h : S1024x256.Slices ![o, 0] S128x256) (hoo : o = 128 * (2 * a.val + p.val)) (t : Fin 8) (ht : t.val = 2 * a.val + p.val),
      normaliser (maskedS valid SS o h) (sinkAt sk g t) (ix2 r (0 : Fin 1)) = Ideal.div 1 ((∑ i, Ideal.exp2 ((SwaSpec.lg : EReal) * s i - SwaSpec.top (fun j => (SwaSpec.lg : EReal) * s j) ((SwaSpec.lg : EReal) * (SK : EReal))))
        + Ideal.exp2 ((SwaSpec.lg : EReal) * (SK : EReal) - SwaSpec.top (fun j => (SwaSpec.lg : EReal) * s j) ((SwaSpec.lg : EReal) * (SK : EReal)))) := by
    intro o ho h hoo t ht
    rw [normaliser_apply, hW o ho h hoo, hK t ht]
    simp only [hS o ho h hoo]
  unfold outSlab slabOut
  rw [pairOut_apply _ _ _ _ _ (by omega) (by omega)]
  refine congrArg (· * _) ?_
  unfold SwaSpec.head2
  match p with
  | 0 =>
    rw [if_pos (by show 64 * 0 + d.val < 64; omega)]
    exact congrArg₂ _ (hpv _ (by show 256 * a.val + r.val = 128 * (2 * a.val + 0) + r.val; omega) _ rfl)
      (hn _ (by omega) _ (by show 256 * a.val = 128 * (2 * a.val + 0); omega) _ rfl)
  | 1 =>
    rw [if_neg (by show ¬ 64 * 1 + d.val < 64; omega)]
    exact congrArg₂ _ (hpv _ (by show 256 * a.val + 128 + r.val = 128 * (2 * a.val + 1) + r.val; omega) _ rfl)
      (hn _ (by omega) _ (by show 256 * a.val + 128 = 128 * (2 * a.val + 1); omega) _ rfl)

end Cert.Swa

end
-- ==== Proof.SwaKernel.lean ====
/-
  The sliding-window attention's run: each grid point's blocks as parts of the arguments, what the point before it kept,
  and so every entry of the two results as a function of the arguments.
-/
module

public import proofs.«01_k».proof.Proof.SwaStored
public import proofs.«01_k».proof.Proof.SwaValue

@[expose] public section

set_option maxRecDepth 16384

noncomputable section

open Idealize.ShloMosaic Idealize.ShloMosaic.TcCoe Idealize.SL.Sem
open Idealize.ShloMosaic.Pipeline (Dat)
open Cert.Kernel5Ideal Cert.Kernel5Ideal.Gen
open scoped BigOperators

namespace Cert.Swa

theorem eq2 {a b : ℕ} (i : (⟨2, ![a, b]⟩ : Shape).Idx) : i = ix2 (i 0) (i 1) := funext fun k => by fin_cases k <;> rfl

theorem ix_maps : ∀ t : Fin grid0.N, cc0_transform_0 (grid0.coords t) = ![0] ∧ cc0_transform_1 (grid0.coords t) = ![t.val, 4]
    ∧ cc0_transform_2 (grid0.coords t) = ![t.val, 5] ∧ cc0_transform_3 (grid0.coords t) = ![t.val, 0] ∧ cc0_transform_4 (grid0.coords t) = ![0, 0, 0]
    ∧ cc0_transform_5 (grid0.coords t) = ![0, 0, 0] ∧ cc0_transform_6 (grid0.coords t) = ![t.val, 0] ∧ cc0_transform_7 (grid0.coords t) = ![t.val, 0]
    ∧ cc0_transform_8 (grid0.coords t) = ![t.val, 0] ∧ cc0_transform_9 (grid0.coords t) = ![t.val, 0] ∧ t.val % 32 = (grid0.coords t 1).val := by decide +kernel

theorem point_lt (t : Fin cfg0.N) : t.val < 256 := lt_of_lt_of_eq t.isLt (show cfg0.N = 256 from N_0)

/-- Row `r` of block `t`. -/
abbrev row (t : Fin cfg0.N) (r : Fin 128) : Fin 32768 := ⟨128 * t.val + r.val, by have := point_lt t; omega⟩

/-- The cosines, four times over. -/
theorem cos_table (C : FVec Ideal S32768x32 .f32) (h) (r : Fin 32768) (l : Fin 128) :
    concatenate S32768x128 1 [⟨S32768x32, C⟩, ⟨S32768x32, C⟩, ⟨S32768x32, C⟩, ⟨S32768x32, C⟩] h (ix2 r l) = C (ix2 r ⟨l.val % 32, by omega⟩) := by
  pointwise
  obtain ⟨l, hl⟩ := l
  dsimp only
  split_ifs <;> refine congrArg (fun i => C (ix2 r i)) (Fin.ext ?_) <;> dsimp only <;> omega

/-- The sines, four times over, negated in the first half of each head. -/
theorem sin_table (C : FVec Ideal S32768x32 .f32) (h) (r : Fin 32768) (l : Fin 128) :
    concatenate S32768x128 1 [⟨S32768x32, Host.negf C⟩, ⟨S32768x32, C⟩, ⟨S32768x32, Host.negf C⟩, ⟨S32768x32, C⟩] h (ix2 r l)
      = if l.val / 32 % 2 = 0 then - (C (ix2 r ⟨l.val % 32, by omega⟩) : EReal) else C (ix2 r ⟨l.val % 32, by omega⟩) := by
  pointwise
  obtain ⟨l, hl⟩ := l
  dsimp only
  by_cases h2 : l / 32 % 2 = 0
  · refine Eq.trans ?_ (if_pos h2).symm
    split_ifs <;> first
      | (exfalso; omega)
      | exact congrArg (fun i => - (C (ix2 r i) : EReal)) (Fin.ext (by omega))
      | exact congrArg (fun i => - (C (ix2 r i) : EReal)) (Fin.ext (by dsimp only; omega))
  · refine Eq.trans ?_ (if_neg h2).symm
    split_ifs <;> first
      | (exfalso; omega)
      | exact congrArg (fun i => C (ix2 r i)) (Fin.ext (by omega))
      | exact congrArg (fun i => C (ix2 r i)) (Fin.ext (by dsimp only; omega))

variable (m : (ℓ : Loc nD τ sig) → Buf (Elt Ideal) ℓ) (ρ : Dev nD → PrngReg)

/-- The cosines. -/
abbrev cosA (c : Dev nD) : FVec Ideal S32768x32 .f32 := m ((c : Thread nD τ).loc main_arg4)
/-- The sines. -/
abbrev sinA (c : Dev nD) : FVec Ideal S32768x32 .f32 := m ((c : Thread nD τ).loc main_arg5)

theorem V_cos (c : Dev nD) (r : Fin 32768) (l : Fin 128) : V m c main_v0 (ix2 r l) = cosA m c (ix2 r ⟨l.val % 32, by omega⟩) :=
  cos_table (cosA m c) concatenates_S32768x32_S32768x32_S32768x32_S32768x32_S32768x128_d1 r l

theorem V_sin (c : Dev nD) (r : Fin 32768) (l : Fin 128) : V m c main_v3 (ix2 r l)
    = if l.val / 32 % 2 = 0 then - (sinA m c (ix2 r ⟨l.val % 32, by omega⟩) : EReal) else sinA m c (ix2 r ⟨l.val % 32, by omega⟩) :=
  sin_table (sinA m c) concatenates_S32768x32_S32768x32_S32768x32_S32768x32_S32768x128_d1 r l

/-- The sinks, fetched whole. -/
theorem blk0 (c : Dev nD) (t : Fin cfg0.N) (n : Fin 32) : iblk m c 0 t (ix1 n) = m ((c : Thread nD τ).loc main_arg6) (ix1 n) := by
  show V m c main_arg6 (((cfg0.win 0).blk t).view.emb (ix1 n : S32.Idx)) = _
  refine (congrFun (V_main_arg6 m c) _).trans (congrArg _ ?_)
  have e := (ix_maps t).1
  funext a
  fin_cases a
  apply Fin.ext
  show cc0_transform_0 (grid0.coords t) 0 * 32 + 1 * n.val = _
  rw [e]
  show 0 * 32 + 1 * n.val = n.val
  omega

/-- The block's query heads. -/
theorem blk1 (c : Dev nD) (t : Fin cfg0.N) (r : Fin 128) (l : Fin 2048) :
    iblk m c 1 t (ix2 r l) = m ((c : Thread nD τ).loc main_arg0) (ix2 (row t r) (⟨8192 + l.val, by omega⟩ : Fin 16384)) := by
  show V m c main_arg0 (((cfg0.win 1).blk t).view.emb (ix2 r l : S128x2048.Idx)) = _
  refine (congrFun (V_main_arg0 m c) _).trans (congrArg _ ?_)
  have e := (ix_maps t).2.1
  funext a
  fin_cases a <;> apply Fin.ext
  · show cc0_transform_1 (grid0.coords t) 0 * 128 + 1 * r.val = 128 * t.val + r.val
    rw [e]
    show t.val * 128 + 1 * r.val = 128 * t.val + r.val
    omega
  · show cc0_transform_1 (grid0.coords t) 1 * 2048 + 1 * l.val = _
    rw [e]
    show 4 * 2048 + 1 * l.val = 8192 + l.val
    omega

/-- The block's gates. -/
theorem blk2 (c : Dev nD) (t : Fin cfg0.N) (r : Fin 128) (l : Fin 2048) :
    iblk m c 2 t (ix2 r l) = m ((c : Thread nD τ).loc main_arg0) (ix2 (row t r) (⟨10240 + l.val, by omega⟩ : Fin 16384)) := by
  show V m c main_arg0 (((cfg0.win 2).blk t).view.emb (ix2 r l : S128x2048.Idx)) = _
  refine (congrFun (V_main_arg0 m c) _).trans (congrArg _ ?_)
  have e := (ix_maps t).2.2.1
  funext a
  fin_cases a <;> apply Fin.ext
  · show cc0_transform_2 (grid0.coords t) 0 * 128 + 1 * r.val = 128 * t.val + r.val
    rw [e]
    show t.val * 128 + 1 * r.val = 128 * t.val + r.val
    omega
  · show cc0_transform_2 (grid0.coords t) 1 * 2048 + 1 * l.val = _
    rw [e]
    show 5 * 2048 + 1 * l.val = 10240 + l.val
    omega

/-- The block's hidden rows. -/
theorem blk3 (c : Dev nD) (t : Fin cfg0.N) (r : Fin 128) (l : Fin 2048) :
    iblk m c 3 t (ix2 r l) = m ((c : Thread nD τ).loc main_arg1) (ix2 (row t r) l) := by
  show V m c main_arg1 (((cfg0.win 3).blk t).view.emb (ix2 r l : S128x2048.Idx)) = _
  refine (congrFun (V_main_arg1 m c) _).trans (congrArg _ ?_)
  have e := (ix_maps t).2.2.2.1
  funext a
  fin_cases a <;> apply Fin.ext
  · show cc0_transform_3 (grid0.coords t) 0 * 128 + 1 * r.val = 128 * t.val + r.val
    rw [e]
    show t.val * 128 + 1 * r.val = 128 * t.val + r.val
    omega
  · show cc0_transform_3 (grid0.coords t) 1 * 2048 + 1 * l.val = _
    rw [e]
    show 0 * 2048 + 1 * l.val = l.val
    omega

/-- The first layer's key and value weights. -/
theorem blk4 (c : Dev nD) (t : Fin cfg0.N) (k : Fin 2048) (l : Fin 512) :
    iblk m c 4 t (ix3 (0 : Fin 1) k l) = m ((c : Thread nD τ).loc main_arg2) (ix3 (0 : Fin 2) k l) := by
  show V m c main_arg2 (((cfg0.win 4).blk t).view.emb (ix3 (0 : Fin 1) k l : S1x2048x512.Idx)) = _
  refine (congrFun (V_main_arg2 m c) _).trans (congrArg _ ?_)
  have e := (ix_maps t).2.2.2.2.1
  funext a
  fin_cases a <;> apply Fin.ext
  · show cc0_transform_4 (grid0.coords t) 0 * 1 + 1 * 0 = 0
    rw [e]; rfl
  · show cc0_transform_4 (grid0.coords t) 1 * 2048 + 1 * k.val = k.val
    rw [e]
    show 0 * 2048 + 1 * k.val = k.val
    omega
  · show cc0_transform_4 (grid0.coords t) 2 * 512 + 1 * l.val = l.val
    rw [e]
    show 0 * 512 + 1 * l.val = l.val
    omega

/-- The first layer's beta and gate weights. -/
theorem blk5 (c : Dev nD) (t : Fin cfg0.N) (k : Fin 2048) (l : Fin 128) :
    iblk m c 5 t (ix3 (0 : Fin 1) k l) = m ((c : Thread nD τ).loc main_arg3) (ix3 (0 : Fin 2) k l) := by
  show V m c main_arg3 (((cfg0.win 5).blk t).view.emb (ix3 (0 : Fin 1) k l : S1x2048x128.Idx)) = _
  refine (congrFun (V_main_arg3 m c) _).trans (congrArg _ ?_)
  have e := (ix_maps t).2.2.2.2.2.1
  funext a
  fin_cases a <;> apply Fin.ext
  · show cc0_transform_5 (grid0.coords t) 0 * 1 + 1 * 0 = 0
    rw [e]; rfl
  · show cc0_transform_5 (grid0.coords t) 1 * 2048 + 1 * k.val = k.val
    rw [e]
    show 0 * 2048 + 1 * k.val = k.val
    omega
  · show cc0_transform_5 (grid0.coords t) 2 * 128 + 1 * l.val = l.val
    rw [e]
    show 0 * 128 + 1 * l.val = l.val
    omega

/-- The block's cosines. -/
theorem blk6 (c : Dev nD) (t : Fin cfg0.N) (r l : Fin 128) :
    iblk m c 6 t (ix2 r l) = cosA m c (ix2 (row t r) ⟨l.val % 32, by omega⟩) := by
  show V m c main_v0 (((cfg0.win 6).blk t).view.emb (ix2 r l : S128x128.Idx)) = _
  refine (congrArg (V m c main_v0) ?_).trans (V_cos m c (row t r) l)
  have e := (ix_maps t).2.2.2.2.2.2.1
  funext a
  fin_cases a <;> apply Fin.ext
  · show cc0_transform_6 (grid0.coords t) 0 * 128 + 1 * r.val = 128 * t.val + r.val
    rw [e]
    show t.val * 128 + 1 * r.val = 128 * t.val + r.val
    omega
  · show cc0_transform_6 (grid0.coords t) 1 * 128 + 1 * l.val = l.val
    rw [e]
    show 0 * 128 + 1 * l.val = l.val
    omega

/-- The block's sines. -/
theorem blk7 (c : Dev nD) (t : Fin cfg0.N) (r l : Fin 128) :
    iblk m c 7 t (ix2 r l) = if l.val / 32 % 2 = 0 then - (sinA m c (ix2 (row t r) ⟨l.val % 32, by omega⟩) : EReal) else sinA m c (ix2 (row t r) ⟨l.val % 32, by omega⟩) := by
  show V m c main_v3 (((cfg0.win 7).blk t).view.emb (ix2 r l : S128x128.Idx)) = _
  refine (congrArg (V m c main_v3) ?_).trans (V_sin m c (row t r) l)
  have e := (ix_maps t).2.2.2.2.2.2.2.1
  funext a
  fin_cases a <;> apply Fin.ext
  · show cc0_transform_7 (grid0.coords t) 0 * 128 + 1 * r.val = 128 * t.val + r.val
    rw [e]
    show t.val * 128 + 1 * r.val = 128 * t.val + r.val
    omega
  · show cc0_transform_7 (grid0.coords t) 1 * 128 + 1 * l.val = l.val
    rw [e]
    show 0 * 128 + 1 * l.val = l.val
    omega

theorem emb8 (t : Fin cfg0.N) (r : Fin 128) (l : Fin 2048) :
    ((cfg0.win 8).blk t).view.emb (ix2 r l : S128x2048.Idx) = (ix2 (row t r) l : S32768x2048.Idx) := by
  have e := (ix_maps t).2.2.2.2.2.2.2.2.1
  funext a
  fin_cases a <;> apply Fin.ext
  · show cc0_transform_8 (grid0.coords t) 0 * 128 + 1 * r.val = 128 * t.val + r.val
    rw [e]
    show t.val * 128 + 1 * r.val = 128 * t.val + r.val
    omega
  · show cc0_transform_8 (grid0.coords t) 1 * 2048 + 1 * l.val = l.val
    rw [e]
    show 0 * 2048 + 1 * l.val = l.val
    omega

theorem cover8 (i : S32768x2048.Idx) : ∃ t : Fin cfg0.N, (cfg0.win 8).flush t = true ∧ i ∈ ((cfg0.win 8).blk t).view.set := by
  have h0 : (i 0).val < 32768 := (i 0).isLt
  have hN : cfg0.N = 256 := N_0
  obtain ⟨t, ht⟩ : ∃ t : Fin cfg0.N, t.val = (i 0).val / 128 := ⟨⟨(i 0).val / 128, by rw [hN]; omega⟩, rfl⟩
  refine ⟨t, flush0_8 _, ?_⟩
  have e' : i = (((cfg0.win 8).blk t).view.emb (ix2 (⟨(i 0).val % 128, by omega⟩ : Fin 128) (i 1) : S128x2048.Idx) : S32768x2048.Idx) := by
    refine Eq.trans ?_ (emb8 t ⟨(i 0).val % 128, by omega⟩ (i 1)).symm
    funext a
    fin_cases a
    · apply Fin.ext
      show (i 0).val = 128 * t.val + (i 0).val % 128
      omega
    · rfl
  rw [e']
  exact View.emb_mem_set _ _

theorem emb9 (t : Fin cfg0.N) (r : Fin 128) (l : Fin 128) :
    ((cfg0.win 9).blk t).view.emb (ix2 r l : S128x128.Idx) = (ix2 (row t r) l : S32768x128.Idx) := by
  have e := (ix_maps t).2.2.2.2.2.2.2.2.2.1
  funext a
  fin_cases a <;> apply Fin.ext
  · show cc0_transform_9 (grid0.coords t) 0 * 128 + 1 * r.val = 128 * t.val + r.val
    rw [e]
    show t.val * 128 + 1 * r.val = 128 * t.val + r.val
    omega
  · show cc0_transform_9 (grid0.coords t) 1 * 128 + 1 * l.val = l.val
    rw [e]
    show 0 * 128 + 1 * l.val = l.val
    omega

theorem cover9 (i : S32768x128.Idx) : ∃ t : Fin cfg0.N, (cfg0.win 9).flush t = true ∧ i ∈ ((cfg0.win 9).blk t).view.set := by
  have h0 : (i 0).val < 32768 := (i 0).isLt
  have hN : cfg0.N = 256 := N_0
  obtain ⟨t, ht⟩ : ∃ t : Fin cfg0.N, t.val = (i 0).val / 128 := ⟨⟨(i 0).val / 128, by rw [hN]; omega⟩, rfl⟩
  refine ⟨t, flush0_9 _, ?_⟩
  have e' : i = (((cfg0.win 9).blk t).view.emb (ix2 (⟨(i 0).val % 128, by omega⟩ : Fin 128) (i 1) : S128x128.Idx) : S32768x128.Idx) := by
    refine Eq.trans ?_ (emb9 t ⟨(i 0).val % 128, by omega⟩ (i 1)).symm
    funext a
    fin_cases a
    · apply Fin.ext
      show (i 0).val = 128 * t.val + (i 0).val % 128
      omega
    · rfl
  rw [e']
  exact View.emb_mem_set _ _

/-! ## What each point leaves -/

/-- Point `t`'s key heads. -/
def keysAt (c : Dev nD) (t : Fin cfg0.N) : Fin 4 → FVec Ideal S128x128 .bf16 :=
  keyHead (k0_pay6 (iblk m c 6 t)) (k0_pay7 (iblk m c 7 t)) (k0_pay8 (iblk m c 3 t) (iblk m c 4 t))

/-- Point `t`'s value heads. -/
def valsAt (c : Dev nD) (t : Fin cfg0.N) : Fin 4 → FVec Ideal S128x128 .bf16 := valHead (k0_pay8 (iblk m c 3 t) (iblk m c 4 t))

theorem kept_keys (c : Dev nD) (t : Fin cfg0.N) : (outsAt0 m c t.val t.isLt).2.2.1 = headsOf (keysAt m c t) := by
  by_cases h0 : t.val % 32 = 0
  · rw [outsAt0_A m c t h0]
    dsimp only
    exact keysA ..
  · rw [outsAt0_B m c t h0]
    dsimp only
    exact keysB ..

theorem kept_vals (c : Dev nD) (t : Fin cfg0.N) : (outsAt0 m c t.val t.isLt).2.2.2 = headsOf (valsAt m c t) := by
  by_cases h0 : t.val % 32 = 0
  · rw [outsAt0_A m c t h0]
    dsimp only
    exact valsA ..
  · rw [outsAt0_B m c t h0]
    dsimp only
    exact valsB ..

/-- The point before. -/
abbrev before (t : Fin cfg0.N) : Fin cfg0.N := ⟨t.val - 1, Nat.lt_of_le_of_lt (Nat.sub_le _ _) t.isLt⟩

/-- The heads a point finds: none at a sequence's first block, otherwise the point before's. -/
def found (hd : Fin cfg0.N → Fin 4 → FVec Ideal S128x128 .bf16) (t : Fin cfg0.N) (g : Fin 4) : Vec Ideal S1x128x128 .bf16 := fun y =>
  if t.val % 32 = 0 then (0 : EReal) else hd (before t) g (ix2 (y 1) (y 2))

theorem out_block (c : Dev nD) (t : Fin cfg0.N) : (outsAt0 m c t.val t.isLt).1
    = blockOf (pointOut (grid0.coords t) (iblk m c 0 t) (iblk m c 1 t) (iblk m c 2 t) (iblk m c 3 t) (iblk m c 4 t) (iblk m c 6 t) (iblk m c 7 t) (found (keysAt m c) t) (found (valsAt m c) t)) := by
  by_cases h0 : t.val % 32 = 0
  · have hk : found (keysAt m c) t = fun _ _ => (0 : EReal) := funext fun g => funext fun y => if_pos h0
    have hv : found (valsAt m c) t = fun _ _ => (0 : EReal) := funext fun g => funext fun y => if_pos h0
    rw [outsAt0_A m c t h0, hk, hv]
    dsimp only
    exact outA ..
  · have hk : found (keysAt m c) t = prevOf (headsOf (keysAt m c (before t))) := funext fun g => funext fun y => if_neg h0
    have hv : found (valsAt m c) t = prevOf (headsOf (valsAt m c (before t))) := funext fun g => funext fun y => if_neg h0
    rw [outsAt0_B m c t h0, hk, hv, ← kept_keys m c (before t), ← kept_vals m c (before t)]
    dsimp only
    exact outB ..

theorem gb_block (c : Dev nD) (t : Fin cfg0.N) : (outsAt0 m c t.val t.isLt).2.1 = k0_pay9 (iblk m c 3 t) (iblk m c 5 t) := by
  by_cases h0 : t.val % 32 = 0
  · rw [outsAt0_A m c t h0]
    dsimp only
    exact gbA ..
  · rw [outsAt0_B m c t h0]
    dsimp only
    exact gbB ..

theorem kv_apply (x : FVec Ideal S128x2048 .bf16) (w : FVec Ideal S1x2048x512 .bf16) (r : Fin 128) (l : Fin 512) :
    k0_pay8 (F := Ideal) x w (ix2 r l) = ∑ k : Fin 2048, x (ix2 r k) * w (ix3 (0 : Fin 1) k l) := by
  pointwise [k0_pay8]

theorem gb_apply (x : FVec Ideal S128x2048 .bf16) (w : FVec Ideal S1x2048x128 .bf16) (r l : Fin 128) :
    k0_pay9 (F := Ideal) x w (ix2 r l) = ∑ k : Fin 2048, x (ix2 r k) * w (ix3 (0 : Fin 1) k l) := by
  pointwise [k0_pay9]

end Cert.Swa

end
-- ==== Proof.SwaEntry.lean ====
/-
  Every entry of the sliding-window attention's two results as a function of the arguments, where the arguments that the
  scores and the values are made of are real numbers.
-/
module

public import proofs.«01_k».proof.Proof.SwaKernel

@[expose] public section

set_option maxRecDepth 16384

noncomputable section

open Idealize.ShloMosaic Idealize.ShloMosaic.TcCoe Idealize.SL.Sem
open Idealize.ShloMosaic.Pipeline (Dat)
open Cert.Kernel5Ideal Cert.Kernel5Ideal.Gen
open scoped BigOperators

namespace Cert.Swa

/-- The gated output at a row and a column, the column as a head's group, its slab, its half and its lane. -/
theorem out_at (U : Fin 32768 → Fin 16384 → EReal) (H : Fin 32768 → Fin 2048 → EReal) (W : Fin 2048 → Fin 512 → EReal) (C S : Fin 32768 → Fin 32 → EReal) (sk : Fin 32 → EReal)
    (t : Fin 256) (q : Fin 128) (g a : Fin 4) (p : Fin 2) (d : Fin 64) (R : Fin 32768) (hR : R.val = 128 * t.val + q.val) (l : Fin 2048)
    (hl : l.val = 128 * (4 * g.val + a.val) + (64 * p.val + d.val)) :
    SwaSpec.out U H W C S sk R l
      = SwaSpec.head (SwaSpec.scores (SwaSpec.query U C S R ⟨8 * g.val + (2 * a.val + p.val), by omega⟩)
            (fun j d => SwaSpec.window (fun r' => SwaSpec.key (SwaSpec.kv H W) C S r' g d) t j) (SwaSpec.seen t q))
          (sk ⟨8 * g.val + (2 * a.val + p.val), by omega⟩)
          (fun j => SwaSpec.window (fun r' => SwaSpec.value (SwaSpec.kv H W) r' g d) t j)
        * (U R ⟨10240 + l.val, by omega⟩ * Ideal.logistic (U R ⟨10240 + l.val, by omega⟩)) := by
  have e1 : (⟨l.val / 64, by omega⟩ : Fin 32) = ⟨8 * g.val + (2 * a.val + p.val), by omega⟩ := Fin.ext (by dsimp only; omega)
  have e2 : (⟨l.val / 512, by omega⟩ : Fin 4) = g := Fin.ext (by dsimp only; omega)
  have e3 : (⟨l.val % 64, by omega⟩ : Fin 64) = d := Fin.ext (by dsimp only; omega)
  have e4 : (⟨R.val / 128, by omega⟩ : Fin 256) = t := Fin.ext (by dsimp only; omega)
  have e5 : (⟨R.val % 128, by omega⟩ : Fin 128) = q := Fin.ext (by dsimp only; omega)
  have e6 : (⟨(8 * g.val + (2 * a.val + p.val)) / 8, by omega⟩ : Fin 4) = g := Fin.ext (by dsimp only; omega)
  unfold SwaSpec.out SwaSpec.rowScores
  rw [e1, e2, e3, e4, e5]
  dsimp only
  rw [e6]

/-- The window's rows, of real numbers. -/
def windowR (x : Fin 32768 → ℝ) (t j : Fin 256) : ℝ :=
  if h : j.val < 128 then (if h0 : t.val % 32 = 0 then 0 else x ⟨128 * (t.val - 1) + j.val, by omega⟩)
  else x ⟨128 * t.val + (j.val - 128), by omega⟩

theorem window_coe (x : Fin 32768 → ℝ) (t j : Fin 256) : SwaSpec.window (fun r => ((x r : ℝ) : EReal)) t j = ((windowR x t j : ℝ) : EReal) := by
  unfold SwaSpec.window windowR
  split_ifs <;> first | rfl | exact EReal.coe_zero.symm

variable (m : (ℓ : Loc nD τ sig) → Buf (Elt Ideal) ℓ) (ρ : Dev nD → PrngReg)

/-- The projected tokens. -/
abbrev tokA (c : Dev nD) : FVec Ideal S32768x16384 .bf16 := m ((c : Thread nD τ).loc main_arg0)
/-- The hidden rows. -/
abbrev hidA (c : Dev nD) : FVec Ideal S32768x2048 .bf16 := m ((c : Thread nD τ).loc main_arg1)
/-- The key and value weights of both layers. -/
abbrev kvwA (c : Dev nD) : FVec Ideal S2x2048x512 .bf16 := m ((c : Thread nD τ).loc main_arg2)
/-- The beta and gate weights of both layers. -/
abbrev gbwA (c : Dev nD) : FVec Ideal S2x2048x128 .bf16 := m ((c : Thread nD τ).loc main_arg3)
/-- The sinks. -/
abbrev snkA (c : Dev nD) : FVec Ideal S32 .f32 := m ((c : Thread nD τ).loc main_arg6)

/-- The gated attention, from the arguments. -/
def wantOut (c : Dev nD) : FVec Ideal S32768x2048 .bf16 := fun i =>
  SwaSpec.out (fun r k => tokA m c (ix2 r k)) (fun r k => hidA m c (ix2 r k)) (fun k l => kvwA m c (ix3 (0 : Fin 2) k l)) (fun r i => cosA m c (ix2 r i))
    (fun r i => sinA m c (ix2 r i)) (fun h => snkA m c (ix1 h)) (i 0) (i 1)

/-- The beta and gate projection, from the arguments. -/
def wantGb (c : Dev nD) : FVec Ideal S32768x128 .f32 := fun i => ∑ k : Fin 2048, hidA m c (ix2 (i 0) k) * gbwA m c (ix3 (0 : Fin 2) k (i 1))

/-- The arguments that the scores and the values are made of are real numbers. -/
structure Reals (c : Dev nD) (Q : Fin 32768 → Fin 2048 → ℝ) (H : Fin 32768 → Fin 2048 → ℝ) (W : Fin 2048 → Fin 512 → ℝ) (C S : Fin 32768 → Fin 32 → ℝ) (SK : Fin 32 → ℝ) : Prop where
  q : ∀ r l, tokA m c (ix2 r ⟨8192 + l.val, by omega⟩) = ((Q r l : ℝ) : EReal)
  h : ∀ r k, hidA m c (ix2 r k) = ((H r k : ℝ) : EReal)
  w : ∀ k l, kvwA m c (ix3 (0 : Fin 2) k l) = ((W k l : ℝ) : EReal)
  co : ∀ r i, cosA m c (ix2 r i) = ((C r i : ℝ) : EReal)
  si : ∀ r i, sinA m c (ix2 r i) = ((S r i : ℝ) : EReal)
  sk : ∀ n, snkA m c (ix1 n) = ((SK n : ℝ) : EReal)

variable {m} {c : Dev nD} {Q : Fin 32768 → Fin 2048 → ℝ} {H : Fin 32768 → Fin 2048 → ℝ} {W : Fin 2048 → Fin 512 → ℝ} {C S : Fin 32768 → Fin 32 → ℝ} {SK : Fin 32 → ℝ}

/-- The projected keys and values, of real numbers. -/
def kvR (H : Fin 32768 → Fin 2048 → ℝ) (W : Fin 2048 → Fin 512 → ℝ) (r : Fin 32768) (l : Fin 512) : ℝ := ∑ k, H r k * W k l

theorem kv_coe (H : Fin 32768 → Fin 2048 → ℝ) (W : Fin 2048 → Fin 512 → ℝ) (r : Fin 32768) (l : Fin 512) :
    SwaSpec.kv (fun r k => ((H r k : ℝ) : EReal)) (fun k l => ((W k l : ℝ) : EReal)) r l = ((kvR H W r l : ℝ) : EReal) := by
  unfold SwaSpec.kv kvR
  rw [SwaSpec.coe_sum]
  exact Finset.sum_congr rfl fun k _ => (EReal.coe_mul _ _).symm

/-- A key head's entry. -/
def keyR (H : Fin 32768 → Fin 2048 → ℝ) (W : Fin 2048 → Fin 512 → ℝ) (C S : Fin 32768 → Fin 32 → ℝ) (g : Fin 4) (d : Fin 64) (r : Fin 32768) : ℝ :=
  SwaSpec.ropeR (fun d => kvR H W r ⟨64 * g.val + d.val, by omega⟩) (C r) (S r) d

/-- A value head's entry. -/
def valR (H : Fin 32768 → Fin 2048 → ℝ) (W : Fin 2048 → Fin 512 → ℝ) (g : Fin 4) (d : Fin 64) (r : Fin 32768) : ℝ :=
  kvR H W r ⟨256 + (64 * g.val + d.val), by omega⟩

theorem kv_block (hr : Reals m c Q H W C S SK) (t : Fin cfg0.N) (r : Fin 128) (l : Fin 512) :
    k0_pay8 (F := Ideal) (iblk m c 3 t) (iblk m c 4 t) (ix2 r l) = ((kvR H W (row t r) l : ℝ) : EReal) := by
  refine (kv_apply _ _ r l).trans ?_
  unfold kvR
  rw [SwaSpec.coe_sum]
  refine Finset.sum_congr rfl fun k _ => ?_
  rw [EReal.coe_mul, ← hr.h, ← hr.w]
  exact congrArg₂ (fun a b : EReal => a * b) (blk3 m c t r k) (blk4 m c t k l)

theorem cos_block (hr : Reals m c Q H W C S SK) (t : Fin cfg0.N) (r l : Fin 128) :
    iblk m c 6 t (ix2 r l) = ((C (row t r) ⟨l.val % 32, by omega⟩ : ℝ) : EReal) := (blk6 m c t r l).trans (hr.co _ _)

theorem sin_block (hr : Reals m c Q H W C S SK) (t : Fin cfg0.N) (r l : Fin 128) :
    iblk m c 7 t (ix2 r l) = (((if l.val / 32 % 2 = 0 then - S (row t r) ⟨l.val % 32, by omega⟩ else S (row t r) ⟨l.val % 32, by omega⟩) : ℝ) : EReal) := by
  refine (blk7 m c t r l).trans ?_
  rw [hr.si]
  split_ifs
  · exact (EReal.coe_neg _).symm
  · rfl

theorem keys_entry (hr : Reals m c Q H W C S SK) (t : Fin cfg0.N) (g : Fin 4) (r l : Fin 128) :
    keysAt m c t g (ix2 r l) = ((keyR H W C S g ⟨l.val % 64, by omega⟩ (row t r) : ℝ) : EReal) := by
  refine (keyHead_apply _ _ _ g r l (kvR H W (row t r)) (C (row t r)) (S (row t r)) (fun l => kv_block hr t r l) (fun l => ?_) (fun l => ?_)).trans rfl
  · unfold k0_pay6
    rw [shapeCast_self]
    exact cos_block hr t r l
  · unfold k0_pay7
    rw [shapeCast_self]
    exact sin_block hr t r l

theorem vals_entry (hr : Reals m c Q H W C S SK) (t : Fin cfg0.N) (g : Fin 4) (r l : Fin 128) :
    valsAt m c t g (ix2 r l) = ((valR H W g ⟨l.val % 64, by omega⟩ (row t r) : ℝ) : EReal) :=
  (valHead_apply _ g r l).trans (kv_block hr t r _)

/-- The heads a point found on top of its own are the window's rows. -/
theorem stacked (hd : Fin cfg0.N → Fin 4 → FVec Ideal S128x128 .bf16) (g : Fin 4) (x : Fin 64 → Fin 32768 → ℝ)
    (hx : ∀ t (r l : Fin 128), hd t g (ix2 r l) = ((x ⟨l.val % 64, by omega⟩ (row t r) : ℝ) : EReal)) (t : Fin cfg0.N) (j : Fin 256) (l : Fin 128) :
    stack (found hd t g) (hd t g) (ix2 j l) = ((windowR (x ⟨l.val % 64, by omega⟩) ⟨t.val, point_lt t⟩ j : ℝ) : EReal) := by
  rw [stack_apply]
  unfold windowR
  dsimp only
  split_ifs with h h0
  · exact (if_pos h0).trans EReal.coe_zero.symm
  · exact (if_neg h0).trans (hx (before t) ⟨j.val, h⟩ l)
  · exact hx t ⟨j.val - 128, by omega⟩ l

theorem coq_block (hr : Reals m c Q H W C S SK) (t : Fin cfg0.N) (r l : Fin 128) :
    k0_pay12 (F := Ideal) (iblk m c 6 t) (ix2 r l) = (((1 / 8) * SwaSpec.lg * C (row t r) ⟨l.val % 32, by omega⟩ : ℝ) : EReal) := by
  unfold k0_pay12 k0_pay6
  rw [shapeCast_self]
  refine (congrArg (fun x : EReal => x * (((1 / 8) * (Real.log 2)⁻¹ : ℝ) : EReal)) (cos_block hr t r l)).trans ?_
  rw [← EReal.coe_mul, mul_comm]
  rfl

theorem siq_block (hr : Reals m c Q H W C S SK) (t : Fin cfg0.N) (r l : Fin 128) :
    k0_pay13 (F := Ideal) (iblk m c 7 t) (ix2 r l)
      = (((1 / 8) * SwaSpec.lg * (if l.val / 32 % 2 = 0 then - S (row t r) ⟨l.val % 32, by omega⟩ else S (row t r) ⟨l.val % 32, by omega⟩) : ℝ) : EReal) := by
  unfold k0_pay13 k0_pay7
  rw [shapeCast_self]
  refine (congrArg (fun x : EReal => x * (((1 / 8) * (Real.log 2)⁻¹ : ℝ) : EReal)) (sin_block hr t r l)).trans ?_
  rw [← EReal.coe_mul, mul_comm]
  rfl

/-- One entry of a point's output block. -/
theorem entry (hr : Reals m c Q H W C S SK) (t : Fin cfg0.N) (q : Fin 128) (g a : Fin 4) (p : Fin 2) (d : Fin 64) (l : Fin 2048)
    (hl : l.val = 128 * (4 * g.val + a.val) + (64 * p.val + d.val)) :
    pointOut (grid0.coords t) (iblk m c 0 t) (iblk m c 1 t) (iblk m c 2 t) (iblk m c 3 t) (iblk m c 4 t) (iblk m c 6 t) (iblk m c 7 t) (found (keysAt m c) t)
        (found (valsAt m c) t) g a (ix2 q ⟨64 * p.val + d.val, by omega⟩)
      = wantOut m c (ix2 (row t q) l) := by
  have ht := point_lt t
  have hz : slabOf (iblk m c 2 t) ⟨4 * g.val + a.val, by omega⟩ (ix2 q ⟨64 * p.val + d.val, by omega⟩) = tokA m c (ix2 (row t q) ⟨10240 + l.val, by omega⟩) := by
    refine (blk2 m c t q ⟨128 * (4 * g.val + a.val) + (64 * p.val + d.val), by omega⟩).trans ?_
    exact congrArg (fun i => tokA m c (ix2 (row t q) i)) (Fin.ext (by dsimp only; omega))
  unfold pointOut
  rw [outSlab_apply (validAt (grid0.coords t)) _ _ _ _ _ _ _ _ _ _ g a p q d (SwaSpec.seen ⟨t.val, ht⟩ q)
    (fun x => validAt_apply (grid0.coords t) ⟨t.val, ht⟩ (ix_maps t).2.2.2.2.2.2.2.2.2.2 q x)
    (fun d => Q (row t q) ⟨128 * (4 * g.val + a.val) + (64 * p.val + d.val), by omega⟩) (C (row t q)) (S (row t q))
    (fun j d => windowR (keyR H W C S g d) ⟨t.val, ht⟩ j) (fun j d => windowR (valR H W g d) ⟨t.val, ht⟩ j)
    (SK ⟨8 * g.val + (2 * a.val + p.val), by omega⟩)
    (fun d => (blk1 m c t q ⟨128 * (4 * g.val + a.val) + (64 * p.val + d.val), by omega⟩).trans (hr.q _ _))
    (fun l => coq_block hr t q l) (fun l => siq_block hr t q l)
    (fun x l => stacked (keysAt m c) g (keyR H W C S g) (fun t r l => keys_entry hr t g r l) t x l)
    (fun x l => stacked (valsAt m c) g (valR H W g) (fun t r l => vals_entry hr t g r l) t x l)
    ((blk0 m c t _).trans (hr.sk _)), hz]
  unfold wantOut
  refine Eq.trans ?_ (out_at _ _ _ _ _ _ ⟨t.val, ht⟩ q g a p d (row t q) rfl l hl).symm
  have hC : (fun r i => cosA m c (ix2 r i)) = fun r i => ((C r i : ℝ) : EReal) := funext fun r => funext fun i => hr.co r i
  have hS : (fun r i => sinA m c (ix2 r i)) = fun r i => ((S r i : ℝ) : EReal) := funext fun r => funext fun i => hr.si r i
  have hH : (fun r k => hidA m c (ix2 r k)) = fun r k => ((H r k : ℝ) : EReal) := funext fun r => funext fun k => hr.h r k
  have hW : (fun k l => kvwA m c (ix3 (0 : Fin 2) k l)) = fun k l => ((W k l : ℝ) : EReal) := funext fun k => funext fun l => hr.w k l
  have hQ : SwaSpec.query (fun r k => tokA m c (ix2 r k)) (fun r i => ((C r i : ℝ) : EReal)) (fun r i => ((S r i : ℝ) : EReal)) (row t q) ⟨8 * g.val + (2 * a.val + p.val), by omega⟩
      = SwaSpec.rope (fun d => ((Q (row t q) ⟨128 * (4 * g.val + a.val) + (64 * p.val + d.val), by omega⟩ : ℝ) : EReal)) (fun i => ((C (row t q) i : ℝ) : EReal))
          (fun i => ((S (row t q) i : ℝ) : EReal)) := by
    unfold SwaSpec.query
    congr 1
    funext d
    rw [← hr.q]
    exact congrArg (fun i => tokA m c (ix2 (row t q) i)) (Fin.ext (by dsimp only; omega))
  have hK : (fun (j : Fin 256) (d : Fin 64) => SwaSpec.window (fun r' => SwaSpec.key (SwaSpec.kv (fun r k => ((H r k : ℝ) : EReal)) (fun k l => ((W k l : ℝ) : EReal)))
        (fun r i => ((C r i : ℝ) : EReal)) (fun r i => ((S r i : ℝ) : EReal)) r' g d) ⟨t.val, ht⟩ j)
      = fun j d => ((windowR (keyR H W C S g d) ⟨t.val, ht⟩ j : ℝ) : EReal) := by
    funext j d
    rw [← window_coe]
    refine congrArg (fun x => SwaSpec.window x ⟨t.val, ht⟩ j) (funext fun r => ?_)
    unfold SwaSpec.key keyR
    rw [← SwaSpec.rope_coe]
    refine congrArg (fun x => SwaSpec.rope x (fun i => ((C r i : ℝ) : EReal)) (fun i => ((S r i : ℝ) : EReal)) d) (funext fun d => ?_)
    exact kv_coe H W r _
  have hV : (fun (j : Fin 256) => SwaSpec.window (fun r' => SwaSpec.value (SwaSpec.kv (fun r k => ((H r k : ℝ) : EReal)) (fun k l => ((W k l : ℝ) : EReal))) r' g d) ⟨t.val, ht⟩ j)
      = fun j => ((windowR (valR H W g d) ⟨t.val, ht⟩ j : ℝ) : EReal) := by
    funext j
    rw [← window_coe]
    refine congrArg (fun x => SwaSpec.window x ⟨t.val, ht⟩ j) (funext fun r => ?_)
    exact kv_coe H W r _
  have hk : snkA m c (ix1 (⟨8 * g.val + (2 * a.val + p.val), by omega⟩ : Fin 32)) = ((SK ⟨8 * g.val + (2 * a.val + p.val), by omega⟩ : ℝ) : EReal) := hr.sk _
  rw [hC, hS, hH, hW, hQ, hK, hV, hk]

theorem block_out (hr : Reals m c Q H W C S SK) (t : Fin cfg0.N) (q : Fin 128) (l : Fin 2048) : (outsAt0 m c t.val t.isLt).1 (ix2 q l) = wantOut m c (ix2 (row t q) l) := by
  rw [out_block]
  refine Eq.trans ?_ (entry hr t q ⟨l.val / 512, by omega⟩ ⟨l.val / 128 % 4, by omega⟩ ⟨l.val / 64 % 2, by omega⟩ ⟨l.val % 64, by omega⟩ l (by dsimp only; omega))
  exact congrArg (fun i => pointOut (grid0.coords t) (iblk m c 0 t) (iblk m c 1 t) (iblk m c 2 t) (iblk m c 3 t) (iblk m c 4 t) (iblk m c 6 t) (iblk m c 7 t) (found (keysAt m c) t)
        (found (valsAt m c) t) ⟨l.val / 512, by omega⟩ ⟨l.val / 128 % 4, by omega⟩ (ix2 q i)) (Fin.ext (by show l.val % 128 = 64 * (l.val / 64 % 2) + l.val % 64; omega))

theorem block_gb (m : (ℓ : Loc nD τ sig) → Buf (Elt Ideal) ℓ) (c : Dev nD) (t : Fin cfg0.N) (q l : Fin 128) : (outsAt0 m c t.val t.isLt).2.1 (ix2 q l) = wantGb m c (ix2 (row t q) l) := by
  rw [gb_block]
  refine (gb_apply _ _ q l).trans (Finset.sum_congr rfl fun k _ => ?_)
  exact congrArg₂ (fun a b : EReal => a * b) (blk3 m c t q k) (blk5 m c t k l)

/-! ## The run -/

theorem flushed_out (hr : Reals m c Q H W C S SK) (t : Fin cfg0.N) :
    (dats m 0 c).flushed 8 t = ((cfg0.win 8).blk t).view.read (Elt Ideal) (wantOut m c) := by
  show (cfg0.win 8).cut (grid0.coords t) ((dats m 0 c).after 8 t) = _
  rw [after0_8]
  refine funext fun (y : S128x2048.Idx) => ?_
  obtain ⟨q, l, rfl⟩ : ∃ (q : Fin 128) (l : Fin 2048), y = ix2 q l := ⟨y 0, y 1, eq2 y⟩
  exact (block_out hr t q l).trans (congrArg (wantOut m c) (emb8 t q l).symm)

theorem flushed_gb (m : (ℓ : Loc nD τ sig) → Buf (Elt Ideal) ℓ) (c : Dev nD) (t : Fin cfg0.N) :
    (dats m 0 c).flushed 9 t = ((cfg0.win 9).blk t).view.read (Elt Ideal) (wantGb m c) := by
  show (cfg0.win 9).cut (grid0.coords t) ((dats m 0 c).after 9 t) = _
  rw [after0_9]
  refine funext fun (y : S128x128.Idx) => ?_
  obtain ⟨q, l, rfl⟩ : ∃ q l : Fin 128, y = ix2 q l := ⟨y 0, y 1, eq2 y⟩
  exact (block_gb m c t q l).trans (congrArg (wantGb m c) (emb9 t q l).symm)

theorem final_out (hr : Reals m c Q H W C S SK) : (dats m 0 c).arrAt 8 cfg0.N = wantOut m c :=
  (dats m 0 c).arrAt_eq_of_cover 8 (wantOut m c) (fun t _ => flushed_out hr t) cover8

theorem final_gb (m : (ℓ : Loc nD τ sig) → Buf (Elt Ideal) ℓ) (c : Dev nD) : (dats m 0 c).arrAt 9 cfg0.N = wantGb m c :=
  (dats m 0 c).arrAt_eq_of_cover 9 (wantGb m c) (fun t _ => flushed_gb m c t) cover9

variable (m) (ρ : Dev nD → PrngReg)

/-- The run, read: the gated attention, the projection, the arguments unchanged. -/
theorem run (hr : ∀ c : Dev nD, ∃ Q H W C S SK, Reals m c Q H W C S SK) : θ_run defs (onTc (τ := τ) (main (F := Ideal))) ⟨m, fun _ => 0, ρ⟩ fun r => ∀ c : Dev nD,
      r.2.mem ((c : Thread nD τ).loc main_v4_0) = wantOut m c
      ∧ r.2.mem ((c : Thread nD τ).loc main_v4_1) = wantGb m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => by
    obtain ⟨Q, H, W, C, S, SK, hc⟩ := hr c
    exact ⟨((h c).1 8).trans (final_out hc), ((h c).1 9).trans (final_gb m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).1 4).trans (((dats m 0 c).arrAt_in 4 rfl _).trans ((A_eq m c 4).trans (V_main_arg2 m c))),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 0).trans (((dats m 0 c).arrAt_in 0 rfl _).trans ((A_eq m c 0).trans (V_main_arg6 m c)))⟩) (run_main m ρ)

end Cert.Swa

end
-- ==== Proof.Swa.lean ====
/-
  The claims about the sliding-window attention: the frames, the named constants, and the two results equal to the
  reference's where the arguments that the scores and the values are made of are finite.
-/
module

public import proofs.«01_k».proof.Defs
public import proofs.«01_k».proof.Proof.Gen.Kernel5.Frame
public import proofs.«01_k».proof.Proof.SwaReference
public import proofs.«01_k».proof.Proof.SwaEntry

@[expose] public section

set_option maxRecDepth 16384

noncomputable section

open Idealize.ShloMosaic Idealize.ShloMosaic.TcCoe Idealize.SL.Sem
open scoped BigOperators

namespace Cert.Swa

/-- The finiteness condition's shape facts. -/
theorem finite_facts : Cert.Pre_finite_inputs.Facts where
  slices_S32768x16384_S32768x2048_0_8192 := by decide
  slices_S2x2048x512_S1x2048x512_0_0_0 := by decide
  shapeCasts_S1x2048x512_S2048x512 := by decide
  bitsLt_bf16_f32 := by decide
  bcast_S_S32768x2048 := by decide
  bcast_S_S2048x512 := by decide
  bcast_S_S32768x32 := by decide
  bcast_S_S32 := by decide

/-- The pattern of plus infinity. -/
theorem inf_bits : Ideal.ofBits FTy.f32 0x7F800000#32 = ⊤ := by
  simp [Ideal.ofBits, Ideal.ieee]

/-- A value whose magnitude compares below plus infinity is a real number. -/
theorem real_of_cmp (x : EReal) (h : (if max x (-x) < Ideal.ofBits FTy.f32 0x7F800000#32 then 1#1 else 0#1) = 1#1) : ∃ y : ℝ, x = (y : EReal) := by
  rw [inf_bits] at h
  have hlt : max x (-x) < ⊤ := by
    by_contra hn
    rw [if_neg hn] at h
    exact absurd h (by decide)
  have h1 : x ≠ ⊤ := ((le_max_left _ _).trans_lt hlt).ne
  have h2 : x ≠ ⊥ := fun e => by
    rw [e] at hlt
    exact absurd hlt (by simp)
  exact ⟨x.toReal, (EReal.coe_toReal h1 h2).symm⟩

/-- What the comparison reads at an entry. -/
theorem cmp_read (x : EReal) : Ideal.cmp .olt (max x (-x)) (Ideal.ofBits FTy.f32 0x7F800000#32) = if max x (-x) < Ideal.ofBits FTy.f32 0x7F800000#32 then 1#1 else 0#1 := by
  rw [Ideal.cmp_olt]
  by_cases h : max x (-x) < Ideal.ofBits FTy.f32 0x7F800000#32
  · rw [if_pos h, decide_eq_true h]
    rfl
  · rw [if_neg h, decide_eq_false h]
    rfl

section Finite

variable [Cert.Pre_finite_inputs.Facts]
variable (U : FVec Ideal Cert.Pre_finite_inputs.S32768x16384 .bf16) (H : FVec Ideal Cert.Pre_finite_inputs.S32768x2048 .bf16)
  (W : FVec Ideal Cert.Pre_finite_inputs.S2x2048x512 .bf16) (B : FVec Ideal Cert.Pre_finite_inputs.S2x2048x128 .bf16)
  (C S : FVec Ideal Cert.Pre_finite_inputs.S32768x32 .f32) (K : FVec Ideal Cert.Pre_finite_inputs.S32 .f32)

theorem finite_q (r : Fin 32768) (l : Fin 2048) (h : (Cert.Pre_finite_inputs.fn U H W B C S K).1 = fun _ => 1#1) :
    ∃ y : ℝ, U (ix2 r ⟨8192 + l.val, by omega⟩) = (y : EReal) := by
  refine real_of_cmp _ ((cmp_read _).symm.trans (Eq.trans ?_ (congrFun h (ix2 r l))))
  show _ = Ideal.cmp .olt (max (extractStridedSlice Cert.Pre_finite_inputs.S32768x2048 ![0, 8192] U Cert.Pre_finite_inputs.Facts.slices_S32768x16384_S32768x2048_0_8192 (ix2 r l) : EReal)
    (-(extractStridedSlice Cert.Pre_finite_inputs.S32768x2048 ![0, 8192] U Cert.Pre_finite_inputs.Facts.slices_S32768x16384_S32768x2048_0_8192 (ix2 r l) : EReal))) (Ideal.ofBits FTy.f32 0x7F800000#32)
  have e : (extractStridedSlice Cert.Pre_finite_inputs.S32768x2048 ![0, 8192] U Cert.Pre_finite_inputs.Facts.slices_S32768x16384_S32768x2048_0_8192 (ix2 r l) : EReal) = U (ix2 r ⟨8192 + l.val, by omega⟩) := by
    pointwise
  rw [e]

theorem finite_h (r : Fin 32768) (l : Fin 2048) (h : (Cert.Pre_finite_inputs.fn U H W B C S K).2.1 = fun _ => 1#1) :
    ∃ y : ℝ, H (ix2 r l) = (y : EReal) :=
  real_of_cmp _ ((cmp_read _).symm.trans (congrFun h (ix2 r l)))

theorem finite_w (k : Fin 2048) (l : Fin 512) (h : (Cert.Pre_finite_inputs.fn U H W B C S K).2.2.1 = fun _ => 1#1) :
    ∃ y : ℝ, W (ix3 (0 : Fin 2) k l) = (y : EReal) := by
  have e : (shapeCast Cert.Pre_finite_inputs.S2048x512 (extractStridedSlice Cert.Pre_finite_inputs.S1x2048x512 ![0, 0, 0] W Cert.Pre_finite_inputs.Facts.slices_S2x2048x512_S1x2048x512_0_0_0)
      Cert.Pre_finite_inputs.Facts.shapeCasts_S1x2048x512_S2048x512 (ix2 k l) : EReal) = W (ix3 (0 : Fin 2) k l) := by
    pointwise
  obtain ⟨y, hy⟩ := real_of_cmp _ ((cmp_read _).symm.trans (congrFun h (ix2 k l)))
  exact ⟨y, e.symm.trans hy⟩

theorem finite_cos (r : Fin 32768) (l : Fin 32) (h : (Cert.Pre_finite_inputs.fn U H W B C S K).2.2.2.1 = fun _ => 1#1) :
    ∃ y : ℝ, C (ix2 r l) = (y : EReal) :=
  real_of_cmp _ ((cmp_read _).symm.trans (congrFun h (ix2 r l)))

theorem finite_sin (r : Fin 32768) (l : Fin 32) (h : (Cert.Pre_finite_inputs.fn U H W B C S K).2.2.2.2.1 = fun _ => 1#1) :
    ∃ y : ℝ, S (ix2 r l) = (y : EReal) :=
  real_of_cmp _ ((cmp_read _).symm.trans (congrFun h (ix2 r l)))

theorem finite_sinks (n : Fin 32) (h : (Cert.Pre_finite_inputs.fn U H W B C S K).2.2.2.2.2 = fun _ => 1#1) :
    ∃ y : ℝ, K (ix1 n) = (y : EReal) :=
  real_of_cmp _ ((cmp_read _).symm.trans (congrFun h (ix1 n)))

/-- Finite arguments are real numbers. -/
theorem reals (m : (ℓ : Loc Cert.Kernel5Ideal.nD Cert.Kernel5Ideal.τ Cert.Kernel5Ideal.sig) → Buf (Elt Ideal) ℓ) (hp : Cert.Pre_Kernel5Ideal_finite_inputs m) (c : Dev Cert.Kernel5Ideal.nD) :
    ∃ Q H W C S SK, Reals m c Q H W C S SK := by
  obtain ⟨h0, h1, h2, h3, h4, h5⟩ := hp c
  choose Q hQ using fun r l => finite_q (tokA m c) (hidA m c) (kvwA m c) (gbwA m c) (cosA m c) (sinA m c) (snkA m c) r l h0
  choose H hH using fun r l => finite_h (tokA m c) (hidA m c) (kvwA m c) (gbwA m c) (cosA m c) (sinA m c) (snkA m c) r l h1
  choose W hW using fun r l => finite_w (tokA m c) (hidA m c) (kvwA m c) (gbwA m c) (cosA m c) (sinA m c) (snkA m c) r l h2
  choose C hC using fun r l => finite_cos (tokA m c) (hidA m c) (kvwA m c) (gbwA m c) (cosA m c) (sinA m c) (snkA m c) r l h3
  choose S hS using fun r l => finite_sin (tokA m c) (hidA m c) (kvwA m c) (gbwA m c) (cosA m c) (sinA m c) (snkA m c) r l h4
  choose SK hSK using fun n => finite_sinks (tokA m c) (hidA m c) (kvwA m c) (gbwA m c) (cosA m c) (sinA m c) (snkA m c) n h5
  exact ⟨Q, H, W, C, S, SK, hQ, hH, hW, hC, hS, hSK⟩

end Finite

/-- The reference's gated attention is the wanted array. -/
theorem ref_out (m : (ℓ : Loc Cert.Kernel5Ideal.nD Cert.Kernel5Ideal.τ Cert.Kernel5Ideal.sig) → Buf (Elt Ideal) ℓ) (c : Dev Cert.Kernel5Ideal.nD) :
    Cert.SwaRef.result (F := Ideal) (tokA m c) (hidA m c) (kvwA m c) (cosA m c) (sinA m c) (snkA m c) = wantOut m c := by
  refine funext fun (i : Cert.Kernel5Ideal.S32768x2048.Idx) => ?_
  obtain ⟨r, l, rfl⟩ : ∃ (r : Fin 32768) (l : Fin 2048), i = ix2 r l := ⟨i 0, i 1, eq2 i⟩
  exact Cert.SwaRef.result_apply (tokA m c) (hidA m c) (kvwA m c) (cosA m c) (sinA m c) (snkA m c) r l

section RefGb
open Cert.Reference5Ideal Cert.Reference5Ideal.Gen

/-- The reference's beta and gate projection. -/
theorem ref_gb (H : FVec Ideal S32768x2048 .bf16) (B : FVec Ideal S2x2048x128 .bf16) (r : Fin 32768) (l : Fin 128) :
    Host.dotGeneral dot_S32768x2048_S2048x128_S32768x128_1_0_0_1_n_n none (extf .f32 H bitsLt_bf16_f32)
      (extf .f32 (shapeCast S2048x128 (extractStridedSlice S1x2048x128 ![0, 0, 0] B slices_S2x2048x128_S1x2048x128_0_0_0) shapeCasts_S1x2048x128_S2048x128) bitsLt_bf16_f32) (ix2 r l)
      = ∑ k : Fin 2048, H (ix2 r k) * B (ix3 (0 : Fin 2) k l) := by
  pointwise

end RefGb

theorem ref_gb_eq (m : (ℓ : Loc Cert.Kernel5Ideal.nD Cert.Kernel5Ideal.τ Cert.Kernel5Ideal.sig) → Buf (Elt Ideal) ℓ) (c : Dev Cert.Kernel5Ideal.nD)
    (y : FVec Ideal Cert.Kernel5Ideal.S32768x128 .f32) (hy : ∀ r l, y (ix2 r l) = ∑ k : Fin 2048, hidA m c (ix2 r k) * gbwA m c (ix3 (0 : Fin 2) k l)) : y = wantGb m c := by
  refine funext fun (i : Cert.Kernel5Ideal.S32768x128.Idx) => ?_
  obtain ⟨r, l, rfl⟩ : ∃ (r : Fin 32768) (l : Fin 128), i = ix2 r l := ⟨i 0, i 1, eq2 i⟩
  exact hy r l

theorem frame_kernel : Cert.quiescent_Kernel5 := fun m ρ _ => Cert.Kernel5.Gen.frame (F := Bits) m ρ

theorem frame_kernelIdeal : Cert.quiescent_Kernel5Ideal := fun m ρ _ => Cert.Kernel5Ideal.Gen.frame (F := Ideal) m ρ

theorem frame_kernelIdeal_finite [Cert.Pre_finite_inputs.Facts] : Cert.quiescent_Kernel5Ideal_pre_finite_inputs := fun m ρ _ => Cert.Kernel5Ideal.Gen.frame (F := Ideal) m ρ

theorem frame_referenceIdeal : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

theorem frame_referenceIdeal_finite [Cert.Pre_finite_inputs.Facts] : Cert.quiescent_Reference5Ideal_pre_finite_inputs := fun m ρ _ => frame_referenceIdeal m ρ trivial

theorem preserves : Cert.preserves_Kernel5_Kernel5Ideal :=
  ⟨IdealRules.named_const.statement _ _ _ _ _ rfl, IdealRules.named_const.statement _ _ _ _ _ rfl, IdealRules.named_const.statement _ _ _ _ _ rfl⟩

theorem algebraic [Cert.Pre_finite_inputs.Facts] : Cert.algebraic_Kernel5Ideal_Reference5Ideal_pre_finite_inputs := fun m ρ m' ρ' hp hm =>
  ⟨fun c => wantOut m c, fun c => wantGb m c, run m ρ fun c => reals m hp c,
    (θ_run Cert.Reference5Ideal.defs _ _).mono (fun _ h c => by
      obtain ⟨e0, e1, e2, e3, e4, e5, e6⟩ := hm c
      refine ⟨(h c).1.trans ?_, (h c).2.1.trans ?_, (h c).2.2⟩
      · rw [Cert.SwaRef.res_eq, e0, e1, e2, e4, e5, e6]
        exact ref_out m c
      · rw [e1, e3]
        exact ref_gb_eq m c _ fun r l => ref_gb (hidA m c) (gbwA m c) r l)
      (Cert.Reference5Ideal.Value.run (F := Ideal) m' ρ')⟩

end Cert.Swa

end
-- ==== Proof.OutProj.lean ====
/-
  The projection between the layers: each token's merged branches are projected, gated and added to its input, and the
  sum is also normalised and modulated for the layer that follows. The kernel does it by blocks of 512 tokens over a grid
  of batches and writes two results; every block it writes back is the block of one function of the arguments, and the
  blocks cover both results. The reference keeps batches and positions apart.
-/
module

public import proofs.«01_k».proof.Defs
public import proofs.«01_k».proof.Proof.Gen.Kernel6
public import proofs.«01_k».proof.Proof.Gen.Kernel6Ideal.Value
public import proofs.«01_k».proof.Proof.Gen.Reference6Ideal.Run
public import proofs.«01_k».proof.Proof.OutFinal
public import Idealize.ShloMosaic.Lib.Pipeline.Value
public import Idealize.ShloMosaic.Lib.ValueIdxCore
public import proofs.«01_k».proof.Proof.Dense
public import Idealize.ShloMosaic.Lib.StableHlo
public import Idealize.ShloMosaic.Lib.Quiescent
public import Idealize.ShloMosaic.PureOps.BitExact

@[expose] public section

set_option maxRecDepth 16384

noncomputable section

open Idealize.ShloMosaic Idealize.ShloMosaic.TcCoe Idealize.SL.Sem
open Idealize.ShloMosaic.Pipeline (Dat)
open Idealize.ShloMosaic.ValueIdx
open scoped BigOperators
open Cert.Dense

namespace Cert.Kernel6Ideal.RefValue

open Cert.Kernel6Ideal Cert.Kernel6Ideal.Gen
open Cert.Kernel4Ideal.RefValue (rms bat pos stream sblk col_apply row_apply)

/-- A normalised row, scaled by one more than `sc` and shifted by `sh`: one entry. -/
def modul (f : Fin 2048 → EReal) (w sc sh : EReal) (q : Fin 2048) : EReal :=
  rms f w q * (Ideal.ofBits .f32 0x3F800000#32 + sc) + sh

/-- The stream as an array. -/
def streamed (y : FVec Ideal S32768x2048 .bf16) (x : FVec Ideal S8x4096x2048 .f32) (md : FVec Ideal S8x6144 .f32)
    (w : FVec Ideal S2048x2048 .f32) : FVec Ideal S32768x2048 .f32 := fun i => stream y x md w (i 0) (i 1)

/-- The stream normalised and modulated, as an array. -/
def modulated (y : FVec Ideal S32768x2048 .bf16) (x : FVec Ideal S8x4096x2048 .f32) (md nm : FVec Ideal S8x6144 .f32)
    (w : FVec Ideal S2048x2048 .f32) (nw : FVec Ideal S2048 .f32) : FVec Ideal S32768x2048 .bf16 := fun i =>
  modul (stream y x md w (i 0)) (nw (ix1 (i 1))) (nm (ix2 (bat (i 0)) (⟨2048 + (i 1).val, by have := ((i 1 : Fin 2048)).isLt; change (i 1).val < 2048 at this; omega⟩ : Fin 6144)))
    (nm (ix2 (bat (i 0)) (⟨(i 1).val, by have := ((i 1 : Fin 2048)).isLt; change (i 1).val < 2048 at this; omega⟩ : Fin 6144))) (i 1)

/-- A row of the modulation block, cut out of it. -/
theorem mrow_apply (x4 : FVec Ideal S1x3x2048 .f32) (h : S1x3x2048.ShapeCasts S3x2048) (j : Fin 3) (o : S3x2048.Slices ![j.val, 0] S1x2048) (q : Fin 2048) :
    extractStridedSlice S1x2048 ![j.val, 0] (shapeCast S3x2048 x4 h) o (ix2 0 q) = x4 (ix3 0 j q) := by
  refine (extractStridedSlice_apply _ _ o _ (ix2 j q) fun a => ?_).trans ?_
  · fin_cases a
    · rfl
    · exact (Nat.zero_add q.val).symm
  refine (shapeCast_dropUnit_apply ![3, 2048] _ _ _).trans (congrArg x4 ?_)
  funext a
  fin_cases a <;> rfl

/-- The body's block of the stream, at a row and a column. -/
theorem out6_apply (x0 : FVec Ideal S512x2048 .bf16) (x1 : FVec Ideal S512x2048 .f32) (x2 : FVec Ideal S2048x2048 .bf16)
    (x3 x4 : FVec Ideal S1x3x2048 .f32) (x5 : FVec Ideal S1x2048 .f32) (r : Fin 512) (q : Fin 2048) :
    out0_6 (F := Ideal) x0 x1 x2 x3 x4 x5 (ix2 r q) = sblk x0 x1 x2 x3 r q := by
  unfold out0_6
  rw [View.canon_unit_zero hz2]
  iterate 3 rw [View.ld_unit_zero hz2]
  unfold k0_pay2
  simp only [shapeCast_self]
  exact congrArg (x1 (ix2 r q) + ·) (congrArg₂ (· * ·) ((row_apply _ _ r q).trans (Cert.Kernel4Ideal.RefValue.gate_apply x3 _ q))
    (mm_apply (M := 512) (K := 2048) (N := 2048) none x0 x2 r q))

/-- The body's block of the normalised and modulated stream. -/
theorem out7_apply (x0 : FVec Ideal S512x2048 .bf16) (x1 : FVec Ideal S512x2048 .f32) (x2 : FVec Ideal S2048x2048 .bf16)
    (x3 x4 : FVec Ideal S1x3x2048 .f32) (x5 : FVec Ideal S1x2048 .f32) (r : Fin 512) (q : Fin 2048) :
    out0_7 (F := Ideal) x0 x1 x2 x3 x4 x5 (ix2 r q)
      = modul (sblk x0 x1 x2 x3 r) (x5 (ix2 0 q)) (x4 (ix3 0 1 q)) (x4 (ix3 0 0 q)) q := by
  unfold out0_7
  rw [View.canon_unit_zero hz2]
  iterate 4 rw [View.ld_unit_zero hz2]
  rw [View.ld_unit_zero hz3]
  unfold k0_pay1 k0_pay3
  have e : ∀ k, k0_pay2 (F := Ideal) x0 x2 x1 (View.ld (Val := Elt Ideal) (e' := .f32) x3 r0_2) (ix2 r k) = sblk x0 x1 x2 x3 r k := fun k => by
    unfold k0_pay2
    simp only [shapeCast_self]
    exact congrArg (x1 (ix2 r k) + ·) (congrArg₂ (· * ·) ((row_apply _ _ r k).trans (Cert.Kernel4Ideal.RefValue.gate_apply x3 _ k))
      (mm_apply (M := 512) (K := 2048) (N := 2048) none x0 x2 r k))
  generalize k0_pay2 (F := Ideal) x0 x2 x1 (View.ld (Val := Elt Ideal) (e' := .f32) x3 r0_2) = s at e
  simp only [shapeCast_self]
  refine congrArg₂ (fun a b : EReal => a + b) (congrArg₂ (fun a b : EReal => a * b) ?_ ?_) ?_
  · refine (Cert.Kernel4Ideal.RefValue.norm_apply s x5 _ _ _ _ _ _ r q).trans ?_
    exact congrArg (fun f => rms f (x5 (ix2 0 q)) q) (funext e)
  · exact (row_apply _ _ r q).trans (congrArg (Ideal.ofBits .f32 0x3F800000#32 + ·) (mrow_apply x4 _ 1 _ q))
  · exact (row_apply _ _ r q).trans (mrow_apply x4 _ 0 _ q)

variable (m : (ℓ : Loc nD τ sig) → Buf (Elt Ideal) ℓ) (ρ : Dev nD → PrngReg)

/-- The result arrays as functions of the six arguments. -/
abbrev want6 (c : Dev nD) : Buf (Elt Ideal) ((c : Thread nD τ).loc main_v5_0) :=
  streamed (m ((c : Thread nD τ).loc main_arg0)) (m ((c : Thread nD τ).loc main_arg1)) (m ((c : Thread nD τ).loc main_arg2))
    (m ((c : Thread nD τ).loc main_arg4))
abbrev want7 (c : Dev nD) : Buf (Elt Ideal) ((c : Thread nD τ).loc main_v5_1) :=
  modulated (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem ix_maps : ∀ i : grid0.Coords, cc0_transform_0 i = ![(i 0).val * 8 + (i 1).val, 0] ∧ cc0_transform_1 i = ![(i 0).val * 8 + (i 1).val, 0]
    ∧ cc0_transform_2 i = ![0, 0] ∧ cc0_transform_3 i = ![(i 0).val, 0, 0] ∧ cc0_transform_4 i = ![(i 0).val, 0, 0] ∧ cc0_transform_5 i = ![0, 0]
    ∧ cc0_transform_6 i = ![(i 0).val * 8 + (i 1).val, 0] ∧ cc0_transform_7 i = ![(i 0).val * 8 + (i 1).val, 0] := by decide +kernel

/-- The arrays the pipeline reads, as reshaped arguments. -/
theorem V_v0 (c : Dev nD) (r : Fin 32768) (q : Fin 2048) : V m c main_v0 (ix2 r q)
    = m ((c : Thread nD τ).loc main_arg1) (ix3 (bat r) (pos r) q) := by
  simp only [V, hostOps0, StableHlo.after_cons, StableHlo.after_nil]
  refine shapeCast_apply _ _ _ (ix3 (bat r) (pos r) q) ?_
  refine (Shape.rowMajor_val_three _).trans (Eq.trans ?_ (Shape.rowMajor_val_two _).symm)
  show (r.val / 4096 * 4096 + r.val % 4096) * 2048 + q.val = r.val * 2048 + q.val
  omega
theorem V_v1 (c : Dev nD) : V m c main_v1 = m ((c : Thread nD τ).loc main_arg4) := by
  simp only [V, hostOps0, StableHlo.after_cons, StableHlo.after_nil]
  rfl
theorem V_v2 (c : Dev nD) (b : Fin 8) (j : Fin 3) (q : Fin 2048) : V m c main_v2 (ix3 b j q)
    = m ((c : Thread nD τ).loc main_arg2) (ix2 b ⟨j.val * 2048 + q.val, by omega⟩) := by
  simp only [V, hostOps0, StableHlo.after_cons, StableHlo.after_nil]
  refine shapeCast_apply _ _ _ (ix2 b (⟨j.val * 2048 + q.val, by omega⟩ : Fin 6144)) ?_
  refine (Shape.rowMajor_val_two _).trans (Eq.trans ?_ (Shape.rowMajor_val_three _).symm)
  show b.val * 6144 + (j.val * 2048 + q.val) = (b.val * 3 + j.val) * 2048 + q.val
  omega
theorem V_v3 (c : Dev nD) (b : Fin 8) (j : Fin 3) (q : Fin 2048) : V m c main_v3 (ix3 b j q)
    = m ((c : Thread nD τ).loc main_arg3) (ix2 b ⟨j.val * 2048 + q.val, by omega⟩) := by
  simp only [V, hostOps0, StableHlo.after_cons, StableHlo.after_nil]
  refine shapeCast_apply _ _ _ (ix2 b (⟨j.val * 2048 + q.val, by omega⟩ : Fin 6144)) ?_
  refine (Shape.rowMajor_val_two _).trans (Eq.trans ?_ (Shape.rowMajor_val_three _).symm)
  show b.val * 6144 + (j.val * 2048 + q.val) = (b.val * 3 + j.val) * 2048 + q.val
  omega
theorem V_v4 (c : Dev nD) (q : Fin 2048) : V m c main_v4 (ix2 0 q) = m ((c : Thread nD τ).loc main_arg5) (ix1 q) := by
  simp only [V, hostOps0, StableHlo.after_cons, StableHlo.after_nil]
  refine (shapeCast_addUnit_apply ![2048] _ _ _).trans (congrArg _ ?_)
  funext a
  fin_cases a
  rfl

/-- The token a row of the block of a point is. -/
def tok (t : Fin cfg0.N) (r : Fin 512) : Fin 32768 :=
  ⟨((grid0.coords t 0).val * 8 + (grid0.coords t 1).val) * 512 + r.val, by
    have h0 : (grid0.coords t 0).val < 8 := (grid0.coords t 0).isLt
    have h1 : (grid0.coords t 1).val < 8 := (grid0.coords t 1).isLt
    omega⟩

theorem bat_tok (t : Fin cfg0.N) (r : Fin 512) : bat (tok t r) = grid0.coords t 0 := by
  apply Fin.ext
  have h1 : (grid0.coords t 1).val < 8 := (grid0.coords t 1).isLt
  show (((grid0.coords t 0).val * 8 + (grid0.coords t 1).val) * 512 + r.val) / 4096 = (grid0.coords t 0).val
  omega

/-- The blocks fetched at a point. -/
theorem blk0 (c : Dev nD) (t : Fin cfg0.N) (r : Fin 512) (q : Fin 2048) :
    iblk m c 0 t (ix2 r q : S512x2048.Idx) = m ((c : Thread nD τ).loc main_arg0) (ix2 (tok t r) q) := by
  show V m c main_arg0 (((cfg0.win 0).blk t).view.emb (ix2 r q : S512x2048.Idx)) = _
  refine (congrFun (V_main_arg0 m c) _).trans (congrArg _ ?_)
  have e := (ix_maps (grid0.coords t)).1
  funext a
  fin_cases a <;> apply Fin.ext
  · show cc0_transform_0 (grid0.coords t) 0 * 512 + 1 * r.val = _
    rw [e, Nat.one_mul]; rfl
  · show cc0_transform_0 (grid0.coords t) 1 * 2048 + 1 * q.val = _
    rw [e, Nat.one_mul]; exact Nat.zero_add _

theorem blk1 (c : Dev nD) (t : Fin cfg0.N) (r : Fin 512) (q : Fin 2048) :
    iblk m c 1 t (ix2 r q : S512x2048.Idx) = m ((c : Thread nD τ).loc main_arg1) (ix3 (bat (tok t r)) (pos (tok t r)) q) := by
  show V m c main_v0 (((cfg0.win 1).blk t).view.emb (ix2 r q : S512x2048.Idx)) = _
  refine Eq.trans (congrArg _ ?_) (V_v0 m c (tok t r) q)
  have e := (ix_maps (grid0.coords t)).2.1
  funext a
  fin_cases a <;> apply Fin.ext
  · show cc0_transform_1 (grid0.coords t) 0 * 512 + 1 * r.val = _
    rw [e, Nat.one_mul]; rfl
  · show cc0_transform_1 (grid0.coords t) 1 * 2048 + 1 * q.val = _
    rw [e, Nat.one_mul]; exact Nat.zero_add _

theorem blk2 (c : Dev nD) (t : Fin cfg0.N) (r : Fin 2048) (q : Fin 2048) :
    iblk m c 2 t (ix2 r q : S2048x2048.Idx) = m ((c : Thread nD τ).loc main_arg4) (ix2 r q) := by
  show V m c main_v1 (((cfg0.win 2).blk t).view.emb (ix2 r q : S2048x2048.Idx)) = _
  refine (congrFun (V_v1 m c) _).trans (congrArg _ ?_)
  have e := (ix_maps (grid0.coords t)).2.2.1
  funext a
  fin_cases a <;> apply Fin.ext
  · show cc0_transform_2 (grid0.coords t) 0 * 2048 + 1 * r.val = _
    rw [e, Nat.one_mul]; exact Nat.zero_add _
  · show cc0_transform_2 (grid0.coords t) 1 * 2048 + 1 * q.val = _
    rw [e, Nat.one_mul]; exact Nat.zero_add _

theorem blk3 (c : Dev nD) (t : Fin cfg0.N) (r : Fin 512) (q : Fin 2048) :
    iblk m c 3 t (ix3 0 2 q : S1x3x2048.Idx) = m ((c : Thread nD τ).loc main_arg2) (ix2 (bat (tok t r)) ⟨4096 + q.val, by omega⟩) := by
  show V m c main_v2 (((cfg0.win 3).blk t).view.emb (ix3 0 2 q : S1x3x2048.Idx)) = _
  refine Eq.trans (congrArg _ ?_) (V_v2 m c (bat (tok t r)) 2 q)
  rw [bat_tok]
  have e := (ix_maps (grid0.coords t)).2.2.2.1
  funext a
  fin_cases a <;> apply Fin.ext
  · show cc0_transform_3 (grid0.coords t) 0 * 1 + 1 * 0 = (grid0.coords t 0).val
    rw [e]; exact Nat.mul_one _
  · show cc0_transform_3 (grid0.coords t) 1 * 3 + 1 * 2 = 2
    rw [e]; rfl
  · show cc0_transform_3 (grid0.coords t) 2 * 2048 + 1 * q.val = _
    rw [e, Nat.one_mul]; exact Nat.zero_add _

theorem blk4 (c : Dev nD) (t : Fin cfg0.N) (r : Fin 512) (j : Fin 3) (q : Fin 2048) :
    iblk m c 4 t (ix3 0 j q : S1x3x2048.Idx) = m ((c : Thread nD τ).loc main_arg3) (ix2 (bat (tok t r)) ⟨j.val * 2048 + q.val, by omega⟩) := by
  show V m c main_v3 (((cfg0.win 4).blk t).view.emb (ix3 0 j q : S1x3x2048.Idx)) = _
  refine Eq.trans (congrArg _ ?_) (V_v3 m c (bat (tok t r)) j q)
  rw [bat_tok]
  have e := (ix_maps (grid0.coords t)).2.2.2.2.1
  funext a
  fin_cases a <;> apply Fin.ext
  · show cc0_transform_4 (grid0.coords t) 0 * 1 + 1 * 0 = (grid0.coords t 0).val
    rw [e]; exact Nat.mul_one _
  · show cc0_transform_4 (grid0.coords t) 1 * 3 + 1 * j.val = _
    rw [e, Nat.one_mul]; exact Nat.zero_add _
  · show cc0_transform_4 (grid0.coords t) 2 * 2048 + 1 * q.val = _
    rw [e, Nat.one_mul]; exact Nat.zero_add _

theorem blk5 (c : Dev nD) (t : Fin cfg0.N) (q : Fin 2048) :
    iblk m c 5 t (ix2 0 q : S1x2048.Idx) = m ((c : Thread nD τ).loc main_arg5) (ix1 q) := by
  show V m c main_v4 (((cfg0.win 5).blk t).view.emb (ix2 0 q : S1x2048.Idx)) = _
  refine Eq.trans (congrArg _ ?_) (V_v4 m c q)
  have e := (ix_maps (grid0.coords t)).2.2.2.2.2.1
  funext a
  fin_cases a <;> apply Fin.ext
  · show cc0_transform_5 (grid0.coords t) 0 * 1 + 1 * 0 = _
    rw [e]; rfl
  · show cc0_transform_5 (grid0.coords t) 1 * 2048 + 1 * q.val = _
    rw [e, Nat.one_mul]; exact Nat.zero_add _

/-- A row and column of the block written back at a point, in each result. -/
theorem emb_out6 (t : Fin cfg0.N) (r : Fin 512) (q : Fin 2048) :
    ((cfg0.win 6).blk t).view.emb (ix2 r q : S512x2048.Idx) = (ix2 (tok t r) q : S32768x2048.Idx) := by
  have e := (ix_maps (grid0.coords t)).2.2.2.2.2.2.1
  funext a
  fin_cases a <;> apply Fin.ext
  · show cc0_transform_6 (grid0.coords t) 0 * 512 + 1 * r.val = _
    rw [e, Nat.one_mul]; rfl
  · show cc0_transform_6 (grid0.coords t) 1 * 2048 + 1 * q.val = _
    rw [e, Nat.one_mul]; exact Nat.zero_add _

theorem emb_out7 (t : Fin cfg0.N) (r : Fin 512) (q : Fin 2048) :
    ((cfg0.win 7).blk t).view.emb (ix2 r q : S512x2048.Idx) = (ix2 (tok t r) q : S32768x2048.Idx) := by
  have e := (ix_maps (grid0.coords t)).2.2.2.2.2.2.2
  funext a
  fin_cases a <;> apply Fin.ext
  · show cc0_transform_7 (grid0.coords t) 0 * 512 + 1 * r.val = _
    rw [e, Nat.one_mul]; rfl
  · show cc0_transform_7 (grid0.coords t) 1 * 2048 + 1 * q.val = _
    rw [e, Nat.one_mul]; exact Nat.zero_add _

theorem sblk_eq (c : Dev nD) (t : Fin cfg0.N) (r : Fin 512) (q : Fin 2048) :
    sblk (iblk m c 0 t) (iblk m c 1 t) (iblk m c 2 t) (iblk m c 3 t) r q
      = stream (m ((c : Thread nD τ).loc main_arg0)) (m ((c : Thread nD τ).loc main_arg1)) (m ((c : Thread nD τ).loc main_arg2))
        (m ((c : Thread nD τ).loc main_arg4)) (tok t r) q :=
  congrArg₂ (· + ·) (blk1 m c t r q) (congrArg₂ (· * ·) (blk3 m c t r q)
    (Finset.sum_congr rfl fun l _ => congrArg₂ (· * ·) (blk0 m c t r l) (blk2 m c t l q)))

theorem block6 (c : Dev nD) (t : Fin cfg0.N) (r : Fin 512) (q : Fin 2048) :
    out0_6 (iblk m c 0 t) (iblk m c 1 t) (iblk m c 2 t) (iblk m c 3 t) (iblk m c 4 t) (iblk m c 5 t) (ix2 r q)
      = want6 m c (((cfg0.win 6).blk t).view.emb (ix2 r q : S512x2048.Idx)) := by
  rw [emb_out6 t r q]
  exact (out6_apply _ _ _ _ _ _ r q).trans (sblk_eq m c t r q)

theorem block7 (c : Dev nD) (t : Fin cfg0.N) (r : Fin 512) (q : Fin 2048) :
    out0_7 (iblk m c 0 t) (iblk m c 1 t) (iblk m c 2 t) (iblk m c 3 t) (iblk m c 4 t) (iblk m c 5 t) (ix2 r q)
      = want7 m c (((cfg0.win 7).blk t).view.emb (ix2 r q : S512x2048.Idx)) := by
  rw [emb_out7 t r q]
  refine (out7_apply _ _ _ _ _ _ r q).trans ?_
  have e0 : iblk m c 4 t (ix3 0 0 q : S1x3x2048.Idx) = m ((c : Thread nD τ).loc main_arg3) (ix2 (bat (tok t r)) (⟨q.val, by omega⟩ : Fin 6144)) :=
    (blk4 m c t r 0 q).trans (congrArg (fun z : Fin 6144 => m ((c : Thread nD τ).loc main_arg3) (ix2 (bat (tok t r)) z)) (Fin.ext (Nat.zero_add q.val)))
  show rms _ _ q * (_ + _) + _ = rms _ _ q * (_ + _) + _
  refine congrArg₂ (· + ·) (congrArg₂ (· * ·) ?_ ?_) e0
  · exact congrArg₂ (fun f w => rms f w q) (funext fun k => sblk_eq m c t r k) (blk5 m c t q)
  · exact congrArg (Ideal.ofBits .f32 0x3F800000#32 + ·) (blk4 m c t r 1 q)

/-- What a point writes back is its block of each result. -/
theorem flushed6_eq (c : Dev nD) (t : Fin cfg0.N) :
    (dats m 0 c).flushed 6 t = ((cfg0.win 6).blk t).view.read (Elt Ideal) (want6 m c) := by
  rw [Value.flushed6]
  refine funext fun (y : S512x2048.Idx) => ?_
  obtain ⟨r, q, rfl⟩ : ∃ (r : Fin 512) (q : Fin 2048), y = ix2 r q := ⟨y 0, y 1, eq_ix2 y⟩
  exact block6 m c t r q

theorem flushed7_eq (c : Dev nD) (t : Fin cfg0.N) :
    (dats m 0 c).flushed 7 t = ((cfg0.win 7).blk t).view.read (Elt Ideal) (want7 m c) := by
  rw [Value.flushed7]
  refine funext fun (y : S512x2048.Idx) => ?_
  obtain ⟨r, q, rfl⟩ : ∃ (r : Fin 512) (q : Fin 2048), y = ix2 r q := ⟨y 0, y 1, eq_ix2 y⟩
  exact block7 m c t r q

theorem coords_at : ∀ a : Fin 8, ∀ b : Fin 8, ∃ t : Fin grid0.N, (grid0.coords t 0).val = a.val
      ∧ (grid0.coords t 1).val = b.val := by decide +kernel

/-- Every token is a row of some point's block. -/
theorem tok_at (r : Fin 32768) : ∃ t : Fin cfg0.N, tok t ⟨r.val % 512, by omega⟩ = r := by
  obtain ⟨t, k0, k1⟩ := coords_at ⟨r.val / 4096, by omega⟩ ⟨r.val / 512 % 8, by omega⟩
  change _ = r.val / 4096 at k0
  change _ = r.val / 512 % 8 at k1
  refine ⟨t, Fin.ext ?_⟩
  show ((grid0.coords t 0).val * 8 + (grid0.coords t 1).val) * 512 + r.val % 512 = r.val
  omega

/-- The blocks cover the results. -/
theorem cover6 (i : S32768x2048.Idx) : ∃ t : Fin cfg0.N, (cfg0.win 6).flush t = true ∧ i ∈ ((cfg0.win 6).blk t).view.set := by
  obtain ⟨r, q, rfl⟩ : ∃ (r : Fin 32768) (q : Fin 2048), i = ix2 r q := ⟨i 0, i 1, eq_ix2 i⟩
  obtain ⟨t, e⟩ := tok_at r
  refine ⟨t, flush0_6 t, ?_⟩
  have e' : (ix2 r q : S32768x2048.Idx) = ((cfg0.win 6).blk t).view.emb (ix2 ⟨r.val % 512, by omega⟩ q : S512x2048.Idx) := by
    rw [emb_out6, e]
  rw [e']
  exact View.emb_mem_set _ _

theorem cover7 (i : S32768x2048.Idx) : ∃ t : Fin cfg0.N, (cfg0.win 7).flush t = true ∧ i ∈ ((cfg0.win 7).blk t).view.set := by
  obtain ⟨r, q, rfl⟩ : ∃ (r : Fin 32768) (q : Fin 2048), i = ix2 r q := ⟨i 0, i 1, eq_ix2 i⟩
  obtain ⟨t, e⟩ := tok_at r
  refine ⟨t, flush0_7 t, ?_⟩
  have e' : (ix2 r q : S32768x2048.Idx) = ((cfg0.win 7).blk t).view.emb (ix2 ⟨r.val % 512, by omega⟩ q : S512x2048.Idx) := by
    rw [emb_out7, e]
  rw [e']
  exact View.emb_mem_set _ _

theorem final6 (c : Dev nD) : (dats m 0 c).arrAt 6 cfg0.N = want6 m c :=
  (dats m 0 c).arrAt_eq_of_cover 6 (want6 m c) (fun t _ => flushed6_eq m c t) cover6
theorem final7 (c : Dev nD) : (dats m 0 c).arrAt 7 cfg0.N = want7 m c :=
  (dats m 0 c).arrAt_eq_of_cover 7 (want7 m c) (fun t _ => flushed7_eq m c t) cover7

/-- The run, read: the stream and its normalised, modulated form, the arguments unchanged. -/
theorem run : θ_run defs (onTc (τ := τ) (main (F := Ideal))) ⟨m, fun _ => 0, ρ⟩ fun r => ∀ c : Dev nD,
      r.2.mem ((c : Thread nD τ).loc main_v5_0) = want6 m c
      ∧ r.2.mem ((c : Thread nD τ).loc main_v5_1) = want7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2⟩) (Value.run_blocks m ρ)

end Cert.Kernel6Ideal.RefValue

namespace Cert.Reference6Ideal.RefValue

open Cert.Reference6Ideal Cert.Reference6Ideal.Gen
open Cert.Kernel4Ideal.RefValue (rms bat pos stream)
open Cert.Kernel6Ideal.RefValue (modul streamed modulated)

/-- A row of the modulation, spread over the positions of a batch. -/
theorem mod_apply (v : FVec Ideal S8x1x2048 .f32) (h : S8x1x2048.BroadcastsInDim S8x4096x2048 (![0, 1, 2] : Fin 3 → Fin 3)) (b : Fin 8) (p : Fin 4096) (q : Fin 2048) :
    broadcastInDim S8x4096x2048 ![0, 1, 2] h v (ix3 b p q) = v (ix3 b 0 q) :=
  broadcastInDim_apply _ h _ _ (ix3 b 0 q) fun a => by fin_cases a <;> rfl

theorem cut_apply (md : FVec Ideal S8x6144 .f32) (h : S8x2048.BroadcastsInDim S8x1x2048 (![0, 2] : Fin 2 → Fin 3)) (o : Nat) (ho : S8x6144.Slices ![0, o] S8x2048)
    (b : Fin 8) (q : Fin 2048) (hb : o + q.val < 6144) :
    broadcastInDim S8x1x2048 ![0, 2] h (extractStridedSlice S8x2048 ![0, o] md ho) (ix3 b 0 q) = md (ix2 b (⟨o + q.val, hb⟩ : Fin 6144)) := by
  refine (broadcastInDim_apply _ h _ _ (ix2 b q) fun a => by fin_cases a <;> rfl).trans ?_
  refine (extractStridedSlice_apply _ _ ho _ (ix2 b (⟨o + q.val, hb⟩ : Fin 6144)) fun a => ?_)
  fin_cases a
  · exact (Nat.zero_add b.val).symm
  · rfl

/-- A token's row out of the array that keeps batches apart. -/
theorem flat_apply (v : FVec Ideal S8x4096x2048 .f32) (h : S8x4096x2048.ShapeCasts S32768x2048) (r : Fin 32768) (q : Fin 2048) :
    shapeCast S32768x2048 v h (ix2 r q) = v (ix3 (bat r) (pos r) q) := by
  refine shapeCast_apply _ h _ (ix3 (bat r) (pos r) q) ?_
  refine (Shape.rowMajor_val_three _).trans (Eq.trans ?_ (Shape.rowMajor_val_two _).symm)
  show (r.val / 4096 * 4096 + r.val % 4096) * 2048 + q.val = r.val * 2048 + q.val
  omega

/-- A narrower element type keeps the value. -/
theorem trunc_apply (v : FVec Ideal S32768x2048 .f32) (h : FTy.bits .bf16 < FTy.bits .f32) (i : S32768x2048.Idx) :
    (truncf .bf16 v h i : EReal) = v i := rfl

/-- The norm and the modulation as the reference spells them. -/
theorem modul_apply (v : FVec Ideal S8x4096x2048 .f32) (nw : FVec Ideal S2048 .f32) (nm : FVec Ideal S8x6144 .f32) (h1) (h2 : S8x4096.BroadcastsInDim S8x4096x1 (![0, 1] : Fin 2 → Fin 3)) (h3 : S8x4096x2048.ReducesTo [2] S8x4096) (h4 h5 h6)
    (h7 : S2048.BroadcastsInDim S1x1x2048 (![2] : Fin 1 → Fin 3)) (h8 h9) (h10 : S8x2048.BroadcastsInDim S8x1x2048 (![0, 2] : Fin 2 → Fin 3)) (h11 h12) (b : Fin 8) (p : Fin 4096) (q : Fin 2048) :
    addf (mulf (mulf (mulf v (broadcastInDim S8x4096x2048 ![0, 1, 2] h1 (Host.rsqrt (addf (Host.divf (broadcastInDim S8x4096x1 ![0, 1] h2 (Host.reduceAdd (mulf v v) (constant S_ .f32 0x00000000#32) h3 h4))
      (broadcastInDim S8x4096x1 ![] h5 (constant S_ .f32 0x45000000#32))) (broadcastInDim S8x4096x1 ![] h5 (constant S_ .f32 0x358637BD#32))))))
      (broadcastInDim S8x4096x2048 ![0, 1, 2] h6 (broadcastInDim S1x1x2048 ![2] h7 nw)))
      (broadcastInDim S8x4096x2048 ![0, 1, 2] h8 (addf (broadcastInDim S8x1x2048 ![] h9 (constant S_ .f32 0x3F800000#32)) (broadcastInDim S8x1x2048 ![0, 2] h10 (extractStridedSlice S8x2048 ![0, 2048] nm h11)))))
      (broadcastInDim S8x4096x2048 ![0, 1, 2] h8 (broadcastInDim S8x1x2048 ![0, 2] h10 (extractStridedSlice S8x2048 ![0, 0] nm h12))) (ix3 b p q)
      = modul (fun k => v (ix3 b p k)) (nw (ix1 q)) (nm (ix2 b (⟨2048 + q.val, by omega⟩ : Fin 6144))) (nm (ix2 b (⟨q.val, by omega⟩ : Fin 6144))) q := by
  refine congrArg₂ (· + ·) (congrArg₂ (· * ·) (Cert.Reference4Ideal.RefValue.norm_apply v nw h1 h2 h3 h4 h5 h6 h7 b p q) ?_) ?_
  · exact (mod_apply _ h8 b p q).trans (congrArg (Ideal.ofBits .f32 0x3F800000#32 + ·) (cut_apply nm h10 2048 h11 b q _))
  · refine (mod_apply _ h8 b p q).trans ((cut_apply nm h10 0 h12 b q (by omega)).trans ?_)
    exact congrArg (fun z : Fin 6144 => nm (ix2 b z)) (Fin.ext (Nat.zero_add q.val))

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v31) = streamed (m ((c : Thread nD τ).loc main_arg0)) (m ((c : Thread nD τ).loc main_arg1)) (m ((c : Thread nD τ).loc main_arg2)) (m ((c : Thread nD τ).loc main_arg4))
      ∧ r.2.mem ((c : Thread nD τ).loc main_v33) = modulated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (by
      refine funext fun (i : S32768x2048.Idx) => ?_
      obtain ⟨r, q, rfl⟩ : ∃ (r : Fin 32768) (q : Fin 2048), i = ix2 r q := ⟨i 0, i 1, eq_ix2 i⟩
      refine (flat_apply _ _ r q).trans ?_
      exact Cert.Reference4Ideal.RefValue.stream_apply _ _ _ _ _ _ _ _ _ r q), (h c).2.1.trans (by
      refine funext fun (i : S32768x2048.Idx) => ?_
      obtain ⟨r, q, rfl⟩ : ∃ (r : Fin 32768) (q : Fin 2048), i = ix2 r q := ⟨i 0, i 1, eq_ix2 i⟩
      refine (trunc_apply _ _ _).trans ((flat_apply _ _ r q).trans ?_)
      refine (modul_apply _ _ _ _ _ _ _ _ _ _ _ _ _ _ _ _ _ q).trans ?_
      exact congrArg (fun f => modul f _ _ _ q) (funext fun k => Cert.Reference4Ideal.RefValue.stream_apply _ _ _ _ _ _ _ _ _ r k)), (h c).2.2⟩) (Cert.Reference6Ideal.Value.run m ρ)

end Cert.Reference6Ideal.RefValue

namespace Cert.OutProj

theorem defs_eq {F : FTy → Type} [FloatOps F] : Cert.Kernel6.defs (F := F) = Cert.Kernel6Ideal.defs := by sl_kernel_rfl
theorem main_eq {F : FTy → Type} [FloatOps F] : Cert.Kernel6.main (F := F) = Cert.Kernel6Ideal.main := by sl_kernel_rfl

theorem frame_kernel : Cert.quiescent_Kernel6 := fun m ρ _ => by
  rw [defs_eq, main_eq]
  exact Cert.Kernel6Ideal.Gen.frame (F := Bits) m ρ

theorem frame_kernelIdeal : Cert.quiescent_Kernel6Ideal := fun m ρ _ => Cert.Kernel6Ideal.Gen.frame (F := Ideal) m ρ

theorem frame_referenceIdeal : Cert.quiescent_Reference6Ideal := fun m ρ _ =>
  (θ_run Cert.Reference6Ideal.defs _ _).mono (fun r h => ⟨fun c => (h c).2.2, sem_eq_zero_of_no_sems (by decide) r.2⟩)
    (Cert.Reference6Ideal.RefValue.run m ρ)

theorem algebraic : Cert.algebraic_Kernel6Ideal_Reference6Ideal := fun m ρ m' ρ' _ hm =>
  ⟨fun c => Cert.Kernel6Ideal.RefValue.want6 m c, fun c => Cert.Kernel6Ideal.RefValue.want7 m c, Cert.Kernel6Ideal.RefValue.run m ρ,
    (θ_run Cert.Reference6Ideal.defs _ _).mono (fun _ h c => by
      obtain ⟨e0, e1, e2, e3, e4, e5⟩ := hm c
      refine ⟨(h c).1.trans (by rw [e0, e1, e2, e4]), (h c).2.1.trans (by rw [e0, e1, e2, e3, e4, e5]), (h c).2.2⟩)
      (Cert.Reference6Ideal.RefValue.run m' ρ')⟩

end Cert.OutProj

end
-- ==== Proof.Norm.lean ====
/-
  The first layer's norm: each token's row over the root of its mean square, scaled and shifted by its batch's
  modulation. The kernel does it by blocks of 1024 tokens over a grid of batches; every block it writes back is the
  block of one function of the arguments, and the blocks cover the result. The reference keeps batches and positions
  apart.
-/
module

public import proofs.«01_k».proof.Defs
public import proofs.«01_k».proof.Proof.Gen.Kernel7
public import proofs.«01_k».proof.Proof.Gen.Kernel7Ideal.Value
public import proofs.«01_k».proof.Proof.Gen.Reference7Ideal.Run
public import proofs.«01_k».proof.Proof.OutProj
public import Idealize.ShloMosaic.Lib.Pipeline.Value
public import Idealize.ShloMosaic.Lib.ValueIdxCore
public import proofs.«01_k».proof.Proof.Dense
public import Idealize.ShloMosaic.Lib.StableHlo
public import Idealize.ShloMosaic.Lib.Quiescent
public import Idealize.ShloMosaic.PureOps.BitExact

@[expose] public section

set_option maxRecDepth 16384

noncomputable section

open Idealize.ShloMosaic Idealize.ShloMosaic.TcCoe Idealize.SL.Sem
open Idealize.ShloMosaic.Pipeline (Dat)
open Idealize.ShloMosaic.ValueIdx
open scoped BigOperators
open Cert.Dense

namespace Cert.Kernel7Ideal.RefValue

open Cert.Kernel7Ideal Cert.Kernel7Ideal.Gen
open Cert.Kernel4Ideal.RefValue (rms bat pos)
open Cert.Kernel6Ideal.RefValue (modul mrow_apply)

/-- The normalised and modulated input, as an array. -/
def modulated (x : FVec Ideal S8x4096x2048 .f32) (md : FVec Ideal S8x6144 .f32) (nw : FVec Ideal S2048 .f32) :
    FVec Ideal S32768x2048 .bf16 := fun i =>
  modul (fun k => x (ix3 (bat (i 0)) (pos (i 0)) k)) (nw (ix1 (i 1))) (md (ix2 (bat (i 0)) (⟨2048 + (i 1).val, by have := ((i 1 : Fin 2048)).isLt; change (i 1).val < 2048 at this; omega⟩ : Fin 6144)))
    (md (ix2 (bat (i 0)) (⟨(i 1).val, by have := ((i 1 : Fin 2048)).isLt; change (i 1).val < 2048 at this; omega⟩ : Fin 6144))) (i 1)

theorem col_apply (v : FVec Ideal S1024x1 .f32) (h : S1024x1.Broadcasts S1024x2048) (r : Fin 1024) (q : Fin 2048) :
    broadcastTo S1024x2048 v h (ix2 r q) = v (ix2 r 0) :=
  broadcastTo_apply _ _ _ _ fun a => by fin_cases a <;> rfl
theorem row_apply (v : FVec Ideal S1x2048 .f32) (h : S1x2048.Broadcasts S1024x2048) (r : Fin 1024) (q : Fin 2048) :
    broadcastTo S1024x2048 v h (ix2 r q) = v (ix2 0 q) :=
  broadcastTo_apply _ _ _ _ fun a => by fin_cases a <;> rfl

/-- The norm of a block of rows as the body spells it. -/
theorem norm_apply (v : FVec Ideal S1024x2048 .f32) (w : FVec Ideal S1x2048 .f32) (h1 h2 h3 h4 h5 h6) (r : Fin 1024) (q : Fin 2048) :
    mulf (mulf v (broadcastTo S1024x2048 (rsqrt (addf (divf (shapeCast S1024x1 (multiReduction .add [1] S1024 (mulf v v) 0x00000000#32 h1 h2 h3) h4)
      (broadcast S1024x1 (Scalar.ofBits .f32 0x45000000#32))) (broadcast S1024x1 (Scalar.ofBits .f32 0x358637BD#32)))) h5)) (broadcastTo S1024x2048 w h6) (ix2 r q)
      = rms (fun k => v (ix2 r k)) (w (ix2 0 q)) q := by
  refine congrArg₂ (· * ·) (congrArg (v (ix2 r q) * ·) ((col_apply _ h5 r q).trans ?_)) (row_apply w h6 r q)
  refine congrArg (fun z => Ideal.rsqrt (Ideal.div z (Ideal.ofBits .f32 0x45000000#32) + Ideal.ofBits .f32 0x358637BD#32)) ?_
  refine (shapeCast_apply _ h4 _ (ix1 r) rfl).trans ?_
  refine (Ideal.multiReduction_add_single _ _ h1 h2 h3 _).trans ?_
  refine Finset.sum_congr rfl fun k _ => ?_
  have e : h1.lift (ix1 r) k = ix2 r k := by
    funext a
    fin_cases a <;> rfl
  rw [e]
  rfl

/-- The body's block, at a row and a column. -/
theorem out_apply (x0 : FVec Ideal S1024x2048 .f32) (x1 : FVec Ideal S1x3x2048 .f32) (x2 : FVec Ideal S1x2048 .f32) (r : Fin 1024) (q : Fin 2048) :
    out0_3 (F := Ideal) x0 x1 x2 (ix2 r q)
      = modul (fun k => x0 (ix2 r k)) (x2 (ix2 0 q)) (x1 (ix3 0 1 q)) (x1 (ix3 0 0 q)) q := by
  unfold out0_3
  rw [View.canon_unit_zero hz2]
  iterate 2 rw [View.ld_unit_zero hz2]
  rw [View.ld_unit_zero hz3]
  unfold k0_pay1
  simp only [shapeCast_self]
  refine congrArg₂ (fun a b : EReal => a + b) (congrArg₂ (fun a b : EReal => a * b) ?_ ?_) ?_
  · exact norm_apply x0 x2 _ _ _ _ _ _ r q
  · exact (row_apply _ _ r q).trans (congrArg (Ideal.ofBits .f32 0x3F800000#32 + ·) (mrow_apply x1 _ 1 _ q))
  · exact (row_apply _ _ r q).trans (mrow_apply x1 _ 0 _ q)

variable (m : (ℓ : Loc nD τ sig) → Buf (Elt Ideal) ℓ) (ρ : Dev nD → PrngReg)

/-- The result array as a function of the three arguments. -/
abbrev want (c : Dev nD) : Buf (Elt Ideal) ((c : Thread nD τ).loc main_v3) :=
  modulated (m ((c : Thread nD τ).loc main_arg0)) (m ((c : Thread nD τ).loc main_arg1)) (m ((c : Thread nD τ).loc main_arg2))

theorem ix_maps : ∀ i : grid0.Coords, cc0_transform_0 i = ![(i 0).val * 4 + (i 1).val, 0] ∧ cc0_transform_1 i = ![(i 0).val, 0, 0]
    ∧ cc0_transform_2 i = ![0, 0] ∧ cc0_transform_3 i = ![(i 0).val * 4 + (i 1).val, 0] := by decide +kernel

/-- The arrays the pipeline reads, as reshaped arguments. -/
theorem V_v0 (c : Dev nD) (r : Fin 32768) (q : Fin 2048) : V m c main_v0 (ix2 r q)
    = m ((c : Thread nD τ).loc main_arg0) (ix3 (bat r) (pos r) q) := by
  simp only [V, hostOps0, StableHlo.after_cons, StableHlo.after_nil]
  refine shapeCast_apply _ _ _ (ix3 (bat r) (pos r) q) ?_
  refine (Shape.rowMajor_val_three _).trans (Eq.trans ?_ (Shape.rowMajor_val_two _).symm)
  show (r.val / 4096 * 4096 + r.val % 4096) * 2048 + q.val = r.val * 2048 + q.val
  omega
theorem V_v1 (c : Dev nD) (b : Fin 8) (j : Fin 3) (q : Fin 2048) : V m c main_v1 (ix3 b j q)
    = m ((c : Thread nD τ).loc main_arg1) (ix2 b ⟨j.val * 2048 + q.val, by omega⟩) := by
  simp only [V, hostOps0, StableHlo.after_cons, StableHlo.after_nil]
  refine shapeCast_apply _ _ _ (ix2 b (⟨j.val * 2048 + q.val, by omega⟩ : Fin 6144)) ?_
  refine (Shape.rowMajor_val_two _).trans (Eq.trans ?_ (Shape.rowMajor_val_three _).symm)
  show b.val * 6144 + (j.val * 2048 + q.val) = (b.val * 3 + j.val) * 2048 + q.val
  omega
theorem V_v2 (c : Dev nD) (q : Fin 2048) : V m c main_v2 (ix2 0 q) = m ((c : Thread nD τ).loc main_arg2) (ix1 q) := by
  simp only [V, hostOps0, StableHlo.after_cons, StableHlo.after_nil]
  refine (shapeCast_addUnit_apply ![2048] _ _ _).trans (congrArg _ ?_)
  funext a
  fin_cases a
  rfl

/-- The token a row of the block of a point is. -/
def tok (t : Fin cfg0.N) (r : Fin 1024) : Fin 32768 :=
  ⟨((grid0.coords t 0).val * 4 + (grid0.coords t 1).val) * 1024 + r.val, by
    have h0 : (grid0.coords t 0).val < 8 := (grid0.coords t 0).isLt
    have h1 : (grid0.coords t 1).val < 4 := (grid0.coords t 1).isLt
    omega⟩
theorem bat_tok (t : Fin cfg0.N) (r : Fin 1024) : bat (tok t r) = grid0.coords t 0 := by
  apply Fin.ext
  have h1 : (grid0.coords t 1).val < 4 := (grid0.coords t 1).isLt
  show (((grid0.coords t 0).val * 4 + (grid0.coords t 1).val) * 1024 + r.val) / 4096 = (grid0.coords t 0).val
  omega

/-- The blocks fetched at a point. -/
theorem blk0 (c : Dev nD) (t : Fin cfg0.N) (r : Fin 1024) (q : Fin 2048) :
    iblk m c 0 t (ix2 r q : S1024x2048.Idx) = m ((c : Thread nD τ).loc main_arg0) (ix3 (bat (tok t r)) (pos (tok t r)) q) := by
  show V m c main_v0 (((cfg0.win 0).blk t).view.emb (ix2 r q : S1024x2048.Idx)) = _
  refine Eq.trans (congrArg _ ?_) (V_v0 m c (tok t r) q)
  have e := (ix_maps (grid0.coords t)).1
  funext a
  fin_cases a <;> apply Fin.ext
  · show cc0_transform_0 (grid0.coords t) 0 * 1024 + 1 * r.val = _
    rw [e, Nat.one_mul]; rfl
  · show cc0_transform_0 (grid0.coords t) 1 * 2048 + 1 * q.val = _
    rw [e, Nat.one_mul]; exact Nat.zero_add _

theorem blk1 (c : Dev nD) (t : Fin cfg0.N) (r : Fin 1024) (j : Fin 3) (q : Fin 2048) :
    iblk m c 1 t (ix3 0 j q : S1x3x2048.Idx) = m ((c : Thread nD τ).loc main_arg1) (ix2 (bat (tok t r)) ⟨j.val * 2048 + q.val, by omega⟩) := by
  show V m c main_v1 (((cfg0.win 1).blk t).view.emb (ix3 0 j q : S1x3x2048.Idx)) = _
  refine Eq.trans (congrArg _ ?_) (V_v1 m c (bat (tok t r)) j q)
  rw [bat_tok]
  have e := (ix_maps (grid0.coords t)).2.1
  funext a
  fin_cases a <;> apply Fin.ext
  · show cc0_transform_1 (grid0.coords t) 0 * 1 + 1 * 0 = (grid0.coords t 0).val
    rw [e]; exact Nat.mul_one _
  · show cc0_transform_1 (grid0.coords t) 1 * 3 + 1 * j.val = _
    rw [e, Nat.one_mul]; exact Nat.zero_add _
  · show cc0_transform_1 (grid0.coords t) 2 * 2048 + 1 * q.val = _
    rw [e, Nat.one_mul]; exact Nat.zero_add _

theorem blk2 (c : Dev nD) (t : Fin cfg0.N) (q : Fin 2048) :
    iblk m c 2 t (ix2 0 q : S1x2048.Idx) = m ((c : Thread nD τ).loc main_arg2) (ix1 q) := by
  show V m c main_v2 (((cfg0.win 2).blk t).view.emb (ix2 0 q : S1x2048.Idx)) = _
  refine Eq.trans (congrArg _ ?_) (V_v2 m c q)
  have e := (ix_maps (grid0.coords t)).2.2.1
  funext a
  fin_cases a <;> apply Fin.ext
  · show cc0_transform_2 (grid0.coords t) 0 * 1 + 1 * 0 = _
    rw [e]; rfl
  · show cc0_transform_2 (grid0.coords t) 1 * 2048 + 1 * q.val = _
    rw [e, Nat.one_mul]; exact Nat.zero_add _

/-- A row and column of the block written back at a point, in the result. -/
theorem emb_out (t : Fin cfg0.N) (r : Fin 1024) (q : Fin 2048) :
    ((cfg0.win 3).blk t).view.emb (ix2 r q : S1024x2048.Idx) = (ix2 (tok t r) q : S32768x2048.Idx) := by
  have e := (ix_maps (grid0.coords t)).2.2.2
  funext a
  fin_cases a <;> apply Fin.ext
  · show cc0_transform_3 (grid0.coords t) 0 * 1024 + 1 * r.val = _
    rw [e, Nat.one_mul]; rfl
  · show cc0_transform_3 (grid0.coords t) 1 * 2048 + 1 * q.val = _
    rw [e, Nat.one_mul]; exact Nat.zero_add _

theorem block_eq (c : Dev nD) (t : Fin cfg0.N) (r : Fin 1024) (q : Fin 2048) :
    out0_3 (iblk m c 0 t) (iblk m c 1 t) (iblk m c 2 t) (ix2 r q)
      = want m c (((cfg0.win 3).blk t).view.emb (ix2 r q : S1024x2048.Idx)) := by
  rw [emb_out t r q]
  refine (out_apply _ _ _ r q).trans ?_
  have e0 : iblk m c 1 t (ix3 0 0 q : S1x3x2048.Idx) = m ((c : Thread nD τ).loc main_arg1) (ix2 (bat (tok t r)) (⟨q.val, by omega⟩ : Fin 6144)) :=
    (blk1 m c t r 0 q).trans (congrArg (fun z : Fin 6144 => m ((c : Thread nD τ).loc main_arg1) (ix2 (bat (tok t r)) z)) (Fin.ext (Nat.zero_add q.val)))
  show rms _ _ q * (_ + _) + _ = rms _ _ q * (_ + _) + _
  refine congrArg₂ (· + ·) (congrArg₂ (· * ·) ?_ ?_) e0
  · exact congrArg₂ (fun f w => rms f w q) (funext fun k => blk0 m c t r k) (blk2 m c t q)
  · exact congrArg (Ideal.ofBits .f32 0x3F800000#32 + ·) (blk1 m c t r 1 q)

/-- What a point writes back is its block of the result. -/
theorem flushed_eq (c : Dev nD) (t : Fin cfg0.N) :
    (dats m 0 c).flushed 3 t = ((cfg0.win 3).blk t).view.read (Elt Ideal) (want m c) := by
  rw [Value.flushed3]
  refine funext fun (y : S1024x2048.Idx) => ?_
  obtain ⟨r, q, rfl⟩ : ∃ (r : Fin 1024) (q : Fin 2048), y = ix2 r q := ⟨y 0, y 1, eq_ix2 y⟩
  exact block_eq m c t r q

theorem coords_at : ∀ a : Fin 8, ∀ b : Fin 4, ∃ t : Fin grid0.N, (grid0.coords t 0).val = a.val
      ∧ (grid0.coords t 1).val = b.val := by decide +kernel

/-- The blocks cover the result. -/
theorem cover (i : S32768x2048.Idx) : ∃ t : Fin cfg0.N, (cfg0.win 3).flush t = true ∧ i ∈ ((cfg0.win 3).blk t).view.set := by
  obtain ⟨r, q, rfl⟩ : ∃ (r : Fin 32768) (q : Fin 2048), i = ix2 r q := ⟨i 0, i 1, eq_ix2 i⟩
  obtain ⟨t, k0, k1⟩ := coords_at ⟨r.val / 4096, by omega⟩ ⟨r.val / 1024 % 4, by omega⟩
  refine ⟨t, flush0_3 t, ?_⟩
  change _ = r.val / 4096 at k0
  change _ = r.val / 1024 % 4 at k1
  have e : tok t ⟨r.val % 1024, by omega⟩ = r := by
    apply Fin.ext
    show ((grid0.coords t 0).val * 4 + (grid0.coords t 1).val) * 1024 + r.val % 1024 = r.val
    omega
  have e' : (ix2 r q : S32768x2048.Idx) = ((cfg0.win 3).blk t).view.emb (ix2 ⟨r.val % 1024, by omega⟩ q : S1024x2048.Idx) := by
    rw [emb_out, e]
  rw [e']
  exact View.emb_mem_set _ _

theorem final (c : Dev nD) : (dats m 0 c).arrAt 3 cfg0.N = want m c :=
  (dats m 0 c).arrAt_eq_of_cover 3 (want m c) (fun t _ => flushed_eq m c t) cover

/-- The run, read: the modulated norm, the arguments unchanged. -/
theorem run : θ_run defs (onTc (τ := τ) (main (F := Ideal))) ⟨m, fun _ => 0, ρ⟩ fun r => ∀ c : Dev nD,
      r.2.mem ((c : Thread nD τ).loc main_v3) = want m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (Value.run_blocks m ρ)

end Cert.Kernel7Ideal.RefValue

namespace Cert.Reference7Ideal.RefValue

open Cert.Reference7Ideal Cert.Reference7Ideal.Gen
open Cert.Kernel7Ideal.RefValue (modulated)
open Cert.Reference6Ideal.RefValue (trunc_apply flat_apply modul_apply)

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v24) = modulated (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (by
      refine funext fun (i : S32768x2048.Idx) => ?_
      obtain ⟨r, q, rfl⟩ : ∃ (r : Fin 32768) (q : Fin 2048), i = ix2 r q := ⟨i 0, i 1, eq_ix2 i⟩
      refine (trunc_apply _ _ _).trans ((flat_apply _ _ r q).trans ?_)
      exact modul_apply _ _ _ _ _ _ _ _ _ _ _ _ _ _ _ _ _ q), (h c).2⟩) (Cert.Reference7Ideal.Value.run m ρ)

end Cert.Reference7Ideal.RefValue

namespace Cert.Norm

theorem defs_eq {F : FTy → Type} [FloatOps F] : Cert.Kernel7.defs (F := F) = Cert.Kernel7Ideal.defs := by sl_kernel_rfl
theorem main_eq {F : FTy → Type} [FloatOps F] : Cert.Kernel7.main (F := F) = Cert.Kernel7Ideal.main := by sl_kernel_rfl

theorem frame_kernel : Cert.quiescent_Kernel7 := fun m ρ _ => by
  rw [defs_eq, main_eq]
  exact Cert.Kernel7Ideal.Gen.frame (F := Bits) m ρ

theorem frame_kernelIdeal : Cert.quiescent_Kernel7Ideal := fun m ρ _ => Cert.Kernel7Ideal.Gen.frame (F := Ideal) m ρ

theorem frame_referenceIdeal : Cert.quiescent_Reference7Ideal := fun m ρ _ =>
  (θ_run Cert.Reference7Ideal.defs _ _).mono (fun r h => ⟨fun c => (h c).2, sem_eq_zero_of_no_sems (by decide) r.2⟩)
    (Cert.Reference7Ideal.RefValue.run m ρ)

theorem algebraic : Cert.algebraic_Kernel7Ideal_Reference7Ideal := fun m ρ m' ρ' _ hm =>
  ⟨fun c => Cert.Kernel7Ideal.RefValue.want m c, Cert.Kernel7Ideal.RefValue.run m ρ,
    (θ_run Cert.Reference7Ideal.defs _ _).mono (fun _ h c => ⟨(h c).1.trans (by rw [(hm c).1, (hm c).2.1, (hm c).2.2]), (h c).2⟩)
      (Cert.Reference7Ideal.RefValue.run m' ρ')⟩

end Cert.Norm

end
-- ==== Proof.Modulation.lean ====
/-
  The modulation of each layer: the conditioning vector times its logistic function, through a layer's weights, plus its
  bias. The kernel multiplies in two parts, the leading part of the activation and what it leaves over; exact numbers
  leave nothing over, and zero times any weight is zero, so for finite conditioning the two parts are one product. It
  works by layers and blocks of 1024 columns; every block it writes back is the block of one function of the arguments,
  and the blocks cover the result.
-/
module

public import proofs.«01_k».proof.Defs
public import proofs.«01_k».proof.Proof.Gen.Kernel8
public import proofs.«01_k».proof.Proof.Gen.Kernel8Ideal.Value
public import proofs.«01_k».proof.Proof.Gen.Reference8Ideal.Run
public import proofs.«01_k».proof.Proof.Swa
public import Idealize.ShloMosaic.Lib.Pipeline.Value
public import Idealize.ShloMosaic.Lib.ValueIdxCore
public import proofs.«01_k».proof.Proof.Dense
public import Idealize.ShloMosaic.Lib.StableHlo
public import Idealize.ShloMosaic.Lib.Quiescent
public import Idealize.ShloMosaic.PureOps.BitExact

@[expose] public section

set_option maxRecDepth 16384

noncomputable section

open Idealize.ShloMosaic hiding ix1 ix2 ix3 eq_ix2 eq_ix3
open Idealize.ShloMosaic.TcCoe Idealize.SL.Sem
open Idealize.ShloMosaic.Pipeline (Dat)
open Idealize.ShloMosaic.ValueIdx
open scoped BigOperators
open Cert.Dense

namespace Cert.Kernel8Ideal.RefValue

open Cert.Kernel8Ideal Cert.Kernel8Ideal.Gen

/-- A number times its logistic function. -/
def silu (x : EReal) : EReal := x * Ideal.logistic x

/-- The modulations as an array. -/
def mods (x : FVec Ideal S8x2048 .f32) (w : FVec Ideal S2x2048x6144 .f32) (b : FVec Ideal S2x6144 .f32) : FVec Ideal S2x8x6144 .f32 := fun i =>
  (∑ k : Fin 2048, silu (x (ix2 (i 1) k)) * w (ix3 (i 0) k (i 2))) + b (ix2 (i 0) (i 2))

/-- A real number leaves nothing over itself, and nothing times a weight is nothing. -/
theorem left_over (y : ℝ) (w : EReal) : (silu (y : EReal) - silu (y : EReal)) * w = 0 := by
  have e : silu (y : EReal) = ((y * (1 + Real.exp (-y))⁻¹ : ℝ) : EReal) := by
    unfold silu
    rw [Ideal.logistic_coe, EReal.coe_mul]
  rw [e, ← EReal.coe_sub, sub_self, EReal.coe_zero, zero_mul]

theorem row_apply (v : FVec Ideal S1x1024 .f32) (h : S1x1024.Broadcasts S8x1024) (r : Fin 8) (q : Fin 1024) :
    broadcastTo S8x1024 v h (ix2 r q) = v (ix2 0 q) :=
  broadcastTo_apply _ _ _ _ fun a => by fin_cases a <;> rfl

/-- The body's block, at a row and a column. -/
theorem out_apply (x0 : FVec Ideal S8x2048 .f32) (x1 : FVec Ideal S1x2048x1024 .f32) (x2 : FVec Ideal S1x1x1024 .f32) (hx : ∀ i, ∃ y : ℝ, x0 i = (y : EReal))
    (r : Fin 8) (q : Fin 1024) :
    out0_3 (F := Ideal) x0 x1 x2 (ix3 0 r q) = (∑ k : Fin 2048, silu (x0 (ix2 r k)) * x1 (ix3 0 k q)) + x2 (ix3 0 0 q) := by
  have hw : ∀ k : Fin 2048, (shapeCast S2048x1024 x1 shapeCasts_S1x2048x1024_S2048x1024 (ix2 k q) : EReal) = x1 (ix3 0 k q) := fun k => by
    refine (shapeCast_dropUnit_apply ![2048, 1024] _ _ _).trans (congrArg x1 ?_)
    funext a
    fin_cases a <;> rfl
  unfold out0_3
  rw [View.canon_unit_zero hz3, View.ld_unit_zero hz2]
  iterate 2 rw [View.ld_unit_zero hz3]
  unfold k0_pay1
  refine (shapeCast_apply _ _ _ (ix2 r q) ?_).trans ?_
  · refine (Shape.rowMajor_val_two _).trans (Eq.trans ?_ (Shape.rowMajor_val_three _).symm)
    show r.val * 1024 + q.val = (0 * 8 + r.val) * 1024 + q.val
    omega
  refine congrArg₂ (fun a b : EReal => a + b) ?_ ?_
  · refine (congrArg₂ (fun a b : EReal => a + b) (mm_apply (M := 8) (K := 2048) (N := 1024) none _ _ r q)
      (mm_apply (M := 8) (K := 2048) (N := 1024) none _ _ r q)).trans ?_
    refine (congrArg₂ (fun a b : EReal => a + b) (Finset.sum_congr rfl fun k _ => ?_) (Finset.sum_eq_zero fun k _ => ?_)).trans (add_zero (∑ k : Fin 2048, silu (x0 (ix2 r k)) * x1 (ix3 0 k q)))
    · exact congrArg (silu (x0 (ix2 r k)) * ·) (hw k)
    · obtain ⟨y, hy⟩ := hx (ix2 r k)
      have e := left_over y (shapeCast S2048x1024 x1 shapeCasts_S1x2048x1024_S2048x1024 (ix2 k q))
      rw [← hy] at e
      exact e
  · refine (row_apply _ _ r q).trans ((shapeCast_dropUnit_apply ![1, 1024] _ _ _).trans (congrArg x2 ?_))
    funext a
    fin_cases a <;> rfl

variable (m : (ℓ : Loc nD τ sig) → Buf (Elt Ideal) ℓ) (ρ : Dev nD → PrngReg)

/-- The result array as a function of the three arguments. -/
abbrev want (c : Dev nD) : Buf (Elt Ideal) ((c : Thread nD τ).loc main_v1) :=
  mods (m ((c : Thread nD τ).loc main_arg0)) (m ((c : Thread nD τ).loc main_arg1)) (m ((c : Thread nD τ).loc main_arg2))

theorem ix_maps : ∀ i : grid0.Coords, cc0_transform_0 i = ![0, 0] ∧ cc0_transform_1 i = ![(i 0).val, 0, (i 1).val]
    ∧ cc0_transform_2 i = ![(i 0).val, 0, (i 1).val] ∧ cc0_transform_3 i = ![(i 0).val, 0, (i 1).val] := by decide +kernel

/-- The bias as the pipeline reads it. -/
theorem V_v0 (c : Dev nD) (l : Fin 2) (q : Fin 6144) : V m c main_v0 (ix3 l 0 q) = m ((c : Thread nD τ).loc main_arg2) (ix2 l q) := by
  simp only [V, hostOps0, StableHlo.after_cons, StableHlo.after_nil]
  refine shapeCast_apply _ _ _ (ix2 l q) ?_
  refine (Shape.rowMajor_val_two _).trans (Eq.trans ?_ (Shape.rowMajor_val_three _).symm)
  show l.val * 6144 + q.val = (l.val * 1 + 0) * 6144 + q.val
  omega

/-- The layer and the column of an entry of the block of a point. -/
def lay (t : Fin cfg0.N) : Fin 2 := ⟨(grid0.coords t 0).val, (grid0.coords t 0).isLt⟩
def col (t : Fin cfg0.N) (q : Fin 1024) : Fin 6144 :=
  ⟨(grid0.coords t 1).val * 1024 + q.val, by
    have h1 : (grid0.coords t 1).val < 6 := (grid0.coords t 1).isLt
    omega⟩

/-- The blocks fetched at a point. -/
theorem blk0 (c : Dev nD) (t : Fin cfg0.N) (r : Fin 8) (k : Fin 2048) :
    iblk m c 0 t (ix2 r k : S8x2048.Idx) = m ((c : Thread nD τ).loc main_arg0) (ix2 r k) := by
  show V m c main_arg0 (((cfg0.win 0).blk t).view.emb (ix2 r k : S8x2048.Idx)) = _
  refine (congrFun (V_main_arg0 m c) _).trans (congrArg _ ?_)
  have e := (ix_maps (grid0.coords t)).1
  funext a
  fin_cases a <;> apply Fin.ext
  · show cc0_transform_0 (grid0.coords t) 0 * 8 + 1 * r.val = _
    rw [e, Nat.one_mul]; exact Nat.zero_add _
  · show cc0_transform_0 (grid0.coords t) 1 * 2048 + 1 * k.val = _
    rw [e, Nat.one_mul]; exact Nat.zero_add _

theorem blk1 (c : Dev nD) (t : Fin cfg0.N) (k : Fin 2048) (q : Fin 1024) :
    iblk m c 1 t (ix3 0 k q : S1x2048x1024.Idx) = m ((c : Thread nD τ).loc main_arg1) (ix3 (lay t) k (col t q)) := by
  show V m c main_arg1 (((cfg0.win 1).blk t).view.emb (ix3 0 k q : S1x2048x1024.Idx)) = _
  refine (congrFun (V_main_arg1 m c) _).trans (congrArg _ ?_)
  have e := (ix_maps (grid0.coords t)).2.1
  funext a
  fin_cases a <;> apply Fin.ext
  · show cc0_transform_1 (grid0.coords t) 0 * 1 + 1 * 0 = _
    rw [e]; exact Nat.mul_one _
  · show cc0_transform_1 (grid0.coords t) 1 * 2048 + 1 * k.val = _
    rw [e, Nat.one_mul]; exact Nat.zero_add _
  · show cc0_transform_1 (grid0.coords t) 2 * 1024 + 1 * q.val = _
    rw [e, Nat.one_mul]; rfl

theorem blk2 (c : Dev nD) (t : Fin cfg0.N) (q : Fin 1024) :
    iblk m c 2 t (ix3 0 0 q : S1x1x1024.Idx) = m ((c : Thread nD τ).loc main_arg2) (ix2 (lay t) (col t q)) := by
  show V m c main_v0 (((cfg0.win 2).blk t).view.emb (ix3 0 0 q : S1x1x1024.Idx)) = _
  refine Eq.trans (congrArg _ ?_) (V_v0 m c (lay t) (col t q))
  have e := (ix_maps (grid0.coords t)).2.2.1
  funext a
  fin_cases a <;> apply Fin.ext
  · show cc0_transform_2 (grid0.coords t) 0 * 1 + 1 * 0 = _
    rw [e]; exact Nat.mul_one _
  · show cc0_transform_2 (grid0.coords t) 1 * 1 + 1 * 0 = _
    rw [e]; rfl
  · show cc0_transform_2 (grid0.coords t) 2 * 1024 + 1 * q.val = _
    rw [e, Nat.one_mul]; rfl

/-- An entry of the block written back at a point, in the result. -/
theorem emb_out (t : Fin cfg0.N) (r : Fin 8) (q : Fin 1024) :
    ((cfg0.win 3).blk t).view.emb (ix3 0 r q : S1x8x1024.Idx) = (ix3 (lay t) r (col t q) : S2x8x6144.Idx) := by
  have e := (ix_maps (grid0.coords t)).2.2.2
  funext a
  fin_cases a <;> apply Fin.ext
  · show cc0_transform_3 (grid0.coords t) 0 * 1 + 1 * 0 = _
    rw [e]; exact Nat.mul_one _
  · show cc0_transform_3 (grid0.coords t) 1 * 8 + 1 * r.val = _
    rw [e, Nat.one_mul]; exact Nat.zero_add _
  · show cc0_transform_3 (grid0.coords t) 2 * 1024 + 1 * q.val = _
    rw [e, Nat.one_mul]; rfl

variable (hx : ∀ (c : Dev nD) (r : Fin 8) (k : Fin 2048), ∃ y : ℝ, m ((c : Thread nD τ).loc main_arg0) (ix2 r k) = (y : EReal))

include hx in
theorem block_eq (c : Dev nD) (t : Fin cfg0.N) (r : Fin 8) (q : Fin 1024) :
    out0_3 (iblk m c 0 t) (iblk m c 1 t) (iblk m c 2 t) (ix3 0 r q)
      = want m c (((cfg0.win 3).blk t).view.emb (ix3 0 r q : S1x8x1024.Idx)) := by
  rw [emb_out t r q]
  refine (out_apply (iblk m c 0 t) _ _ (fun i => ?_) r q).trans ?_
  · obtain ⟨a, b, rfl⟩ : ∃ (a : Fin 8) (b : Fin 2048), i = ix2 a b := ⟨i 0, i 1, eq_ix2 i⟩
    obtain ⟨y, hy⟩ := hx c a b
    exact ⟨y, (blk0 m c t a b).trans hy⟩
  · exact congrArg₂ (· + ·) (Finset.sum_congr rfl fun k _ => congrArg₂ (· * ·) (congrArg silu (blk0 m c t r k)) (blk1 m c t k q)) (blk2 m c t q)

include hx in
/-- What a point writes back is its block of the result. -/
theorem flushed_eq (c : Dev nD) (t : Fin cfg0.N) :
    (dats m 0 c).flushed 3 t = ((cfg0.win 3).blk t).view.read (Elt Ideal) (want m c) := by
  rw [Value.flushed3]
  refine funext fun (y : S1x8x1024.Idx) => ?_
  obtain ⟨z, r, q, rfl⟩ : ∃ (z : Fin 1) (r : Fin 8) (q : Fin 1024), y = ix3 z r q := ⟨y 0, y 1, y 2, eq_ix3 y⟩
  obtain rfl : z = 0 := Subsingleton.elim _ _
  exact block_eq m hx c t r q

theorem coords_at : ∀ a : Fin 2, ∀ b : Fin 6, ∃ t : Fin grid0.N, (grid0.coords t 0).val = a.val
      ∧ (grid0.coords t 1).val = b.val := by decide +kernel

/-- The blocks cover the result. -/
theorem cover (i : S2x8x6144.Idx) : ∃ t : Fin cfg0.N, (cfg0.win 3).flush t = true ∧ i ∈ ((cfg0.win 3).blk t).view.set := by
  obtain ⟨l, r, q, rfl⟩ : ∃ (l : Fin 2) (r : Fin 8) (q : Fin 6144), i = ix3 l r q := ⟨i 0, i 1, i 2, eq_ix3 i⟩
  obtain ⟨t, k0, k1⟩ := coords_at l ⟨q.val / 1024, by omega⟩
  refine ⟨t, flush0_3 t, ?_⟩
  change _ = q.val / 1024 at k1
  have e0 : lay t = l := Fin.ext k0
  have e1 : col t ⟨q.val % 1024, by omega⟩ = q := by
    apply Fin.ext
    show (grid0.coords t 1).val * 1024 + q.val % 1024 = q.val
    omega
  have e' : (ix3 l r q : S2x8x6144.Idx) = ((cfg0.win 3).blk t).view.emb (ix3 0 r ⟨q.val % 1024, by omega⟩ : S1x8x1024.Idx) := by
    rw [emb_out, e0, e1]
  rw [e']
  exact View.emb_mem_set _ _

include hx in
theorem final (c : Dev nD) : (dats m 0 c).arrAt 3 cfg0.N = want m c :=
  (dats m 0 c).arrAt_eq_of_cover 3 (want m c) (fun t _ => flushed_eq m hx c t) cover

include hx in
/-- The run, read: the modulations, the arguments unchanged. -/
theorem run : θ_run defs (onTc (τ := τ) (main (F := Ideal))) ⟨m, fun _ => 0, ρ⟩ fun r => ∀ c : Dev nD,
      r.2.mem ((c : Thread nD τ).loc main_v1) = want m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m hx c), (h c).2⟩) (Value.run_blocks m ρ)

end Cert.Kernel8Ideal.RefValue

namespace Cert.Reference8Ideal.RefValue

open Cert.Reference8Ideal Cert.Reference8Ideal.Gen
open Cert.Kernel8Ideal.RefValue (silu mods)

/-- The activation as the reference spells it. -/
theorem act_apply (v : FVec Ideal S8x2048 .f32) (hb : S_.BroadcastsInDim S8x2048 (![] : Fin 0 → Fin S8x2048.rank)) (i : S8x2048.Idx) :
    mulf v (Host.divf (broadcastInDim S8x2048 ![] hb (constant S_ .f32 0x3F800000#32)) (addf (broadcastInDim S8x2048 ![] hb (constant S_ .f32 0x3F800000#32)) (Host.exp (Host.negf v)))) i
      = silu (v i) := by
  show v i * Ideal.div (Ideal.ofBits .f32 0x3F800000#32) (Ideal.ofBits .f32 0x3F800000#32 + Ideal.exp (-(v i))) = _
  rw [Ideal.ofBits_one_f32]
  rfl

/-- One layer's modulation as the reference spells it. -/
theorem layer_apply (x : FVec Ideal S8x2048 .f32) (w : FVec Ideal S2x2048x6144 .f32) (b : FVec Ideal S2x6144 .f32) (l : Fin 2) (h1) (h2)
    (h3 : S2x2048x6144.Slices ![l.val, 0, 0] S1x2048x6144) (h4) (h5 : S1x6144.BroadcastsInDim S8x6144 (![0, 1] : Fin 2 → Fin 2)) (h6 : S6144.BroadcastsInDim S1x6144 (![1] : Fin 1 → Fin 2)) (h7 : S2x6144.Slices ![l.val, 0] S1x6144) (h8)
    (z : Fin 1) (r : Fin 8) (q : Fin 6144) :
    broadcastInDim S1x8x6144 ![1, 2] h1 (addf (Host.dotGeneral dot_S8x2048_S2048x6144_S8x6144_1_0_0_1_n_n none (mulf x (Host.divf (broadcastInDim S8x2048 ![] h2 (constant S_ .f32 0x3F800000#32)) (addf (broadcastInDim S8x2048 ![] h2 (constant S_ .f32 0x3F800000#32)) (Host.exp (Host.negf x)))))
        (shapeCast S2048x6144 (extractStridedSlice S1x2048x6144 ![l.val, 0, 0] w h3) h4) : FVec Ideal S8x6144 .f32)
      (broadcastInDim S8x6144 ![0, 1] h5 (broadcastInDim S1x6144 ![1] h6 (shapeCast S6144 (extractStridedSlice S1x6144 ![l.val, 0] b h7) h8)))) (ix3 z r q)
      = mods x w b (ix3 l r q) := by
  refine (broadcastInDim_apply _ h1 _ _ (ix2 r q) fun a => by fin_cases a <;> rfl).trans ?_
  refine congrArg₂ (· + ·) ?_ ?_
  · refine (dot_apply (M := 8) (K := 2048) (N := 6144) none (φ₁ := .f32) (φ₂ := .f32) _ _ r q).trans ?_
    refine Finset.sum_congr rfl fun k _ => congrArg₂ (· * ·) (act_apply x h2 (ix2 r k)) ?_
    refine (shapeCast_dropUnit_apply ![2048, 6144] _ _ _).trans ?_
    refine extractStridedSlice_apply _ _ h3 _ (ix3 l k q) fun a => ?_
    fin_cases a
    · rfl
    · exact (Nat.zero_add k.val).symm
    · exact (Nat.zero_add q.val).symm
  · refine (broadcastInDim_apply _ h5 _ _ (ix2 0 q) fun a => by fin_cases a <;> rfl).trans ?_
    refine (broadcastInDim_apply _ h6 _ _ (ix1 q) fun a => by fin_cases a; rfl).trans ?_
    refine (shapeCast_dropUnit_apply ![6144] _ _ _).trans ?_
    refine extractStridedSlice_apply _ _ h7 _ (ix2 l q) fun a => ?_
    fin_cases a
    · rfl
    · exact (Nat.zero_add q.val).symm

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v19) = mods (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (by
      refine funext fun (i : S2x8x6144.Idx) => ?_
      obtain ⟨l, r, q, rfl⟩ : ∃ (l : Fin 2) (r : Fin 8) (q : Fin 6144), i = ix3 l r q := ⟨i 0, i 1, i 2, eq_ix3 i⟩
      fin_cases l
      · refine (concatenate_pair_apply_left (t := S2x8x6144) (s₁ := S1x8x6144) (s₂ := S1x8x6144) 0 _ _ _ _ rfl (ix3 0 r q) (fun b => by fin_cases b <;> rfl)).trans ?_
        exact layer_apply _ _ _ 0 _ _ _ _ _ _ _ _ 0 r q
      · refine (concatenate_pair_apply_right (t := S2x8x6144) (s₁ := S1x8x6144) (s₂ := S1x8x6144) 0 _ _ _ _ rfl rfl (ix3 0 r q) (fun b hb => by fin_cases b <;> first | exact absurd rfl hb | rfl) rfl).trans ?_
        exact layer_apply _ _ _ 1 _ _ _ _ _ _ _ _ 0 r q), (h c).2⟩) (Cert.Reference8Ideal.Value.run m ρ)

end Cert.Reference8Ideal.RefValue

namespace Cert.Modulation

theorem finite_facts : Cert.Pre_finite_conditioning.Facts where
  bcast_S_S8x2048 := by decide

theorem defs_eq {F : FTy → Type} [FloatOps F] : Cert.Kernel8.defs (F := F) = Cert.Kernel8Ideal.defs := by sl_kernel_rfl
theorem main_eq {F : FTy → Type} [FloatOps F] : Cert.Kernel8.main (F := F) = Cert.Kernel8Ideal.main := by sl_kernel_rfl

theorem frame_kernel : Cert.quiescent_Kernel8 := fun m ρ _ => by
  rw [defs_eq, main_eq]
  exact Cert.Kernel8Ideal.Gen.frame (F := Bits) m ρ

theorem frame_kernelIdeal : Cert.quiescent_Kernel8Ideal := fun m ρ _ => Cert.Kernel8Ideal.Gen.frame (F := Ideal) m ρ

theorem frame_kernelIdeal_finite [Cert.Pre_finite_conditioning.Facts] : Cert.quiescent_Kernel8Ideal_pre_finite_conditioning := fun m ρ _ =>
  frame_kernelIdeal m ρ trivial

theorem frame_referenceIdeal : Cert.quiescent_Reference8Ideal := fun m ρ _ =>
  (θ_run Cert.Reference8Ideal.defs _ _).mono (fun r h => ⟨fun c => (h c).2, sem_eq_zero_of_no_sems (by decide) r.2⟩)
    (Cert.Reference8Ideal.RefValue.run m ρ)

theorem frame_referenceIdeal_finite [Cert.Pre_finite_conditioning.Facts] : Cert.quiescent_Reference8Ideal_pre_finite_conditioning := fun m ρ _ =>
  frame_referenceIdeal m ρ trivial

theorem algebraic [Cert.Pre_finite_conditioning.Facts] : Cert.algebraic_Kernel8Ideal_Reference8Ideal_pre_finite_conditioning := fun m ρ m' ρ' hp hm =>
  ⟨fun c => Cert.Kernel8Ideal.RefValue.want m c,
    Cert.Kernel8Ideal.RefValue.run m ρ fun c r k => Cert.Swa.real_of_cmp _ ((Cert.Swa.cmp_read _).symm.trans (congrFun (hp c) (ix2 r k))),
    (θ_run Cert.Reference8Ideal.defs _ _).mono (fun _ h c => ⟨(h c).1.trans (by rw [(hm c).1, (hm c).2.1, (hm c).2.2]), (h c).2⟩)
      (Cert.Reference8Ideal.RefValue.run m' ρ')⟩

end Cert.Modulation

end
-- ==== Proof.Rope.lean ====
/-
  The rotary tables: each token's position times 32 frequencies, the angles' cosines repeated four times, and their sines
  repeated with every other group of 32 columns negated. The kernel repeats the frequencies and multiplies the sines by
  a row of signs; the reference repeats and negates the tables of 32 columns.
-/
module

public import proofs.«01_k».proof.Defs
public import proofs.«01_k».proof.Proof.Gen.Kernel9
public import proofs.«01_k».proof.Proof.Gen.Kernel9Ideal.Frame
public import Idealize.ShloMosaic.Lib.Pipeline.Value
public import proofs.«01_k».proof.Proof.Gen.Reference9Ideal.Run
public import proofs.«01_k».proof.Proof.SwaKernel
public import Idealize.ShloMosaic.Lib.StableHlo
public import Idealize.ShloMosaic.Lib.Quiescent
public import Idealize.ShloMosaic.PureOps.BitExact

@[expose] public section

set_option maxRecDepth 16384

noncomputable section

open Idealize.ShloMosaic Idealize.ShloMosaic.TcCoe Idealize.SL.Sem
open Idealize.ShloMosaic.Pipeline (Dat)
open Cert.Dense (hz2)

namespace Cert.Kernel9Ideal.RefValue

open Cert.Kernel9Ideal Cert.Kernel9Ideal.Gen
open Cert.Swa (eq2)

/-- The 32 frequencies. -/
def freqs : FVec Ideal S32 .f32 :=
  Host.powf (broadcastInDim S32 ![] bcast_S_S32 (constant S_ .f32 0x461C4000#32))
    (Host.divf (Host.negf (sitofp .f32 (iotaInDim S32 32 0))) (broadcastInDim S32 ![] bcast_S_S32 (constant S_ .f32 0x42000000#32)))

/-- The angle of a token and a frequency. -/
def angle (p : IVec S8x4096 32) (r : Fin 32768) (i : Fin 32) : EReal :=
  FloatOps.sitofp (F := Ideal) .f32 (p (ix2 (⟨r.val / 4096, by omega⟩ : Fin 8) (⟨r.val % 4096, by omega⟩ : Fin 4096))) * freqs (ix1 i)

/-- The table of cosines, and that of signed sines. -/
def coss (p : IVec S8x4096 32) : FVec Ideal S32768x128 .f32 := fun i => Ideal.cos (angle p (i 0) ⟨(i 1).val % 32, Nat.mod_lt _ (by decide)⟩)
def sins (p : IVec S8x4096 32) : FVec Ideal S32768x128 .f32 := fun i =>
  if (i 1).val / 32 % 2 = 0 then -(Ideal.sin (angle p (i 0) ⟨(i 1).val % 32, Nat.mod_lt _ (by decide)⟩))
    else Ideal.sin (angle p (i 0) ⟨(i 1).val % 32, Nat.mod_lt _ (by decide)⟩)

/-- The frequencies, four times over. -/
theorem freq_table (v : FVec Ideal S32 .f32) (h1 : S32.ShapeCasts S1x32) (h2) (h3 : S4x32.ShapeCasts S128) (h4 : S128.ShapeCasts S1x128) (l : Fin 128) :
    shapeCast S1x128 (shapeCast S128 (broadcastInDim S4x32 ![0, 1] h2 (shapeCast S1x32 v h1)) h3) h4 (ix2 0 l) = v (ix1 ⟨l.val % 32, by omega⟩) := by
  pointwise

/-- The signs: minus one and one by turns. -/
theorem sign_table (a b : FVec Ideal S32 .f32) (h0) (h1 : S64.ShapeCasts S1x64) (h2) (h3 : S2x64.ShapeCasts S128) (h4 : S128.ShapeCasts S1x128) (x y : EReal)
    (ha : ∀ i, a (ix1 i) = x) (hb : ∀ i, b (ix1 i) = y) (l : Fin 128) :
    shapeCast S1x128 (shapeCast S128 (broadcastInDim S2x64 ![0, 1] h2 (shapeCast S1x64 (concatenate S64 0 [⟨S32, a⟩, ⟨S32, b⟩] h0) h1)) h3) h4 (ix2 0 l)
      = if l.val / 32 % 2 = 0 then x else y := by
  pointwise
  obtain ⟨l, hl⟩ := l
  dsimp only
  by_cases h2 : l / 32 % 2 = 0
  · refine Eq.trans ?_ (if_pos h2).symm
    split_ifs <;> first
      | (exfalso; omega)
      | exact ha _
  · refine Eq.trans ?_ (if_neg h2).symm
    split_ifs <;> first
      | (exfalso; omega)
      | exact hb _

/-- The body's blocks, at a row and a column. -/
theorem out3_apply (x0 : IVec S2048x1 32) (x1 x2 : FVec Ideal S1x128 .f32) (r : Fin 2048) (l : Fin 128) :
    out0_3 (F := Ideal) x0 x1 x2 (ix2 r l) = Ideal.cos (FloatOps.sitofp (F := Ideal) .f32 (x0 (ix2 r (0 : Fin 1))) * x1 (ix2 (0 : Fin 1) l)) := by
  unfold out0_3
  rw [View.canon_unit_zero hz2]
  iterate 2 rw [View.ld_unit_zero hz2]
  pointwise [k0_pay2, k0_pay1]

theorem out4_apply (x0 : IVec S2048x1 32) (x1 x2 : FVec Ideal S1x128 .f32) (r : Fin 2048) (l : Fin 128) :
    out0_4 (F := Ideal) x0 x1 x2 (ix2 r l)
      = Ideal.sin (FloatOps.sitofp (F := Ideal) .f32 (x0 (ix2 r (0 : Fin 1))) * x1 (ix2 (0 : Fin 1) l)) * x2 (ix2 (0 : Fin 1) l) := by
  unfold out0_4
  rw [View.canon_unit_zero hz2]
  iterate 3 rw [View.ld_unit_zero hz2]
  pointwise [k0_pay3, k0_pay1]

variable (m : (ℓ : Loc nD τ sig) → Buf (Elt Ideal) ℓ) (ρ : Dev nD → PrngReg)

/-- The positions. -/
abbrev posA (c : Dev nD) : IVec S8x4096 32 := m ((c : Thread nD τ).loc main_arg0)

/-- The result arrays as functions of the positions. -/
abbrev want3 (c : Dev nD) : Buf (Elt Ideal) ((c : Thread nD τ).loc main_v19_0) := coss (posA m c)
abbrev want4 (c : Dev nD) : Buf (Elt Ideal) ((c : Thread nD τ).loc main_v19_1) := sins (posA m c)

theorem ix_maps : ∀ i : grid0.Coords, cc0_transform_0 i = ![(i 0).val, 0] ∧ cc0_transform_1 i = ![0, 0] ∧ cc0_transform_2 i = ![0, 0]
    ∧ cc0_transform_3 i = ![(i 0).val, 0] ∧ cc0_transform_4 i = ![(i 0).val, 0] := by decide +kernel

/-- The arrays the pipeline reads. -/
theorem V_freq (c : Dev nD) (l : Fin 128) : V m c main_v9 (ix2 0 l) = freqs (ix1 ⟨l.val % 32, by omega⟩) := by
  simp only [V, hostOps0, StableHlo.after_cons, StableHlo.after_nil]
  exact freq_table freqs shapeCasts_S32_S1x32 bcast_S1x32_S4x32_0_1 shapeCasts_S4x32_S128 shapeCasts_S128_S1x128 l

theorem V_sign (c : Dev nD) (l : Fin 128) : V m c main_v17 (ix2 0 l) = if l.val / 32 % 2 = 0 then (-1 : EReal) else 1 := by
  simp only [V, hostOps0, StableHlo.after_cons, StableHlo.after_nil]
  exact sign_table (Host.negf (broadcastInDim S32 ![] bcast_S_S32 (constant S_ .f32 0x3F800000#32))) (broadcastInDim S32 ![] bcast_S_S32 (constant S_ .f32 0x3F800000#32))
    concatenates_S32_S32_S64_d0 shapeCasts_S64_S1x64 bcast_S1x64_S2x64_0_1 shapeCasts_S2x64_S128 shapeCasts_S128_S1x128 (-1) 1
    (fun _ => congrArg (fun x : EReal => -x) Ideal.ofBits_one_f32) (fun _ => Ideal.ofBits_one_f32) l

theorem V_pos (c : Dev nD) (r : Fin 32768) : V m c main_v18 (ix2 r 0)
    = posA m c (ix2 (⟨r.val / 4096, by omega⟩ : Fin 8) (⟨r.val % 4096, by omega⟩ : Fin 4096)) := by
  simp only [V, hostOps0, StableHlo.after_cons, StableHlo.after_nil]
  refine shapeCast_apply _ _ _ (ix2 (⟨r.val / 4096, by omega⟩ : Fin 8) (⟨r.val % 4096, by omega⟩ : Fin 4096)) ?_
  refine (Shape.rowMajor_val_two _).trans (Eq.trans ?_ (Shape.rowMajor_val_two _).symm)
  show r.val / 4096 * 4096 + r.val % 4096 = r.val * 1 + 0
  omega

/-- The token a row of the block of a point is. -/
def tok (t : Fin cfg0.N) (r : Fin 2048) : Fin 32768 :=
  ⟨(grid0.coords t 0).val * 2048 + r.val, by
    have h0 : (grid0.coords t 0).val < 16 := (grid0.coords t 0).isLt
    omega⟩

/-- The blocks fetched at a point. -/
theorem blk0 (c : Dev nD) (t : Fin cfg0.N) (r : Fin 2048) : iblk m c 0 t (ix2 r 0 : S2048x1.Idx)
    = posA m c (ix2 (⟨(tok t r).val / 4096, by omega⟩ : Fin 8) (⟨(tok t r).val % 4096, by omega⟩ : Fin 4096)) := by
  show V m c main_v18 (((cfg0.win 0).blk t).view.emb (ix2 r 0 : S2048x1.Idx)) = _
  refine Eq.trans (congrArg _ ?_) (V_pos m c (tok t r))
  have e := (ix_maps (grid0.coords t)).1
  funext a
  fin_cases a <;> apply Fin.ext
  · show cc0_transform_0 (grid0.coords t) 0 * 2048 + 1 * r.val = _
    rw [e, Nat.one_mul]; rfl
  · show cc0_transform_0 (grid0.coords t) 1 * 1 + 1 * 0 = _
    rw [e]; rfl

theorem blk1 (c : Dev nD) (t : Fin cfg0.N) (l : Fin 128) : iblk m c 1 t (ix2 0 l : S1x128.Idx) = freqs (ix1 ⟨l.val % 32, by omega⟩) := by
  show V m c main_v9 (((cfg0.win 1).blk t).view.emb (ix2 0 l : S1x128.Idx)) = _
  refine Eq.trans (congrArg _ ?_) (V_freq m c l)
  have e := (ix_maps (grid0.coords t)).2.1
  funext a
  fin_cases a <;> apply Fin.ext
  · show cc0_transform_1 (grid0.coords t) 0 * 1 + 1 * 0 = _
    rw [e]; rfl
  · show cc0_transform_1 (grid0.coords t) 1 * 128 + 1 * l.val = _
    rw [e, Nat.one_mul]; exact Nat.zero_add _

theorem blk2 (c : Dev nD) (t : Fin cfg0.N) (l : Fin 128) : iblk m c 2 t (ix2 0 l : S1x128.Idx) = if l.val / 32 % 2 = 0 then (-1 : EReal) else 1 := by
  show V m c main_v17 (((cfg0.win 2).blk t).view.emb (ix2 0 l : S1x128.Idx)) = _
  refine Eq.trans (congrArg _ ?_) (V_sign m c l)
  have e := (ix_maps (grid0.coords t)).2.2.1
  funext a
  fin_cases a <;> apply Fin.ext
  · show cc0_transform_2 (grid0.coords t) 0 * 1 + 1 * 0 = _
    rw [e]; rfl
  · show cc0_transform_2 (grid0.coords t) 1 * 128 + 1 * l.val = _
    rw [e, Nat.one_mul]; exact Nat.zero_add _

/-- A row and column of the block written back at a point, in each result. -/
theorem emb3 (t : Fin cfg0.N) (r : Fin 2048) (l : Fin 128) :
    ((cfg0.win 3).blk t).view.emb (ix2 r l : S2048x128.Idx) = (ix2 (tok t r) l : S32768x128.Idx) := by
  have e := (ix_maps (grid0.coords t)).2.2.2.1
  funext a
  fin_cases a <;> apply Fin.ext
  · show cc0_transform_3 (grid0.coords t) 0 * 2048 + 1 * r.val = _
    rw [e, Nat.one_mul]; rfl
  · show cc0_transform_3 (grid0.coords t) 1 * 128 + 1 * l.val = _
    rw [e, Nat.one_mul]; exact Nat.zero_add _

theorem emb4 (t : Fin cfg0.N) (r : Fin 2048) (l : Fin 128) :
    ((cfg0.win 4).blk t).view.emb (ix2 r l : S2048x128.Idx) = (ix2 (tok t r) l : S32768x128.Idx) := by
  have e := (ix_maps (grid0.coords t)).2.2.2.2
  funext a
  fin_cases a <;> apply Fin.ext
  · show cc0_transform_4 (grid0.coords t) 0 * 2048 + 1 * r.val = _
    rw [e, Nat.one_mul]; rfl
  · show cc0_transform_4 (grid0.coords t) 1 * 128 + 1 * l.val = _
    rw [e, Nat.one_mul]; exact Nat.zero_add _

theorem angle_eq (c : Dev nD) (t : Fin cfg0.N) (r : Fin 2048) (l : Fin 128) :
    FloatOps.sitofp (F := Ideal) .f32 ((iblk m c 0 t : IVec S2048x1 32) (ix2 r (0 : Fin 1))) * (iblk m c 1 t : FVec Ideal S1x128 .f32) (ix2 (0 : Fin 1) l)
      = angle (posA m c) (tok t r) ⟨l.val % 32, by omega⟩ :=
  congrArg₂ (fun a b : EReal => a * b) (congrArg (fun x : BitVec 32 => (FloatOps.sitofp (F := Ideal) .f32 x : EReal)) (blk0 m c t r)) (blk1 m c t l)

/-- What a point writes back is its block of each result. -/
theorem flushed3_eq (c : Dev nD) (t : Fin cfg0.N) :
    (dats m 0 c).flushed 3 t = ((cfg0.win 3).blk t).view.read (Elt Ideal) (want3 m c) := by
  change (cfg0.win 3).cut (grid0.coords t) ((dats m 0 c).after 3 t) = _
  rw [after0_3]
  refine funext fun (y : S2048x128.Idx) => ?_
  obtain ⟨r, l, rfl⟩ : ∃ (r : Fin 2048) (l : Fin 128), y = ix2 r l := ⟨y 0, y 1, eq2 y⟩
  show _ = want3 m c (((cfg0.win 3).blk t).view.emb (ix2 r l : S2048x128.Idx))
  rw [emb3 t r l]
  exact (out3_apply (iblk m c 0 t) (iblk m c 1 t) (iblk m c 2 t) r l).trans (congrArg Ideal.cos (angle_eq m c t r l))

theorem flushed4_eq (c : Dev nD) (t : Fin cfg0.N) :
    (dats m 0 c).flushed 4 t = ((cfg0.win 4).blk t).view.read (Elt Ideal) (want4 m c) := by
  change (cfg0.win 4).cut (grid0.coords t) ((dats m 0 c).after 4 t) = _
  rw [after0_4]
  refine funext fun (y : S2048x128.Idx) => ?_
  obtain ⟨r, l, rfl⟩ : ∃ (r : Fin 2048) (l : Fin 128), y = ix2 r l := ⟨y 0, y 1, eq2 y⟩
  show _ = want4 m c (((cfg0.win 4).blk t).view.emb (ix2 r l : S2048x128.Idx))
  rw [emb4 t r l]
  refine (out4_apply (iblk m c 0 t) (iblk m c 1 t) (iblk m c 2 t) r l).trans ?_
  refine (congrArg₂ (fun a b : EReal => a * b) (congrArg Ideal.sin (angle_eq m c t r l)) (blk2 m c t l)).trans ?_
  show _ * (if l.val / 32 % 2 = 0 then (-1 : EReal) else 1) = if l.val / 32 % 2 = 0 then _ else _
  by_cases h : l.val / 32 % 2 = 0
  · rw [if_pos h, if_pos h, mul_neg, mul_one]
    rfl
  · rw [if_neg h, if_neg h, mul_one]
    rfl

theorem coords_at : ∀ a : Fin 16, ∃ t : Fin grid0.N, (grid0.coords t 0).val = a.val := by decide +kernel

/-- Every token is a row of some point's block. -/
theorem tok_at (r : Fin 32768) : ∃ t : Fin cfg0.N, tok t ⟨r.val % 2048, by omega⟩ = r := by
  obtain ⟨t, k0⟩ := coords_at ⟨r.val / 2048, by omega⟩
  change _ = r.val / 2048 at k0
  refine ⟨t, Fin.ext ?_⟩
  show (grid0.coords t 0).val * 2048 + r.val % 2048 = r.val
  omega

/-- The blocks cover the results. -/
theorem cover3 (i : S32768x128.Idx) : ∃ t : Fin cfg0.N, (cfg0.win 3).flush t = true ∧ i ∈ ((cfg0.win 3).blk t).view.set := by
  obtain ⟨r, l, rfl⟩ : ∃ (r : Fin 32768) (l : Fin 128), i = ix2 r l := ⟨i 0, i 1, eq2 i⟩
  obtain ⟨t, e⟩ := tok_at r
  refine ⟨t, flush0_3 t, ?_⟩
  have e' : (ix2 r l : S32768x128.Idx) = ((cfg0.win 3).blk t).view.emb (ix2 ⟨r.val % 2048, by omega⟩ l : S2048x128.Idx) := by
    rw [emb3, e]
  rw [e']
  exact View.emb_mem_set _ _

theorem cover4 (i : S32768x128.Idx) : ∃ t : Fin cfg0.N, (cfg0.win 4).flush t = true ∧ i ∈ ((cfg0.win 4).blk t).view.set := by
  obtain ⟨r, l, rfl⟩ : ∃ (r : Fin 32768) (l : Fin 128), i = ix2 r l := ⟨i 0, i 1, eq2 i⟩
  obtain ⟨t, e⟩ := tok_at r
  refine ⟨t, flush0_4 t, ?_⟩
  have e' : (ix2 r l : S32768x128.Idx) = ((cfg0.win 4).blk t).view.emb (ix2 ⟨r.val % 2048, by omega⟩ l : S2048x128.Idx) := by
    rw [emb4, e]
  rw [e']
  exact View.emb_mem_set _ _

theorem final3 (c : Dev nD) : (dats m 0 c).arrAt 3 cfg0.N = want3 m c :=
  (dats m 0 c).arrAt_eq_of_cover 3 (want3 m c) (fun t _ => flushed3_eq m c t) cover3
theorem final4 (c : Dev nD) : (dats m 0 c).arrAt 4 cfg0.N = want4 m c :=
  (dats m 0 c).arrAt_eq_of_cover 4 (want4 m c) (fun t _ => flushed4_eq m c t) cover4

/-- The run, read: both tables, the positions unchanged. -/
theorem run : θ_run defs (onTc (τ := τ) (main (F := Ideal))) ⟨m, fun _ => 0, ρ⟩ fun r => ∀ c : Dev nD,
      r.2.mem ((c : Thread nD τ).loc main_v19_0) = want3 m c
      ∧ r.2.mem ((c : Thread nD τ).loc main_v19_1) = want4 m c
      ∧ r.2.mem ((c : Thread nD τ).loc main_arg0) = m ((c : Thread nD τ).loc main_arg0) :=
  (θ_run defs _ _).mono (fun _ h c => ⟨((h c).1 3).trans (final3 m c), ((h c).1 4).trans (final4 m c),
    ((h c).2 main_arg0 (Pipeline.mem_restRefs_of main_arg0 (by decide) (by decide))).trans (V_main_arg0 m c)⟩) (run_main m ρ)

end Cert.Kernel9Ideal.RefValue

namespace Cert.Reference9Ideal.RefValue

open Cert.Reference9Ideal Cert.Reference9Ideal.Gen
open Cert.Kernel9Ideal.RefValue (freqs angle coss sins)
open Cert.Swa (eq2 cos_table sin_table)

/-- The reference's angles. -/
theorem angle_apply (p : IVec S8x4096 32) (f : FVec Ideal S32 .f32) (h1 h2) (h3 h4) (h5 : S8x4096x32.ShapeCasts S32768x32) (r : Fin 32768) (i : Fin 32) :
    shapeCast S32768x32 (mulf (broadcastInDim S8x4096x32 ![0, 1, 2] h1 (broadcastInDim S8x4096x1 ![0, 1] h2 (sitofp .f32 p : FVec Ideal S8x4096 .f32)))
      (broadcastInDim S8x4096x32 ![0, 1, 2] h3 (broadcastInDim S1x1x32 ![2] h4 f))) h5 (ix2 r i)
      = FloatOps.sitofp (F := Ideal) .f32 (p (ix2 (⟨r.val / 4096, by omega⟩ : Fin 8) (⟨r.val % 4096, by omega⟩ : Fin 4096))) * f (ix1 i) := by
  pointwise

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v15) = coss (m ((c : Thread nD τ).loc main_arg0))
      ∧ r.2.mem ((c : Thread nD τ).loc main_v18) = sins (m ((c : Thread nD τ).loc main_arg0))
      ∧ r.2.mem ((c : Thread nD τ).loc main_arg0) = m ((c : Thread nD τ).loc main_arg0) :=
  (θ_run defs _ _).mono (fun _ h c => ⟨(h c).1.trans (by
      refine funext fun (i : S32768x128.Idx) => ?_
      obtain ⟨r, l, rfl⟩ : ∃ (r : Fin 32768) (l : Fin 128), i = ix2 r l := ⟨i 0, i 1, eq2 i⟩
      refine (cos_table _ _ r l).trans ?_
      exact congrArg Ideal.cos (angle_apply _ freqs _ _ _ _ _ r _)), (h c).2.1.trans (by
      refine funext fun (i : S32768x128.Idx) => ?_
      obtain ⟨r, l, rfl⟩ : ∃ (r : Fin 32768) (l : Fin 128), i = ix2 r l := ⟨i 0, i 1, eq2 i⟩
      refine (sin_table _ _ r l).trans ?_
      exact congrArg (fun x : EReal => if l.val / 32 % 2 = 0 then -(Ideal.sin x) else Ideal.sin x) (angle_apply _ freqs _ _ _ _ _ r _)), (h c).2.2⟩) (Cert.Reference9Ideal.Value.run m ρ)

end Cert.Reference9Ideal.RefValue

namespace Cert.Rope

theorem defs_eq {F : FTy → Type} [FloatOps F] : Cert.Kernel9.defs (F := F) = Cert.Kernel9Ideal.defs := by sl_kernel_rfl
theorem main_eq {F : FTy → Type} [FloatOps F] : Cert.Kernel9.main (F := F) = Cert.Kernel9Ideal.main := by sl_kernel_rfl

theorem frame_kernel : Cert.quiescent_Kernel9 := fun m ρ _ => by
  rw [defs_eq, main_eq]
  exact Cert.Kernel9Ideal.Gen.frame (F := Bits) m ρ

theorem frame_kernelIdeal : Cert.quiescent_Kernel9Ideal := fun m ρ _ => Cert.Kernel9Ideal.Gen.frame (F := Ideal) m ρ

theorem frame_referenceIdeal : Cert.quiescent_Reference9Ideal := fun m ρ _ =>
  (θ_run Cert.Reference9Ideal.defs _ _).mono (fun r h => ⟨fun c => (h c).2.2, sem_eq_zero_of_no_sems (by decide) r.2⟩)
    (Cert.Reference9Ideal.RefValue.run m ρ)

theorem algebraic : Cert.algebraic_Kernel9Ideal_Reference9Ideal := fun m ρ m' ρ' _ hm =>
  ⟨fun c => Cert.Kernel9Ideal.RefValue.want3 m c, fun c => Cert.Kernel9Ideal.RefValue.want4 m c, Cert.Kernel9Ideal.RefValue.run m ρ,
    (θ_run Cert.Reference9Ideal.defs _ _).mono (fun _ h c => ⟨(h c).1.trans (by rw [hm c]), (h c).2.1.trans (by rw [hm c]), (h c).2.2⟩)
      (Cert.Reference9Ideal.RefValue.run m' ρ')⟩

end Cert.Rope

end
-- ==== Proof.GatherKv.lean ====
/-
  The gather of the key and value columns: the same call at another table of panels, here two panels that stand side by
  side, so that the reference is one slice.
-/
module

public import proofs.«01_k».proof.Defs
public import proofs.«01_k».proof.Proof.Gen.Kernel10
public import proofs.«01_k».proof.Proof.Gen.Kernel10Ideal.Frame
public import proofs.«01_k».proof.Proof.Gen.Reference10
public import proofs.«01_k».proof.Proof.Gen.Reference10Ideal.Run
public import Idealize.ShloMosaic.Lib.Pipeline.Value
public import Idealize.ShloMosaic.Lib.ValueIdxCore
public import Idealize.ShloMosaic.Lib.StableHlo
public import Idealize.ShloMosaic.Lib.Quiescent
public import Idealize.ShloMosaic.PureOps.BitExact

@[expose] public section

set_option maxRecDepth 512

noncomputable section

open Idealize.ShloMosaic Idealize.ShloMosaic.TcCoe Idealize.SL.Sem
open Idealize.ShloMosaic.Pipeline (Dat)
open Idealize.ShloMosaic.ValueIdx

namespace Cert.Kernel10Ideal.RefValue

open Cert.Kernel10Ideal Cert.Kernel10Ideal.Gen

variable {F : FTy → Type} [FloatOps F]
variable (m : (ℓ : Loc nD τ sig) → Buf (Elt F) ℓ) (ρ : Dev nD → PrngReg)

/-- The prefetched table as a constant: entry `j` is the row, in units of eight, at which panel `j` begins. -/
abbrev rows : pre0.Contents (Elt F) := fun
  | 0 => fun i => lit0 (S2.rowMajor i)
  | ⟨_ + 1, h⟩ => absurd h (Nat.not_lt.2 (Nat.le_add_left _ _))

theorem tbl_eq : tbl m = rows := by
  funext j
  obtain rfl : j = 0 := Subsingleton.elim _ _
  unfold tbl
  simp only [V, hostOps0, StableHlo.after_cons, StableHlo.after_nil]
  rfl

theorem ix_bits : ∀ i : grid0.Coords, cc0_transform_0 (F := Bits) k0_off1_inb numel1_S1 rows i = ![(i 0).val, 8 * (lit0 (i 1)).toNat, 0] := by
  decide +kernel

/-- Where panel `j` begins. -/
theorem ix_rows (i : grid0.Coords) : cc0_transform_0 (F := F) k0_off1_inb numel1_S1 rows i = ![(i 0).val, 8 * (lit0 (i 1)).toNat, 0] :=
  ix_bits i

theorem ok_bits : ok0 (F := Bits) rows := by decide +kernel

theorem ok : Ok m := by
  show ok0 (tbl m)
  rw [tbl_eq]
  exact ok_bits

/-- The column of the projection matrix that column `k` of the gathered one is. -/
def src (k : Fin 512) : Fin 16928 :=
  ⟨8 * (lit0 ⟨k.val / 256, by omega⟩).toNat + k.val % 256, by
    have h : ∀ j : Fin 2, 8 * (lit0 j).toNat + 256 ≤ 16928 := by decide +kernel
    have := h ⟨k.val / 256, by omega⟩
    omega⟩

/-- The gathered projection: every kept column, rounded to the narrow format. -/
abbrev want (c : Dev nD) : Buf (Elt F) ((c : Thread nD τ).loc main_v1) :=
  truncf (s := S2x2048x512) .bf16 (fun i => m ((c : Thread nD τ).loc main_arg0) (ix3 (i 0) (i 1) (src (i 2)))) bitsLt_bf16_f32

theorem hz3 : (![0, 0, 0] : Fin 3 → Nat) = fun _ => 0 := funext fun a => by fin_cases a <;> rfl

/-- The body leaves its one payload of the block it loaded. -/
theorem out_eq (c : Dev nD) (i : grid0.Coords) (a3 : Memref sig .tc .vmem S1x256x2048 .f32) (h3 : a3.IsWhole)
    (a4 : Memref sig .tc .vmem S1x2048x256 .bf16) (h4 : a4.IsWhole) (x : Vec F S1x256x2048 .f32) (T : TbBuf0 (F := F) c tbM0_0) :
    out0_A_1 c i a3 h3 a4 h4 x T = k0_pay1 x := by
  unfold out0_A_1
  rw [View.read_writes_eq_canon _ _ _ (cover0_A_1 c i a3 h3 a4 h4 x T)]
  unfold kernelRun0_A
  dsimp only
  rw [View.canon_unit_zero hz3, View.readAt_eq_ld, h3.read_unread, View.ld_unit_zero hz3]

/-- That payload at an index: the transposed block, rounded. -/
theorem pay_apply (x : Vec F S1x256x2048 .f32) (y : S1x2048x256.Idx) :
    k0_pay1 x y = FloatOps.truncf .bf16 bitsLt_bf16_f32 (x (ix3 0 (y 2) (y 1))) := by
  unfold k0_pay1
  dsimp only
  refine (shapeCast_addUnit_apply ![2048, 256] _ _ y).trans ?_
  show FloatOps.truncf .bf16 _ (transpose S2048x256 [1, 0] _ _ _) = _
  congr 1
  refine (transpose_apply _ _ _ _ (ix2 (y 2) (y 1)) fun a => by fin_cases a <;> rfl).trans ?_
  refine (shapeCast_dropUnit_apply ![256, 2048] _ _ _).trans ?_
  refine congrArg x ?_
  funext a
  fin_cases a <;> rfl

/-- The transposed array the pipeline reads. -/
theorem V_v0 (c : Dev nD) (i : S2x16928x2048.Idx) :
    V m c main_v0 i = m ((c : Thread nD τ).loc main_arg0) (ix3 (i 0) (i 2) (i 1)) := by
  simp only [V, hostOps0, StableHlo.after_cons, StableHlo.after_nil]
  show transpose S2x16928x2048 [0, 2, 1] (m ((c : Thread nD τ).loc main_arg0)) _ i = _
  refine transpose_apply _ _ _ _ _ fun a => ?_
  fin_cases a <;> rfl

/-- The block the pipeline fetches at a point, read at an index. -/
theorem iblk_apply (c : Dev nD) (t : Fin (cfgM m (ok m)).N) (x : S1x256x2048.Idx) (h : 8 * (lit0 (grid0.coords t 1)).toNat + (x 1).val < 16928) :
    iblk m (ok m) c 0 t x = m ((c : Thread nD τ).loc main_arg0) (ix3 (grid0.coords t 0) (x 2) ⟨8 * (lit0 (grid0.coords t 1)).toNat + (x 1).val, h⟩) := by
  have e : cc0_transform_0 (F := F) k0_off1_inb numel1_S1 (tbl m) (grid0.coords t) = ![(grid0.coords t 0).val, 8 * (lit0 (grid0.coords t 1)).toNat, 0] := by
    rw [tbl_eq]; exact ix_rows _
  show V m c main_v0 ((((cfgM m (ok m)).win 0).blk t).view.emb x) = _
  refine (V_v0 m c _).trans ?_
  refine congrArg _ ?_
  have h0 : (x 0).val = 0 := by have := (x 0).isLt; change _ < 1 at this; omega
  funext a
  fin_cases a <;> apply Fin.ext
  · show cc0_transform_0 (F := F) k0_off1_inb numel1_S1 (tbl m) (grid0.coords t) 0 + 1 * (x 0).val = _
    rw [e, h0]; rfl
  · show cc0_transform_0 (F := F) k0_off1_inb numel1_S1 (tbl m) (grid0.coords t) 2 + 1 * (x 2).val = _
    rw [e, Nat.one_mul]; exact Nat.zero_add _
  · show cc0_transform_0 (F := F) k0_off1_inb numel1_S1 (tbl m) (grid0.coords t) 1 + 1 * (x 1).val = _
    rw [e, Nat.one_mul]; rfl

/-- The result's index map. -/
theorem ix_out : ∀ i : grid0.Coords, cc0_transform_1 i = ![(i 0).val, 0, (i 1).val] := by decide +kernel

/-- Element `y` of the block written back at a point is this element of the result. -/
theorem emb_out (t : Fin (cfgM m (ok m)).N) (y : S1x2048x256.Idx) (h : (grid0.coords t 1).val * 256 + (y 2).val < 512) :
    (((cfgM m (ok m)).win 1).blk t).view.emb y = (ix3 (grid0.coords t 0) (y 1) ⟨(grid0.coords t 1).val * 256 + (y 2).val, h⟩ : S2x2048x512.Idx) := by
  have e := ix_out (grid0.coords t)
  have y0 : (y 0).val = 0 := by have := (y 0).isLt; change _ < 1 at this; omega
  funext a
  fin_cases a <;> apply Fin.ext
  · show cc0_transform_1 (grid0.coords t) 0 * 1 + 1 * (y 0).val = _
    rw [e, y0]; show (grid0.coords t 0).val * 1 + 1 * 0 = (grid0.coords t 0).val; omega
  · show cc0_transform_1 (grid0.coords t) 1 * 2048 + 1 * (y 1).val = _
    rw [e]; show 0 * 2048 + 1 * (y 1).val = (y 1).val; omega
  · show cc0_transform_1 (grid0.coords t) 2 * 256 + 1 * (y 2).val = _
    rw [e]; show (grid0.coords t 1).val * 256 + 1 * (y 2).val = (grid0.coords t 1).val * 256 + (y 2).val; omega

/-- What a point writes back is its block of the gathered projection. -/
theorem flushed_eq (c : Dev nD) (t : Fin (cfgM m (ok m)).N) :
    (dats m (ok m) 0 c).flushed 1 t = (((cfgM m (ok m)).win 1).blk t).view.read (Elt F) (want m c) := by
  show ((cfgM m (ok m)).win 1).cut (grid0.coords t) ((dats m (ok m) 0 c).after 1 t) = _
  rw [after0_1]
  refine funext fun (y : S1x2048x256.Idx) => ?_
  show outsAt0 m (ok m) c t y = want m c ((((cfgM m (ok m)).win 1).blk t).view.emb y)
  have hy : (y 2).val < 256 := (y 2).isLt
  have hc : (grid0.coords t 1).val < 2 := (grid0.coords t 1).isLt
  have hl : 8 * (lit0 (grid0.coords t 1)).toNat + (y 2).val < 16928 := by
    have h : ∀ j : Fin 2, 8 * (lit0 j).toNat + 256 ≤ 16928 := by decide +kernel
    have := h (grid0.coords t 1)
    omega
  rw [emb_out m t y (by omega)]
  unfold outsAt0
  refine (congrFun (out_eq c _ _ _ _ _ _ _) y).trans ?_
  refine (pay_apply _ y).trans ?_
  refine (congrArg (fun v => FloatOps.truncf .bf16 bitsLt_bf16_f32 v) (iblk_apply m c t (ix3 0 (y 2) (y 1)) hl)).trans ?_
  refine congrArg (fun v => FloatOps.truncf .bf16 bitsLt_bf16_f32 (m ((c : Thread nD τ).loc main_arg0) v)) ?_
  funext a
  fin_cases a
  · rfl
  · rfl
  · apply Fin.ext
    show 8 * (lit0 (grid0.coords t 1)).toNat + (y 2).val = 8 * (lit0 ⟨((grid0.coords t 1).val * 256 + (y 2).val) / 256, _⟩).toNat + ((grid0.coords t 1).val * 256 + (y 2).val) % 256
    have e1 : ((grid0.coords t 1).val * 256 + (y 2).val) / 256 = (grid0.coords t 1).val := by omega
    have e2 : ((grid0.coords t 1).val * 256 + (y 2).val) % 256 = (y 2).val := by omega
    rw [e2]
    congr 4
    exact Fin.ext e1.symm

theorem coords_at : ∀ a : Fin 2, ∀ b : Fin 2, ∃ t : Fin grid0.N, (grid0.coords t 0).val = a.val
      ∧ (grid0.coords t 1).val = b.val := by decide +kernel

/-- The result's blocks tile its array. -/
theorem cover (i : S2x2048x512.Idx) : ∃ t : Fin (cfgM m (ok m)).N, ((cfgM m (ok m)).win 1).flush t = true
    ∧ i ∈ (((cfgM m (ok m)).win 1).blk t).view.set := by
  have h0 : (i 0).val < 2 := (i 0).isLt
  have h2 : (i 2).val < 512 := (i 2).isLt
  obtain ⟨t, k0, k1⟩ := coords_at ⟨(i 0).val, h0⟩ ⟨(i 2).val / 256, by omega⟩
  refine ⟨t, flush0_1 _ t, ?_⟩
  change _ = (i 2).val / 256 at k1
  have e := emb_out m t (ix3 0 (i 1) ⟨(i 2).val % 256, by omega⟩) (by show (grid0.coords t 1).val * 256 + (i 2).val % 256 < 512; omega)
  have e' : i = ((((cfgM m (ok m)).win 1).blk t).view.emb (ix3 0 (i 1) ⟨(i 2).val % 256, by omega⟩ : S1x2048x256.Idx) : S2x2048x512.Idx) := by
    refine Eq.trans ?_ e.symm
    funext a
    fin_cases a <;> apply Fin.ext
    · exact k0.symm
    · rfl
    · show (i 2).val = (grid0.coords t 1).val * 256 + (i 2).val % 256
      omega
  rw [e']
  exact View.emb_mem_set _ _

/-- So the result array ends holding the gathered projection, -/
theorem final (c : Dev nD) : (dats m (ok m) 0 c).arrAt 1 (cfgM m (ok m)).N = want m c :=
  (dats m (ok m) 0 c).arrAt_eq_of_cover 1 (want m c) (fun t _ => flushed_eq m c t) (cover m)

/-- and the run, read: the gathered projection, the argument unchanged, every counter at zero. -/
theorem run : θ_run defs (onTc (τ := τ) (main (F := F))) ⟨m, fun _ => 0, ρ⟩ fun r => (∀ c : Dev nD,
      r.2.mem ((c : Thread nD τ).loc main_v1) = want m c
      ∧ r.2.mem ((c : Thread nD τ).loc main_arg0) = m ((c : Thread nD τ).loc main_arg0)) ∧ r.2.sem = fun _ => 0 :=
  (θ_run defs _ _).mono (fun _ h => ⟨fun c => ⟨((h.1 c).1 1).trans (final m c),
      ((h.1 c).2 main_arg0 (by decide : main_arg0 ∈ Pipeline.restRefs sig spec0)).trans (V_main_arg0 m c)⟩, h.2⟩)
    (run_main_quiescent m ρ (ok m))

end Cert.Kernel10Ideal.RefValue

namespace Cert.Reference10Ideal.RefValue

open Cert.Reference10Ideal Cert.Reference10Ideal.Gen

variable {F : FTy → Type} [FloatOps F]
variable (m : (ℓ : Loc nD τ sig) → Buf (Elt F) ℓ) (ρ : Dev nD → PrngReg)

/-- The gathered column, by the one range kept. -/
theorem src_val (k : Fin 512) : (Cert.Kernel10Ideal.RefValue.src k).val = 10272 + k.val := by
  have h : ∀ j : Fin 2, 8 * (Cert.Kernel10Ideal.lit0 j).toNat = 10272 + j.val * 256 := by decide +kernel
  have e := h ⟨k.val / 256, by omega⟩
  show 8 * (Cert.Kernel10Ideal.lit0 ⟨k.val / 256, _⟩).toNat + k.val % 256 = _
  rw [e]
  dsimp only
  omega

/-- The column range at an index. -/
theorem cut_apply {α : Type} (A : S2x2048x16928.Idx → α) (i : S2x2048x512.Idx) :
    extractStridedSlice S2x2048x512 ![0, 0, 10272] A slices_S2x2048x16928_S2x2048x512_0_0_10272 i = A (ix3 (i 0) (i 1) (Cert.Kernel10Ideal.RefValue.src (i 2))) := by
  refine extractStridedSlice_apply _ _ _ _ _ fun b => ?_
  have hs := src_val (i 2)
  fin_cases b
  · show (i 0).val = 0 + (i 0).val; omega
  · show (i 1).val = 0 + (i 1).val; omega
  · exact hs

/-- The reference's run, its result read by column. -/
theorem run : θ_run defs (onTc (τ := τ) (main (F := F))) ⟨m, fun _ => 0, ρ⟩ fun r => ∀ c : Dev nD,
      r.2.mem ((c : Thread nD τ).loc main_v1) = (truncf (s := S2x2048x512) .bf16 (fun i => m ((c : Thread nD τ).loc main_arg0) (ix3 (i 0) (i 1) (Cert.Kernel10Ideal.RefValue.src (i 2)))) bitsLt_bf16_f32 : FVec F S2x2048x512 .bf16)
      ∧ r.2.mem ((c : Thread nD τ).loc main_arg0) = m ((c : Thread nD τ).loc main_arg0) :=
  (θ_run defs _ _).mono (fun r h c => ⟨(h c).1.trans (congrArg (fun v => truncf (s := S2x2048x512) .bf16 v bitsLt_bf16_f32) (funext fun i => cut_apply _ i)), (h c).2⟩)
    (Cert.Reference10Ideal.Value.run m ρ)

end Cert.Reference10Ideal.RefValue

namespace Cert.GatherKv

theorem defs_eq {F : FTy → Type} [FloatOps F] : Cert.Kernel10.defs (F := F) = Cert.Kernel10Ideal.defs := by sl_kernel_rfl
theorem main_eq {F : FTy → Type} [FloatOps F] : Cert.Kernel10.main (F := F) = Cert.Kernel10Ideal.main := by sl_kernel_rfl

/-- The kernel's run: the program is its idealization's text, whose run is stated over any values. -/
theorem run_kernel {F : FTy → Type} [FloatOps F] (m : (ℓ : Loc Cert.Kernel10.nD Cert.Kernel10.τ Cert.Kernel10.sig) → Buf (Elt F) ℓ) (ρ : Dev Cert.Kernel10.nD → PrngReg) :
    θ_run (Cert.Kernel10.defs (F := F)) (onTc (τ := Cert.Kernel10.τ) (Cert.Kernel10.main (F := F))) ⟨m, fun _ => 0, ρ⟩ fun r => (∀ c : Dev Cert.Kernel10.nD,
      r.2.mem ((c : Thread Cert.Kernel10.nD Cert.Kernel10.τ).loc Cert.Kernel10.main_v1) = Cert.Kernel10Ideal.RefValue.want m c
      ∧ r.2.mem ((c : Thread Cert.Kernel10.nD Cert.Kernel10.τ).loc Cert.Kernel10.main_arg0) = m ((c : Thread Cert.Kernel10.nD Cert.Kernel10.τ).loc Cert.Kernel10.main_arg0)) ∧ r.2.sem = fun _ => 0 := by
  rw [defs_eq, main_eq]
  exact Cert.Kernel10Ideal.RefValue.run m ρ

theorem frame_kernel : Cert.quiescent_Kernel10 := fun m ρ _ =>
  (θ_run Cert.Kernel10.defs _ _).mono (fun _ h => ⟨fun c => (h.1 c).2, h.2⟩) (run_kernel (F := Bits) m ρ)

theorem frame_kernelIdeal : Cert.quiescent_Kernel10Ideal := fun m ρ _ =>
  (θ_run Cert.Kernel10Ideal.defs _ _).mono (fun _ h => ⟨fun c => (h.1 c).2, h.2⟩) (Cert.Kernel10Ideal.RefValue.run (F := Ideal) m ρ)

theorem frame_referenceIdeal : Cert.quiescent_Reference10Ideal := fun m ρ _ =>
  (θ_run Cert.Reference10Ideal.defs _ _).mono (fun r h => ⟨fun c => (h c).2, sem_eq_zero_of_no_sems (by decide) r.2⟩)
    (Cert.Reference10Ideal.RefValue.run (F := Ideal) m ρ)

theorem frame_reference : Cert.quiescent_Reference10 := fun m ρ _ =>
  (θ_run Cert.Reference10Ideal.defs _ _).mono (fun r h => ⟨fun c => (h c).2, sem_eq_zero_of_no_sems (by decide) r.2⟩)
    (Cert.Reference10Ideal.RefValue.run (F := Bits) m ρ)

theorem algebraic : Cert.algebraic_Kernel10Ideal_Reference10Ideal := fun m ρ m' ρ' _ hm =>
  ⟨fun c => Cert.Kernel10Ideal.RefValue.want (F := Ideal) m c,
    (θ_run Cert.Kernel10Ideal.defs _ _).mono (fun _ h => h.1) (Cert.Kernel10Ideal.RefValue.run (F := Ideal) m ρ),
    (θ_run Cert.Reference10Ideal.defs _ _).mono (fun _ h c => ⟨(h c).1.trans (by rw [hm c]), (h c).2⟩) (Cert.Reference10Ideal.RefValue.run (F := Ideal) m' ρ')⟩

theorem bitexact : Cert.bitexact_Kernel10_Reference10 := fun m ρ m' ρ' _ hm =>
  ⟨fun c => Cert.Kernel10Ideal.RefValue.want (F := Bits) m c,
    (θ_run Cert.Kernel10.defs _ _).mono (fun _ h => h.1) (run_kernel (F := Bits) m ρ),
    (θ_run Cert.Reference10Ideal.defs _ _).mono (fun _ h c => ⟨(h c).1.trans (by rw [hm c]), (h c).2⟩) (Cert.Reference10Ideal.RefValue.run (F := Bits) m' ρ')⟩

end Cert.GatherKv

end
-- ==== Proof.GatherGb.lean ====
/-
  The gather of the beta and gate columns: the same call at one panel of 128 columns, of which the body keeps the first 32
  and puts zeros in the rest. The reference appends the zeros to the slice.
-/
module

public import proofs.«01_k».proof.Defs
public import proofs.«01_k».proof.Proof.Gen.Kernel11
public import proofs.«01_k».proof.Proof.Gen.Kernel11Ideal.Frame
public import proofs.«01_k».proof.Proof.Gen.Reference11
public import proofs.«01_k».proof.Proof.Gen.Reference11Ideal.Run
public import Idealize.ShloMosaic.Lib.Pipeline.Value
public import Idealize.ShloMosaic.Lib.ValueIdxCore
public import Idealize.ShloMosaic.Lib.StableHlo
public import Idealize.ShloMosaic.Lib.Quiescent
public import Idealize.ShloMosaic.PureOps.BitExact

@[expose] public section

set_option maxRecDepth 512

noncomputable section

open Idealize.ShloMosaic Idealize.ShloMosaic.TcCoe Idealize.SL.Sem
open Idealize.ShloMosaic.Pipeline (Dat)
open Idealize.ShloMosaic.ValueIdx

namespace Cert.Kernel11Ideal.RefValue

open Cert.Kernel11Ideal Cert.Kernel11Ideal.Gen

variable {F : FTy → Type} [FloatOps F]
variable (m : (ℓ : Loc nD τ sig) → Buf (Elt F) ℓ) (ρ : Dev nD → PrngReg)

/-- The prefetched table as a constant: the one panel's row, in units of eight. -/
abbrev rows : pre0.Contents (Elt F) := fun
  | 0 => fun _ => 768#32
  | ⟨_ + 1, h⟩ => absurd h (Nat.not_lt.2 (Nat.le_add_left _ _))

theorem tbl_eq : tbl m = rows := by
  funext j
  obtain rfl : j = 0 := Subsingleton.elim _ _
  unfold tbl
  simp only [V, hostOps0, StableHlo.after_cons, StableHlo.after_nil]
  rfl

theorem ix_bits : ∀ i : grid0.Coords, cc0_transform_0 (F := Bits) k0_off1_inb numel1_S1 rows i = ![(i 0).val, 6144, 0] := by
  decide +kernel

/-- Where panel `j` begins. -/
theorem ix_rows (i : grid0.Coords) : cc0_transform_0 (F := F) k0_off1_inb numel1_S1 rows i = ![(i 0).val, 6144, 0] :=
  ix_bits i

theorem ok_bits : ok0 (F := Bits) rows := by decide +kernel

theorem ok : Ok m := by
  show ok0 (tbl m)
  rw [tbl_eq]
  exact ok_bits

/-- A gathered entry: a column of the panel, or zero behind the columns kept. -/
def gb (A : FVec F S2x2048x16928 .f32) : FVec F S2x2048x128 .f32 := fun i =>
  if (i 2).val < 32 then A (ix3 (i 0) (i 1) (⟨6144 + (i 2).val, by have h := (i 2).isLt; change _ < 128 at h; omega⟩ : Fin 16928)) else Scalar.ofBits .f32 0x00000000#32

/-- The gathered projection: the kept columns and zeros, rounded to the narrow format. -/
abbrev want (c : Dev nD) : Buf (Elt F) ((c : Thread nD τ).loc main_v1) :=
  truncf (s := S2x2048x128) .bf16 (gb (m ((c : Thread nD τ).loc main_arg0))) bitsLt_bf16_f32

theorem hz3 : (![0, 0, 0] : Fin 3 → Nat) = fun _ => 0 := funext fun a => by fin_cases a <;> rfl

/-- The body leaves its one payload of the block it loaded. -/
theorem out_eq (c : Dev nD) (i : grid0.Coords) (a3 : Memref sig .tc .vmem S1x128x2048 .f32) (h3 : a3.IsWhole)
    (a4 : Memref sig .tc .vmem S1x2048x128 .bf16) (h4 : a4.IsWhole) (x : Vec F S1x128x2048 .f32) (T : TbBuf0 (F := F) c tbM0_0) :
    out0_A_1 c i a3 h3 a4 h4 x T = k0_pay1 x := by
  unfold out0_A_1
  rw [View.read_writes_eq_canon _ _ _ (cover0_A_1 c i a3 h3 a4 h4 x T)]
  unfold kernelRun0_A
  dsimp only
  rw [View.canon_unit_zero hz3, View.readAt_eq_ld, h3.read_unread, View.ld_unit_zero hz3]

theorem kept_bit : ∀ l : Fin 128, Scalar.cmpi .slt (BitVec.ofNat 32 (0 * 128 + l.val)) 32#32 = if l.val < 32 then 1#1 else 0#1 := by decide +kernel

/-- That payload at an index: the transposed block or zero, rounded. -/
theorem pay_apply (x : Vec F S1x128x2048 .f32) (y : S1x2048x128.Idx) :
    k0_pay1 x y = FloatOps.truncf .bf16 bitsLt_bf16_f32 (if (y 2).val < 32 then x (ix3 0 (y 2) (y 1)) else Scalar.ofBits .f32 0x00000000#32) := by
  unfold k0_pay1
  dsimp only
  refine (shapeCast_addUnit_apply ![2048, 128] _ _ y).trans ?_
  show FloatOps.truncf .bf16 _ (Scalar.select (Scalar.cmpi .slt (BitVec.ofNat 32 (0 * 128 + (y 2).val)) 32#32) (transpose S2048x128 [1, 0] (shapeCast S128x2048 x shapeCasts_S1x128x2048_S128x2048) transposes_S128x2048_p1_0_S2048x128 _) _) = _
  congr 1
  rw [kept_bit (y 2)]
  by_cases h : (y 2).val < 32
  · rw [if_pos h, if_pos h]
    change transpose S2048x128 [1, 0] (shapeCast S128x2048 x shapeCasts_S1x128x2048_S128x2048) transposes_S128x2048_p1_0_S2048x128 (fun a => y a.succ) = _
    refine (transpose_apply _ _ _ _ (ix2 (y 2) (y 1)) fun a => by fin_cases a <;> rfl).trans ?_
    refine (shapeCast_dropUnit_apply ![128, 2048] _ _ _).trans ?_
    refine congrArg x ?_
    funext a
    fin_cases a <;> rfl
  · rw [if_neg h, if_neg h]
    rfl

/-- The transposed array the pipeline reads. -/
theorem V_v0 (c : Dev nD) (i : S2x16928x2048.Idx) :
    V m c main_v0 i = m ((c : Thread nD τ).loc main_arg0) (ix3 (i 0) (i 2) (i 1)) := by
  simp only [V, hostOps0, StableHlo.after_cons, StableHlo.after_nil]
  show transpose S2x16928x2048 [0, 2, 1] (m ((c : Thread nD τ).loc main_arg0)) _ i = _
  refine transpose_apply _ _ _ _ _ fun a => ?_
  fin_cases a <;> rfl

/-- The block the pipeline fetches at a point, read at an index. -/
theorem iblk_apply (c : Dev nD) (t : Fin (cfgM m (ok m)).N) (x : S1x128x2048.Idx) (h : 6144 + (x 1).val < 16928) :
    iblk m (ok m) c 0 t x = m ((c : Thread nD τ).loc main_arg0) (ix3 (grid0.coords t 0) (x 2) ⟨6144 + (x 1).val, h⟩) := by
  have e : cc0_transform_0 (F := F) k0_off1_inb numel1_S1 (tbl m) (grid0.coords t) = ![(grid0.coords t 0).val, 6144, 0] := by
    rw [tbl_eq]; exact ix_rows _
  show V m c main_v0 ((((cfgM m (ok m)).win 0).blk t).view.emb x) = _
  refine (V_v0 m c _).trans ?_
  refine congrArg _ ?_
  have h0 : (x 0).val = 0 := by have := (x 0).isLt; change _ < 1 at this; omega
  funext a
  fin_cases a <;> apply Fin.ext
  · show cc0_transform_0 (F := F) k0_off1_inb numel1_S1 (tbl m) (grid0.coords t) 0 + 1 * (x 0).val = _
    rw [e, h0]; rfl
  · show cc0_transform_0 (F := F) k0_off1_inb numel1_S1 (tbl m) (grid0.coords t) 2 + 1 * (x 2).val = _
    rw [e, Nat.one_mul]; exact Nat.zero_add _
  · show cc0_transform_0 (F := F) k0_off1_inb numel1_S1 (tbl m) (grid0.coords t) 1 + 1 * (x 1).val = _
    rw [e, Nat.one_mul]; rfl

/-- The result's index map. -/
theorem ix_out : ∀ i : grid0.Coords, cc0_transform_1 i = ![(i 0).val, 0, (i 1).val] := by decide +kernel

/-- Element `y` of the block written back at a point is this element of the result. -/
theorem emb_out (t : Fin (cfgM m (ok m)).N) (y : S1x2048x128.Idx) (h : (grid0.coords t 1).val * 128 + (y 2).val < 128) :
    (((cfgM m (ok m)).win 1).blk t).view.emb y = (ix3 (grid0.coords t 0) (y 1) ⟨(grid0.coords t 1).val * 128 + (y 2).val, h⟩ : S2x2048x128.Idx) := by
  have e := ix_out (grid0.coords t)
  have y0 : (y 0).val = 0 := by have := (y 0).isLt; change _ < 1 at this; omega
  funext a
  fin_cases a <;> apply Fin.ext
  · show cc0_transform_1 (grid0.coords t) 0 * 1 + 1 * (y 0).val = _
    rw [e, y0]; show (grid0.coords t 0).val * 1 + 1 * 0 = (grid0.coords t 0).val; omega
  · show cc0_transform_1 (grid0.coords t) 1 * 2048 + 1 * (y 1).val = _
    rw [e]; show 0 * 2048 + 1 * (y 1).val = (y 1).val; omega
  · show cc0_transform_1 (grid0.coords t) 2 * 128 + 1 * (y 2).val = _
    rw [e]; show (grid0.coords t 1).val * 128 + 1 * (y 2).val = (grid0.coords t 1).val * 128 + (y 2).val; omega

/-- What a point writes back is its block of the gathered projection. -/
theorem flushed_eq (c : Dev nD) (t : Fin (cfgM m (ok m)).N) :
    (dats m (ok m) 0 c).flushed 1 t = (((cfgM m (ok m)).win 1).blk t).view.read (Elt F) (want m c) := by
  show ((cfgM m (ok m)).win 1).cut (grid0.coords t) ((dats m (ok m) 0 c).after 1 t) = _
  rw [after0_1]
  refine funext fun (y : S1x2048x128.Idx) => ?_
  show outsAt0 m (ok m) c t y = want m c ((((cfgM m (ok m)).win 1).blk t).view.emb y)
  have hy : (y 2).val < 128 := (y 2).isLt
  have hc : (grid0.coords t 1).val < 1 := (grid0.coords t 1).isLt
  rw [emb_out m t y (by omega)]
  unfold outsAt0
  refine (congrFun (out_eq c _ _ _ _ _ _ _) y).trans ?_
  refine (pay_apply _ y).trans ?_
  refine congrArg (fun v => FloatOps.truncf .bf16 bitsLt_bf16_f32 v) ?_
  rw [iblk_apply m c t (ix3 0 (y 2) (y 1)) (by show 6144 + (y 2).val < 16928; omega)]
  have e : (grid0.coords t 1).val * 128 + (y 2).val = (y 2).val := by omega
  show _ = if (grid0.coords t 1).val * 128 + (y 2).val < 32 then _ else _
  refine Eq.trans ?_ (if_congr (by rw [e]) rfl rfl)
  refine congrArg (fun v => if (y 2).val < 32 then m ((c : Thread nD τ).loc main_arg0) v else Scalar.ofBits .f32 0x00000000#32) ?_
  funext a
  fin_cases a
  · rfl
  · rfl
  · apply Fin.ext
    show 6144 + (y 2).val = 6144 + ((grid0.coords t 1).val * 128 + (y 2).val)
    omega

theorem coords_at : ∀ a : Fin 2, ∀ b : Fin 1, ∃ t : Fin grid0.N, (grid0.coords t 0).val = a.val
      ∧ (grid0.coords t 1).val = b.val := by decide +kernel

/-- The result's blocks tile its array. -/
theorem cover (i : S2x2048x128.Idx) : ∃ t : Fin (cfgM m (ok m)).N, ((cfgM m (ok m)).win 1).flush t = true
    ∧ i ∈ (((cfgM m (ok m)).win 1).blk t).view.set := by
  have h0 : (i 0).val < 2 := (i 0).isLt
  have h2 : (i 2).val < 128 := (i 2).isLt
  obtain ⟨t, k0, k1⟩ := coords_at ⟨(i 0).val, h0⟩ ⟨(i 2).val / 128, by omega⟩
  refine ⟨t, flush0_1 _ t, ?_⟩
  change _ = (i 2).val / 128 at k1
  have e := emb_out m t (ix3 0 (i 1) ⟨(i 2).val % 128, by omega⟩) (by show (grid0.coords t 1).val * 128 + (i 2).val % 128 < 128; omega)
  have e' : i = ((((cfgM m (ok m)).win 1).blk t).view.emb (ix3 0 (i 1) ⟨(i 2).val % 128, by omega⟩ : S1x2048x128.Idx) : S2x2048x128.Idx) := by
    refine Eq.trans ?_ e.symm
    funext a
    fin_cases a <;> apply Fin.ext
    · exact k0.symm
    · rfl
    · show (i 2).val = (grid0.coords t 1).val * 128 + (i 2).val % 128
      omega
  rw [e']
  exact View.emb_mem_set _ _

/-- So the result array ends holding the gathered projection, -/
theorem final (c : Dev nD) : (dats m (ok m) 0 c).arrAt 1 (cfgM m (ok m)).N = want m c :=
  (dats m (ok m) 0 c).arrAt_eq_of_cover 1 (want m c) (fun t _ => flushed_eq m c t) (cover m)

/-- and the run, read: the gathered projection, the argument unchanged, every counter at zero. -/
theorem run : θ_run defs (onTc (τ := τ) (main (F := F))) ⟨m, fun _ => 0, ρ⟩ fun r => (∀ c : Dev nD,
      r.2.mem ((c : Thread nD τ).loc main_v1) = want m c
      ∧ r.2.mem ((c : Thread nD τ).loc main_arg0) = m ((c : Thread nD τ).loc main_arg0)) ∧ r.2.sem = fun _ => 0 :=
  (θ_run defs _ _).mono (fun _ h => ⟨fun c => ⟨((h.1 c).1 1).trans (final m c),
      ((h.1 c).2 main_arg0 (by decide : main_arg0 ∈ Pipeline.restRefs sig spec0)).trans (V_main_arg0 m c)⟩, h.2⟩)
    (run_main_quiescent m ρ (ok m))

end Cert.Kernel11Ideal.RefValue

namespace Cert.Reference11Ideal.RefValue

open Cert.Reference11Ideal Cert.Reference11Ideal.Gen

variable {F : FTy → Type} [FloatOps F]
variable (m : (ℓ : Loc nD τ sig) → Buf (Elt F) ℓ) (ρ : Dev nD → PrngReg)

/-- The slice with the zeros appended, at an index. -/
theorem cat_apply (A : FVec F S2x2048x16928 .f32) (i : S2x2048x128.Idx) :
    concatenate S2x2048x128 2 [⟨S2x2048x32, extractStridedSlice S2x2048x32 ![0, 0, 6144] A slices_S2x2048x16928_S2x2048x32_0_0_6144⟩,
      ⟨S2x2048x96, broadcastInDim S2x2048x96 ![] bcast_S_S2x2048x96 (constant S_ .f32 0x00000000#32)⟩]
      concatenates_S2x2048x32_S2x2048x96_S2x2048x128_d2 i
    = Cert.Kernel11Ideal.RefValue.gb A i := by
  have h2 : (i 2).val < 128 := (i 2).isLt
  unfold Cert.Kernel11Ideal.RefValue.gb
  by_cases a : (i 2).val < 32
  · rw [if_pos a]
    refine (concatenate_apply_piece (t := S2x2048x128) 2 _ _ i 0 (Nat.lt_of_sub_eq_succ rfl) S2x2048x32 _ rfl rfl 0 rfl (ix3 (i 0) (i 1) ⟨(i 2).val, a⟩) (fun b hb => ?_) (by show 0 + (i 2).val = _; omega)).trans ?_
    · fin_cases b
      · rfl
      · rfl
      · exact absurd rfl hb
    · refine extractStridedSlice_apply _ _ _ _ _ fun b => ?_
      fin_cases b
      · show (i 0).val = 0 + (i 0).val; omega
      · show (i 1).val = 0 + (i 1).val; omega
      · rfl
  · rw [if_neg a]
    refine (concatenate_apply_piece (t := S2x2048x128) 2 _ _ i 1 (Nat.lt_of_sub_eq_succ rfl) S2x2048x96 _ rfl rfl 32 rfl (ix3 (i 0) (i 1) ⟨(i 2).val - 32, by omega⟩) (fun b hb => ?_) (by show 32 + ((i 2).val - 32) = _; omega)).trans rfl
    fin_cases b
    · rfl
    · rfl
    · exact absurd rfl hb

/-- The reference's run, its result read by column. -/
theorem run : θ_run defs (onTc (τ := τ) (main (F := F))) ⟨m, fun _ => 0, ρ⟩ fun r => ∀ c : Dev nD,
      r.2.mem ((c : Thread nD τ).loc main_v3) = (truncf (s := S2x2048x128) .bf16 (Cert.Kernel11Ideal.RefValue.gb (m ((c : Thread nD τ).loc main_arg0))) bitsLt_bf16_f32 : FVec F S2x2048x128 .bf16)
      ∧ r.2.mem ((c : Thread nD τ).loc main_arg0) = m ((c : Thread nD τ).loc main_arg0) :=
  (θ_run defs _ _).mono (fun r h c => ⟨(h c).1.trans (congrArg (fun v => truncf (s := S2x2048x128) .bf16 v bitsLt_bf16_f32) (funext fun i => cat_apply _ i)), (h c).2⟩)
    (Cert.Reference11Ideal.Value.run m ρ)

end Cert.Reference11Ideal.RefValue

namespace Cert.GatherGb

theorem defs_eq {F : FTy → Type} [FloatOps F] : Cert.Kernel11.defs (F := F) = Cert.Kernel11Ideal.defs := by sl_kernel_rfl
theorem main_eq {F : FTy → Type} [FloatOps F] : Cert.Kernel11.main (F := F) = Cert.Kernel11Ideal.main := by sl_kernel_rfl

/-- The kernel's run: the program is its idealization's text, whose run is stated over any values. -/
theorem run_kernel {F : FTy → Type} [FloatOps F] (m : (ℓ : Loc Cert.Kernel11.nD Cert.Kernel11.τ Cert.Kernel11.sig) → Buf (Elt F) ℓ) (ρ : Dev Cert.Kernel11.nD → PrngReg) :
    θ_run (Cert.Kernel11.defs (F := F)) (onTc (τ := Cert.Kernel11.τ) (Cert.Kernel11.main (F := F))) ⟨m, fun _ => 0, ρ⟩ fun r => (∀ c : Dev Cert.Kernel11.nD,
      r.2.mem ((c : Thread Cert.Kernel11.nD Cert.Kernel11.τ).loc Cert.Kernel11.main_v1) = Cert.Kernel11Ideal.RefValue.want m c
      ∧ r.2.mem ((c : Thread Cert.Kernel11.nD Cert.Kernel11.τ).loc Cert.Kernel11.main_arg0) = m ((c : Thread Cert.Kernel11.nD Cert.Kernel11.τ).loc Cert.Kernel11.main_arg0)) ∧ r.2.sem = fun _ => 0 := by
  rw [defs_eq, main_eq]
  exact Cert.Kernel11Ideal.RefValue.run m ρ

theorem frame_kernel : Cert.quiescent_Kernel11 := fun m ρ _ =>
  (θ_run Cert.Kernel11.defs _ _).mono (fun _ h => ⟨fun c => (h.1 c).2, h.2⟩) (run_kernel (F := Bits) m ρ)

theorem frame_kernelIdeal : Cert.quiescent_Kernel11Ideal := fun m ρ _ =>
  (θ_run Cert.Kernel11Ideal.defs _ _).mono (fun _ h => ⟨fun c => (h.1 c).2, h.2⟩) (Cert.Kernel11Ideal.RefValue.run (F := Ideal) m ρ)

theorem frame_referenceIdeal : Cert.quiescent_Reference11Ideal := fun m ρ _ =>
  (θ_run Cert.Reference11Ideal.defs _ _).mono (fun r h => ⟨fun c => (h c).2, sem_eq_zero_of_no_sems (by decide) r.2⟩)
    (Cert.Reference11Ideal.RefValue.run (F := Ideal) m ρ)

theorem frame_reference : Cert.quiescent_Reference11 := fun m ρ _ =>
  (θ_run Cert.Reference11Ideal.defs _ _).mono (fun r h => ⟨fun c => (h c).2, sem_eq_zero_of_no_sems (by decide) r.2⟩)
    (Cert.Reference11Ideal.RefValue.run (F := Bits) m ρ)

theorem algebraic : Cert.algebraic_Kernel11Ideal_Reference11Ideal := fun m ρ m' ρ' _ hm =>
  ⟨fun c => Cert.Kernel11Ideal.RefValue.want (F := Ideal) m c,
    (θ_run Cert.Kernel11Ideal.defs _ _).mono (fun _ h => h.1) (Cert.Kernel11Ideal.RefValue.run (F := Ideal) m ρ),
    (θ_run Cert.Reference11Ideal.defs _ _).mono (fun _ h c => ⟨(h c).1.trans (by rw [hm c]), (h c).2⟩) (Cert.Reference11Ideal.RefValue.run (F := Ideal) m' ρ')⟩

theorem bitexact : Cert.bitexact_Kernel11_Reference11 := fun m ρ m' ρ' _ hm =>
  ⟨fun c => Cert.Kernel11Ideal.RefValue.want (F := Bits) m c,
    (θ_run Cert.Kernel11.defs _ _).mono (fun _ h => h.1) (run_kernel (F := Bits) m ρ),
    (θ_run Cert.Reference11Ideal.defs _ _).mono (fun _ h c => ⟨(h c).1.trans (by rw [hm c]), (h c).2⟩) (Cert.Reference11Ideal.RefValue.run (F := Bits) m' ρ')⟩

end Cert.GatherGb

end
-- ==== Proof.Tail.lean ====
/-
  The layer's tail, the gated merge and the last projection as one program: the second pipeline reads the array the
  first one wrote. Each pipeline's blocks cover its result, a function of the arrays it was entered with; at its entry
  the second finds the merge of the arguments, so that the program's result is the normalised stream of the merge. The
  reference is the one host function after the other.
-/
module

public import proofs.«01_k».proof.Defs
public import proofs.«01_k».proof.Proof.Gen.Kernel12
public import proofs.«01_k».proof.Proof.Gen.Kernel12Ideal.Frame
public import proofs.«01_k».proof.Proof.Gen.Reference12Ideal.Run
public import proofs.«01_k».proof.Proof.Merge
public import proofs.«01_k».proof.Proof.OutFinal
public import Idealize.ShloMosaic.Lib.Pipeline.Value
public import Idealize.ShloMosaic.Lib.ValueIdxCore
public import proofs.«01_k».proof.Proof.Dense
public import Idealize.ShloMosaic.Lib.StableHlo
public import Idealize.ShloMosaic.Lib.Quiescent
public import Idealize.ShloMosaic.PureOps.BitExact

@[expose] public section

set_option maxRecDepth 16384

noncomputable section

open Idealize.ShloMosaic Idealize.ShloMosaic.TcCoe Idealize.SL.Sem
open Idealize.ShloMosaic.Pipeline (Dat)
open Idealize.ShloMosaic.ValueIdx
open scoped BigOperators
open Cert.Dense

namespace Cert.Kernel12Ideal.RefValue

open Cert.Kernel12Ideal Cert.Kernel12Ideal.Gen
open Cert.Kernel3Ideal.RefValue (merged)
open Cert.Kernel4Ideal.RefValue (rms bat pos stream normed sblk)

/-- The first body's one block, at a row and a column: it is the merge's body. -/
theorem merge_apply (x0 x1 x2 x3 : FVec Ideal S512x2048 .bf16) (x4 x5 : FVec Ideal S2048x2048 .bf16) (r : Fin 512) (q : Fin 2048) :
    out0_6 (F := Ideal) x0 x1 x2 x3 x4 x5 (ix2 r q)
      = Ideal.logistic (x2 (ix2 r q)) * (∑ k : Fin 2048, x0 (ix2 r k) * x4 (ix2 k q))
        + Ideal.logistic (x3 (ix2 r q)) * (∑ k : Fin 2048, x1 (ix2 r k) * x5 (ix2 k q)) :=
  Cert.Kernel3Ideal.RefValue.out_apply x0 x1 x2 x3 x4 x5 r q

/-- The second body's one block: the last projection's body, read as there. -/
theorem norm_apply (x0 : FVec Ideal S512x2048 .bf16) (x1 : FVec Ideal S512x2048 .f32) (x2 : FVec Ideal S2048x2048 .bf16)
    (x3 x4 : FVec Ideal S1x3x2048 .f32) (x5 : FVec Ideal S1x2048 .f32) (r : Fin 512) (q : Fin 2048) :
    out1_6 (F := Ideal) x0 x1 x2 x3 x4 x5 (ix2 r q) = rms (sblk x0 x1 x2 x3 r) (x5 (ix2 0 q)) q := by
  unfold out1_6
  rw [View.canon_unit_zero hz2]
  iterate 4 rw [View.ld_unit_zero hz2]
  unfold k1_pay1
  simp only [shapeCast_self]
  refine (Cert.Kernel4Ideal.RefValue.norm_apply _ _ _ _ _ _ _ _ r q).trans ?_
  refine congrArg (fun f => rms f (x5 (ix2 0 q)) q) (funext fun k => ?_)
  exact congrArg (x1 (ix2 r k) + ·) (congrArg₂ (· * ·)
    ((Cert.Kernel4Ideal.RefValue.row_apply _ _ r k).trans (Cert.Kernel4Ideal.RefValue.gate_apply x3 _ k))
    (mm_apply (M := 512) (K := 2048) (N := 2048) none x0 x2 r k))

variable (m : (ℓ : Loc nD τ sig) → Buf (Elt Ideal) ℓ) (ρ : Dev nD → PrngReg)

/-! ## The first pipeline -/

/-- What the first pipeline leaves: the merge of the first five arguments. -/
abbrev mid (c : Dev nD) : Buf (Elt Ideal) ((c : Thread nD τ).loc main_v2) :=
  merged (m ((c : Thread nD τ).loc main_arg0)) (m ((c : Thread nD τ).loc main_arg1)) (m ((c : Thread nD τ).loc main_arg2))
    (m ((c : Thread nD τ).loc main_arg3)) (m ((c : Thread nD τ).loc main_arg4))

theorem ix_maps : ∀ i : grid0.Coords, cc0_transform_0 i = ![(i 0).val, 0] ∧ cc0_transform_1 i = ![(i 0).val, 0]
    ∧ cc0_transform_2 i = ![(i 0).val, 6] ∧ cc0_transform_3 i = ![(i 0).val, 7] ∧ cc0_transform_4 i = ![0, 0]
    ∧ cc0_transform_5 i = ![0, 0] ∧ cc0_transform_6 i = ![(i 0).val, 0] := by decide +kernel

/-- The projection weights the first pipeline reads are the arguments. -/
theorem V_v0 (c : Dev nD) : V1 m ρ c main_v0 = m ((c : Thread nD τ).loc main_arg3) := by
  simp only [V1, W1, hostOps0, StableHlo.after_cons, StableHlo.after_nil]
  rfl
theorem V_v1 (c : Dev nD) : V1 m ρ c main_v1 = m ((c : Thread nD τ).loc main_arg4) := by
  simp only [V1, W1, hostOps0, StableHlo.after_cons, StableHlo.after_nil]
  rfl

/-- A block of the first branch. -/
theorem blk0 (c : Dev nD) (t : Fin cfg0.N) (x : S512x2048.Idx) (h : (grid0.coords t 0).val * 512 + (x 0).val < 32768) :
    iblk0 (V1 m ρ) c 0 t x = m ((c : Thread nD τ).loc main_arg0) (ix2 ⟨(grid0.coords t 0).val * 512 + (x 0).val, h⟩ (x 1)) := by
  show V1 m ρ c main_arg0 (((cfg0.win 0).blk t).view.emb x) = _
  refine (congrFun (W1_args m ρ c main_arg0 (by decide)) _).trans (congrArg _ ?_)
  have e := (ix_maps (grid0.coords t)).1
  funext a
  fin_cases a <;> apply Fin.ext
  · show cc0_transform_0 (grid0.coords t) 0 * 512 + 1 * (x 0).val = _
    rw [e, Nat.one_mul]; rfl
  · show cc0_transform_0 (grid0.coords t) 1 * 2048 + 1 * (x 1).val = _
    rw [e, Nat.one_mul]; exact Nat.zero_add _

/-- A block of the second branch. -/
theorem blk1 (c : Dev nD) (t : Fin cfg0.N) (x : S512x2048.Idx) (h : (grid0.coords t 0).val * 512 + (x 0).val < 32768) :
    iblk0 (V1 m ρ) c 1 t x = m ((c : Thread nD τ).loc main_arg1) (ix2 ⟨(grid0.coords t 0).val * 512 + (x 0).val, h⟩ (x 1)) := by
  show V1 m ρ c main_arg1 (((cfg0.win 1).blk t).view.emb x) = _
  refine (congrFun (W1_args m ρ c main_arg1 (by decide)) _).trans (congrArg _ ?_)
  have e := (ix_maps (grid0.coords t)).2.1
  funext a
  fin_cases a <;> apply Fin.ext
  · show cc0_transform_1 (grid0.coords t) 0 * 512 + 1 * (x 0).val = _
    rw [e, Nat.one_mul]; rfl
  · show cc0_transform_1 (grid0.coords t) 1 * 2048 + 1 * (x 1).val = _
    rw [e, Nat.one_mul]; exact Nat.zero_add _

/-- A block of the first branch's gate, six panels of columns into the projected tokens. -/
theorem blk2 (c : Dev nD) (t : Fin cfg0.N) (x : S512x2048.Idx) (h : (grid0.coords t 0).val * 512 + (x 0).val < 32768) :
    iblk0 (V1 m ρ) c 2 t x = m ((c : Thread nD τ).loc main_arg2) (ix2 ⟨(grid0.coords t 0).val * 512 + (x 0).val, h⟩ ⟨12288 + (x 1).val, by have : (x 1).val < 2048 := (x 1).isLt; omega⟩) := by
  show V1 m ρ c main_arg2 (((cfg0.win 2).blk t).view.emb x) = _
  refine (congrFun (W1_args m ρ c main_arg2 (by decide)) _).trans (congrArg _ ?_)
  have e := (ix_maps (grid0.coords t)).2.2.1
  funext a
  fin_cases a <;> apply Fin.ext
  · show cc0_transform_2 (grid0.coords t) 0 * 512 + 1 * (x 0).val = _
    rw [e, Nat.one_mul]; rfl
  · show cc0_transform_2 (grid0.coords t) 1 * 2048 + 1 * (x 1).val = _
    rw [e, Nat.one_mul]; rfl

/-- A block of the second branch's gate, seven panels in. -/
theorem blk3 (c : Dev nD) (t : Fin cfg0.N) (x : S512x2048.Idx) (h : (grid0.coords t 0).val * 512 + (x 0).val < 32768) :
    iblk0 (V1 m ρ) c 3 t x = m ((c : Thread nD τ).loc main_arg2) (ix2 ⟨(grid0.coords t 0).val * 512 + (x 0).val, h⟩ ⟨14336 + (x 1).val, by have : (x 1).val < 2048 := (x 1).isLt; omega⟩) := by
  show V1 m ρ c main_arg2 (((cfg0.win 3).blk t).view.emb x) = _
  refine (congrFun (W1_args m ρ c main_arg2 (by decide)) _).trans (congrArg _ ?_)
  have e := (ix_maps (grid0.coords t)).2.2.2.1
  funext a
  fin_cases a <;> apply Fin.ext
  · show cc0_transform_3 (grid0.coords t) 0 * 512 + 1 * (x 0).val = _
    rw [e, Nat.one_mul]; rfl
  · show cc0_transform_3 (grid0.coords t) 1 * 2048 + 1 * (x 1).val = _
    rw [e, Nat.one_mul]; rfl

/-- The whole first projection, fetched at every point. -/
theorem blk4 (c : Dev nD) (t : Fin cfg0.N) (x : S2048x2048.Idx) :
    iblk0 (V1 m ρ) c 4 t x = m ((c : Thread nD τ).loc main_arg3) x := by
  show V1 m ρ c main_v0 (((cfg0.win 4).blk t).view.emb x) = _
  refine (congrFun (V_v0 m ρ c) _).trans (congrArg _ ?_)
  have e := (ix_maps (grid0.coords t)).2.2.2.2.1
  funext a
  fin_cases a <;> apply Fin.ext
  · show cc0_transform_4 (grid0.coords t) 0 * 2048 + 1 * (x 0).val = _
    rw [e, Nat.one_mul]; exact Nat.zero_add _
  · show cc0_transform_4 (grid0.coords t) 1 * 2048 + 1 * (x 1).val = _
    rw [e, Nat.one_mul]; exact Nat.zero_add _

/-- The whole second projection, fetched at every point. -/
theorem blk5 (c : Dev nD) (t : Fin cfg0.N) (x : S2048x2048.Idx) :
    iblk0 (V1 m ρ) c 5 t x = m ((c : Thread nD τ).loc main_arg4) x := by
  show V1 m ρ c main_v1 (((cfg0.win 5).blk t).view.emb x) = _
  refine (congrFun (V_v1 m ρ c) _).trans (congrArg _ ?_)
  have e := (ix_maps (grid0.coords t)).2.2.2.2.2.1
  funext a
  fin_cases a <;> apply Fin.ext
  · show cc0_transform_5 (grid0.coords t) 0 * 2048 + 1 * (x 0).val = _
    rw [e, Nat.one_mul]; exact Nat.zero_add _
  · show cc0_transform_5 (grid0.coords t) 1 * 2048 + 1 * (x 1).val = _
    rw [e, Nat.one_mul]; exact Nat.zero_add _

/-- Element `y` of the block written back at a point is this element of the result. -/
theorem emb_out (t : Fin cfg0.N) (y : S512x2048.Idx) (h : (grid0.coords t 0).val * 512 + (y 0).val < 32768) :
    ((cfg0.win 6).blk t).view.emb y = (ix2 ⟨(grid0.coords t 0).val * 512 + (y 0).val, h⟩ (y 1) : S32768x2048.Idx) := by
  have e := (ix_maps (grid0.coords t)).2.2.2.2.2.2
  funext a
  fin_cases a <;> apply Fin.ext
  · show cc0_transform_6 (grid0.coords t) 0 * 512 + 1 * (y 0).val = _
    rw [e, Nat.one_mul]; rfl
  · show cc0_transform_6 (grid0.coords t) 1 * 2048 + 1 * (y 1).val = _
    rw [e, Nat.one_mul]; exact Nat.zero_add _

theorem block_eq (c : Dev nD) (t : Fin cfg0.N) (r : Fin 512) (q : Fin 2048) :
    out0_6 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (ix2 r q)
      = mid m c (((cfg0.win 6).blk t).view.emb (ix2 r q : S512x2048.Idx)) := by
  have h0 : (grid0.coords t 0).val < 64 := (grid0.coords t 0).isLt
  have hb : (grid0.coords t 0).val * 512 + r.val < 32768 := by omega
  rw [emb_out t (ix2 r q) hb]
  refine (merge_apply _ _ _ _ _ _ r q).trans ?_
  exact congrArg₂ (· + ·)
    (congrArg₂ (· * ·) (congrArg Ideal.logistic (blk2 m ρ c t (ix2 r q) hb))
      (Finset.sum_congr rfl fun k _ => congrArg₂ (· * ·) (blk0 m ρ c t (ix2 r k) hb) (blk4 m ρ c t (ix2 k q))))
    (congrArg₂ (· * ·) (congrArg Ideal.logistic (blk3 m ρ c t (ix2 r q) hb))
      (Finset.sum_congr rfl fun k _ => congrArg₂ (· * ·) (blk1 m ρ c t (ix2 r k) hb) (blk5 m ρ c t (ix2 k q))))

/-- What a point writes back is its block of the merge. -/
theorem flushed_eq (c : Dev nD) (t : Fin cfg0.N) :
    (dat0 (V1 m ρ) c).flushed 6 t = ((cfg0.win 6).blk t).view.read (Elt Ideal) (mid m c) := by
  show (cfg0.win 6).cut (grid0.coords t) ((dat0 (V1 m ρ) c).after 6 t) = _
  rw [after0_6]
  refine funext fun (y : S512x2048.Idx) => ?_
  obtain ⟨r, q, rfl⟩ : ∃ (r : Fin 512) (q : Fin 2048), y = ix2 r q := ⟨y 0, y 1, eq_ix2 y⟩
  exact block_eq m ρ c t r q

theorem coords_at : ∀ a : Fin 64, ∃ t : Fin grid0.N, (grid0.coords t 0).val = a.val := by decide +kernel

/-- The blocks cover the result. -/
theorem cover (i : S32768x2048.Idx) : ∃ t : Fin cfg0.N, (cfg0.win 6).flush t = true ∧ i ∈ ((cfg0.win 6).blk t).view.set := by
  have h0 : (i 0).val < 32768 := (i 0).isLt
  obtain ⟨t, k0⟩ := coords_at ⟨(i 0).val / 512, by omega⟩
  refine ⟨t, flush0_6 t, ?_⟩
  change _ = (i 0).val / 512 at k0
  have e := emb_out t (ix2 ⟨(i 0).val % 512, by omega⟩ (i 1))
    (by show (grid0.coords t 0).val * 512 + (i 0).val % 512 < 32768; omega)
  have e' : i = (((cfg0.win 6).blk t).view.emb (ix2 ⟨(i 0).val % 512, by omega⟩ (i 1) : S512x2048.Idx) : S32768x2048.Idx) := by
    refine Eq.trans ?_ e.symm
    funext a
    fin_cases a
    · apply Fin.ext
      show (i 0).val = (grid0.coords t 0).val * 512 + (i 0).val % 512
      omega
    · rfl
  rw [e']
  exact View.emb_mem_set _ _

theorem final (c : Dev nD) : (dat0 (V1 m ρ) c).arrAt 6 cfg0.N = mid m c :=
  (dat0 (V1 m ρ) c).arrAt_eq_of_cover 6 (mid m c) (fun t _ => flushed_eq m ρ c t) cover

/-! ## The second pipeline -/

/-- The result: the normalised stream of the merge. -/
abbrev want (c : Dev nD) : Buf (Elt Ideal) ((c : Thread nD τ).loc main_v7) :=
  normed (mid m c) (m ((c : Thread nD τ).loc main_arg5)) (m ((c : Thread nD τ).loc main_arg6))
    (m ((c : Thread nD τ).loc main_arg7)) (m ((c : Thread nD τ).loc main_arg8))

theorem ix_maps1 : ∀ i : grid1.Coords, cc1_transform_0 i = ![(i 0).val * 8 + (i 1).val, 0] ∧ cc1_transform_1 i = ![(i 0).val * 8 + (i 1).val, 0]
    ∧ cc1_transform_2 i = ![0, 0] ∧ cc1_transform_3 i = ![(i 0).val, 0, 0] ∧ cc1_transform_5 i = ![0, 0]
    ∧ cc1_transform_6 i = ![(i 0).val * 8 + (i 1).val, 0] := by decide +kernel

/-- The arrays the second pipeline reads: the merge as the first one left it, and reshaped arguments. -/
theorem V_v2 (c : Dev nD) : V3 m ρ c main_v2 = mid m c :=
  (W3_of m ρ c main_v2 (by decide)).trans ((W2_arr m ρ c 6).trans (final m ρ c))
theorem W_v3 (W : Valuation τ sig (Elt Ideal)) (b : Fin 8) (j : Fin 3) (q : Fin 2048) :
    (StableHlo.after hostOps1 W (Proc.devRef .tc main_v3) : S8x3x2048.Idx → Elt Ideal .f32) (ix3 b j q)
      = (W (Proc.devRef .tc main_arg6) : S8x6144.Idx → Elt Ideal .f32) (ix2 b ⟨j.val * 2048 + q.val, by omega⟩) := by
  simp only [hostOps1, StableHlo.after_cons, StableHlo.after_nil]
  refine shapeCast_apply _ _ _ (ix2 b (⟨j.val * 2048 + q.val, by omega⟩ : Fin 6144)) ?_
  refine (Shape.rowMajor_val_two _).trans (Eq.trans ?_ (Shape.rowMajor_val_three _).symm)
  show b.val * 6144 + (j.val * 2048 + q.val) = (b.val * 3 + j.val) * 2048 + q.val
  omega
theorem W_v4 (W : Valuation τ sig (Elt Ideal)) (r : Fin 32768) (q : Fin 2048) :
    (StableHlo.after hostOps1 W (Proc.devRef .tc main_v4) : S32768x2048.Idx → Elt Ideal .f32) (ix2 r q)
      = (W (Proc.devRef .tc main_arg5) : S8x4096x2048.Idx → Elt Ideal .f32) (ix3 (bat r) (pos r) q) := by
  simp only [hostOps1, StableHlo.after_cons, StableHlo.after_nil]
  refine shapeCast_apply _ _ _ (ix3 (bat r) (pos r) q) ?_
  refine (Shape.rowMajor_val_three _).trans (Eq.trans ?_ (Shape.rowMajor_val_two _).symm)
  show (r.val / 4096 * 4096 + r.val % 4096) * 2048 + q.val = r.val * 2048 + q.val
  omega
theorem W_v5 (W : Valuation τ sig (Elt Ideal)) :
    (StableHlo.after hostOps1 W (Proc.devRef .tc main_v5) : S2048x2048.Idx → EReal) = (W (Proc.devRef .tc main_arg7) : S2048x2048.Idx → EReal) := by
  simp only [hostOps1, StableHlo.after_cons, StableHlo.after_nil]
  rfl
theorem W_v6 (W : Valuation τ sig (Elt Ideal)) (q : Fin 2048) :
    (StableHlo.after hostOps1 W (Proc.devRef .tc main_v6) : S1x2048.Idx → Elt Ideal .f32) (ix2 0 q)
      = (W (Proc.devRef .tc main_arg8) : S2048.Idx → Elt Ideal .f32) (ix1 q) := by
  simp only [hostOps1, StableHlo.after_cons, StableHlo.after_nil]
  refine (shapeCast_addUnit_apply ![2048] _ _ _).trans (congrArg _ ?_)
  funext a
  fin_cases a
  rfl
theorem V_v3 (c : Dev nD) (b : Fin 8) (j : Fin 3) (q : Fin 2048) : V3 m ρ c main_v3 (ix3 b j q)
    = m ((c : Thread nD τ).loc main_arg6) (ix2 b ⟨j.val * 2048 + q.val, by omega⟩) :=
  (W_v3 (W2 m ρ c) b j q).trans (congrFun (W2_args m ρ c main_arg6 (by decide)) _)
theorem V_v4 (c : Dev nD) (r : Fin 32768) (q : Fin 2048) : V3 m ρ c main_v4 (ix2 r q)
    = m ((c : Thread nD τ).loc main_arg5) (ix3 (bat r) (pos r) q) :=
  (W_v4 (W2 m ρ c) r q).trans (congrFun (W2_args m ρ c main_arg5 (by decide)) _)
theorem V_v5 (c : Dev nD) : V3 m ρ c main_v5 = m ((c : Thread nD τ).loc main_arg7) :=
  (W_v5 (W2 m ρ c)).trans (W2_args m ρ c main_arg7 (by decide))
theorem V_v6 (c : Dev nD) (q : Fin 2048) : V3 m ρ c main_v6 (ix2 0 q) = m ((c : Thread nD τ).loc main_arg8) (ix1 q) :=
  (W_v6 (W2 m ρ c) q).trans (congrFun (W2_args m ρ c main_arg8 (by decide)) _)

/-- The token a row of the block of a point is. -/
def tok (t : Fin cfg1.N) (r : Fin 512) : Fin 32768 :=
  ⟨((grid1.coords t 0).val * 8 + (grid1.coords t 1).val) * 512 + r.val, by
    have h0 : (grid1.coords t 0).val < 8 := (grid1.coords t 0).isLt
    have h1 : (grid1.coords t 1).val < 8 := (grid1.coords t 1).isLt
    omega⟩

theorem bat_tok (t : Fin cfg1.N) (r : Fin 512) : bat (tok t r) = grid1.coords t 0 := by
  apply Fin.ext
  have h1 : (grid1.coords t 1).val < 8 := (grid1.coords t 1).isLt
  show (((grid1.coords t 0).val * 8 + (grid1.coords t 1).val) * 512 + r.val) / 4096 = (grid1.coords t 0).val
  omega

/-- The blocks fetched at a point. -/
theorem blk1_0 (c : Dev nD) (t : Fin cfg1.N) (r : Fin 512) (q : Fin 2048) :
    iblk1 (V3 m ρ) c 0 t (ix2 r q : S512x2048.Idx) = mid m c (ix2 (tok t r) q) := by
  show V3 m ρ c main_v2 (((cfg1.win 0).blk t).view.emb (ix2 r q : S512x2048.Idx)) = _
  refine (congrFun (V_v2 m ρ c) _).trans (congrArg _ ?_)
  have e := (ix_maps1 (grid1.coords t)).1
  funext a
  fin_cases a <;> apply Fin.ext
  · show cc1_transform_0 (grid1.coords t) 0 * 512 + 1 * r.val = _
    rw [e, Nat.one_mul]; rfl
  · show cc1_transform_0 (grid1.coords t) 1 * 2048 + 1 * q.val = _
    rw [e, Nat.one_mul]; exact Nat.zero_add _

theorem blk1_1 (c : Dev nD) (t : Fin cfg1.N) (r : Fin 512) (q : Fin 2048) :
    iblk1 (V3 m ρ) c 1 t (ix2 r q : S512x2048.Idx) = m ((c : Thread nD τ).loc main_arg5) (ix3 (bat (tok t r)) (pos (tok t r)) q) := by
  show V3 m ρ c main_v4 (((cfg1.win 1).blk t).view.emb (ix2 r q : S512x2048.Idx)) = _
  refine Eq.trans (congrArg _ ?_) (V_v4 m ρ c (tok t r) q)
  have e := (ix_maps1 (grid1.coords t)).2.1
  funext a
  fin_cases a <;> apply Fin.ext
  · show cc1_transform_1 (grid1.coords t) 0 * 512 + 1 * r.val = _
    rw [e, Nat.one_mul]; rfl
  · show cc1_transform_1 (grid1.coords t) 1 * 2048 + 1 * q.val = _
    rw [e, Nat.one_mul]; exact Nat.zero_add _

theorem blk1_2 (c : Dev nD) (t : Fin cfg1.N) (r : Fin 2048) (q : Fin 2048) :
    iblk1 (V3 m ρ) c 2 t (ix2 r q : S2048x2048.Idx) = m ((c : Thread nD τ).loc main_arg7) (ix2 r q) := by
  show V3 m ρ c main_v5 (((cfg1.win 2).blk t).view.emb (ix2 r q : S2048x2048.Idx)) = _
  refine (congrFun (V_v5 m ρ c) _).trans (congrArg _ ?_)
  have e := (ix_maps1 (grid1.coords t)).2.2.1
  funext a
  fin_cases a <;> apply Fin.ext
  · show cc1_transform_2 (grid1.coords t) 0 * 2048 + 1 * r.val = _
    rw [e, Nat.one_mul]; exact Nat.zero_add _
  · show cc1_transform_2 (grid1.coords t) 1 * 2048 + 1 * q.val = _
    rw [e, Nat.one_mul]; exact Nat.zero_add _

theorem blk1_3 (c : Dev nD) (t : Fin cfg1.N) (r : Fin 512) (q : Fin 2048) :
    iblk1 (V3 m ρ) c 3 t (ix3 0 2 q : S1x3x2048.Idx) = m ((c : Thread nD τ).loc main_arg6) (ix2 (bat (tok t r)) ⟨4096 + q.val, by omega⟩) := by
  show V3 m ρ c main_v3 (((cfg1.win 3).blk t).view.emb (ix3 0 2 q : S1x3x2048.Idx)) = _
  refine Eq.trans (congrArg _ ?_) (V_v3 m ρ c (bat (tok t r)) 2 q)
  rw [bat_tok]
  have e := (ix_maps1 (grid1.coords t)).2.2.2.1
  funext a
  fin_cases a <;> apply Fin.ext
  · show cc1_transform_3 (grid1.coords t) 0 * 1 + 1 * 0 = (grid1.coords t 0).val
    rw [e]; exact Nat.mul_one _
  · show cc1_transform_3 (grid1.coords t) 1 * 3 + 1 * 2 = 2
    rw [e]; rfl
  · show cc1_transform_3 (grid1.coords t) 2 * 2048 + 1 * q.val = _
    rw [e, Nat.one_mul]; exact Nat.zero_add _

theorem blk1_5 (c : Dev nD) (t : Fin cfg1.N) (q : Fin 2048) :
    iblk1 (V3 m ρ) c 5 t (ix2 0 q : S1x2048.Idx) = m ((c : Thread nD τ).loc main_arg8) (ix1 q) := by
  show V3 m ρ c main_v6 (((cfg1.win 5).blk t).view.emb (ix2 0 q : S1x2048.Idx)) = _
  refine Eq.trans (congrArg _ ?_) (V_v6 m ρ c q)
  have e := (ix_maps1 (grid1.coords t)).2.2.2.2.1
  funext a
  fin_cases a <;> apply Fin.ext
  · show cc1_transform_5 (grid1.coords t) 0 * 1 + 1 * 0 = _
    rw [e]; rfl
  · show cc1_transform_5 (grid1.coords t) 1 * 2048 + 1 * q.val = _
    rw [e, Nat.one_mul]; exact Nat.zero_add _

/-- A row and column of the block written back at a point, in the result. -/
theorem emb_out1 (t : Fin cfg1.N) (r : Fin 512) (q : Fin 2048) :
    ((cfg1.win 6).blk t).view.emb (ix2 r q : S512x2048.Idx) = (ix2 (tok t r) q : S32768x2048.Idx) := by
  have e := (ix_maps1 (grid1.coords t)).2.2.2.2.2
  funext a
  fin_cases a <;> apply Fin.ext
  · show cc1_transform_6 (grid1.coords t) 0 * 512 + 1 * r.val = _
    rw [e, Nat.one_mul]; rfl
  · show cc1_transform_6 (grid1.coords t) 1 * 2048 + 1 * q.val = _
    rw [e, Nat.one_mul]; exact Nat.zero_add _

theorem block_eq1 (c : Dev nD) (t : Fin cfg1.N) (r : Fin 512) (q : Fin 2048) :
    out1_6 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (ix2 r q)
      = want m c (((cfg1.win 6).blk t).view.emb (ix2 r q : S512x2048.Idx)) := by
  rw [emb_out1 t r q]
  refine (norm_apply _ _ _ _ _ _ r q).trans ?_
  refine congrArg₂ (fun f w => rms f w q) (funext fun k => ?_) (blk1_5 m ρ c t q)
  exact congrArg₂ (· + ·) (blk1_1 m ρ c t r k) (congrArg₂ (· * ·) (blk1_3 m ρ c t r k)
    (Finset.sum_congr rfl fun l _ => congrArg₂ (· * ·) (blk1_0 m ρ c t r l) (blk1_2 m ρ c t l k)))

/-- What a point writes back is its block of the result. -/
theorem flushed_eq1 (c : Dev nD) (t : Fin cfg1.N) :
    (dat1 (V3 m ρ) c).flushed 6 t = ((cfg1.win 6).blk t).view.read (Elt Ideal) (want m c) := by
  show (cfg1.win 6).cut (grid1.coords t) ((dat1 (V3 m ρ) c).after 6 t) = _
  rw [after1_6]
  refine funext fun (y : S512x2048.Idx) => ?_
  obtain ⟨r, q, rfl⟩ : ∃ (r : Fin 512) (q : Fin 2048), y = ix2 r q := ⟨y 0, y 1, eq_ix2 y⟩
  exact block_eq1 m ρ c t r q

theorem coords_at1 : ∀ a : Fin 8, ∀ b : Fin 8, ∃ t : Fin grid1.N, (grid1.coords t 0).val = a.val
      ∧ (grid1.coords t 1).val = b.val := by decide +kernel

/-- The blocks cover the result. -/
theorem cover1 (i : S32768x2048.Idx) : ∃ t : Fin cfg1.N, (cfg1.win 6).flush t = true ∧ i ∈ ((cfg1.win 6).blk t).view.set := by
  obtain ⟨r, q, rfl⟩ : ∃ (r : Fin 32768) (q : Fin 2048), i = ix2 r q := ⟨i 0, i 1, eq_ix2 i⟩
  obtain ⟨t, k0, k1⟩ := coords_at1 ⟨r.val / 4096, by omega⟩ ⟨r.val / 512 % 8, by omega⟩
  refine ⟨t, flush1_6 t, ?_⟩
  change _ = r.val / 4096 at k0
  change _ = r.val / 512 % 8 at k1
  have e : tok t ⟨r.val % 512, by omega⟩ = r := by
    apply Fin.ext
    show ((grid1.coords t 0).val * 8 + (grid1.coords t 1).val) * 512 + r.val % 512 = r.val
    omega
  have e' : (ix2 r q : S32768x2048.Idx) = ((cfg1.win 6).blk t).view.emb (ix2 ⟨r.val % 512, by omega⟩ q : S512x2048.Idx) := by
    rw [emb_out1, e]
  rw [e']
  exact View.emb_mem_set _ _

theorem final1 (c : Dev nD) : (dat1 (V3 m ρ) c).arrAt 6 cfg1.N = want m c :=
  (dat1 (V3 m ρ) c).arrAt_eq_of_cover 6 (want m c) (fun t _ => flushed_eq1 m ρ c t) cover1

/-! ## The run -/

section Launch

open Idealize.SL Idealize.SL.RA Idealize.SL.BI
open scoped Idealize.SL.BI
open Idealize.SL.BI.BIBase Idealize.SL.BI.Laws Idealize.SL.ProofMode
open Idealize.ShloMosaic.Rounds

set_option backward.isDefEq.respectTransparency.types false in
/-- Every weakly fair execution ends with each unscoped array at what the last segment leaves in it. -/
theorem run_all : θ_run defs (onTc (τ := τ) (main (F := Ideal))) ⟨m, fun _ => 0, ρ⟩ fun r => ∀ c : Dev nD,
      ∀ b ∈ Pipeline.ucRefs τ sig, r.2.mem ((c : Thread nD τ).1, b) = W4 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => h c)

end Launch

/-- The run, read: the normalised stream of the merge, the arguments unchanged. -/
theorem run : θ_run defs (onTc (τ := τ) (main (F := Ideal))) ⟨m, fun _ => 0, ρ⟩ fun r => ∀ c : Dev nD,
      r.2.mem ((c : Thread nD τ).loc main_v7) = want m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c _ (mem_uc main_v7 (by decide))).trans ((W4_arr m ρ c 6).trans (final1 m ρ c)),
      (h c _ (mem_uc main_arg0 (by decide))).trans (W4_main_arg0 m ρ c),
      (h c _ (mem_uc main_arg1 (by decide))).trans (W4_main_arg1 m ρ c),
      (h c _ (mem_uc main_arg2 (by decide))).trans (W4_main_arg2 m ρ c),
      (h c _ (mem_uc main_arg3 (by decide))).trans (W4_main_arg3 m ρ c),
      (h c _ (mem_uc main_arg4 (by decide))).trans (W4_main_arg4 m ρ c),
      (h c _ (mem_uc main_arg5 (by decide))).trans (W4_main_arg5 m ρ c),
      (h c _ (mem_uc main_arg6 (by decide))).trans (W4_main_arg6 m ρ c),
      (h c _ (mem_uc main_arg7 (by decide))).trans (W4_main_arg7 m ρ c),
      (h c _ (mem_uc main_arg8 (by decide))).trans (W4_main_arg8 m ρ c)⟩) (run_all m ρ)

end Cert.Kernel12Ideal.RefValue

namespace Cert.Reference12Ideal.RefValue

open Cert.Reference12Ideal Cert.Reference12Ideal.Gen Cert.Reference12Ideal.Value
open Cert.Kernel3Ideal.RefValue (merged)
open Cert.Kernel4Ideal.RefValue (rms bat pos stream normed)

variable (m : (ℓ : Loc nD τ sig) → Buf (Elt Ideal) ℓ) (ρ : Dev nD → PrngReg)

/-- The reference's result: the host's last projection of the host's merge. -/
theorem res_eq (c : Dev nD) : res_main_v45 (F := Ideal) m c
    = normed (merged (m ((c : Thread nD τ).loc main_arg0)) (m ((c : Thread nD τ).loc main_arg1)) (m ((c : Thread nD τ).loc main_arg2)) (m ((c : Thread nD τ).loc main_arg3)) (m ((c : Thread nD τ).loc main_arg4)))
      (m ((c : Thread nD τ).loc main_arg5)) (m ((c : Thread nD τ).loc main_arg6)) (m ((c : Thread nD τ).loc main_arg7)) (m ((c : Thread nD τ).loc main_arg8)) := by
  unfold res_main_v45
  refine funext fun (i : S32768x2048.Idx) => ?_
  obtain ⟨r, q, rfl⟩ : ∃ (r : Fin 32768) (q : Fin 2048), i = ix2 r q := ⟨i 0, i 1, eq_ix2 i⟩
  refine (shapeCast_apply _ _ _ (ix3 (bat r) (pos r) q) ?_).trans ?_
  · refine (Shape.rowMajor_val_three _).trans (Eq.trans ?_ (Shape.rowMajor_val_two _).symm)
    show (r.val / 4096 * 4096 + r.val % 4096) * 2048 + q.val = r.val * 2048 + q.val
    omega
  refine (Cert.Reference4Ideal.RefValue.norm_apply _ _ _ _ _ _ _ _ _ _ _ _).trans ?_
  refine congrArg (fun f => rms f _ q) (funext fun k => ?_)
  refine (Cert.Reference4Ideal.RefValue.stream_apply _ _ _ _ _ _ _ _ _ r k).trans ?_
  exact congrArg (fun y => stream y _ _ _ r k) (Cert.Reference3Ideal.RefValue.ref_eq _ _ _ _ _ _ _ _ _)

theorem run : θ_run defs (onTc (τ := τ) (main (F := Ideal))) ⟨m, fun _ => 0, ρ⟩ fun r => ∀ c : Dev nD,
      r.2.mem ((c : Thread nD τ).loc main_v45) = normed (merged (m ((c : Thread nD τ).loc main_arg0)) (m ((c : Thread nD τ).loc main_arg1)) (m ((c : Thread nD τ).loc main_arg2)) (m ((c : Thread nD τ).loc main_arg3)) (m ((c : Thread nD τ).loc main_arg4)))
        (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (res_eq m c), (h c).2⟩) (Cert.Reference12Ideal.Value.run m ρ)

end Cert.Reference12Ideal.RefValue

namespace Cert.Tail

theorem defs_eq {F : FTy → Type} [FloatOps F] : Cert.Kernel12.defs (F := F) = Cert.Kernel12Ideal.defs := by sl_kernel_rfl
theorem main_eq {F : FTy → Type} [FloatOps F] : Cert.Kernel12.main (F := F) = Cert.Kernel12Ideal.main := by sl_kernel_rfl

theorem frame_kernel : Cert.quiescent_Kernel12 := fun m ρ _ => by
  rw [defs_eq, main_eq]
  exact Cert.Kernel12Ideal.Gen.frame (F := Bits) m ρ

theorem frame_kernelIdeal : Cert.quiescent_Kernel12Ideal := fun m ρ _ => Cert.Kernel12Ideal.Gen.frame (F := Ideal) m ρ

theorem frame_referenceIdeal : Cert.quiescent_Reference12Ideal := fun m ρ _ =>
  (θ_run Cert.Reference12Ideal.defs _ _).mono (fun r h => ⟨fun c => (h c).2, sem_eq_zero_of_no_sems (by decide) r.2⟩)
    (Cert.Reference12Ideal.RefValue.run m ρ)

theorem algebraic : Cert.algebraic_Kernel12Ideal_Reference12Ideal := fun m ρ m' ρ' _ hm =>
  ⟨fun c => Cert.Kernel12Ideal.RefValue.want m c, Cert.Kernel12Ideal.RefValue.run m ρ,
    (θ_run Cert.Reference12Ideal.defs _ _).mono (fun _ h c => ⟨(h c).1.trans (by
        obtain ⟨e0, e1, e2, e3, e4, e5, e6, e7, e8⟩ := hm c
        rw [e0, e1, e2, e3, e4, e5, e6, e7, e8]), (h c).2⟩)
      (Cert.Reference12Ideal.RefValue.run m' ρ')⟩

end Cert.Tail

end
-- ==== Proof.Front.lean ====
/-
  The first layer's entry, its norm and its input projection as one program: the second pipeline reads the array the
  first one wrote. Each pipeline's blocks cover its result, a function of the arrays it was entered with; at its entry
  the second finds the normalised and modulated input, so that the program's result is that array's product with the
  first layer's kept columns. The reference is the one host function after the other.
-/
module

public import proofs.«01_k».proof.Defs
public import proofs.«01_k».proof.Proof.Gen.Kernel13
public import proofs.«01_k».proof.Proof.Gen.Kernel13Ideal.Frame
public import proofs.«01_k».proof.Proof.Gen.Reference13Ideal.Run
public import proofs.«01_k».proof.Proof.Norm
public import proofs.«01_k».proof.Proof.InProj
public import Idealize.ShloMosaic.Lib.Pipeline.Value
public import Idealize.ShloMosaic.Lib.ValueIdxCore
public import proofs.«01_k».proof.Proof.Dense
public import Idealize.ShloMosaic.Lib.StableHlo
public import Idealize.ShloMosaic.Lib.Quiescent
public import Idealize.ShloMosaic.PureOps.BitExact

@[expose] public section

set_option maxRecDepth 16384

noncomputable section

open Idealize.ShloMosaic Idealize.ShloMosaic.TcCoe Idealize.SL.Sem
open Idealize.ShloMosaic.Pipeline (Dat)
open Idealize.ShloMosaic.ValueIdx
open scoped BigOperators
open Cert.Dense

namespace Cert.Kernel13Ideal.RefValue

open Cert.Kernel13Ideal Cert.Kernel13Ideal.Gen
open Cert.Kernel4Ideal.RefValue (rms bat pos)
open Cert.Kernel6Ideal.RefValue (modul mrow_apply)
open Cert.Kernel7Ideal.RefValue (modulated row_apply)
open Cert.Kernel2Ideal.RefValue (prod)

/-- The first body's block, at a row and a column. -/
theorem entry_apply (x0 : FVec Ideal S1024x2048 .f32) (x1 : FVec Ideal S1x3x2048 .f32) (x2 : FVec Ideal S1x2048 .f32) (r : Fin 1024) (q : Fin 2048) :
    out0_3 (F := Ideal) x0 x1 x2 (ix2 r q)
      = modul (fun k => x0 (ix2 r k)) (x2 (ix2 0 q)) (x1 (ix3 0 1 q)) (x1 (ix3 0 0 q)) q := by
  unfold out0_3
  rw [View.canon_unit_zero hz2]
  iterate 2 rw [View.ld_unit_zero hz2]
  rw [View.ld_unit_zero hz3]
  unfold k0_pay1
  simp only [shapeCast_self]
  refine congrArg₂ (fun a b : EReal => a + b) (congrArg₂ (fun a b : EReal => a * b) ?_ ?_) ?_
  · exact Cert.Kernel7Ideal.RefValue.norm_apply x0 x2 _ _ _ _ _ _ r q
  · exact (row_apply _ _ r q).trans (congrArg (Ideal.ofBits .f32 0x3F800000#32 + ·) (mrow_apply x1 _ 1 _ q))
  · exact (row_apply _ _ r q).trans (mrow_apply x1 _ 0 _ q)

/-- The second body's one tile, at an index: a row of the token block times a column of the panel. -/
theorem prod_apply (x : FVec Ideal S1024x2048 .bf16) (w : FVec Ideal S1x2048x2048 .bf16) (y : S1024x2048.Idx) :
    out1_2 (F := Ideal) x w y = ∑ k : Fin 2048, x (ix2 (y 0) k) * w (ix3 0 k (y 1)) := by
  unfold out1_2
  rw [View.canon_unit_zero hz2, View.ld_unit_zero hz2, View.ld_unit_zero hz3]
  rw [eq_ix2 y]
  unfold k1_pay1
  simp only [shapeCast_self]
  refine (mm_apply (M := 1024) (K := 2048) (N := 2048) none x _ (y 0) (y 1)).trans ?_
  refine Finset.sum_congr rfl fun k _ => congrArg (x (ix2 (y 0) k) * ·) ?_
  refine (shapeCast_dropUnit_apply ![2048, 2048] _ _ _).trans ?_
  refine congrArg w ?_
  funext a
  fin_cases a <;> rfl

variable (m : (ℓ : Loc nD τ sig) → Buf (Elt Ideal) ℓ) (ρ : Dev nD → PrngReg)

/-! ## The first pipeline -/

/-- What the first pipeline leaves: the modulated norm of the first three arguments. -/
abbrev mid (c : Dev nD) : Buf (Elt Ideal) ((c : Thread nD τ).loc main_v3) :=
  modulated (m ((c : Thread nD τ).loc main_arg0)) (m ((c : Thread nD τ).loc main_arg1)) (m ((c : Thread nD τ).loc main_arg2))

theorem ix_maps : ∀ i : grid0.Coords, cc0_transform_0 i = ![(i 0).val * 4 + (i 1).val, 0] ∧ cc0_transform_1 i = ![(i 0).val, 0, 0]
    ∧ cc0_transform_2 i = ![0, 0] ∧ cc0_transform_3 i = ![(i 0).val * 4 + (i 1).val, 0] := by decide +kernel

/-- The arrays the pipeline reads, as reshaped arguments. -/
theorem V_v0 (c : Dev nD) (r : Fin 32768) (q : Fin 2048) : V1 m ρ c main_v0 (ix2 r q)
    = m ((c : Thread nD τ).loc main_arg0) (ix3 (bat r) (pos r) q) := by
  simp only [V1, W1, hostOps0, StableHlo.after_cons, StableHlo.after_nil]
  refine shapeCast_apply _ _ _ (ix3 (bat r) (pos r) q) ?_
  refine (Shape.rowMajor_val_three _).trans (Eq.trans ?_ (Shape.rowMajor_val_two _).symm)
  show (r.val / 4096 * 4096 + r.val % 4096) * 2048 + q.val = r.val * 2048 + q.val
  omega
theorem V_v1 (c : Dev nD) (b : Fin 8) (j : Fin 3) (q : Fin 2048) : V1 m ρ c main_v1 (ix3 b j q)
    = m ((c : Thread nD τ).loc main_arg1) (ix2 b ⟨j.val * 2048 + q.val, by omega⟩) := by
  simp only [V1, W1, hostOps0, StableHlo.after_cons, StableHlo.after_nil]
  refine shapeCast_apply _ _ _ (ix2 b (⟨j.val * 2048 + q.val, by omega⟩ : Fin 6144)) ?_
  refine (Shape.rowMajor_val_two _).trans (Eq.trans ?_ (Shape.rowMajor_val_three _).symm)
  show b.val * 6144 + (j.val * 2048 + q.val) = (b.val * 3 + j.val) * 2048 + q.val
  omega
theorem V_v2 (c : Dev nD) (q : Fin 2048) : V1 m ρ c main_v2 (ix2 0 q) = m ((c : Thread nD τ).loc main_arg2) (ix1 q) := by
  simp only [V1, W1, hostOps0, StableHlo.after_cons, StableHlo.after_nil]
  refine (shapeCast_addUnit_apply ![2048] _ _ _).trans (congrArg _ ?_)
  funext a
  fin_cases a
  rfl

/-- The token a row of the block of a point is. -/
def tok (t : Fin cfg0.N) (r : Fin 1024) : Fin 32768 :=
  ⟨((grid0.coords t 0).val * 4 + (grid0.coords t 1).val) * 1024 + r.val, by
    have h0 : (grid0.coords t 0).val < 8 := (grid0.coords t 0).isLt
    have h1 : (grid0.coords t 1).val < 4 := (grid0.coords t 1).isLt
    omega⟩
theorem bat_tok (t : Fin cfg0.N) (r : Fin 1024) : bat (tok t r) = grid0.coords t 0 := by
  apply Fin.ext
  have h1 : (grid0.coords t 1).val < 4 := (grid0.coords t 1).isLt
  show (((grid0.coords t 0).val * 4 + (grid0.coords t 1).val) * 1024 + r.val) / 4096 = (grid0.coords t 0).val
  omega

/-- The blocks fetched at a point. -/
theorem blk0 (c : Dev nD) (t : Fin cfg0.N) (r : Fin 1024) (q : Fin 2048) :
    iblk0 (V1 m ρ) c 0 t (ix2 r q : S1024x2048.Idx) = m ((c : Thread nD τ).loc main_arg0) (ix3 (bat (tok t r)) (pos (tok t r)) q) := by
  show V1 m ρ c main_v0 (((cfg0.win 0).blk t).view.emb (ix2 r q : S1024x2048.Idx)) = _
  refine Eq.trans (congrArg _ ?_) (V_v0 m ρ c (tok t r) q)
  have e := (ix_maps (grid0.coords t)).1
  funext a
  fin_cases a <;> apply Fin.ext
  · show cc0_transform_0 (grid0.coords t) 0 * 1024 + 1 * r.val = _
    rw [e, Nat.one_mul]; rfl
  · show cc0_transform_0 (grid0.coords t) 1 * 2048 + 1 * q.val = _
    rw [e, Nat.one_mul]; exact Nat.zero_add _

theorem blk1 (c : Dev nD) (t : Fin cfg0.N) (r : Fin 1024) (j : Fin 3) (q : Fin 2048) :
    iblk0 (V1 m ρ) c 1 t (ix3 0 j q : S1x3x2048.Idx) = m ((c : Thread nD τ).loc main_arg1) (ix2 (bat (tok t r)) ⟨j.val * 2048 + q.val, by omega⟩) := by
  show V1 m ρ c main_v1 (((cfg0.win 1).blk t).view.emb (ix3 0 j q : S1x3x2048.Idx)) = _
  refine Eq.trans (congrArg _ ?_) (V_v1 m ρ c (bat (tok t r)) j q)
  rw [bat_tok]
  have e := (ix_maps (grid0.coords t)).2.1
  funext a
  fin_cases a <;> apply Fin.ext
  · show cc0_transform_1 (grid0.coords t) 0 * 1 + 1 * 0 = (grid0.coords t 0).val
    rw [e]; exact Nat.mul_one _
  · show cc0_transform_1 (grid0.coords t) 1 * 3 + 1 * j.val = _
    rw [e, Nat.one_mul]; exact Nat.zero_add _
  · show cc0_transform_1 (grid0.coords t) 2 * 2048 + 1 * q.val = _
    rw [e, Nat.one_mul]; exact Nat.zero_add _

theorem blk2 (c : Dev nD) (t : Fin cfg0.N) (q : Fin 2048) :
    iblk0 (V1 m ρ) c 2 t (ix2 0 q : S1x2048.Idx) = m ((c : Thread nD τ).loc main_arg2) (ix1 q) := by
  show V1 m ρ c main_v2 (((cfg0.win 2).blk t).view.emb (ix2 0 q : S1x2048.Idx)) = _
  refine Eq.trans (congrArg _ ?_) (V_v2 m ρ c q)
  have e := (ix_maps (grid0.coords t)).2.2.1
  funext a
  fin_cases a <;> apply Fin.ext
  · show cc0_transform_2 (grid0.coords t) 0 * 1 + 1 * 0 = _
    rw [e]; rfl
  · show cc0_transform_2 (grid0.coords t) 1 * 2048 + 1 * q.val = _
    rw [e, Nat.one_mul]; exact Nat.zero_add _

/-- A row and column of the block written back at a point, in the result. -/
theorem emb_out (t : Fin cfg0.N) (r : Fin 1024) (q : Fin 2048) :
    ((cfg0.win 3).blk t).view.emb (ix2 r q : S1024x2048.Idx) = (ix2 (tok t r) q : S32768x2048.Idx) := by
  have e := (ix_maps (grid0.coords t)).2.2.2
  funext a
  fin_cases a <;> apply Fin.ext
  · show cc0_transform_3 (grid0.coords t) 0 * 1024 + 1 * r.val = _
    rw [e, Nat.one_mul]; rfl
  · show cc0_transform_3 (grid0.coords t) 1 * 2048 + 1 * q.val = _
    rw [e, Nat.one_mul]; exact Nat.zero_add _

theorem block_eq (c : Dev nD) (t : Fin cfg0.N) (r : Fin 1024) (q : Fin 2048) :
    out0_3 (iblk0 (V1 m ρ) c 0 t) (iblk0 (V1 m ρ) c 1 t) (iblk0 (V1 m ρ) c 2 t) (ix2 r q)
      = mid m c (((cfg0.win 3).blk t).view.emb (ix2 r q : S1024x2048.Idx)) := by
  rw [emb_out t r q]
  refine (entry_apply _ _ _ r q).trans ?_
  have e0 : iblk0 (V1 m ρ) c 1 t (ix3 0 0 q : S1x3x2048.Idx) = m ((c : Thread nD τ).loc main_arg1) (ix2 (bat (tok t r)) (⟨q.val, by omega⟩ : Fin 6144)) :=
    (blk1 m ρ c t r 0 q).trans (congrArg (fun z : Fin 6144 => m ((c : Thread nD τ).loc main_arg1) (ix2 (bat (tok t r)) z)) (Fin.ext (Nat.zero_add q.val)))
  show rms _ _ q * (_ + _) + _ = rms _ _ q * (_ + _) + _
  refine congrArg₂ (· + ·) (congrArg₂ (· * ·) ?_ ?_) e0
  · exact congrArg₂ (fun f w => rms f w q) (funext fun k => blk0 m ρ c t r k) (blk2 m ρ c t q)
  · exact congrArg (Ideal.ofBits .f32 0x3F800000#32 + ·) (blk1 m ρ c t r 1 q)

/-- What a point writes back is its block of the result. -/
theorem flushed_eq (c : Dev nD) (t : Fin cfg0.N) :
    (dat0 (V1 m ρ) c).flushed 3 t = ((cfg0.win 3).blk t).view.read (Elt Ideal) (mid m c) := by
  show (cfg0.win 3).cut (grid0.coords t) ((dat0 (V1 m ρ) c).after 3 t) = _
  rw [after0_3]
  refine funext fun (y : S1024x2048.Idx) => ?_
  obtain ⟨r, q, rfl⟩ : ∃ (r : Fin 1024) (q : Fin 2048), y = ix2 r q := ⟨y 0, y 1, eq_ix2 y⟩
  exact block_eq m ρ c t r q

theorem coords_at : ∀ a : Fin 8, ∀ b : Fin 4, ∃ t : Fin grid0.N, (grid0.coords t 0).val = a.val
      ∧ (grid0.coords t 1).val = b.val := by decide +kernel

/-- The blocks cover the result. -/
theorem cover (i : S32768x2048.Idx) : ∃ t : Fin cfg0.N, (cfg0.win 3).flush t = true ∧ i ∈ ((cfg0.win 3).blk t).view.set := by
  obtain ⟨r, q, rfl⟩ : ∃ (r : Fin 32768) (q : Fin 2048), i = ix2 r q := ⟨i 0, i 1, eq_ix2 i⟩
  obtain ⟨t, k0, k1⟩ := coords_at ⟨r.val / 4096, by omega⟩ ⟨r.val / 1024 % 4, by omega⟩
  refine ⟨t, flush0_3 t, ?_⟩
  change _ = r.val / 4096 at k0
  change _ = r.val / 1024 % 4 at k1
  have e : tok t ⟨r.val % 1024, by omega⟩ = r := by
    apply Fin.ext
    show ((grid0.coords t 0).val * 4 + (grid0.coords t 1).val) * 1024 + r.val % 1024 = r.val
    omega
  have e' : (ix2 r q : S32768x2048.Idx) = ((cfg0.win 3).blk t).view.emb (ix2 ⟨r.val % 1024, by omega⟩ q : S1024x2048.Idx) := by
    rw [emb_out, e]
  rw [e']
  exact View.emb_mem_set _ _

theorem final (c : Dev nD) : (dat0 (V1 m ρ) c).arrAt 3 cfg0.N = mid m c :=
  (dat0 (V1 m ρ) c).arrAt_eq_of_cover 3 (mid m c) (fun t _ => flushed_eq m ρ c t) cover

/-! ## The second pipeline -/

/-- The result: the product of that array with the first layer's kept columns. -/
abbrev want (c : Dev nD) : Buf (Elt Ideal) ((c : Thread nD τ).loc main_v4) :=
  prod (mid m c) (m ((c : Thread nD τ).loc main_arg3))

/-- The arrays the second pipeline reads: the modulated norm as the first one left it, and an argument. -/
theorem V_h (c : Dev nD) : V2 m ρ c main_v3 = mid m c := (W2_arr m ρ c 3).trans (final m ρ c)
theorem V_w (c : Dev nD) : V2 m ρ c main_arg3 = m ((c : Thread nD τ).loc main_arg3) := W2_args m ρ c main_arg3 (by decide)

theorem ix_maps1 : ∀ i : grid1.Coords, cc1_transform_0 i = ![(i 1).val, 0] ∧ cc1_transform_1 i = ![0, 0, (i 0).val]
    ∧ cc1_transform_2 i = ![(i 1).val, (i 0).val] := by decide +kernel

/-- The token block fetched at a point. -/
theorem blk_h (c : Dev nD) (t : Fin cfg1.N) (x : S1024x2048.Idx) (h : (grid1.coords t 1).val * 1024 + (x 0).val < 32768) :
    iblk1 (V2 m ρ) c 0 t x = mid m c (ix2 ⟨(grid1.coords t 1).val * 1024 + (x 0).val, h⟩ (x 1)) := by
  show V2 m ρ c main_v3 (((cfg1.win 0).blk t).view.emb x) = _
  refine Eq.trans (congrArg _ ?_) (congrFun (V_h m ρ c) _)
  have e := (ix_maps1 (grid1.coords t)).1
  funext a
  fin_cases a <;> apply Fin.ext
  · show cc1_transform_0 (grid1.coords t) 0 * 1024 + 1 * (x 0).val = _
    rw [e, Nat.one_mul]; rfl
  · show cc1_transform_0 (grid1.coords t) 1 * 2048 + 1 * (x 1).val = _
    rw [e, Nat.one_mul]; exact Nat.zero_add _

/-- The column panel fetched at a point. -/
theorem blk_w (c : Dev nD) (t : Fin cfg1.N) (x : S1x2048x2048.Idx) (h : (grid1.coords t 0).val * 2048 + (x 2).val < 16384) :
    iblk1 (V2 m ρ) c 1 t x = m ((c : Thread nD τ).loc main_arg3) (ix3 0 (x 1) ⟨(grid1.coords t 0).val * 2048 + (x 2).val, h⟩) := by
  show V2 m ρ c main_arg3 (((cfg1.win 1).blk t).view.emb x) = _
  refine Eq.trans (congrArg _ ?_) (congrFun (V_w m ρ c) _)
  have e := (ix_maps1 (grid1.coords t)).2.1
  have h0 : (x 0).val = 0 := by have := (x 0).isLt; change _ < 1 at this; omega
  funext a
  fin_cases a <;> apply Fin.ext
  · show cc1_transform_1 (grid1.coords t) 0 * 1 + 1 * (x 0).val = _
    rw [e, h0]; rfl
  · show cc1_transform_1 (grid1.coords t) 1 * 2048 + 1 * (x 1).val = _
    rw [e, Nat.one_mul]; exact Nat.zero_add _
  · show cc1_transform_1 (grid1.coords t) 2 * 2048 + 1 * (x 2).val = _
    rw [e, Nat.one_mul]; rfl

/-- Element `y` of the tile written back at a point is this element of the result. -/
theorem emb_out1 (t : Fin cfg1.N) (y : S1024x2048.Idx) (h : (grid1.coords t 1).val * 1024 + (y 0).val < 32768)
    (h' : (grid1.coords t 0).val * 2048 + (y 1).val < 16384) :
    ((cfg1.win 2).blk t).view.emb y = (ix2 ⟨(grid1.coords t 1).val * 1024 + (y 0).val, h⟩ ⟨(grid1.coords t 0).val * 2048 + (y 1).val, h'⟩ : S32768x16384.Idx) := by
  have e := (ix_maps1 (grid1.coords t)).2.2
  funext a
  fin_cases a <;> apply Fin.ext
  · show cc1_transform_2 (grid1.coords t) 0 * 1024 + 1 * (y 0).val = _
    rw [e, Nat.one_mul]; rfl
  · show cc1_transform_2 (grid1.coords t) 1 * 2048 + 1 * (y 1).val = _
    rw [e, Nat.one_mul]; rfl

theorem tile_eq1 (c : Dev nD) (t : Fin cfg1.N) (y : S1024x2048.Idx) :
    out1_2 (iblk1 (V2 m ρ) c 0 t) (iblk1 (V2 m ρ) c 1 t) y = want m c (((cfg1.win 2).blk t).view.emb y) := by
  have h0 : (grid1.coords t 0).val < 8 := (grid1.coords t 0).isLt
  have h1 : (grid1.coords t 1).val < 32 := (grid1.coords t 1).isLt
  have hy0 : (y 0).val < 1024 := (y 0).isLt
  have hy1 : (y 1).val < 2048 := (y 1).isLt
  rw [emb_out1 t y (by omega) (by omega)]
  refine (prod_apply _ _ y).trans ?_
  refine Finset.sum_congr rfl fun k _ => ?_
  exact congrArg₂ (· * ·) (blk_h m ρ c t (ix2 (y 0) k) (by show (grid1.coords t 1).val * 1024 + (y 0).val < 32768; omega))
    (blk_w m ρ c t (ix3 0 k (y 1)) (by show (grid1.coords t 0).val * 2048 + (y 1).val < 16384; omega))

/-- What a point writes back is its tile of the product. -/
theorem flushed_eq1 (c : Dev nD) (t : Fin cfg1.N) :
    (dat1 (V2 m ρ) c).flushed 2 t = ((cfg1.win 2).blk t).view.read (Elt Ideal) (want m c) := by
  show (cfg1.win 2).cut (grid1.coords t) ((dat1 (V2 m ρ) c).after 2 t) = _
  rw [after1_2]
  refine funext fun (y : S1024x2048.Idx) => ?_
  exact tile_eq1 m ρ c t y

theorem coords_at1 : ∀ a : Fin 8, ∀ b : Fin 32, ∃ t : Fin grid1.N, (grid1.coords t 0).val = a.val
      ∧ (grid1.coords t 1).val = b.val := by decide +kernel

/-- The tiles cover1 the result. -/
theorem cover1 (i : S32768x16384.Idx) : ∃ t : Fin cfg1.N, (cfg1.win 2).flush t = true ∧ i ∈ ((cfg1.win 2).blk t).view.set := by
  have h0 : (i 0).val < 32768 := (i 0).isLt
  have h1 : (i 1).val < 16384 := (i 1).isLt
  obtain ⟨t, k0, k1⟩ := coords_at1 ⟨(i 1).val / 2048, by omega⟩ ⟨(i 0).val / 1024, by omega⟩
  refine ⟨t, flush1_2 t, ?_⟩
  change _ = (i 1).val / 2048 at k0
  change _ = (i 0).val / 1024 at k1
  have e := emb_out1 t (ix2 ⟨(i 0).val % 1024, by omega⟩ ⟨(i 1).val % 2048, by omega⟩)
    (by show (grid1.coords t 1).val * 1024 + (i 0).val % 1024 < 32768; omega)
    (by show (grid1.coords t 0).val * 2048 + (i 1).val % 2048 < 16384; omega)
  have e' : i = (((cfg1.win 2).blk t).view.emb (ix2 ⟨(i 0).val % 1024, by omega⟩ ⟨(i 1).val % 2048, by omega⟩ : S1024x2048.Idx) : S32768x16384.Idx) := by
    refine Eq.trans ?_ e.symm
    funext a
    fin_cases a <;> apply Fin.ext
    · show (i 0).val = (grid1.coords t 1).val * 1024 + (i 0).val % 1024
      omega
    · show (i 1).val = (grid1.coords t 0).val * 2048 + (i 1).val % 2048
      omega
  rw [e']
  exact View.emb_mem_set _ _

theorem final1 (c : Dev nD) : (dat1 (V2 m ρ) c).arrAt 2 cfg1.N = want m c :=
  (dat1 (V2 m ρ) c).arrAt_eq_of_cover 2 (want m c) (fun t _ => flushed_eq1 m ρ c t) cover1

/-! ## The run -/

section Launch

open Idealize.SL Idealize.SL.RA Idealize.SL.BI
open scoped Idealize.SL.BI
open Idealize.SL.BI.BIBase Idealize.SL.BI.Laws Idealize.SL.ProofMode
open Idealize.ShloMosaic.Rounds

set_option backward.isDefEq.respectTransparency.types false in
/-- Every weakly fair execution ends with each unscoped array at what the last segment leaves in it. -/
theorem run_all : θ_run defs (onTc (τ := τ) (main (F := Ideal))) ⟨m, fun _ => 0, ρ⟩ fun r => ∀ c : Dev nD,
      ∀ b ∈ Pipeline.ucRefs τ sig, r.2.mem ((c : Thread nD τ).1, b) = W3 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => h c)

end Launch

/-- The run, read: the product, the arguments unchanged. -/
theorem run : θ_run defs (onTc (τ := τ) (main (F := Ideal))) ⟨m, fun _ => 0, ρ⟩ fun r => ∀ c : Dev nD,
      r.2.mem ((c : Thread nD τ).loc main_v4) = want m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c _ (mem_uc main_v4 (by decide))).trans ((W3_arr m ρ c 2).trans (final1 m ρ c)),
      (h c _ (mem_uc main_arg0 (by decide))).trans (W3_main_arg0 m ρ c),
      (h c _ (mem_uc main_arg1 (by decide))).trans (W3_main_arg1 m ρ c),
      (h c _ (mem_uc main_arg2 (by decide))).trans (W3_main_arg2 m ρ c),
      (h c _ (mem_uc main_arg3 (by decide))).trans (W3_main_arg3 m ρ c)⟩) (run_all m ρ)

end Cert.Kernel13Ideal.RefValue

namespace Cert.Reference13Ideal.RefValue

open Cert.Reference13Ideal Cert.Reference13Ideal.Gen Cert.Reference13Ideal.Value
open Cert.Kernel7Ideal.RefValue (modulated)
open Cert.Kernel2Ideal.RefValue (prod)
open Cert.Reference6Ideal.RefValue (trunc_apply flat_apply modul_apply)

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c : Thread nD τ).loc main_v30) = prod (modulated (m ((c : Thread nD τ).loc main_arg0)) (m ((c : Thread nD τ).loc main_arg1)) (m ((c : Thread nD τ).loc main_arg2))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans ((Cert.Reference2Ideal.RefValue.ref_eq _ _ _ _ _).trans (congrArg (fun a => prod a _) (by
      refine funext fun (i : S32768x2048.Idx) => ?_
      obtain ⟨r, q, rfl⟩ : ∃ (r : Fin 32768) (q : Fin 2048), i = ix2 r q := ⟨i 0, i 1, eq_ix2 i⟩
      refine (trunc_apply _ _ _).trans ((flat_apply _ _ r q).trans ?_)
      exact modul_apply _ _ _ _ _ _ _ _ _ _ _ _ _ _ _ _ _ q))), (h c).2⟩) (Cert.Reference13Ideal.Value.run m ρ)

end Cert.Reference13Ideal.RefValue

namespace Cert.Front

theorem defs_eq {F : FTy → Type} [FloatOps F] : Cert.Kernel13.defs (F := F) = Cert.Kernel13Ideal.defs := by sl_kernel_rfl
theorem main_eq {F : FTy → Type} [FloatOps F] : Cert.Kernel13.main (F := F) = Cert.Kernel13Ideal.main := by sl_kernel_rfl

theorem frame_kernel : Cert.quiescent_Kernel13 := fun m ρ _ => by
  rw [defs_eq, main_eq]
  exact Cert.Kernel13Ideal.Gen.frame (F := Bits) m ρ

theorem frame_kernelIdeal : Cert.quiescent_Kernel13Ideal := fun m ρ _ => Cert.Kernel13Ideal.Gen.frame (F := Ideal) m ρ

theorem frame_referenceIdeal : Cert.quiescent_Reference13Ideal := fun m ρ _ =>
  (θ_run Cert.Reference13Ideal.defs _ _).mono (fun r h => ⟨fun c => (h c).2, sem_eq_zero_of_no_sems (by decide) r.2⟩)
    (Cert.Reference13Ideal.RefValue.run m ρ)

theorem algebraic : Cert.algebraic_Kernel13Ideal_Reference13Ideal := fun m ρ m' ρ' _ hm =>
  ⟨fun c => Cert.Kernel13Ideal.RefValue.want m c, Cert.Kernel13Ideal.RefValue.run m ρ,
    (θ_run Cert.Reference13Ideal.defs _ _).mono (fun _ h c => ⟨(h c).1.trans (by
        obtain ⟨e0, e1, e2, e3⟩ := hm c
        rw [e0, e1, e2, e3]), (h c).2⟩)
      (Cert.Reference13Ideal.RefValue.run m' ρ')⟩

end Cert.Front

end
-- ==== Proof.Middle.lean ====
/-
  The passage from the first layer to the second as one program: the gated merge, the projection between the layers and
  the second layer's input projection, each pipeline reading what the one before it wrote. Each pipeline's blocks cover
  its results, functions of the arrays it was entered with; read one after the other they give the stream of the merge,
  its normalised and modulated form, and that form's product with the second layer's kept columns. The reference is the
  one host function after the other.
-/
module

public import proofs.«01_k».proof.Defs
public import proofs.«01_k».proof.Proof.Gen.Kernel14
public import proofs.«01_k».proof.Proof.Gen.Kernel14Ideal.Frame
public import proofs.«01_k».proof.Proof.Gen.Reference14Ideal.Run
public import proofs.«01_k».proof.Proof.Merge
public import proofs.«01_k».proof.Proof.OutProj
public import proofs.«01_k».proof.Proof.InProj
public import Idealize.ShloMosaic.Lib.Pipeline.Value
public import Idealize.ShloMosaic.Lib.ValueIdxCore
public import proofs.«01_k».proof.Proof.Dense
public import Idealize.ShloMosaic.Lib.StableHlo
public import Idealize.ShloMosaic.Lib.Quiescent
public import Idealize.ShloMosaic.PureOps.BitExact

@[expose] public section

set_option maxRecDepth 16384

noncomputable section

open Idealize.ShloMosaic Idealize.ShloMosaic.TcCoe Idealize.SL.Sem
open Idealize.ShloMosaic.Pipeline (Dat)
open Idealize.ShloMosaic.ValueIdx
open scoped BigOperators
open Cert.Dense

namespace Cert.Kernel14Ideal.RefValue

open Cert.Kernel14Ideal Cert.Kernel14Ideal.Gen
open Cert.Kernel3Ideal.RefValue (merged)
open Cert.Kernel4Ideal.RefValue (rms bat pos stream sblk row_apply)
open Cert.Kernel6Ideal.RefValue (modul streamed modulated mrow_apply)

/-- A token's row times the second layer's kept columns. -/
def prod (h : FVec Ideal S32768x2048 .bf16) (w : FVec Ideal S2x2048x16384 .bf16) : FVec Ideal S32768x16384 .bf16 :=
  fun i => ∑ k : Fin 2048, h (ix2 (i 0) k) * w (ix3 1 k (i 1))

/-- The first body's one block, at a row and a column: it is the merge's body. -/
theorem merge_apply (x0 x1 x2 x3 : FVec Ideal S512x2048 .bf16) (x4 x5 : FVec Ideal S2048x2048 .bf16) (r : Fin 512) (q : Fin 2048) :
    out0_6 (F := Ideal) x0 x1 x2 x3 x4 x5 (ix2 r q)
      = Ideal.logistic (x2 (ix2 r q)) * (∑ k : Fin 2048, x0 (ix2 r k) * x4 (ix2 k q))
        + Ideal.logistic (x3 (ix2 r q)) * (∑ k : Fin 2048, x1 (ix2 r k) * x5 (ix2 k q)) :=
  Cert.Kernel3Ideal.RefValue.out_apply x0 x1 x2 x3 x4 x5 r q

/-- The second body's block of the stream, at a row and a column. -/
theorem out6_apply (x0 : FVec Ideal S512x2048 .bf16) (x1 : FVec Ideal S512x2048 .f32) (x2 : FVec Ideal S2048x2048 .bf16)
    (x3 x4 : FVec Ideal S1x3x2048 .f32) (x5 : FVec Ideal S1x2048 .f32) (r : Fin 512) (q : Fin 2048) :
    out1_6 (F := Ideal) x0 x1 x2 x3 x4 x5 (ix2 r q) = sblk x0 x1 x2 x3 r q := by
  unfold out1_6
  rw [View.canon_unit_zero hz2]
  iterate 3 rw [View.ld_unit_zero hz2]
  unfold k1_pay2
  simp only [shapeCast_self]
  exact congrArg (x1 (ix2 r q) + ·) (congrArg₂ (· * ·) ((row_apply _ _ r q).trans (Cert.Kernel4Ideal.RefValue.gate_apply x3 _ q))
    (mm_apply (M := 512) (K := 2048) (N := 2048) none x0 x2 r q))

/-- The second body's block of the normalised and modulated stream. -/
theorem out7_apply (x0 : FVec Ideal S512x2048 .bf16) (x1 : FVec Ideal S512x2048 .f32) (x2 : FVec Ideal S2048x2048 .bf16)
    (x3 x4 : FVec Ideal S1x3x2048 .f32) (x5 : FVec Ideal S1x2048 .f32) (r : Fin 512) (q : Fin 2048) :
    out1_7 (F := Ideal) x0 x1 x2 x3 x4 x5 (ix2 r q)
      = modul (sblk x0 x1 x2 x3 r) (x5 (ix2 0 q)) (x4 (ix3 0 1 q)) (x4 (ix3 0 0 q)) q := by
  unfold out1_7
  rw [View.canon_unit_zero hz2]
  iterate 4 rw [View.ld_unit_zero hz2]
  rw [View.ld_unit_zero hz3]
  unfold k1_pay1 k1_pay4 k1_pay5 k1_pay3
  have e : ∀ k, k1_pay2 (F := Ideal) x0 x2 x1 (View.ld (Val := Elt Ideal) (e' := .f32) x3 r1_2) (ix2 r k) = sblk x0 x1 x2 x3 r k := fun k => by
    unfold k1_pay2
    simp only [shapeCast_self]
    exact congrArg (x1 (ix2 r k) + ·) (congrArg₂ (· * ·) ((row_apply _ _ r k).trans (Cert.Kernel4Ideal.RefValue.gate_apply x3 _ k))
      (mm_apply (M := 512) (K := 2048) (N := 2048) none x0 x2 r k))
  generalize k1_pay2 (F := Ideal) x0 x2 x1 (View.ld (Val := Elt Ideal) (e' := .f32) x3 r1_2) = s at e
  simp only [shapeCast_self]
  refine congrArg₂ (fun a b : EReal => a + b) (congrArg₂ (fun a b : EReal => a * b) ?_ ?_) ?_
  · refine (Cert.Kernel4Ideal.RefValue.norm_apply s x5 _ _ _ _ _ _ r q).trans ?_
    exact congrArg (fun f => rms f (x5 (ix2 0 q)) q) (funext e)
  · exact (row_apply _ _ r q).trans (congrArg (Ideal.ofBits .f32 0x3F800000#32 + ·) (mrow_apply x4 _ 1 _ q))
  · exact (row_apply _ _ r q).trans (mrow_apply x4 _ 0 _ q)

/-- The third body's one tile, at an index: a row of the token block times a column of the panel. -/
theorem prod_apply (x : FVec Ideal S1024x2048 .bf16) (w : FVec Ideal S1x2048x2048 .bf16) (y : S1024x2048.Idx) :
    out2_2 (F := Ideal) x w y = ∑ k : Fin 2048, x (ix2 (y 0) k) * w (ix3 0 k (y 1)) := by
  unfold out2_2
  rw [View.canon_unit_zero hz2, View.ld_unit_zero hz2, View.ld_unit_zero hz3]
  rw [eq_ix2 y]
  unfold k2_pay1
  simp only [shapeCast_self]
  refine (mm_apply (M := 1024) (K := 2048) (N := 2048) none x _ (y 0) (y 1)).trans ?_
  refine Finset.sum_congr rfl fun k _ => congrArg (x (ix2 (y 0) k) * ·) ?_
  refine (shapeCast_dropUnit_apply ![2048, 2048] _ _ _).trans ?_
  refine congrArg w ?_
  funext a
  fin_cases a <;> rfl

variable (m : (ℓ : Loc nD τ sig) → Buf (Elt Ideal) ℓ) (ρ : Dev nD → PrngReg)

/-! ## The first pipeline -/

/-- What the first pipeline leaves: the merge of the first five arguments. -/
abbrev mrg (c : Dev nD) : Buf (Elt Ideal) ((c : Thread nD τ).loc main_v2) :=
  merged (m ((c : Thread nD τ).loc main_arg0)) (m ((c : Thread nD τ).loc main_arg1)) (m ((c : Thread nD τ).loc main_arg2))
    (m ((c : Thread nD τ).loc main_arg3)) (m ((c : Thread nD τ).loc main_arg4))

theorem ix_maps : ∀ i : grid0.Coords, cc0_transform_0 i = ![(i 0).val, 0] ∧ cc0_transform_1 i = ![(i 0).val, 0]
    ∧ cc0_transform_2 i = ![(i 0).val, 6] ∧ cc0_transform_3 i = ![(i 0).val, 7] ∧ cc0_transform_4 i = ![0, 0]
    ∧ cc0_transform_5 i = ![0, 0] ∧ cc0_transform_6 i = ![(i 0).val, 0] := by decide +kernel

/-- The projection weights the first pipeline reads are the arguments. -/
theorem V_v0 (c : Dev nD) : V1 m ρ c main_v0 = m ((c : Thread nD τ).loc main_arg3) := by
  simp only [V1, W1, hostOps0, StableHlo.after_cons, StableHlo.after_nil]
  rfl
theorem V_v1 (c : Dev nD) : V1 m ρ c main_v1 = m ((c : Thread nD τ).loc main_arg4) := by
  simp only [V1, W1, hostOps0, StableHlo.after_cons, StableHlo.after_nil]
  rfl

/-- A block of the first branch. -/
theorem blk0 (c : Dev nD) (t : Fin cfg0.N) (x : S512x2048.Idx) (h : (grid0.coords t 0).val * 512 + (x 0).val < 32768) :
    iblk0 (V1 m ρ) c 0 t x = m ((c : Thread nD τ).loc main_arg0) (ix2 ⟨(grid0.coords t 0).val * 512 + (x 0).val, h⟩ (x 1)) := by
  show V1 m ρ c main_arg0 (((cfg0.win 0).blk t).view.emb x) = _
  refine (congrFun (W1_args m ρ c main_arg0 (by decide)) _).trans (congrArg _ ?_)
  have e := (ix_maps (grid0.coords t)).1
  funext a
  fin_cases a <;> apply Fin.ext
  · show cc0_transform_0 (grid0.coords t) 0 * 512 + 1 * (x 0).val = _
    rw [e, Nat.one_mul]; rfl
  · show cc0_transform_0 (grid0.coords t) 1 * 2048 + 1 * (x 1).val = _
    rw [e, Nat.one_mul]; exact Nat.zero_add _

/-- A block of the second branch. -/
theorem blk1 (c : Dev nD) (t : Fin cfg0.N) (x : S512x2048.Idx) (h : (grid0.coords t 0).val * 512 + (x 0).val < 32768) :
    iblk0 (V1 m ρ) c 1 t x = m ((c : Thread nD τ).loc main_arg1) (ix2 ⟨(grid0.coords t 0).val * 512 + (x 0).val, h⟩ (x 1)) := by
  show V1 m ρ c main_arg1 (((cfg0.win 1).blk t).view.emb x) = _
  refine (congrFun (W1_args m ρ c main_arg1 (by decide)) _).trans (congrArg _ ?_)
  have e := (ix_maps (grid0.coords t)).2.1
  funext a
  fin_cases a <;> apply Fin.ext
  · show cc0_transform_1 (grid0.coords t) 0 * 512 + 1 * (x 0).val = _
    rw [e, Nat.one_mul]; rfl
  · show cc0_transform_1 (grid0.coords t) 1 * 2048 + 1 * (x 1).val = _
    rw [e, Nat.one_mul]; exact Nat.zero_add _

/-- A block of the first branch's gate, six panels of columns into the projected tokens. -/
theorem blk2 (c : Dev nD) (t : Fin cfg0.N) (x : S512x2048.Idx) (h : (grid0.coords t 0).val * 512 + (x 0).val < 32768) :
    iblk0 (V1 m ρ) c 2 t x = m ((c : Thread nD τ).loc main_arg2) (ix2 ⟨(grid0.coords t 0).val * 512 + (x 0).val, h⟩ ⟨12288 + (x 1).val, by have : (x 1).val < 2048 := (x 1).isLt; omega⟩) := by
  show V1 m ρ c main_arg2 (((cfg0.win 2).blk t).view.emb x) = _
  refine (congrFun (W1_args m ρ c main_arg2 (by decide)) _).trans (congrArg _ ?_)
  have e := (ix_maps (grid0.coords t)).2.2.1
  funext a
  fin_cases a <;> apply Fin.ext
  · show cc0_transform_2 (grid0.coords t) 0 * 512 + 1 * (x 0).val = _
    rw [e, Nat.one_mul]; rfl
  · show cc0_transform_2 (grid0.coords t) 1 * 2048 + 1 * (x 1).val = _
    rw [e, Nat.one_mul]; rfl

/-- A block of the second branch's gate, seven panels in. -/
theorem blk3 (c : Dev nD) (t : Fin cfg0.N) (x : S512x2048.Idx) (h : (grid0.coords t 0).val * 512 + (x 0).val < 32768) :
    iblk0 (V1 m ρ) c 3 t x = m ((c : Thread nD τ).loc main_arg2) (ix2 ⟨(grid0.coords t 0).val * 512 + (x 0).val, h⟩ ⟨14336 + (x 1).val, by have : (x 1).val < 2048 := (x 1).isLt; omega⟩) := by
  show V1 m ρ c main_arg2 (((cfg0.win 3).blk t).view.emb x) = _
  refine (congrFun (W1_args m ρ c main_arg2 (by decide)) _).trans (congrArg _ ?_)
  have e := (ix_maps (grid0.coords t)).2.2.2.1
  funext a
  fin_cases a <;> apply Fin.ext
  · show cc0_transform_3 (grid0.coords t) 0 * 512 + 1 * (x 0).val = _
    rw [e, Nat.one_mul]; rfl
  · show cc0_transform_3 (grid0.coords t) 1 * 2048 + 1 * (x 1).val = _
    rw [e, Nat.one_mul]; rfl

/-- The whole first projection, fetched at every point. -/
theorem blk4 (c : Dev nD) (t : Fin cfg0.N) (x : S2048x2048.Idx) :
    iblk0 (V1 m ρ) c 4 t x = m ((c : Thread nD τ).loc main_arg3) x := by
  show V1 m ρ c main_v0 (((cfg0.win 4).blk t).view.emb x) = _
  refine (congrFun (V_v0 m ρ c) _).trans (congrArg _ ?_)
  have e := (ix_maps (grid0.coords t)).2.2.2.2.1
  funext a
  fin_cases a <;> apply Fin.ext
  · show cc0_transform_4 (grid0.coords t) 0 * 2048 + 1 * (x 0).val = _
    rw [e, Nat.one_mul]; exact Nat.zero_add _
  · show cc0_transform_4 (grid0.coords t) 1 * 2048 + 1 * (x 1).val = _
    rw [e, Nat.one_mul]; exact Nat.zero_add _

/-- The whole second projection, fetched at every point. -/
theorem blk5 (c : Dev nD) (t : Fin cfg0.N) (x : S2048x2048.Idx) :
    iblk0 (V1 m ρ) c 5 t x = m ((c : Thread nD τ).loc main_arg4) x := by
  show V1 m ρ c main_v1 (((cfg0.win 5).blk t).view.emb x) = _
  refine (congrFun (V_v1 m ρ c) _).trans (congrArg _ ?_)
  have e := (ix_maps (grid0.coords t)).2.2.2.2.2.1
  funext a
  fin_cases a <;> apply Fin.ext
  · show cc0_transform_5 (grid0.coords t) 0 * 2048 + 1 * (x 0).val = _
    rw [e, Nat.one_mul]; exact Nat.zero_add _
  · show cc0_transform_5 (grid0.coords t) 1 * 2048 + 1 * (x 1).val = _
    rw [e, Nat.one_mul]; exact Nat.zero_add _

/-- Element `y` of the block written back at a point is this element of the result. -/
theorem emb_out (t : Fin cfg0.N) (y : S512x2048.Idx) (h : (grid0.coords t 0).val * 512 + (y 0).val < 32768) :
    ((cfg0.win 6).blk t).view.emb y = (ix2 ⟨(grid0.coords t 0).val * 512 + (y 0).val, h⟩ (y 1) : S32768x2048.Idx) := by
  have e := (ix_maps (grid0.coords t)).2.2.2.2.2.2
  funext a
  fin_cases a <;> apply Fin.ext
  · show cc0_transform_6 (grid0.coords t) 0 * 512 + 1 * (y 0).val = _
    rw [e, Nat.one_mul]; rfl
  · show cc0_transform_6 (grid0.coords t) 1 * 2048 + 1 * (y 1).val = _
    rw [e, Nat.one_mul]; exact Nat.zero_add _

theorem block_eq (c : Dev nD) (t : Fin cfg0.N) (r : Fin 512) (q : Fin 2048) :
    out0_6 (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (ix2 r q)
      = mrg m c (((cfg0.win 6).blk t).view.emb (ix2 r q : S512x2048.Idx)) := by
  have h0 : (grid0.coords t 0).val < 64 := (grid0.coords t 0).isLt
  have hb : (grid0.coords t 0).val * 512 + r.val < 32768 := by omega
  rw [emb_out t (ix2 r q) hb]
  refine (merge_apply _ _ _ _ _ _ r q).trans ?_
  exact congrArg₂ (· + ·)
    (congrArg₂ (· * ·) (congrArg Ideal.logistic (blk2 m ρ c t (ix2 r q) hb))
      (Finset.sum_congr rfl fun k _ => congrArg₂ (· * ·) (blk0 m ρ c t (ix2 r k) hb) (blk4 m ρ c t (ix2 k q))))
    (congrArg₂ (· * ·) (congrArg Ideal.logistic (blk3 m ρ c t (ix2 r q) hb))
      (Finset.sum_congr rfl fun k _ => congrArg₂ (· * ·) (blk1 m ρ c t (ix2 r k) hb) (blk5 m ρ c t (ix2 k q))))

/-- What a point writes back is its block of the merge. -/
theorem flushed_eq (c : Dev nD) (t : Fin cfg0.N) :
    (dat0 (V1 m ρ) c).flushed 6 t = ((cfg0.win 6).blk t).view.read (Elt Ideal) (mrg m c) := by
  show (cfg0.win 6).cut (grid0.coords t) ((dat0 (V1 m ρ) c).after 6 t) = _
  rw [after0_6]
  refine funext fun (y : S512x2048.Idx) => ?_
  obtain ⟨r, q, rfl⟩ : ∃ (r : Fin 512) (q : Fin 2048), y = ix2 r q := ⟨y 0, y 1, eq_ix2 y⟩
  exact block_eq m ρ c t r q

theorem coords_at : ∀ a : Fin 64, ∃ t : Fin grid0.N, (grid0.coords t 0).val = a.val := by decide +kernel

/-- The blocks cover the result. -/
theorem cover (i : S32768x2048.Idx) : ∃ t : Fin cfg0.N, (cfg0.win 6).flush t = true ∧ i ∈ ((cfg0.win 6).blk t).view.set := by
  have h0 : (i 0).val < 32768 := (i 0).isLt
  obtain ⟨t, k0⟩ := coords_at ⟨(i 0).val / 512, by omega⟩
  refine ⟨t, flush0_6 t, ?_⟩
  change _ = (i 0).val / 512 at k0
  have e := emb_out t (ix2 ⟨(i 0).val % 512, by omega⟩ (i 1))
    (by show (grid0.coords t 0).val * 512 + (i 0).val % 512 < 32768; omega)
  have e' : i = (((cfg0.win 6).blk t).view.emb (ix2 ⟨(i 0).val % 512, by omega⟩ (i 1) : S512x2048.Idx) : S32768x2048.Idx) := by
    refine Eq.trans ?_ e.symm
    funext a
    fin_cases a
    · apply Fin.ext
      show (i 0).val = (grid0.coords t 0).val * 512 + (i 0).val % 512
      omega
    · rfl
  rw [e']
  exact View.emb_mem_set _ _

theorem final (c : Dev nD) : (dat0 (V1 m ρ) c).arrAt 6 cfg0.N = mrg m c :=
  (dat0 (V1 m ρ) c).arrAt_eq_of_cover 6 (mrg m c) (fun t _ => flushed_eq m ρ c t) cover

/-! ## The second pipeline -/

/-- What the second pipeline leaves: the stream of the merge, and its normalised and modulated form. -/
abbrev want6 (c : Dev nD) : Buf (Elt Ideal) ((c : Thread nD τ).loc main_v8_0) :=
  streamed (mrg m c) (m ((c : Thread nD τ).loc main_arg5)) (m ((c : Thread nD τ).loc main_arg6)) (m ((c : Thread nD τ).loc main_arg8))
abbrev mid (c : Dev nD) : Buf (Elt Ideal) ((c : Thread nD τ).loc main_v8_1) :=
  modulated (mrg m c) (m ((c : Thread nD τ).loc main_arg5)) (m ((c : Thread nD τ).loc main_arg6)) (m ((c : Thread nD τ).loc main_arg7)) (m ((c : Thread nD τ).loc main_arg8)) (m ((c : Thread nD τ).loc main_arg9))

theorem ix_maps1 : ∀ i : grid1.Coords, cc1_transform_0 i = ![(i 0).val * 8 + (i 1).val, 0] ∧ cc1_transform_1 i = ![(i 0).val * 8 + (i 1).val, 0]
    ∧ cc1_transform_2 i = ![0, 0] ∧ cc1_transform_3 i = ![(i 0).val, 0, 0] ∧ cc1_transform_4 i = ![(i 0).val, 0, 0] ∧ cc1_transform_5 i = ![0, 0]
    ∧ cc1_transform_6 i = ![(i 0).val * 8 + (i 1).val, 0] ∧ cc1_transform_7 i = ![(i 0).val * 8 + (i 1).val, 0] := by decide +kernel

/-- The arrays the second pipeline reads: the merge as the first one left it, and reshaped arguments. -/
theorem V_v2 (c : Dev nD) : V3 m ρ c main_v2 = mrg m c :=
  (W3_of m ρ c main_v2 (by decide)).trans ((W2_arr m ρ c 6).trans (final m ρ c))
theorem W_v3 (W : Valuation τ sig (Elt Ideal)) (r : Fin 32768) (q : Fin 2048) :
    (StableHlo.after hostOps1 W (Proc.devRef .tc main_v3) : S32768x2048.Idx → Elt Ideal .f32) (ix2 r q)
      = (W (Proc.devRef .tc main_arg5) : S8x4096x2048.Idx → Elt Ideal .f32) (ix3 (bat r) (pos r) q) := by
  simp only [hostOps1, StableHlo.after_cons, StableHlo.after_nil]
  refine shapeCast_apply _ _ _ (ix3 (bat r) (pos r) q) ?_
  refine (Shape.rowMajor_val_three _).trans (Eq.trans ?_ (Shape.rowMajor_val_two _).symm)
  show (r.val / 4096 * 4096 + r.val % 4096) * 2048 + q.val = r.val * 2048 + q.val
  omega
theorem W_v4 (W : Valuation τ sig (Elt Ideal)) :
    (StableHlo.after hostOps1 W (Proc.devRef .tc main_v4) : S2048x2048.Idx → EReal) = (W (Proc.devRef .tc main_arg8) : S2048x2048.Idx → EReal) := by
  simp only [hostOps1, StableHlo.after_cons, StableHlo.after_nil]
  rfl
theorem W_v5 (W : Valuation τ sig (Elt Ideal)) (b : Fin 8) (j : Fin 3) (q : Fin 2048) :
    (StableHlo.after hostOps1 W (Proc.devRef .tc main_v5) : S8x3x2048.Idx → Elt Ideal .f32) (ix3 b j q)
      = (W (Proc.devRef .tc main_arg6) : S8x6144.Idx → Elt Ideal .f32) (ix2 b ⟨j.val * 2048 + q.val, by omega⟩) := by
  simp only [hostOps1, StableHlo.after_cons, StableHlo.after_nil]
  refine shapeCast_apply _ _ _ (ix2 b (⟨j.val * 2048 + q.val, by omega⟩ : Fin 6144)) ?_
  refine (Shape.rowMajor_val_two _).trans (Eq.trans ?_ (Shape.rowMajor_val_three _).symm)
  show b.val * 6144 + (j.val * 2048 + q.val) = (b.val * 3 + j.val) * 2048 + q.val
  omega
theorem W_v6 (W : Valuation τ sig (Elt Ideal)) (b : Fin 8) (j : Fin 3) (q : Fin 2048) :
    (StableHlo.after hostOps1 W (Proc.devRef .tc main_v6) : S8x3x2048.Idx → Elt Ideal .f32) (ix3 b j q)
      = (W (Proc.devRef .tc main_arg7) : S8x6144.Idx → Elt Ideal .f32) (ix2 b ⟨j.val * 2048 + q.val, by omega⟩) := by
  simp only [hostOps1, StableHlo.after_cons, StableHlo.after_nil]
  refine shapeCast_apply _ _ _ (ix2 b (⟨j.val * 2048 + q.val, by omega⟩ : Fin 6144)) ?_
  refine (Shape.rowMajor_val_two _).trans (Eq.trans ?_ (Shape.rowMajor_val_three _).symm)
  show b.val * 6144 + (j.val * 2048 + q.val) = (b.val * 3 + j.val) * 2048 + q.val
  omega
theorem W_v7 (W : Valuation τ sig (Elt Ideal)) (q : Fin 2048) :
    (StableHlo.after hostOps1 W (Proc.devRef .tc main_v7) : S1x2048.Idx → Elt Ideal .f32) (ix2 0 q)
      = (W (Proc.devRef .tc main_arg9) : S2048.Idx → Elt Ideal .f32) (ix1 q) := by
  simp only [hostOps1, StableHlo.after_cons, StableHlo.after_nil]
  refine (shapeCast_addUnit_apply ![2048] _ _ _).trans (congrArg _ ?_)
  funext a
  fin_cases a
  rfl
theorem V_v3 (c : Dev nD) (r : Fin 32768) (q : Fin 2048) : V3 m ρ c main_v3 (ix2 r q)
    = m ((c : Thread nD τ).loc main_arg5) (ix3 (bat r) (pos r) q) :=
  (W_v3 (W2 m ρ c) r q).trans (congrFun (W2_args m ρ c main_arg5 (by decide)) _)
theorem V_v4 (c : Dev nD) : V3 m ρ c main_v4 = m ((c : Thread nD τ).loc main_arg8) :=
  (W_v4 (W2 m ρ c)).trans (W2_args m ρ c main_arg8 (by decide))
theorem V_v5 (c : Dev nD) (b : Fin 8) (j : Fin 3) (q : Fin 2048) : V3 m ρ c main_v5 (ix3 b j q)
    = m ((c : Thread nD τ).loc main_arg6) (ix2 b ⟨j.val * 2048 + q.val, by omega⟩) :=
  (W_v5 (W2 m ρ c) b j q).trans (congrFun (W2_args m ρ c main_arg6 (by decide)) _)
theorem V_v6 (c : Dev nD) (b : Fin 8) (j : Fin 3) (q : Fin 2048) : V3 m ρ c main_v6 (ix3 b j q)
    = m ((c : Thread nD τ).loc main_arg7) (ix2 b ⟨j.val * 2048 + q.val, by omega⟩) :=
  (W_v6 (W2 m ρ c) b j q).trans (congrFun (W2_args m ρ c main_arg7 (by decide)) _)
theorem V_v7 (c : Dev nD) (q : Fin 2048) : V3 m ρ c main_v7 (ix2 0 q) = m ((c : Thread nD τ).loc main_arg9) (ix1 q) :=
  (W_v7 (W2 m ρ c) q).trans (congrFun (W2_args m ρ c main_arg9 (by decide)) _)

/-- The token a row of the block of a point is. -/
def tok1 (t : Fin cfg1.N) (r : Fin 512) : Fin 32768 :=
  ⟨((grid1.coords t 0).val * 8 + (grid1.coords t 1).val) * 512 + r.val, by
    have h0 : (grid1.coords t 0).val < 8 := (grid1.coords t 0).isLt
    have h1 : (grid1.coords t 1).val < 8 := (grid1.coords t 1).isLt
    omega⟩

theorem bat_tok1 (t : Fin cfg1.N) (r : Fin 512) : bat (tok1 t r) = grid1.coords t 0 := by
  apply Fin.ext
  have h1 : (grid1.coords t 1).val < 8 := (grid1.coords t 1).isLt
  show (((grid1.coords t 0).val * 8 + (grid1.coords t 1).val) * 512 + r.val) / 4096 = (grid1.coords t 0).val
  omega

/-- The blocks fetched at a point. -/
theorem blk1_0 (c : Dev nD) (t : Fin cfg1.N) (r : Fin 512) (q : Fin 2048) :
    iblk1 (V3 m ρ) c 0 t (ix2 r q : S512x2048.Idx) = mrg m c (ix2 (tok1 t r) q) := by
  show V3 m ρ c main_v2 (((cfg1.win 0).blk t).view.emb (ix2 r q : S512x2048.Idx)) = _
  refine (congrFun (V_v2 m ρ c) _).trans (congrArg _ ?_)
  have e := (ix_maps1 (grid1.coords t)).1
  funext a
  fin_cases a <;> apply Fin.ext
  · show cc1_transform_0 (grid1.coords t) 0 * 512 + 1 * r.val = _
    rw [e, Nat.one_mul]; rfl
  · show cc1_transform_0 (grid1.coords t) 1 * 2048 + 1 * q.val = _
    rw [e, Nat.one_mul]; exact Nat.zero_add _

theorem blk1_1 (c : Dev nD) (t : Fin cfg1.N) (r : Fin 512) (q : Fin 2048) :
    iblk1 (V3 m ρ) c 1 t (ix2 r q : S512x2048.Idx) = m ((c : Thread nD τ).loc main_arg5) (ix3 (bat (tok1 t r)) (pos (tok1 t r)) q) := by
  show V3 m ρ c main_v3 (((cfg1.win 1).blk t).view.emb (ix2 r q : S512x2048.Idx)) = _
  refine Eq.trans (congrArg _ ?_) (V_v3 m ρ c (tok1 t r) q)
  have e := (ix_maps1 (grid1.coords t)).2.1
  funext a
  fin_cases a <;> apply Fin.ext
  · show cc1_transform_1 (grid1.coords t) 0 * 512 + 1 * r.val = _
    rw [e, Nat.one_mul]; rfl
  · show cc1_transform_1 (grid1.coords t) 1 * 2048 + 1 * q.val = _
    rw [e, Nat.one_mul]; exact Nat.zero_add _

theorem blk1_2 (c : Dev nD) (t : Fin cfg1.N) (r : Fin 2048) (q : Fin 2048) :
    iblk1 (V3 m ρ) c 2 t (ix2 r q : S2048x2048.Idx) = m ((c : Thread nD τ).loc main_arg8) (ix2 r q) := by
  show V3 m ρ c main_v4 (((cfg1.win 2).blk t).view.emb (ix2 r q : S2048x2048.Idx)) = _
  refine (congrFun (V_v4 m ρ c) _).trans (congrArg _ ?_)
  have e := (ix_maps1 (grid1.coords t)).2.2.1
  funext a
  fin_cases a <;> apply Fin.ext
  · show cc1_transform_2 (grid1.coords t) 0 * 2048 + 1 * r.val = _
    rw [e, Nat.one_mul]; exact Nat.zero_add _
  · show cc1_transform_2 (grid1.coords t) 1 * 2048 + 1 * q.val = _
    rw [e, Nat.one_mul]; exact Nat.zero_add _

theorem blk1_3 (c : Dev nD) (t : Fin cfg1.N) (r : Fin 512) (q : Fin 2048) :
    iblk1 (V3 m ρ) c 3 t (ix3 0 2 q : S1x3x2048.Idx) = m ((c : Thread nD τ).loc main_arg6) (ix2 (bat (tok1 t r)) ⟨4096 + q.val, by omega⟩) := by
  show V3 m ρ c main_v5 (((cfg1.win 3).blk t).view.emb (ix3 0 2 q : S1x3x2048.Idx)) = _
  refine Eq.trans (congrArg _ ?_) (V_v5 m ρ c (bat (tok1 t r)) 2 q)
  rw [bat_tok1]
  have e := (ix_maps1 (grid1.coords t)).2.2.2.1
  funext a
  fin_cases a <;> apply Fin.ext
  · show cc1_transform_3 (grid1.coords t) 0 * 1 + 1 * 0 = (grid1.coords t 0).val
    rw [e]; exact Nat.mul_one _
  · show cc1_transform_3 (grid1.coords t) 1 * 3 + 1 * 2 = 2
    rw [e]; rfl
  · show cc1_transform_3 (grid1.coords t) 2 * 2048 + 1 * q.val = _
    rw [e, Nat.one_mul]; exact Nat.zero_add _

theorem blk1_4 (c : Dev nD) (t : Fin cfg1.N) (r : Fin 512) (j : Fin 3) (q : Fin 2048) :
    iblk1 (V3 m ρ) c 4 t (ix3 0 j q : S1x3x2048.Idx) = m ((c : Thread nD τ).loc main_arg7) (ix2 (bat (tok1 t r)) ⟨j.val * 2048 + q.val, by omega⟩) := by
  show V3 m ρ c main_v6 (((cfg1.win 4).blk t).view.emb (ix3 0 j q : S1x3x2048.Idx)) = _
  refine Eq.trans (congrArg _ ?_) (V_v6 m ρ c (bat (tok1 t r)) j q)
  rw [bat_tok1]
  have e := (ix_maps1 (grid1.coords t)).2.2.2.2.1
  funext a
  fin_cases a <;> apply Fin.ext
  · show cc1_transform_4 (grid1.coords t) 0 * 1 + 1 * 0 = (grid1.coords t 0).val
    rw [e]; exact Nat.mul_one _
  · show cc1_transform_4 (grid1.coords t) 1 * 3 + 1 * j.val = _
    rw [e, Nat.one_mul]; exact Nat.zero_add _
  · show cc1_transform_4 (grid1.coords t) 2 * 2048 + 1 * q.val = _
    rw [e, Nat.one_mul]; exact Nat.zero_add _

theorem blk1_5 (c : Dev nD) (t : Fin cfg1.N) (q : Fin 2048) :
    iblk1 (V3 m ρ) c 5 t (ix2 0 q : S1x2048.Idx) = m ((c : Thread nD τ).loc main_arg9) (ix1 q) := by
  show V3 m ρ c main_v7 (((cfg1.win 5).blk t).view.emb (ix2 0 q : S1x2048.Idx)) = _
  refine Eq.trans (congrArg _ ?_) (V_v7 m ρ c q)
  have e := (ix_maps1 (grid1.coords t)).2.2.2.2.2.1
  funext a
  fin_cases a <;> apply Fin.ext
  · show cc1_transform_5 (grid1.coords t) 0 * 1 + 1 * 0 = _
    rw [e]; rfl
  · show cc1_transform_5 (grid1.coords t) 1 * 2048 + 1 * q.val = _
    rw [e, Nat.one_mul]; exact Nat.zero_add _

/-- A row and column of the block written back at a point, in each result. -/
theorem emb_out6 (t : Fin cfg1.N) (r : Fin 512) (q : Fin 2048) :
    ((cfg1.win 6).blk t).view.emb (ix2 r q : S512x2048.Idx) = (ix2 (tok1 t r) q : S32768x2048.Idx) := by
  have e := (ix_maps1 (grid1.coords t)).2.2.2.2.2.2.1
  funext a
  fin_cases a <;> apply Fin.ext
  · show cc1_transform_6 (grid1.coords t) 0 * 512 + 1 * r.val = _
    rw [e, Nat.one_mul]; rfl
  · show cc1_transform_6 (grid1.coords t) 1 * 2048 + 1 * q.val = _
    rw [e, Nat.one_mul]; exact Nat.zero_add _

theorem emb_out7 (t : Fin cfg1.N) (r : Fin 512) (q : Fin 2048) :
    ((cfg1.win 7).blk t).view.emb (ix2 r q : S512x2048.Idx) = (ix2 (tok1 t r) q : S32768x2048.Idx) := by
  have e := (ix_maps1 (grid1.coords t)).2.2.2.2.2.2.2
  funext a
  fin_cases a <;> apply Fin.ext
  · show cc1_transform_7 (grid1.coords t) 0 * 512 + 1 * r.val = _
    rw [e, Nat.one_mul]; rfl
  · show cc1_transform_7 (grid1.coords t) 1 * 2048 + 1 * q.val = _
    rw [e, Nat.one_mul]; exact Nat.zero_add _

theorem sblk_eq (c : Dev nD) (t : Fin cfg1.N) (r : Fin 512) (q : Fin 2048) :
    sblk (iblk1 (V3 m ρ) c 0 t) (iblk1 (V3 m ρ) c 1 t) (iblk1 (V3 m ρ) c 2 t) (iblk1 (V3 m ρ) c 3 t) r q
      = stream (mrg m c) (m ((c : Thread nD τ).loc main_arg5)) (m ((c : Thread nD τ).loc main_arg6))
        (m ((c : Thread nD τ).loc main_arg8)) (tok1 t r) q :=
  congrArg₂ (· + ·) (blk1_1 m ρ c t r q) (congrArg₂ (· * ·) (blk1_3 m ρ c t r q)
    (Finset.sum_congr rfl fun l _ => congrArg₂ (· * ·) (blk1_0 m ρ c t r l) (blk1_2 m ρ c t l q)))

theorem block6 (c : Dev nD) (t : Fin cfg1.N) (r : Fin 512) (q : Fin 2048) :
    out1_6 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (ix2 r q)
      = want6 m c (((cfg1.win 6).blk t).view.emb (ix2 r q : S512x2048.Idx)) := by
  rw [emb_out6 t r q]
  exact (out6_apply _ _ _ _ _ _ r q).trans (sblk_eq m ρ c t r q)

theorem block7 (c : Dev nD) (t : Fin cfg1.N) (r : Fin 512) (q : Fin 2048) :
    out1_7 (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (ix2 r q)
      = mid m c (((cfg1.win 7).blk t).view.emb (ix2 r q : S512x2048.Idx)) := by
  rw [emb_out7 t r q]
  refine (out7_apply _ _ _ _ _ _ r q).trans ?_
  have e0 : iblk1 (V3 m ρ) c 4 t (ix3 0 0 q : S1x3x2048.Idx) = m ((c : Thread nD τ).loc main_arg7) (ix2 (bat (tok1 t r)) (⟨q.val, by omega⟩ : Fin 6144)) :=
    (blk1_4 m ρ c t r 0 q).trans (congrArg (fun z : Fin 6144 => m ((c : Thread nD τ).loc main_arg7) (ix2 (bat (tok1 t r)) z)) (Fin.ext (Nat.zero_add q.val)))
  show rms _ _ q * (_ + _) + _ = rms _ _ q * (_ + _) + _
  refine congrArg₂ (· + ·) (congrArg₂ (· * ·) ?_ ?_) e0
  · exact congrArg₂ (fun f w => rms f w q) (funext fun k => sblk_eq m ρ c t r k) (blk1_5 m ρ c t q)
  · exact congrArg (Ideal.ofBits .f32 0x3F800000#32 + ·) (blk1_4 m ρ c t r 1 q)

/-- What a point writes back is its block of each result. -/
theorem flushed6_eq (c : Dev nD) (t : Fin cfg1.N) :
    (dat1 (V3 m ρ) c).flushed 6 t = ((cfg1.win 6).blk t).view.read (Elt Ideal) (want6 m c) := by
  show (cfg1.win 6).cut (grid1.coords t) ((dat1 (V3 m ρ) c).after 6 t) = _
  rw [after1_6]
  refine funext fun (y : S512x2048.Idx) => ?_
  obtain ⟨r, q, rfl⟩ : ∃ (r : Fin 512) (q : Fin 2048), y = ix2 r q := ⟨y 0, y 1, eq_ix2 y⟩
  exact block6 m ρ c t r q

theorem flushed7_eq (c : Dev nD) (t : Fin cfg1.N) :
    (dat1 (V3 m ρ) c).flushed 7 t = ((cfg1.win 7).blk t).view.read (Elt Ideal) (mid m c) := by
  show (cfg1.win 7).cut (grid1.coords t) ((dat1 (V3 m ρ) c).after 7 t) = _
  rw [after1_7]
  refine funext fun (y : S512x2048.Idx) => ?_
  obtain ⟨r, q, rfl⟩ : ∃ (r : Fin 512) (q : Fin 2048), y = ix2 r q := ⟨y 0, y 1, eq_ix2 y⟩
  exact block7 m ρ c t r q

theorem coords_at1 : ∀ a : Fin 8, ∀ b : Fin 8, ∃ t : Fin grid1.N, (grid1.coords t 0).val = a.val
      ∧ (grid1.coords t 1).val = b.val := by decide +kernel

/-- Every token is a row of some point's block. -/
theorem tok_at (r : Fin 32768) : ∃ t : Fin cfg1.N, tok1 t ⟨r.val % 512, by omega⟩ = r := by
  obtain ⟨t, k0, k1⟩ := coords_at1 ⟨r.val / 4096, by omega⟩ ⟨r.val / 512 % 8, by omega⟩
  change _ = r.val / 4096 at k0
  change _ = r.val / 512 % 8 at k1
  refine ⟨t, Fin.ext ?_⟩
  show ((grid1.coords t 0).val * 8 + (grid1.coords t 1).val) * 512 + r.val % 512 = r.val
  omega

/-- The blocks cover the results. -/
theorem cover6 (i : S32768x2048.Idx) : ∃ t : Fin cfg1.N, (cfg1.win 6).flush t = true ∧ i ∈ ((cfg1.win 6).blk t).view.set := by
  obtain ⟨r, q, rfl⟩ : ∃ (r : Fin 32768) (q : Fin 2048), i = ix2 r q := ⟨i 0, i 1, eq_ix2 i⟩
  obtain ⟨t, e⟩ := tok_at r
  refine ⟨t, flush1_6 t, ?_⟩
  have e' : (ix2 r q : S32768x2048.Idx) = ((cfg1.win 6).blk t).view.emb (ix2 ⟨r.val % 512, by omega⟩ q : S512x2048.Idx) := by
    rw [emb_out6, e]
  rw [e']
  exact View.emb_mem_set _ _

theorem cover7 (i : S32768x2048.Idx) : ∃ t : Fin cfg1.N, (cfg1.win 7).flush t = true ∧ i ∈ ((cfg1.win 7).blk t).view.set := by
  obtain ⟨r, q, rfl⟩ : ∃ (r : Fin 32768) (q : Fin 2048), i = ix2 r q := ⟨i 0, i 1, eq_ix2 i⟩
  obtain ⟨t, e⟩ := tok_at r
  refine ⟨t, flush1_7 t, ?_⟩
  have e' : (ix2 r q : S32768x2048.Idx) = ((cfg1.win 7).blk t).view.emb (ix2 ⟨r.val % 512, by omega⟩ q : S512x2048.Idx) := by
    rw [emb_out7, e]
  rw [e']
  exact View.emb_mem_set _ _

theorem final6 (c : Dev nD) : (dat1 (V3 m ρ) c).arrAt 6 cfg1.N = want6 m c :=
  (dat1 (V3 m ρ) c).arrAt_eq_of_cover 6 (want6 m c) (fun t _ => flushed6_eq m ρ c t) cover6
theorem final7 (c : Dev nD) : (dat1 (V3 m ρ) c).arrAt 7 cfg1.N = mid m c :=
  (dat1 (V3 m ρ) c).arrAt_eq_of_cover 7 (mid m c) (fun t _ => flushed7_eq m ρ c t) cover7

/-! ## The third pipeline -/

/-- The third result: the product of that form with the second layer's kept columns. -/
abbrev want (c : Dev nD) : Buf (Elt Ideal) ((c : Thread nD τ).loc main_v9) := prod (mid m c) (m ((c : Thread nD τ).loc main_arg10))

/-- The arrays the third pipeline reads: the second one's second result, and an argument. -/
theorem V_h (c : Dev nD) : V4 m ρ c main_v8_1 = mid m c := (W4_arr m ρ c 7).trans (final7 m ρ c)
theorem V_w (c : Dev nD) : V4 m ρ c main_arg10 = m ((c : Thread nD τ).loc main_arg10) := W4_args m ρ c main_arg10 (by decide)

theorem ix_maps2 : ∀ i : grid2.Coords, cc2_transform_0 i = ![(i 1).val, 0] ∧ cc2_transform_1 i = ![1, 0, (i 0).val]
    ∧ cc2_transform_2 i = ![(i 1).val, (i 0).val] := by decide +kernel

/-- The token block fetched at a point. -/
theorem blk_h (c : Dev nD) (t : Fin cfg2.N) (x : S1024x2048.Idx) (h : (grid2.coords t 1).val * 1024 + (x 0).val < 32768) :
    iblk2 (V4 m ρ) c 0 t x = mid m c (ix2 ⟨(grid2.coords t 1).val * 1024 + (x 0).val, h⟩ (x 1)) := by
  show V4 m ρ c main_v8_1 (((cfg2.win 0).blk t).view.emb x) = _
  refine Eq.trans (congrArg _ ?_) (congrFun (V_h m ρ c) _)
  have e := (ix_maps2 (grid2.coords t)).1
  funext a
  fin_cases a <;> apply Fin.ext
  · show cc2_transform_0 (grid2.coords t) 0 * 1024 + 1 * (x 0).val = _
    rw [e, Nat.one_mul]; rfl
  · show cc2_transform_0 (grid2.coords t) 1 * 2048 + 1 * (x 1).val = _
    rw [e, Nat.one_mul]; exact Nat.zero_add _

/-- The column panel fetched at a point. -/
theorem blk_w (c : Dev nD) (t : Fin cfg2.N) (x : S1x2048x2048.Idx) (h : (grid2.coords t 0).val * 2048 + (x 2).val < 16384) :
    iblk2 (V4 m ρ) c 1 t x = m ((c : Thread nD τ).loc main_arg10) (ix3 1 (x 1) ⟨(grid2.coords t 0).val * 2048 + (x 2).val, h⟩) := by
  show V4 m ρ c main_arg10 (((cfg2.win 1).blk t).view.emb x) = _
  refine Eq.trans (congrArg _ ?_) (congrFun (V_w m ρ c) _)
  have e := (ix_maps2 (grid2.coords t)).2.1
  have h0 : (x 0).val = 0 := by have := (x 0).isLt; change _ < 1 at this; omega
  funext a
  fin_cases a <;> apply Fin.ext
  · show cc2_transform_1 (grid2.coords t) 0 * 1 + 1 * (x 0).val = _
    rw [e, h0]; rfl
  · show cc2_transform_1 (grid2.coords t) 1 * 2048 + 1 * (x 1).val = _
    rw [e, Nat.one_mul]; exact Nat.zero_add _
  · show cc2_transform_1 (grid2.coords t) 2 * 2048 + 1 * (x 2).val = _
    rw [e, Nat.one_mul]; rfl

/-- Element `y` of the tile written back at a point is this element of the result. -/
theorem emb_out2 (t : Fin cfg2.N) (y : S1024x2048.Idx) (h : (grid2.coords t 1).val * 1024 + (y 0).val < 32768)
    (h' : (grid2.coords t 0).val * 2048 + (y 1).val < 16384) :
    ((cfg2.win 2).blk t).view.emb y = (ix2 ⟨(grid2.coords t 1).val * 1024 + (y 0).val, h⟩ ⟨(grid2.coords t 0).val * 2048 + (y 1).val, h'⟩ : S32768x16384.Idx) := by
  have e := (ix_maps2 (grid2.coords t)).2.2
  funext a
  fin_cases a <;> apply Fin.ext
  · show cc2_transform_2 (grid2.coords t) 0 * 1024 + 1 * (y 0).val = _
    rw [e, Nat.one_mul]; rfl
  · show cc2_transform_2 (grid2.coords t) 1 * 2048 + 1 * (y 1).val = _
    rw [e, Nat.one_mul]; rfl

theorem tile_eq2 (c : Dev nD) (t : Fin cfg2.N) (y : S1024x2048.Idx) :
    out2_2 (iblk2 (V4 m ρ) c 0 t) (iblk2 (V4 m ρ) c 1 t) y = want m c (((cfg2.win 2).blk t).view.emb y) := by
  have h0 : (grid2.coords t 0).val < 8 := (grid2.coords t 0).isLt
  have h1 : (grid2.coords t 1).val < 32 := (grid2.coords t 1).isLt
  have hy0 : (y 0).val < 1024 := (y 0).isLt
  have hy1 : (y 1).val < 2048 := (y 1).isLt
  rw [emb_out2 t y (by omega) (by omega)]
  refine (prod_apply _ _ y).trans ?_
  refine Finset.sum_congr rfl fun k _ => ?_
  exact congrArg₂ (· * ·) (blk_h m ρ c t (ix2 (y 0) k) (by show (grid2.coords t 1).val * 1024 + (y 0).val < 32768; omega))
    (blk_w m ρ c t (ix3 0 k (y 1)) (by show (grid2.coords t 0).val * 2048 + (y 1).val < 16384; omega))

/-- What a point writes back is its tile of the product. -/
theorem flushed_eq2 (c : Dev nD) (t : Fin cfg2.N) :
    (dat2 (V4 m ρ) c).flushed 2 t = ((cfg2.win 2).blk t).view.read (Elt Ideal) (want m c) := by
  show (cfg2.win 2).cut (grid2.coords t) ((dat2 (V4 m ρ) c).after 2 t) = _
  rw [after2_2]
  refine funext fun (y : S1024x2048.Idx) => ?_
  exact tile_eq2 m ρ c t y

theorem coords_at2 : ∀ a : Fin 8, ∀ b : Fin 32, ∃ t : Fin grid2.N, (grid2.coords t 0).val = a.val
      ∧ (grid2.coords t 1).val = b.val := by decide +kernel

/-- The tiles cover2 the result. -/
theorem cover2 (i : S32768x16384.Idx) : ∃ t : Fin cfg2.N, (cfg2.win 2).flush t = true ∧ i ∈ ((cfg2.win 2).blk t).view.set := by
  have h0 : (i 0).val < 32768 := (i 0).isLt
  have h1 : (i 1).val < 16384 := (i 1).isLt
  obtain ⟨t, k0, k1⟩ := coords_at2 ⟨(i 1).val / 2048, by omega⟩ ⟨(i 0).val / 1024, by omega⟩
  refine ⟨t, flush2_2 t, ?_⟩
  change _ = (i 1).val / 2048 at k0
  change _ = (i 0).val / 1024 at k1
  have e := emb_out2 t (ix2 ⟨(i 0).val % 1024, by omega⟩ ⟨(i 1).val % 2048, by omega⟩)
    (by show (grid2.coords t 1).val * 1024 + (i 0).val % 1024 < 32768; omega)
    (by show (grid2.coords t 0).val * 2048 + (i 1).val % 2048 < 16384; omega)
  have e' : i = (((cfg2.win 2).blk t).view.emb (ix2 ⟨(i 0).val % 1024, by omega⟩ ⟨(i 1).val % 2048, by omega⟩ : S1024x2048.Idx) : S32768x16384.Idx) := by
    refine Eq.trans ?_ e.symm
    funext a
    fin_cases a <;> apply Fin.ext
    · show (i 0).val = (grid2.coords t 1).val * 1024 + (i 0).val % 1024
      omega
    · show (i 1).val = (grid2.coords t 0).val * 2048 + (i 1).val % 2048
      omega
  rw [e']
  exact View.emb_mem_set _ _

theorem final2 (c : Dev nD) : (dat2 (V4 m ρ) c).arrAt 2 cfg2.N = want m c :=
  (dat2 (V4 m ρ) c).arrAt_eq_of_cover 2 (want m c) (fun t _ => flushed_eq2 m ρ c t) cover2

/-! ## The run -/

section Launch

open Idealize.SL Idealize.SL.RA Idealize.SL.BI
open scoped Idealize.SL.BI
open Idealize.SL.BI.BIBase Idealize.SL.BI.Laws Idealize.SL.ProofMode
open Idealize.ShloMosaic.Rounds

set_option backward.isDefEq.respectTransparency.types false in
/-- Every weakly fair execution ends with each unscoped array at what the last segment leaves in it. -/
theorem run_all : θ_run defs (onTc (τ := τ) (main (F := Ideal))) ⟨m, fun _ => 0, ρ⟩ fun r => ∀ c : Dev nD,
      ∀ b ∈ Pipeline.ucRefs τ sig, r.2.mem ((c : Thread nD τ).1, b) = W5 m ρ c b :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c => h c)

end Launch

/-- The run, read: the three results, the arguments unchanged. -/
theorem run : θ_run defs (onTc (τ := τ) (main (F := Ideal))) ⟨m, fun _ => 0, ρ⟩ fun r => ∀ c : Dev nD,
      r.2.mem ((c : Thread nD τ).loc main_v8_0) = want6 m c
      ∧ r.2.mem ((c : Thread nD τ).loc main_v8_1) = mid m c
      ∧ r.2.mem ((c : Thread nD τ).loc main_v9) = want m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨
      (h c _ (mem_uc main_v8_0 (by decide))).trans ((W5_of m ρ c main_v8_0 (by decide)).trans ((W4_arr m ρ c 6).trans (final6 m ρ c))),
      (h c _ (mem_uc main_v8_1 (by decide))).trans ((W5_of m ρ c main_v8_1 (by decide)).trans ((W4_arr m ρ c 7).trans (final7 m ρ c))),
      (h c _ (mem_uc main_v9 (by decide))).trans ((W5_arr m ρ c 2).trans (final2 m ρ c)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c)⟩) (run_all m ρ)

end Cert.Kernel14Ideal.RefValue

namespace Cert.Reference14Ideal.RefValue

open Cert.Reference14Ideal Cert.Reference14Ideal.Gen Cert.Reference14Ideal.Value
open Cert.Kernel3Ideal.RefValue (merged)
open Cert.Kernel4Ideal.RefValue (rms bat pos stream)
open Cert.Kernel6Ideal.RefValue (modul streamed modulated)
open Cert.Kernel14Ideal.RefValue (prod)
open Cert.Reference6Ideal.RefValue (trunc_apply flat_apply modul_apply)

/-- The second layer's projection at an index. -/
theorem layer_apply (w : FVec Ideal S2x2048x16384 .bf16) (h2 h3) (k : Fin 2048) (q : Fin 16384) :
    shapeCast S2048x16384 (extractStridedSlice S1x2048x16384 ![1, 0, 0] w h2) h3 (ix2 k q) = w (ix3 1 k q) := by
  refine (shapeCast_dropUnit_apply ![2048, 16384] _ _ _).trans ?_
  refine (extractStridedSlice_apply _ _ _ _ (ix3 1 k q) fun a => ?_)
  fin_cases a
  · rfl
  · exact (Nat.zero_add k.val).symm
  · exact (Nat.zero_add q.val).symm

/-- The host's product at an index. -/
theorem ref_eq (h : FVec Ideal S32768x2048 .bf16) (w : FVec Ideal S2x2048x16384 .bf16) (h1 : FTy.bits .bf16 < FTy.bits .f32) (h2 h3) :
    (truncf .bf16 (Host.dotGeneral dot_S32768x2048_S2048x16384_S32768x16384_1_0_0_1_n_n none (extf .f32 h h1) (extf .f32 (shapeCast S2048x16384 (extractStridedSlice S1x2048x16384 ![1, 0, 0] w h2) h3) h1)) h1 : FVec Ideal S32768x16384 .bf16)
      = prod h w := by
  funext i
  have e : i = ix2 (i 0) (i 1) := eq_ix2 i
  generalize i 0 = r at e
  generalize i 1 = q at e
  subst e
  refine (dot_apply (M := 32768) (K := 2048) (N := 16384) none (φ₁ := .f32) (φ₂ := .f32) h _ r q).trans ?_
  refine Finset.sum_congr rfl fun k _ => congrArg (h (ix2 r k) * ·) ?_
  exact layer_apply w h2 h3 k q

variable (m : (ℓ : Loc nD τ sig) → Buf (Elt Ideal) ℓ) (ρ : Dev nD → PrngReg)

/-- The normalised and modulated stream: the host's projection of the host's merge. -/
theorem res_eq (c : Dev nD) : res_main_v57 (F := Ideal) m c
    = modulated (merged (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8)) (m ((c : Thread nD τ).loc main_arg9)) := by
  unfold res_main_v57
  refine funext fun (i : S32768x2048.Idx) => ?_
  obtain ⟨r, q, rfl⟩ : ∃ (r : Fin 32768) (q : Fin 2048), i = ix2 r q := ⟨i 0, i 1, eq_ix2 i⟩
  refine (trunc_apply _ _ _).trans ((flat_apply _ _ r q).trans ?_)
  refine (modul_apply _ _ _ _ _ _ _ _ _ _ _ _ _ _ _ _ _ q).trans ?_
  refine congrArg (fun f => modul f _ _ _ q) (funext fun k => ?_)
  refine (Cert.Reference4Ideal.RefValue.stream_apply _ _ _ _ _ _ _ _ _ r k).trans ?_
  exact congrArg (fun y => stream y _ _ _ r k) (Cert.Reference3Ideal.RefValue.ref_eq _ _ _ _ _ _ _ _ _)

theorem run : θ_run defs (onTc (τ := τ) (main (F := Ideal))) ⟨m, fun _ => 0, ρ⟩ fun r => ∀ c : Dev nD,
      r.2.mem ((c : Thread nD τ).loc main_v55) = streamed (merged (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg8))
      ∧ r.2.mem ((c : Thread nD τ).loc main_v57) = modulated (merged (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v63) = prod (modulated (merged (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8)) (m ((c : Thread nD τ).loc main_arg9))) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (by
      refine funext fun (i : S32768x2048.Idx) => ?_
      obtain ⟨r, q, rfl⟩ : ∃ (r : Fin 32768) (q : Fin 2048), i = ix2 r q := ⟨i 0, i 1, eq_ix2 i⟩
      refine (flat_apply _ _ r q).trans ?_
      refine (Cert.Reference4Ideal.RefValue.stream_apply _ _ _ _ _ _ _ _ _ r q).trans ?_
      exact congrArg (fun y => stream y _ _ _ r q) (Cert.Reference3Ideal.RefValue.ref_eq _ _ _ _ _ _ _ _ _)), (h c).2.1.trans (res_eq m c),
      (h c).2.2.1.trans (by
        unfold res_main_v63
        exact (ref_eq _ _ _ _ _).trans (congrArg (fun a => prod a _) (res_eq m c))), (h c).2.2.2⟩) (Cert.Reference14Ideal.Value.run m ρ)

end Cert.Reference14Ideal.RefValue

namespace Cert.Middle

theorem defs_eq {F : FTy → Type} [FloatOps F] : Cert.Kernel14.defs (F := F) = Cert.Kernel14Ideal.defs := by sl_kernel_rfl
theorem main_eq {F : FTy → Type} [FloatOps F] : Cert.Kernel14.main (F := F) = Cert.Kernel14Ideal.main := by sl_kernel_rfl

theorem frame_kernel : Cert.quiescent_Kernel14 := fun m ρ _ => by
  rw [defs_eq, main_eq]
  exact Cert.Kernel14Ideal.Gen.frame (F := Bits) m ρ

theorem frame_kernelIdeal : Cert.quiescent_Kernel14Ideal := fun m ρ _ => Cert.Kernel14Ideal.Gen.frame (F := Ideal) m ρ

theorem frame_referenceIdeal : Cert.quiescent_Reference14Ideal := fun m ρ _ =>
  (θ_run Cert.Reference14Ideal.defs _ _).mono (fun r h => ⟨fun c => (h c).2.2.2, sem_eq_zero_of_no_sems (by decide) r.2⟩)
    (Cert.Reference14Ideal.RefValue.run m ρ)

theorem algebraic : Cert.algebraic_Kernel14Ideal_Reference14Ideal := fun m ρ m' ρ' _ hm =>
  ⟨fun c => Cert.Kernel14Ideal.RefValue.want6 m c, fun c => Cert.Kernel14Ideal.RefValue.mid m c, fun c => Cert.Kernel14Ideal.RefValue.want m c,
    Cert.Kernel14Ideal.RefValue.run m ρ,
    (θ_run Cert.Reference14Ideal.defs _ _).mono (fun _ h c => by
      obtain ⟨e0, e1, e2, e3, e4, e5, e6, e7, e8, e9, e10⟩ := hm c
      refine ⟨(h c).1.trans (by rw [e0, e1, e2, e3, e4, e5, e6, e8]), (h c).2.1.trans (by rw [e0, e1, e2, e3, e4, e5, e6, e7, e8, e9]),
        (h c).2.2.1.trans (by rw [e0, e1, e2, e3, e4, e5, e6, e7, e8, e9, e10]), (h c).2.2.2⟩)
      (Cert.Reference14Ideal.RefValue.run m' ρ')⟩

end Cert.Middle

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.ReferenceIdeal.Run
public import proofs.«01_k».proof.Proof.GatherClaims
public import proofs.«01_k».proof.Proof.InProj
public import proofs.«01_k».proof.Proof.Merge
public import proofs.«01_k».proof.Proof.OutFinal
public import proofs.«01_k».proof.Proof.Swa
public import proofs.«01_k».proof.Proof.OutProj
public import proofs.«01_k».proof.Proof.Norm
public import proofs.«01_k».proof.Proof.Modulation
public import proofs.«01_k».proof.Proof.Rope
public import proofs.«01_k».proof.Proof.GatherKv
public import proofs.«01_k».proof.Proof.GatherGb
public import proofs.«01_k».proof.Proof.Tail
public import proofs.«01_k».proof.Proof.Front
public import proofs.«01_k».proof.Proof.Middle
public import proofs.«01_k».proof.Proof.Gen.Kernel2
public import proofs.«01_k».proof.Proof.Gen.Kernel3
public import proofs.«01_k».proof.Proof.Gen.Kernel4
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, Cert.Reference10.Gen.facts,
  Cert.Kernel11.Gen.facts, Cert.Kernel11Ideal.Gen.facts, Cert.Reference11Ideal.Gen.facts, Cert.Reference11.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Swa.finite_facts, Cert.Modulation.finite_facts,
  Cert.Gather.frame_kernel, Cert.Gather.frame_kernelIdeal, Cert.Gather.frame_referenceIdeal, Cert.Gather.frame_reference,
  Cert.InProj.frame_kernel, Cert.InProj.frame_kernelIdeal, Cert.InProj.frame_referenceIdeal,
  Cert.Merge.frame_kernel, Cert.Merge.frame_kernelIdeal, Cert.Merge.frame_referenceIdeal,
  Cert.OutFinal.frame_kernel, Cert.OutFinal.frame_kernelIdeal, Cert.OutFinal.frame_referenceIdeal,
  Cert.Swa.frame_kernel, Cert.Swa.frame_kernelIdeal, @Cert.Swa.frame_kernelIdeal_finite Cert.Swa.finite_facts,
  Cert.Swa.frame_referenceIdeal, @Cert.Swa.frame_referenceIdeal_finite Cert.Swa.finite_facts,
  Cert.OutProj.frame_kernel, Cert.OutProj.frame_kernelIdeal, Cert.OutProj.frame_referenceIdeal,
  Cert.Norm.frame_kernel, Cert.Norm.frame_kernelIdeal, Cert.Norm.frame_referenceIdeal,
  Cert.Modulation.frame_kernel, Cert.Modulation.frame_kernelIdeal, @Cert.Modulation.frame_kernelIdeal_finite Cert.Modulation.finite_facts,
  Cert.Modulation.frame_referenceIdeal, @Cert.Modulation.frame_referenceIdeal_finite Cert.Modulation.finite_facts,
  Cert.Rope.frame_kernel, Cert.Rope.frame_kernelIdeal, Cert.Rope.frame_referenceIdeal,
  Cert.GatherKv.frame_kernel, Cert.GatherKv.frame_kernelIdeal, Cert.GatherKv.frame_referenceIdeal, Cert.GatherKv.frame_reference,
  Cert.GatherGb.frame_kernel, Cert.GatherGb.frame_kernelIdeal, Cert.GatherGb.frame_referenceIdeal, Cert.GatherGb.frame_reference,
  Cert.Tail.frame_kernel, Cert.Tail.frame_kernelIdeal, Cert.Tail.frame_referenceIdeal,
  Cert.Front.frame_kernel, Cert.Front.frame_kernelIdeal, Cert.Front.frame_referenceIdeal,
  Cert.Middle.frame_kernel, Cert.Middle.frame_kernelIdeal, Cert.Middle.frame_referenceIdeal,
  trivial, Cert.Gather.algebraic, Cert.Gather.bitexact,
  trivial, Cert.InProj.algebraic, trivial, Cert.Merge.algebraic, trivial, Cert.OutFinal.algebraic,
  Cert.Swa.preserves, @Cert.Swa.algebraic Cert.Swa.finite_facts,
  trivial, Cert.OutProj.algebraic, trivial, Cert.Norm.algebraic,
  trivial, @Cert.Modulation.algebraic Cert.Modulation.finite_facts, trivial, Cert.Rope.algebraic,
  trivial, Cert.GatherKv.algebraic, Cert.GatherKv.bitexact, trivial, Cert.GatherGb.algebraic, Cert.GatherGb.bitexact,
  trivial, Cert.Tail.algebraic, trivial, Cert.Front.algebraic, trivial, Cert.Middle.algebraic⟩

end Cert.Proof

end
